-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailKernelIdeal_finite [hPre_finite : Cert.Pre_finite.Facts] (m : (ℓ : Loc Cert.TailKernelIdeal.nD Cert.TailKernelIdeal.τ Cert.TailKernelIdeal.sig) → Buf (Elt Ideal) ℓ) : Prop :=
  ∀ c : Dev Cert.TailKernelIdeal.nD,
    (Cert.Pre_finite.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_finite [hPre_finite : Cert.Pre_finite.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8))) = (fun _ => 1#1)

def Pre_OddKernel (m : (ℓ : Loc Cert.OddKernel.nD Cert.OddKernel.τ Cert.OddKernel.sig) → Buf (Elt Bits) ℓ) : Prop :=
  True

def Pre_OddKernelIdeal (m : (ℓ : Loc Cert.OddKernelIdeal.nD Cert.OddKernelIdeal.τ Cert.OddKernelIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def Pre_EvenKernel (m : (ℓ : Loc Cert.EvenKernel.nD Cert.EvenKernel.τ Cert.EvenKernel.sig) → Buf (Elt Bits) ℓ) : Prop :=
  True

def Pre_EvenKernelIdeal (m : (ℓ : Loc Cert.EvenKernelIdeal.nD Cert.EvenKernelIdeal.τ Cert.EvenKernelIdeal.sig) → Buf (Elt Ideal) ℓ) : Prop :=
  True

def Pre_EvenKernelIdeal_even_finite [hPre_even_finite : Cert.Pre_even_finite.Facts] (m : (ℓ : Loc Cert.EvenKernelIdeal.nD Cert.EvenKernelIdeal.τ Cert.EvenKernelIdeal.sig) → Buf (Elt Ideal) ℓ) : Prop :=
  ∀ c : Dev Cert.EvenKernelIdeal.nD,
    (Cert.Pre_even_finite.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10)) (m ((c.tc : Thread Cert.EvenKernelIdeal.nD Cert.EvenKernelIdeal.τ).loc Cert.EvenKernelIdeal.main_arg11)) (m ((c.tc : Thread Cert.EvenKernelIdeal.nD Cert.EvenKernelIdeal.τ).loc Cert.EvenKernelIdeal.main_arg12))) = (fun _ => 1#1)

def Pre_EvenReferenceIdeal (m : (ℓ : Loc Cert.EvenReferenceIdeal.nD Cert.EvenReferenceIdeal.τ Cert.EvenReferenceIdeal.sig) → Buf (Elt Ideal) ℓ) : Prop :=
  True

def Pre_EvenReferenceIdeal_even_finite [hPre_even_finite : Cert.Pre_even_finite.Facts] (m : (ℓ : Loc Cert.EvenReferenceIdeal.nD Cert.EvenReferenceIdeal.τ Cert.EvenReferenceIdeal.sig) → Buf (Elt Ideal) ℓ) : Prop :=
  ∀ c : Dev Cert.EvenReferenceIdeal.nD,
    (Cert.Pre_even_finite.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10)) (m ((c.tc : Thread Cert.EvenReferenceIdeal.nD Cert.EvenReferenceIdeal.τ).loc Cert.EvenReferenceIdeal.main_arg11)) (m ((c.tc : Thread Cert.EvenReferenceIdeal.nD Cert.EvenReferenceIdeal.τ).loc Cert.EvenReferenceIdeal.main_arg12))) = (fun _ => 1#1)

def Pre_FirstKernel (m : (ℓ : Loc Cert.FirstKernel.nD Cert.FirstKernel.τ Cert.FirstKernel.sig) → Buf (Elt Bits) ℓ) : Prop :=
  True

def Pre_FirstKernelIdeal (m : (ℓ : Loc Cert.FirstKernelIdeal.nD Cert.FirstKernelIdeal.τ Cert.FirstKernelIdeal.sig) → Buf (Elt Ideal) ℓ) : Prop :=
  True

def Pre_FirstKernelIdeal_finite [hPre_finite : Cert.Pre_finite.Facts] (m : (ℓ : Loc Cert.FirstKernelIdeal.nD Cert.FirstKernelIdeal.τ Cert.FirstKernelIdeal.sig) → Buf (Elt Ideal) ℓ) : Prop :=
  ∀ c : Dev Cert.FirstKernelIdeal.nD,
    (Cert.Pre_finite.fn (F := Ideal) (m ((c.tc : Thread Cert.FirstKernelIdeal.nD Cert.FirstKernelIdeal.τ).loc Cert.FirstKernelIdeal.main_arg0)) (m ((c.tc : Thread Cert.FirstKernelIdeal.nD Cert.FirstKernelIdeal.τ).loc Cert.FirstKernelIdeal.main_arg1)) (m ((c.tc : Thread Cert.FirstKernelIdeal.nD Cert.FirstKernelIdeal.τ).loc Cert.FirstKernelIdeal.main_arg2)) (m ((c.tc : Thread Cert.FirstKernelIdeal.nD Cert.FirstKernelIdeal.τ).loc Cert.FirstKernelIdeal.main_arg3)) (m ((c.tc : Thread Cert.FirstKernelIdeal.nD Cert.FirstKernelIdeal.τ).loc Cert.FirstKernelIdeal.main_arg4)) (m ((c.tc : Thread Cert.FirstKernelIdeal.nD Cert.FirstKernelIdeal.τ).loc Cert.FirstKernelIdeal.main_arg5)) (m ((c.tc : Thread Cert.FirstKernelIdeal.nD Cert.FirstKernelIdeal.τ).loc Cert.FirstKernelIdeal.main_arg6)) (m ((c.tc : Thread Cert.FirstKernelIdeal.nD Cert.FirstKernelIdeal.τ).loc Cert.FirstKernelIdeal.main_arg7)) (m ((c.tc : Thread Cert.FirstKernelIdeal.nD Cert.FirstKernelIdeal.τ).loc Cert.FirstKernelIdeal.main_arg8))) = (fun _ => 1#1)

def Pre_FirstReferenceIdeal (m : (ℓ : Loc Cert.FirstReferenceIdeal.nD Cert.FirstReferenceIdeal.τ Cert.FirstReferenceIdeal.sig) → Buf (Elt Ideal) ℓ) : Prop :=
  True

def Pre_FirstReferenceIdeal_finite [hPre_finite : Cert.Pre_finite.Facts] (m : (ℓ : Loc Cert.FirstReferenceIdeal.nD Cert.FirstReferenceIdeal.τ Cert.FirstReferenceIdeal.sig) → Buf (Elt Ideal) ℓ) : Prop :=
  ∀ c : Dev Cert.FirstReferenceIdeal.nD,
    (Cert.Pre_finite.fn (F := Ideal) (m ((c.tc : Thread Cert.FirstReferenceIdeal.nD Cert.FirstReferenceIdeal.τ).loc Cert.FirstReferenceIdeal.main_arg0)) (m ((c.tc : Thread Cert.FirstReferenceIdeal.nD Cert.FirstReferenceIdeal.τ).loc Cert.FirstReferenceIdeal.main_arg1)) (m ((c.tc : Thread Cert.FirstReferenceIdeal.nD Cert.FirstReferenceIdeal.τ).loc Cert.FirstReferenceIdeal.main_arg2)) (m ((c.tc : Thread Cert.FirstReferenceIdeal.nD Cert.FirstReferenceIdeal.τ).loc Cert.FirstReferenceIdeal.main_arg3)) (m ((c.tc : Thread Cert.FirstReferenceIdeal.nD Cert.FirstReferenceIdeal.τ).loc Cert.FirstReferenceIdeal.main_arg4)) (m ((c.tc : Thread Cert.FirstReferenceIdeal.nD Cert.FirstReferenceIdeal.τ).loc Cert.FirstReferenceIdeal.main_arg5)) (m ((c.tc : Thread Cert.FirstReferenceIdeal.nD Cert.FirstReferenceIdeal.τ).loc Cert.FirstReferenceIdeal.main_arg6)) (m ((c.tc : Thread Cert.FirstReferenceIdeal.nD Cert.FirstReferenceIdeal.τ).loc Cert.FirstReferenceIdeal.main_arg7)) (m ((c.tc : Thread Cert.FirstReferenceIdeal.nD Cert.FirstReferenceIdeal.τ).loc Cert.FirstReferenceIdeal.main_arg8))) = (fun _ => 1#1)

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_FlashKernel (m : (ℓ : Loc Cert.FlashKernel.nD Cert.FlashKernel.τ Cert.FlashKernel.sig) → Buf (Elt Bits) ℓ) : Prop :=
  True

def Pre_FlashKernelIdeal (m : (ℓ : Loc Cert.FlashKernelIdeal.nD Cert.FlashKernelIdeal.τ Cert.FlashKernelIdeal.sig) → Buf (Elt Ideal) ℓ) : Prop :=
  True

def Pre_FlashKernelIdeal_flash_finite [hPre_flash_finite : Cert.Pre_flash_finite.Facts] (m : (ℓ : Loc Cert.FlashKernelIdeal.nD Cert.FlashKernelIdeal.τ Cert.FlashKernelIdeal.sig) → Buf (Elt Ideal) ℓ) : Prop :=
  ∀ c : Dev Cert.FlashKernelIdeal.nD,
    (Cert.Pre_flash_finite.fn (F := Ideal) (m ((c.tc : Thread Cert.FlashKernelIdeal.nD Cert.FlashKernelIdeal.τ).loc Cert.FlashKernelIdeal.main_arg0)) (m ((c.tc : Thread Cert.FlashKernelIdeal.nD Cert.FlashKernelIdeal.τ).loc Cert.FlashKernelIdeal.main_arg1)) (m ((c.tc : Thread Cert.FlashKernelIdeal.nD Cert.FlashKernelIdeal.τ).loc Cert.FlashKernelIdeal.main_arg2))) = (fun _ => 1#1)

def Pre_FlashReferenceIdeal (m : (ℓ : Loc Cert.FlashReferenceIdeal.nD Cert.FlashReferenceIdeal.τ Cert.FlashReferenceIdeal.sig) → Buf (Elt Ideal) ℓ) : Prop :=
  True

def Pre_FlashReferenceIdeal_flash_finite [hPre_flash_finite : Cert.Pre_flash_finite.Facts] (m : (ℓ : Loc Cert.FlashReferenceIdeal.nD Cert.FlashReferenceIdeal.τ Cert.FlashReferenceIdeal.sig) → Buf (Elt Ideal) ℓ) : Prop :=
  ∀ c : Dev Cert.FlashReferenceIdeal.nD,
    (Cert.Pre_flash_finite.fn (F := Ideal) (m ((c.tc : Thread Cert.FlashReferenceIdeal.nD Cert.FlashReferenceIdeal.τ).loc Cert.FlashReferenceIdeal.main_arg0)) (m ((c.tc : Thread Cert.FlashReferenceIdeal.nD Cert.FlashReferenceIdeal.τ).loc Cert.FlashReferenceIdeal.main_arg1)) (m ((c.tc : Thread Cert.FlashReferenceIdeal.nD Cert.FlashReferenceIdeal.τ).loc Cert.FlashReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1)
      ∧ r.2.mem ((c.tc : Thread Cert.TailKernel.nD Cert.TailKernel.τ).loc Cert.TailKernel.main_arg2) = m ((c.tc : Thread Cert.TailKernel.nD Cert.TailKernel.τ).loc Cert.TailKernel.main_arg2)
      ∧ r.2.mem ((c.tc : Thread Cert.TailKernel.nD Cert.TailKernel.τ).loc Cert.TailKernel.main_arg3) = m ((c.tc : Thread Cert.TailKernel.nD Cert.TailKernel.τ).loc Cert.TailKernel.main_arg3)
      ∧ r.2.mem ((c.tc : Thread Cert.TailKernel.nD Cert.TailKernel.τ).loc Cert.TailKernel.main_arg4) = m ((c.tc : Thread Cert.TailKernel.nD Cert.TailKernel.τ).loc Cert.TailKernel.main_arg4)
      ∧ r.2.mem ((c.tc : Thread Cert.TailKernel.nD Cert.TailKernel.τ).loc Cert.TailKernel.main_arg5) = m ((c.tc : Thread Cert.TailKernel.nD Cert.TailKernel.τ).loc Cert.TailKernel.main_arg5)
      ∧ r.2.mem ((c.tc : Thread Cert.TailKernel.nD Cert.TailKernel.τ).loc Cert.TailKernel.main_arg6) = m ((c.tc : Thread Cert.TailKernel.nD Cert.TailKernel.τ).loc Cert.TailKernel.main_arg6)
      ∧ r.2.mem ((c.tc : Thread Cert.TailKernel.nD Cert.TailKernel.τ).loc Cert.TailKernel.main_arg7) = m ((c.tc : Thread Cert.TailKernel.nD Cert.TailKernel.τ).loc Cert.TailKernel.main_arg7)
      ∧ r.2.mem ((c.tc : Thread Cert.TailKernel.nD Cert.TailKernel.τ).loc Cert.TailKernel.main_arg8) = m ((c.tc : Thread Cert.TailKernel.nD Cert.TailKernel.τ).loc Cert.TailKernel.main_arg8))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8))
      ∧ r.2.sem = fun _ => 0)

def quiescent_TailKernelIdeal_pre_finite [hTailKernelIdeal : Cert.TailKernelIdeal.Facts] [hPre_finite : Cert.Pre_finite.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal_finite m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8))
      ∧ r.2.sem = fun _ => 0)

def quiescent_TailReferenceIdeal_pre_finite [hTailReferenceIdeal : Cert.TailReferenceIdeal.Facts] [hPre_finite : Cert.Pre_finite.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_finite m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8))
      ∧ r.2.sem = fun _ => 0)

def quiescent_OddKernel [hOddKernel : Cert.OddKernel.Facts] : Prop :=
  ∀ (m : (ℓ : Loc Cert.OddKernel.nD Cert.OddKernel.τ Cert.OddKernel.sig) → Buf (Elt Bits) ℓ) (g : Dev Cert.OddKernel.nD → PrngReg), Pre_OddKernel m →
    θ_run (Cert.OddKernel.defs (F := Bits)) (onTc (τ := Cert.OddKernel.τ) (Cert.OddKernel.main (F := Bits))) ⟨m, fun _ => 0, g⟩ (fun r => (∀ c : Dev Cert.OddKernel.nD,
      r.2.mem ((c.tc : Thread Cert.OddKernel.nD Cert.OddKernel.τ).loc Cert.OddKernel.main_arg0) = m ((c.tc : Thread Cert.OddKernel.nD Cert.OddKernel.τ).loc Cert.OddKernel.main_arg0)
      ∧ r.2.mem ((c.tc : Thread Cert.OddKernel.nD Cert.OddKernel.τ).loc Cert.OddKernel.main_arg1) = m ((c.tc : Thread Cert.OddKernel.nD Cert.OddKernel.τ).loc Cert.OddKernel.main_arg1)
      ∧ r.2.mem ((c.tc : Thread Cert.OddKernel.nD Cert.OddKernel.τ).loc Cert.OddKernel.main_arg2) = m ((c.tc : Thread Cert.OddKernel.nD Cert.OddKernel.τ).loc Cert.OddKernel.main_arg2))
      ∧ r.2.sem = fun _ => 0)

def quiescent_OddKernelIdeal [hOddKernelIdeal : Cert.OddKernelIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg), Pre_OddKernelIdeal m →
    θ_run (Cert.OddKernelIdeal.defs (F := Ideal)) (onTc (τ := Cert.OddKernelIdeal.τ) (Cert.OddKernelIdeal.main (F := Ideal))) ⟨m, fun _ => 0, g⟩ (fun r => (∀ c : Dev Cert.OddKernelIdeal.nD,
      r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
      ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
      ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2))
      ∧ r.2.sem = fun _ => 0)

def quiescent_EvenKernel [hEvenKernel : Cert.EvenKernel.Facts] : Prop :=
  ∀ (m : (ℓ : Loc Cert.EvenKernel.nD Cert.EvenKernel.τ Cert.EvenKernel.sig) → Buf (Elt Bits) ℓ) (g : Dev Cert.EvenKernel.nD → PrngReg), Pre_EvenKernel m →
    θ_run (Cert.EvenKernel.defs (F := Bits)) (onTc (τ := Cert.EvenKernel.τ) (Cert.EvenKernel.main (F := Bits))) ⟨m, fun _ => 0, g⟩ (fun r => (∀ c : Dev Cert.EvenKernel.nD,
      r.2.mem ((c.tc : Thread Cert.EvenKernel.nD Cert.EvenKernel.τ).loc Cert.EvenKernel.main_arg0) = m ((c.tc : Thread Cert.EvenKernel.nD Cert.EvenKernel.τ).loc Cert.EvenKernel.main_arg0)
      ∧ r.2.mem ((c.tc : Thread Cert.EvenKernel.nD Cert.EvenKernel.τ).loc Cert.EvenKernel.main_arg1) = m ((c.tc : Thread Cert.EvenKernel.nD Cert.EvenKernel.τ).loc Cert.EvenKernel.main_arg1)
      ∧ r.2.mem ((c.tc : Thread Cert.EvenKernel.nD Cert.EvenKernel.τ).loc Cert.EvenKernel.main_arg2) = m ((c.tc : Thread Cert.EvenKernel.nD Cert.EvenKernel.τ).loc Cert.EvenKernel.main_arg2)
      ∧ r.2.mem ((c.tc : Thread Cert.EvenKernel.nD Cert.EvenKernel.τ).loc Cert.EvenKernel.main_arg3) = m ((c.tc : Thread Cert.EvenKernel.nD Cert.EvenKernel.τ).loc Cert.EvenKernel.main_arg3)
      ∧ r.2.mem ((c.tc : Thread Cert.EvenKernel.nD Cert.EvenKernel.τ).loc Cert.EvenKernel.main_arg4) = m ((c.tc : Thread Cert.EvenKernel.nD Cert.EvenKernel.τ).loc Cert.EvenKernel.main_arg4)
      ∧ r.2.mem ((c.tc : Thread Cert.EvenKernel.nD Cert.EvenKernel.τ).loc Cert.EvenKernel.main_arg5) = m ((c.tc : Thread Cert.EvenKernel.nD Cert.EvenKernel.τ).loc Cert.EvenKernel.main_arg5)
      ∧ r.2.mem ((c.tc : Thread Cert.EvenKernel.nD Cert.EvenKernel.τ).loc Cert.EvenKernel.main_arg6) = m ((c.tc : Thread Cert.EvenKernel.nD Cert.EvenKernel.τ).loc Cert.EvenKernel.main_arg6)
      ∧ r.2.mem ((c.tc : Thread Cert.EvenKernel.nD Cert.EvenKernel.τ).loc Cert.EvenKernel.main_arg7) = m ((c.tc : Thread Cert.EvenKernel.nD Cert.EvenKernel.τ).loc Cert.EvenKernel.main_arg7)
      ∧ r.2.mem ((c.tc : Thread Cert.EvenKernel.nD Cert.EvenKernel.τ).loc Cert.EvenKernel.main_arg8) = m ((c.tc : Thread Cert.EvenKernel.nD Cert.EvenKernel.τ).loc Cert.EvenKernel.main_arg8)
      ∧ r.2.mem ((c.tc : Thread Cert.EvenKernel.nD Cert.EvenKernel.τ).loc Cert.EvenKernel.main_arg9) = m ((c.tc : Thread Cert.EvenKernel.nD Cert.EvenKernel.τ).loc Cert.EvenKernel.main_arg9)
      ∧ r.2.mem ((c.tc : Thread Cert.EvenKernel.nD Cert.EvenKernel.τ).loc Cert.EvenKernel.main_arg10) = m ((c.tc : Thread Cert.EvenKernel.nD Cert.EvenKernel.τ).loc Cert.EvenKernel.main_arg10)
      ∧ r.2.mem ((c.tc : Thread Cert.EvenKernel.nD Cert.EvenKernel.τ).loc Cert.EvenKernel.main_arg11) = m ((c.tc : Thread Cert.EvenKernel.nD Cert.EvenKernel.τ).loc Cert.EvenKernel.main_arg11)
      ∧ r.2.mem ((c.tc : Thread Cert.EvenKernel.nD Cert.EvenKernel.τ).loc Cert.EvenKernel.main_arg12) = m ((c.tc : Thread Cert.EvenKernel.nD Cert.EvenKernel.τ).loc Cert.EvenKernel.main_arg12))
      ∧ r.2.sem = fun _ => 0)

def quiescent_EvenKernelIdeal [hEvenKernelIdeal : Cert.EvenKernelIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg), Pre_EvenKernelIdeal m →
    θ_run (Cert.EvenKernelIdeal.defs (F := Ideal)) (onTc (τ := Cert.EvenKernelIdeal.τ) (Cert.EvenKernelIdeal.main (F := Ideal))) ⟨m, fun _ => 0, g⟩ (fun r => (∀ c : Dev Cert.EvenKernelIdeal.nD,
      r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
      ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
      ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
      ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
      ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
      ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
      ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
      ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7)
      ∧ r.2.mem ((c.tc : Thread Cert.EvenKernelIdeal.nD Cert.EvenKernelIdeal.τ).loc Cert.EvenKernelIdeal.main_arg8) = m ((c.tc : Thread Cert.EvenKernelIdeal.nD Cert.EvenKernelIdeal.τ).loc Cert.EvenKernelIdeal.main_arg8)
      ∧ r.2.mem ((c.tc : Thread Cert.EvenKernelIdeal.nD Cert.EvenKernelIdeal.τ).loc Cert.EvenKernelIdeal.main_arg9) = m ((c.tc : Thread Cert.EvenKernelIdeal.nD Cert.EvenKernelIdeal.τ).loc Cert.EvenKernelIdeal.main_arg9)
      ∧ r.2.mem ((c.tc : Thread Cert.EvenKernelIdeal.nD Cert.EvenKernelIdeal.τ).loc Cert.EvenKernelIdeal.main_arg10) = m ((c.tc : Thread Cert.EvenKernelIdeal.nD Cert.EvenKernelIdeal.τ).loc Cert.EvenKernelIdeal.main_arg10)
      ∧ r.2.mem ((c.tc : Thread Cert.EvenKernelIdeal.nD Cert.EvenKernelIdeal.τ).loc Cert.EvenKernelIdeal.main_arg11) = m ((c.tc : Thread Cert.EvenKernelIdeal.nD Cert.EvenKernelIdeal.τ).loc Cert.EvenKernelIdeal.main_arg11)
      ∧ r.2.mem ((c.tc : Thread Cert.EvenKernelIdeal.nD Cert.EvenKernelIdeal.τ).loc Cert.EvenKernelIdeal.main_arg12) = m ((c.tc : Thread Cert.EvenKernelIdeal.nD Cert.EvenKernelIdeal.τ).loc Cert.EvenKernelIdeal.main_arg12))
      ∧ r.2.sem = fun _ => 0)

def quiescent_EvenKernelIdeal_pre_even_finite [hEvenKernelIdeal : Cert.EvenKernelIdeal.Facts] [hPre_even_finite : Cert.Pre_even_finite.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg), Pre_EvenKernelIdeal_even_finite m →
    θ_run (Cert.EvenKernelIdeal.defs (F := Ideal)) (onTc (τ := Cert.EvenKernelIdeal.τ) (Cert.EvenKernelIdeal.main (F := Ideal))) ⟨m, fun _ => 0, g⟩ (fun r => (∀ c : Dev Cert.EvenKernelIdeal.nD,
      r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
      ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
      ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
      ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
      ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
      ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
      ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
      ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7)
      ∧ r.2.mem ((c.tc : Thread Cert.EvenKernelIdeal.nD Cert.EvenKernelIdeal.τ).loc Cert.EvenKernelIdeal.main_arg8) = m ((c.tc : Thread Cert.EvenKernelIdeal.nD Cert.EvenKernelIdeal.τ).loc Cert.EvenKernelIdeal.main_arg8)
      ∧ r.2.mem ((c.tc : Thread Cert.EvenKernelIdeal.nD Cert.EvenKernelIdeal.τ).loc Cert.EvenKernelIdeal.main_arg9) = m ((c.tc : Thread Cert.EvenKernelIdeal.nD Cert.EvenKernelIdeal.τ).loc Cert.EvenKernelIdeal.main_arg9)
      ∧ r.2.mem ((c.tc : Thread Cert.EvenKernelIdeal.nD Cert.EvenKernelIdeal.τ).loc Cert.EvenKernelIdeal.main_arg10) = m ((c.tc : Thread Cert.EvenKernelIdeal.nD Cert.EvenKernelIdeal.τ).loc Cert.EvenKernelIdeal.main_arg10)
      ∧ r.2.mem ((c.tc : Thread Cert.EvenKernelIdeal.nD Cert.EvenKernelIdeal.τ).loc Cert.EvenKernelIdeal.main_arg11) = m ((c.tc : Thread Cert.EvenKernelIdeal.nD Cert.EvenKernelIdeal.τ).loc Cert.EvenKernelIdeal.main_arg11)
      ∧ r.2.mem ((c.tc : Thread Cert.EvenKernelIdeal.nD Cert.EvenKernelIdeal.τ).loc Cert.EvenKernelIdeal.main_arg12) = m ((c.tc : Thread Cert.EvenKernelIdeal.nD Cert.EvenKernelIdeal.τ).loc Cert.EvenKernelIdeal.main_arg12))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6)
      ∧ r.2.mem ((c.tc : Thread Cert.EvenReferenceIdeal.nD Cert.EvenReferenceIdeal.τ).loc Cert.EvenReferenceIdeal.main_arg7) = m ((c.tc : Thread Cert.EvenReferenceIdeal.nD Cert.EvenReferenceIdeal.τ).loc Cert.EvenReferenceIdeal.main_arg7)
      ∧ r.2.mem ((c.tc : Thread Cert.EvenReferenceIdeal.nD Cert.EvenReferenceIdeal.τ).loc Cert.EvenReferenceIdeal.main_arg8) = m ((c.tc : Thread Cert.EvenReferenceIdeal.nD Cert.EvenReferenceIdeal.τ).loc Cert.EvenReferenceIdeal.main_arg8)
      ∧ r.2.mem ((c.tc : Thread Cert.EvenReferenceIdeal.nD Cert.EvenReferenceIdeal.τ).loc Cert.EvenReferenceIdeal.main_arg9) = m ((c.tc : Thread Cert.EvenReferenceIdeal.nD Cert.EvenReferenceIdeal.τ).loc Cert.EvenReferenceIdeal.main_arg9)
      ∧ r.2.mem ((c.tc : Thread Cert.EvenReferenceIdeal.nD Cert.EvenReferenceIdeal.τ).loc Cert.EvenReferenceIdeal.main_arg10) = m ((c.tc : Thread Cert.EvenReferenceIdeal.nD Cert.EvenReferenceIdeal.τ).loc Cert.EvenReferenceIdeal.main_arg10)
      ∧ r.2.mem ((c.tc : Thread Cert.EvenReferenceIdeal.nD Cert.EvenReferenceIdeal.τ).loc Cert.EvenReferenceIdeal.main_arg11) = m ((c.tc : Thread Cert.EvenReferenceIdeal.nD Cert.EvenReferenceIdeal.τ).loc Cert.EvenReferenceIdeal.main_arg11)
      ∧ r.2.mem ((c.tc : Thread Cert.EvenReferenceIdeal.nD Cert.EvenReferenceIdeal.τ).loc Cert.EvenReferenceIdeal.main_arg12) = m ((c.tc : Thread Cert.EvenReferenceIdeal.nD Cert.EvenReferenceIdeal.τ).loc Cert.EvenReferenceIdeal.main_arg12))
      ∧ r.2.sem = fun _ => 0)

def quiescent_EvenReferenceIdeal_pre_even_finite [hEvenReferenceIdeal : Cert.EvenReferenceIdeal.Facts] [hPre_even_finite : Cert.Pre_even_finite.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal_even_finite m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6)
      ∧ r.2.mem ((c.tc : Thread Cert.EvenReferenceIdeal.nD Cert.EvenReferenceIdeal.τ).loc Cert.EvenReferenceIdeal.main_arg7) = m ((c.tc : Thread Cert.EvenReferenceIdeal.nD Cert.EvenReferenceIdeal.τ).loc Cert.EvenReferenceIdeal.main_arg7)
      ∧ r.2.mem ((c.tc : Thread Cert.EvenReferenceIdeal.nD Cert.EvenReferenceIdeal.τ).loc Cert.EvenReferenceIdeal.main_arg8) = m ((c.tc : Thread Cert.EvenReferenceIdeal.nD Cert.EvenReferenceIdeal.τ).loc Cert.EvenReferenceIdeal.main_arg8)
      ∧ r.2.mem ((c.tc : Thread Cert.EvenReferenceIdeal.nD Cert.EvenReferenceIdeal.τ).loc Cert.EvenReferenceIdeal.main_arg9) = m ((c.tc : Thread Cert.EvenReferenceIdeal.nD Cert.EvenReferenceIdeal.τ).loc Cert.EvenReferenceIdeal.main_arg9)
      ∧ r.2.mem ((c.tc : Thread Cert.EvenReferenceIdeal.nD Cert.EvenReferenceIdeal.τ).loc Cert.EvenReferenceIdeal.main_arg10) = m ((c.tc : Thread Cert.EvenReferenceIdeal.nD Cert.EvenReferenceIdeal.τ).loc Cert.EvenReferenceIdeal.main_arg10)
      ∧ r.2.mem ((c.tc : Thread Cert.EvenReferenceIdeal.nD Cert.EvenReferenceIdeal.τ).loc Cert.EvenReferenceIdeal.main_arg11) = m ((c.tc : Thread Cert.EvenReferenceIdeal.nD Cert.EvenReferenceIdeal.τ).loc Cert.EvenReferenceIdeal.main_arg11)
      ∧ r.2.mem ((c.tc : Thread Cert.EvenReferenceIdeal.nD Cert.EvenReferenceIdeal.τ).loc Cert.EvenReferenceIdeal.main_arg12) = m ((c.tc : Thread Cert.EvenReferenceIdeal.nD Cert.EvenReferenceIdeal.τ).loc Cert.EvenReferenceIdeal.main_arg12))
      ∧ r.2.sem = fun _ => 0)

def quiescent_FirstKernel [hFirstKernel : Cert.FirstKernel.Facts] : Prop :=
  ∀ (m : (ℓ : Loc Cert.FirstKernel.nD Cert.FirstKernel.τ Cert.FirstKernel.sig) → Buf (Elt Bits) ℓ) (g : Dev Cert.FirstKernel.nD → PrngReg), Pre_FirstKernel m →
    θ_run (Cert.FirstKernel.defs (F := Bits)) (onTc (τ := Cert.FirstKernel.τ) (Cert.FirstKernel.main (F := Bits))) ⟨m, fun _ => 0, g⟩ (fun r => (∀ c : Dev Cert.FirstKernel.nD,
      r.2.mem ((c.tc : Thread Cert.FirstKernel.nD Cert.FirstKernel.τ).loc Cert.FirstKernel.main_arg0) = m ((c.tc : Thread Cert.FirstKernel.nD Cert.FirstKernel.τ).loc Cert.FirstKernel.main_arg0)
      ∧ r.2.mem ((c.tc : Thread Cert.FirstKernel.nD Cert.FirstKernel.τ).loc Cert.FirstKernel.main_arg1) = m ((c.tc : Thread Cert.FirstKernel.nD Cert.FirstKernel.τ).loc Cert.FirstKernel.main_arg1)
      ∧ r.2.mem ((c.tc : Thread Cert.FirstKernel.nD Cert.FirstKernel.τ).loc Cert.FirstKernel.main_arg2) = m ((c.tc : Thread Cert.FirstKernel.nD Cert.FirstKernel.τ).loc Cert.FirstKernel.main_arg2)
      ∧ r.2.mem ((c.tc : Thread Cert.FirstKernel.nD Cert.FirstKernel.τ).loc Cert.FirstKernel.main_arg3) = m ((c.tc : Thread Cert.FirstKernel.nD Cert.FirstKernel.τ).loc Cert.FirstKernel.main_arg3)
      ∧ r.2.mem ((c.tc : Thread Cert.FirstKernel.nD Cert.FirstKernel.τ).loc Cert.FirstKernel.main_arg4) = m ((c.tc : Thread Cert.FirstKernel.nD Cert.FirstKernel.τ).loc Cert.FirstKernel.main_arg4)
      ∧ r.2.mem ((c.tc : Thread Cert.FirstKernel.nD Cert.FirstKernel.τ).loc Cert.FirstKernel.main_arg5) = m ((c.tc : Thread Cert.FirstKernel.nD Cert.FirstKernel.τ).loc Cert.FirstKernel.main_arg5)
      ∧ r.2.mem ((c.tc : Thread Cert.FirstKernel.nD Cert.FirstKernel.τ).loc Cert.FirstKernel.main_arg6) = m ((c.tc : Thread Cert.FirstKernel.nD Cert.FirstKernel.τ).loc Cert.FirstKernel.main_arg6)
      ∧ r.2.mem ((c.tc : Thread Cert.FirstKernel.nD Cert.FirstKernel.τ).loc Cert.FirstKernel.main_arg7) = m ((c.tc : Thread Cert.FirstKernel.nD Cert.FirstKernel.τ).loc Cert.FirstKernel.main_arg7)
      ∧ r.2.mem ((c.tc : Thread Cert.FirstKernel.nD Cert.FirstKernel.τ).loc Cert.FirstKernel.main_arg8) = m ((c.tc : Thread Cert.FirstKernel.nD Cert.FirstKernel.τ).loc Cert.FirstKernel.main_arg8))
      ∧ r.2.sem = fun _ => 0)

def quiescent_FirstKernelIdeal [hFirstKernelIdeal : Cert.FirstKernelIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
      ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
      ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6)
      ∧ r.2.mem ((c.tc : Thread Cert.FirstKernelIdeal.nD Cert.FirstKernelIdeal.τ).loc Cert.FirstKernelIdeal.main_arg7) = m ((c.tc : Thread Cert.FirstKernelIdeal.nD Cert.FirstKernelIdeal.τ).loc Cert.FirstKernelIdeal.main_arg7)
      ∧ r.2.mem ((c.tc : Thread Cert.FirstKernelIdeal.nD Cert.FirstKernelIdeal.τ).loc Cert.FirstKernelIdeal.main_arg8) = m ((c.tc : Thread Cert.FirstKernelIdeal.nD Cert.FirstKernelIdeal.τ).loc Cert.FirstKernelIdeal.main_arg8))
      ∧ r.2.sem = fun _ => 0)

def quiescent_FirstKernelIdeal_pre_finite [hFirstKernelIdeal : Cert.FirstKernelIdeal.Facts] [hPre_finite : Cert.Pre_finite.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal_finite m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
      ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
      ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6)
      ∧ r.2.mem ((c.tc : Thread Cert.FirstKernelIdeal.nD Cert.FirstKernelIdeal.τ).loc Cert.FirstKernelIdeal.main_arg7) = m ((c.tc : Thread Cert.FirstKernelIdeal.nD Cert.FirstKernelIdeal.τ).loc Cert.FirstKernelIdeal.main_arg7)
      ∧ r.2.mem ((c.tc : Thread Cert.FirstKernelIdeal.nD Cert.FirstKernelIdeal.τ).loc Cert.FirstKernelIdeal.main_arg8) = m ((c.tc : Thread Cert.FirstKernelIdeal.nD Cert.FirstKernelIdeal.τ).loc Cert.FirstKernelIdeal.main_arg8))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8))
      ∧ r.2.sem = fun _ => 0)

def quiescent_FirstReferenceIdeal_pre_finite [hFirstReferenceIdeal : Cert.FirstReferenceIdeal.Facts] [hPre_finite : Cert.Pre_finite.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal_finite m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_FlashKernel [hFlashKernel : Cert.FlashKernel.Facts] : Prop :=
  ∀ (m : (ℓ : Loc Cert.FlashKernel.nD Cert.FlashKernel.τ Cert.FlashKernel.sig) → Buf (Elt Bits) ℓ) (g : Dev Cert.FlashKernel.nD → PrngReg), Pre_FlashKernel m →
    θ_run (Cert.FlashKernel.defs (F := Bits)) (onTc (τ := Cert.FlashKernel.τ) (Cert.FlashKernel.main (F := Bits))) ⟨m, fun _ => 0, g⟩ (fun r => (∀ c : Dev Cert.FlashKernel.nD,
      r.2.mem ((c.tc : Thread Cert.FlashKernel.nD Cert.FlashKernel.τ).loc Cert.FlashKernel.main_arg0) = m ((c.tc : Thread Cert.FlashKernel.nD Cert.FlashKernel.τ).loc Cert.FlashKernel.main_arg0)
      ∧ r.2.mem ((c.tc : Thread Cert.FlashKernel.nD Cert.FlashKernel.τ).loc Cert.FlashKernel.main_arg1) = m ((c.tc : Thread Cert.FlashKernel.nD Cert.FlashKernel.τ).loc Cert.FlashKernel.main_arg1)
      ∧ r.2.mem ((c.tc : Thread Cert.FlashKernel.nD Cert.FlashKernel.τ).loc Cert.FlashKernel.main_arg2) = m ((c.tc : Thread Cert.FlashKernel.nD Cert.FlashKernel.τ).loc Cert.FlashKernel.main_arg2))
      ∧ r.2.sem = fun _ => 0)

def quiescent_FlashKernelIdeal [hFlashKernelIdeal : Cert.FlashKernelIdeal.Facts] : Prop :=
  ∀ (m : (ℓ : Loc Cert.FlashKernelIdeal.nD Cert.FlashKernelIdeal.τ Cert.FlashKernelIdeal.sig) → Buf (Elt Ideal) ℓ) (g : Dev Cert.FlashKernelIdeal.nD → PrngReg), Pre_FlashKernelIdeal m →
    θ_run (Cert.FlashKernelIdeal.defs (F := Ideal)) (onTc (τ := Cert.FlashKernelIdeal.τ) (Cert.FlashKernelIdeal.main (F := Ideal))) ⟨m, fun _ => 0, g⟩ (fun r => (∀ c : Dev Cert.FlashKernelIdeal.nD,
      r.2.mem ((c.tc : Thread Cert.FlashKernelIdeal.nD Cert.FlashKernelIdeal.τ).loc Cert.FlashKernelIdeal.main_arg0) = m ((c.tc : Thread Cert.FlashKernelIdeal.nD Cert.FlashKernelIdeal.τ).loc Cert.FlashKernelIdeal.main_arg0)
      ∧ r.2.mem ((c.tc : Thread Cert.FlashKernelIdeal.nD Cert.FlashKernelIdeal.τ).loc Cert.FlashKernelIdeal.main_arg1) = m ((c.tc : Thread Cert.FlashKernelIdeal.nD Cert.FlashKernelIdeal.τ).loc Cert.FlashKernelIdeal.main_arg1)
      ∧ r.2.mem ((c.tc : Thread Cert.FlashKernelIdeal.nD Cert.FlashKernelIdeal.τ).loc Cert.FlashKernelIdeal.main_arg2) = m ((c.tc : Thread Cert.FlashKernelIdeal.nD Cert.FlashKernelIdeal.τ).loc Cert.FlashKernelIdeal.main_arg2))
      ∧ r.2.sem = fun _ => 0)

def quiescent_FlashKernelIdeal_pre_flash_finite [hFlashKernelIdeal : Cert.FlashKernelIdeal.Facts] [hPre_flash_finite : Cert.Pre_flash_finite.Facts] : Prop :=
  ∀ (m : (ℓ : Loc Cert.FlashKernelIdeal.nD Cert.FlashKernelIdeal.τ Cert.FlashKernelIdeal.sig) → Buf (Elt Ideal) ℓ) (g : Dev Cert.FlashKernelIdeal.nD → PrngReg), Pre_FlashKernelIdeal_flash_finite m →
    θ_run (Cert.FlashKernelIdeal.defs (F := Ideal)) (onTc (τ := Cert.FlashKernelIdeal.τ) (Cert.FlashKernelIdeal.main (F := Ideal))) ⟨m, fun _ => 0, g⟩ (fun r => (∀ c : Dev Cert.FlashKernelIdeal.nD,
      r.2.mem ((c.tc : Thread Cert.FlashKernelIdeal.nD Cert.FlashKernelIdeal.τ).loc Cert.FlashKernelIdeal.main_arg0) = m ((c.tc : Thread Cert.FlashKernelIdeal.nD Cert.FlashKernelIdeal.τ).loc Cert.FlashKernelIdeal.main_arg0)
      ∧ r.2.mem ((c.tc : Thread Cert.FlashKernelIdeal.nD Cert.FlashKernelIdeal.τ).loc Cert.FlashKernelIdeal.main_arg1) = m ((c.tc : Thread Cert.FlashKernelIdeal.nD Cert.FlashKernelIdeal.τ).loc Cert.FlashKernelIdeal.main_arg1)
      ∧ r.2.mem ((c.tc : Thread Cert.FlashKernelIdeal.nD Cert.FlashKernelIdeal.τ).loc Cert.FlashKernelIdeal.main_arg2) = m ((c.tc : Thread Cert.FlashKernelIdeal.nD Cert.FlashKernelIdeal.τ).loc Cert.FlashKernelIdeal.main_arg2))
      ∧ r.2.sem = fun _ => 0)

def quiescent_FlashReferenceIdeal [hFlashReferenceIdeal : Cert.FlashReferenceIdeal.Facts] : Prop :=
  ∀ (m : (ℓ : Loc Cert.FlashReferenceIdeal.nD Cert.FlashReferenceIdeal.τ Cert.FlashReferenceIdeal.sig) → Buf (Elt Ideal) ℓ) (g : Dev Cert.FlashReferenceIdeal.nD → PrngReg), Pre_FlashReferenceIdeal m →
    θ_run (Cert.FlashReferenceIdeal.defs (F := Ideal)) (onTc (τ := Cert.FlashReferenceIdeal.τ) (Cert.FlashReferenceIdeal.main (F := Ideal))) ⟨m, fun _ => 0, g⟩ (fun r => (∀ c : Dev Cert.FlashReferenceIdeal.nD,
      r.2.mem ((c.tc : Thread Cert.FlashReferenceIdeal.nD Cert.FlashReferenceIdeal.τ).loc Cert.FlashReferenceIdeal.main_arg0) = m ((c.tc : Thread Cert.FlashReferenceIdeal.nD Cert.FlashReferenceIdeal.τ).loc Cert.FlashReferenceIdeal.main_arg0)
      ∧ r.2.mem ((c.tc : Thread Cert.FlashReferenceIdeal.nD Cert.FlashReferenceIdeal.τ).loc Cert.FlashReferenceIdeal.main_arg1) = m ((c.tc : Thread Cert.FlashReferenceIdeal.nD Cert.FlashReferenceIdeal.τ).loc Cert.FlashReferenceIdeal.main_arg1)
      ∧ r.2.mem ((c.tc : Thread Cert.FlashReferenceIdeal.nD Cert.FlashReferenceIdeal.τ).loc Cert.FlashReferenceIdeal.main_arg2) = m ((c.tc : Thread Cert.FlashReferenceIdeal.nD Cert.FlashReferenceIdeal.τ).loc Cert.FlashReferenceIdeal.main_arg2))
      ∧ r.2.sem = fun _ => 0)

def quiescent_FlashReferenceIdeal_pre_flash_finite [hFlashReferenceIdeal : Cert.FlashReferenceIdeal.Facts] [hPre_flash_finite : Cert.Pre_flash_finite.Facts] : Prop :=
  ∀ (m : (ℓ : Loc Cert.FlashReferenceIdeal.nD Cert.FlashReferenceIdeal.τ Cert.FlashReferenceIdeal.sig) → Buf (Elt Ideal) ℓ) (g : Dev Cert.FlashReferenceIdeal.nD → PrngReg), Pre_FlashReferenceIdeal_flash_finite m →
    θ_run (Cert.FlashReferenceIdeal.defs (F := Ideal)) (onTc (τ := Cert.FlashReferenceIdeal.τ) (Cert.FlashReferenceIdeal.main (F := Ideal))) ⟨m, fun _ => 0, g⟩ (fun r => (∀ c : Dev Cert.FlashReferenceIdeal.nD,
      r.2.mem ((c.tc : Thread Cert.FlashReferenceIdeal.nD Cert.FlashReferenceIdeal.τ).loc Cert.FlashReferenceIdeal.main_arg0) = m ((c.tc : Thread Cert.FlashReferenceIdeal.nD Cert.FlashReferenceIdeal.τ).loc Cert.FlashReferenceIdeal.main_arg0)
      ∧ r.2.mem ((c.tc : Thread Cert.FlashReferenceIdeal.nD Cert.FlashReferenceIdeal.τ).loc Cert.FlashReferenceIdeal.main_arg1) = m ((c.tc : Thread Cert.FlashReferenceIdeal.nD Cert.FlashReferenceIdeal.τ).loc Cert.FlashReferenceIdeal.main_arg1)
      ∧ r.2.mem ((c.tc : Thread Cert.FlashReferenceIdeal.nD Cert.FlashReferenceIdeal.τ).loc Cert.FlashReferenceIdeal.main_arg2) = m ((c.tc : Thread Cert.FlashReferenceIdeal.nD Cert.FlashReferenceIdeal.τ).loc Cert.FlashReferenceIdeal.main_arg2))
      ∧ r.2.sem = fun _ => 0)

def preserves_Kernel_KernelIdeal : Prop :=
  True

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v2_0)) (v1 : (c : Dev Cert.ProjKernelIdeal.nD) → Buf (Elt Ideal) ((c.tc : Thread Cert.ProjKernelIdeal.nD Cert.ProjKernelIdeal.τ).loc Cert.ProjKernelIdeal.main_v2_1)) (v2 : (c : Dev Cert.ProjKernelIdeal.nD) → Buf (Elt Ideal) ((c.tc : Thread Cert.ProjKernelIdeal.nD Cert.ProjKernelIdeal.τ).loc Cert.ProjKernelIdeal.main_v2_2)) (v3 : (c : Dev Cert.ProjKernelIdeal.nD) → Buf (Elt Ideal) ((c.tc : Thread Cert.ProjKernelIdeal.nD Cert.ProjKernelIdeal.τ).loc Cert.ProjKernelIdeal.main_v2_3)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v2_0) = v0 c
          ∧ r.2.mem ((c.tc : Thread Cert.ProjKernelIdeal.nD Cert.ProjKernelIdeal.τ).loc Cert.ProjKernelIdeal.main_v2_1) = v1 c
          ∧ r.2.mem ((c.tc : Thread Cert.ProjKernelIdeal.nD Cert.ProjKernelIdeal.τ).loc Cert.ProjKernelIdeal.main_v2_2) = v2 c
          ∧ r.2.mem ((c.tc : Thread Cert.ProjKernelIdeal.nD Cert.ProjKernelIdeal.τ).loc Cert.ProjKernelIdeal.main_v2_3) = v3 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v14) = v0 c
          ∧ r.2.mem ((c.tc : Thread Cert.ProjReferenceIdeal.nD Cert.ProjReferenceIdeal.τ).loc Cert.ProjReferenceIdeal.main_v15) = v1 c
          ∧ r.2.mem ((c.tc : Thread Cert.ProjReferenceIdeal.nD Cert.ProjReferenceIdeal.τ).loc Cert.ProjReferenceIdeal.main_v16) = v2 c
          ∧ r.2.mem ((c.tc : Thread Cert.ProjReferenceIdeal.nD Cert.ProjReferenceIdeal.τ).loc Cert.ProjReferenceIdeal.main_v17) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_TailKernel_TailKernelIdeal : Prop :=
  True

def algebraic_TailKernelIdeal_TailReferenceIdeal_pre_finite [hTailKernelIdeal : Cert.TailKernelIdeal.Facts] [hTailReferenceIdeal : Cert.TailReferenceIdeal.Facts] [hPre_finite : Cert.Pre_finite.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailKernelIdeal_finite m →
    (∀ c : Dev Cert.TailKernelIdeal.nD,
      m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)
      ∧ m' ((c.tc : Thread Cert.TailReferenceIdeal.nD Cert.TailReferenceIdeal.τ).loc Cert.TailReferenceIdeal.main_arg2) = m ((c.tc : Thread Cert.TailKernelIdeal.nD Cert.TailKernelIdeal.τ).loc Cert.TailKernelIdeal.main_arg2)
      ∧ m' ((c.tc : Thread Cert.TailReferenceIdeal.nD Cert.TailReferenceIdeal.τ).loc Cert.TailReferenceIdeal.main_arg3) = m ((c.tc : Thread Cert.TailKernelIdeal.nD Cert.TailKernelIdeal.τ).loc Cert.TailKernelIdeal.main_arg3)
      ∧ m' ((c.tc : Thread Cert.TailReferenceIdeal.nD Cert.TailReferenceIdeal.τ).loc Cert.TailReferenceIdeal.main_arg4) = m ((c.tc : Thread Cert.TailKernelIdeal.nD Cert.TailKernelIdeal.τ).loc Cert.TailKernelIdeal.main_arg4)
      ∧ m' ((c.tc : Thread Cert.TailReferenceIdeal.nD Cert.TailReferenceIdeal.τ).loc Cert.TailReferenceIdeal.main_arg5) = m ((c.tc : Thread Cert.TailKernelIdeal.nD Cert.TailKernelIdeal.τ).loc Cert.TailKernelIdeal.main_arg5)
      ∧ m' ((c.tc : Thread Cert.TailReferenceIdeal.nD Cert.TailReferenceIdeal.τ).loc Cert.TailReferenceIdeal.main_arg6) = m ((c.tc : Thread Cert.TailKernelIdeal.nD Cert.TailKernelIdeal.τ).loc Cert.TailKernelIdeal.main_arg6)
      ∧ m' ((c.tc : Thread Cert.TailReferenceIdeal.nD Cert.TailReferenceIdeal.τ).loc Cert.TailReferenceIdeal.main_arg7) = m ((c.tc : Thread Cert.TailKernelIdeal.nD Cert.TailKernelIdeal.τ).loc Cert.TailKernelIdeal.main_arg7)
      ∧ m' ((c.tc : Thread Cert.TailReferenceIdeal.nD Cert.TailReferenceIdeal.τ).loc Cert.TailReferenceIdeal.main_arg8) = m ((c.tc : Thread Cert.TailKernelIdeal.nD Cert.TailKernelIdeal.τ).loc Cert.TailKernelIdeal.main_arg8)) →
    ∃ (v0 : (c : Dev Cert.TailKernelIdeal.nD) → Buf (Elt Ideal) ((c.tc : Thread Cert.TailKernelIdeal.nD Cert.TailKernelIdeal.τ).loc Cert.TailKernelIdeal.main_v2)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v2) = v0 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
          ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
          ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
          ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
          ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
          ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
          ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
          ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v43) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8))

def preserves_OddKernel_OddKernelIdeal : Prop :=
  True

def algebraic_OddKernelIdeal_OddReferenceIdeal [hOddKernelIdeal : Cert.OddKernelIdeal.Facts] [hOddReferenceIdeal : Cert.OddReferenceIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddKernelIdeal m →
    (∀ c : Dev Cert.OddKernelIdeal.nD,
      m' ((c.tc : Thread Cert.OddReferenceIdeal.nD Cert.OddReferenceIdeal.τ).loc Cert.OddReferenceIdeal.main_arg0) = m ((c.tc : Thread Cert.OddKernelIdeal.nD Cert.OddKernelIdeal.τ).loc Cert.OddKernelIdeal.main_arg0)
      ∧ m' ((c.tc : Thread Cert.OddReferenceIdeal.nD Cert.OddReferenceIdeal.τ).loc Cert.OddReferenceIdeal.main_arg1) = m ((c.tc : Thread Cert.OddKernelIdeal.nD Cert.OddKernelIdeal.τ).loc Cert.OddKernelIdeal.main_arg1)
      ∧ m' ((c.tc : Thread Cert.OddReferenceIdeal.nD Cert.OddReferenceIdeal.τ).loc Cert.OddReferenceIdeal.main_arg2) = m ((c.tc : Thread Cert.OddKernelIdeal.nD Cert.OddKernelIdeal.τ).loc Cert.OddKernelIdeal.main_arg2)) →
    ∃ (v0 : (c : Dev Cert.OddKernelIdeal.nD) → Buf (Elt Ideal) ((c.tc : Thread Cert.OddKernelIdeal.nD Cert.OddKernelIdeal.τ).loc Cert.OddKernelIdeal.main_v15_0)) (v1 : (c : Dev Cert.OddKernelIdeal.nD) → Buf (Elt Ideal) ((c.tc : Thread Cert.OddKernelIdeal.nD Cert.OddKernelIdeal.τ).loc Cert.OddKernelIdeal.main_v15_1)) (v2 : (c : Dev Cert.OddKernelIdeal.nD) → Buf (Elt Ideal) ((c.tc : Thread Cert.OddKernelIdeal.nD Cert.OddKernelIdeal.τ).loc Cert.OddKernelIdeal.main_v15_2)) (v3 : (c : Dev Cert.OddKernelIdeal.nD) → Buf (Elt Ideal) ((c.tc : Thread Cert.OddKernelIdeal.nD Cert.OddKernelIdeal.τ).loc Cert.OddKernelIdeal.main_v15_3)) (v4 : (c : Dev Cert.OddKernelIdeal.nD) → Buf (Elt Ideal) ((c.tc : Thread Cert.OddKernelIdeal.nD Cert.OddKernelIdeal.τ).loc Cert.OddKernelIdeal.main_v15_4)) (v5 : (c : Dev Cert.OddKernelIdeal.nD) → Buf (Elt Ideal) ((c.tc : Thread Cert.OddKernelIdeal.nD Cert.OddKernelIdeal.τ).loc Cert.OddKernelIdeal.main_v15_5)) (v6 : (c : Dev Cert.OddKernelIdeal.nD) → Buf (Elt Ideal) ((c.tc : Thread Cert.OddKernelIdeal.nD Cert.OddKernelIdeal.τ).loc Cert.OddKernelIdeal.main_v15_6)),
      θ_run (Cert.OddKernelIdeal.defs (F := Ideal)) (onTc (τ := Cert.OddKernelIdeal.τ) (Cert.OddKernelIdeal.main (F := Ideal))) ⟨m, fun _ => 0, g⟩ (fun r => ∀ c : Dev Cert.OddKernelIdeal.nD,
          r.2.mem ((c.tc : Thread Cert.OddKernelIdeal.nD Cert.OddKernelIdeal.τ).loc Cert.OddKernelIdeal.main_v15_0) = v0 c
          ∧ r.2.mem ((c.tc : Thread Cert.OddKernelIdeal.nD Cert.OddKernelIdeal.τ).loc Cert.OddKernelIdeal.main_v15_1) = v1 c
          ∧ r.2.mem ((c.tc : Thread Cert.OddKernelIdeal.nD Cert.OddKernelIdeal.τ).loc Cert.OddKernelIdeal.main_v15_2) = v2 c
          ∧ r.2.mem ((c.tc : Thread Cert.OddKernelIdeal.nD Cert.OddKernelIdeal.τ).loc Cert.OddKernelIdeal.main_v15_3) = v3 c
          ∧ r.2.mem ((c.tc : Thread Cert.OddKernelIdeal.nD Cert.OddKernelIdeal.τ).loc Cert.OddKernelIdeal.main_v15_4) = v4 c
          ∧ r.2.mem ((c.tc : Thread Cert.OddKernelIdeal.nD Cert.OddKernelIdeal.τ).loc Cert.OddKernelIdeal.main_v15_5) = v5 c
          ∧ r.2.mem ((c.tc : Thread Cert.OddKernelIdeal.nD Cert.OddKernelIdeal.τ).loc Cert.OddKernelIdeal.main_v15_6) = v6 c
          ∧ r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
          ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
          ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v14) = v0 c
          ∧ r.2.mem ((c.tc : Thread Cert.OddReferenceIdeal.nD Cert.OddReferenceIdeal.τ).loc Cert.OddReferenceIdeal.main_v16) = v1 c
          ∧ r.2.mem ((c.tc : Thread Cert.OddReferenceIdeal.nD Cert.OddReferenceIdeal.τ).loc Cert.OddReferenceIdeal.main_v17) = v2 c
          ∧ r.2.mem ((c.tc : Thread Cert.OddReferenceIdeal.nD Cert.OddReferenceIdeal.τ).loc Cert.OddReferenceIdeal.main_v19) = v3 c
          ∧ r.2.mem ((c.tc : Thread Cert.OddReferenceIdeal.nD Cert.OddReferenceIdeal.τ).loc Cert.OddReferenceIdeal.main_v26) = v4 c
          ∧ r.2.mem ((c.tc : Thread Cert.OddReferenceIdeal.nD Cert.OddReferenceIdeal.τ).loc Cert.OddReferenceIdeal.main_v27) = v5 c
          ∧ r.2.mem ((c.tc : Thread Cert.OddReferenceIdeal.nD Cert.OddReferenceIdeal.τ).loc Cert.OddReferenceIdeal.main_v25) = v6 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2))

def preserves_EvenKernel_EvenKernelIdeal : Prop :=
  True

def algebraic_EvenKernelIdeal_EvenReferenceIdeal_pre_even_finite [hEvenKernelIdeal : Cert.EvenKernelIdeal.Facts] [hEvenReferenceIdeal : Cert.EvenReferenceIdeal.Facts] [hPre_even_finite : Cert.Pre_even_finite.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenKernelIdeal_even_finite m →
    (∀ c : Dev Cert.EvenKernelIdeal.nD,
      m' ((c.tc : Thread Cert.EvenReferenceIdeal.nD Cert.EvenReferenceIdeal.τ).loc Cert.EvenReferenceIdeal.main_arg0) = m ((c.tc : Thread Cert.EvenKernelIdeal.nD Cert.EvenKernelIdeal.τ).loc Cert.EvenKernelIdeal.main_arg0)
      ∧ m' ((c.tc : Thread Cert.EvenReferenceIdeal.nD Cert.EvenReferenceIdeal.τ).loc Cert.EvenReferenceIdeal.main_arg1) = m ((c.tc : Thread Cert.EvenKernelIdeal.nD Cert.EvenKernelIdeal.τ).loc Cert.EvenKernelIdeal.main_arg1)
      ∧ m' ((c.tc : Thread Cert.EvenReferenceIdeal.nD Cert.EvenReferenceIdeal.τ).loc Cert.EvenReferenceIdeal.main_arg2) = m ((c.tc : Thread Cert.EvenKernelIdeal.nD Cert.EvenKernelIdeal.τ).loc Cert.EvenKernelIdeal.main_arg2)
      ∧ m' ((c.tc : Thread Cert.EvenReferenceIdeal.nD Cert.EvenReferenceIdeal.τ).loc Cert.EvenReferenceIdeal.main_arg3) = m ((c.tc : Thread Cert.EvenKernelIdeal.nD Cert.EvenKernelIdeal.τ).loc Cert.EvenKernelIdeal.main_arg3)
      ∧ m' ((c.tc : Thread Cert.EvenReferenceIdeal.nD Cert.EvenReferenceIdeal.τ).loc Cert.EvenReferenceIdeal.main_arg4) = m ((c.tc : Thread Cert.EvenKernelIdeal.nD Cert.EvenKernelIdeal.τ).loc Cert.EvenKernelIdeal.main_arg4)
      ∧ m' ((c.tc : Thread Cert.EvenReferenceIdeal.nD Cert.EvenReferenceIdeal.τ).loc Cert.EvenReferenceIdeal.main_arg5) = m ((c.tc : Thread Cert.EvenKernelIdeal.nD Cert.EvenKernelIdeal.τ).loc Cert.EvenKernelIdeal.main_arg5)
      ∧ m' ((c.tc : Thread Cert.EvenReferenceIdeal.nD Cert.EvenReferenceIdeal.τ).loc Cert.EvenReferenceIdeal.main_arg6) = m ((c.tc : Thread Cert.EvenKernelIdeal.nD Cert.EvenKernelIdeal.τ).loc Cert.EvenKernelIdeal.main_arg6)
      ∧ m' ((c.tc : Thread Cert.EvenReferenceIdeal.nD Cert.EvenReferenceIdeal.τ).loc Cert.EvenReferenceIdeal.main_arg7) = m ((c.tc : Thread Cert.EvenKernelIdeal.nD Cert.EvenKernelIdeal.τ).loc Cert.EvenKernelIdeal.main_arg7)
      ∧ m' ((c.tc : Thread Cert.EvenReferenceIdeal.nD Cert.EvenReferenceIdeal.τ).loc Cert.EvenReferenceIdeal.main_arg8) = m ((c.tc : Thread Cert.EvenKernelIdeal.nD Cert.EvenKernelIdeal.τ).loc Cert.EvenKernelIdeal.main_arg8)
      ∧ m' ((c.tc : Thread Cert.EvenReferenceIdeal.nD Cert.EvenReferenceIdeal.τ).loc Cert.EvenReferenceIdeal.main_arg9) = m ((c.tc : Thread Cert.EvenKernelIdeal.nD Cert.EvenKernelIdeal.τ).loc Cert.EvenKernelIdeal.main_arg9)
      ∧ m' ((c.tc : Thread Cert.EvenReferenceIdeal.nD Cert.EvenReferenceIdeal.τ).loc Cert.EvenReferenceIdeal.main_arg10) = m ((c.tc : Thread Cert.EvenKernelIdeal.nD Cert.EvenKernelIdeal.τ).loc Cert.EvenKernelIdeal.main_arg10)
      ∧ m' ((c.tc : Thread Cert.EvenReferenceIdeal.nD Cert.EvenReferenceIdeal.τ).loc Cert.EvenReferenceIdeal.main_arg11) = m ((c.tc : Thread Cert.EvenKernelIdeal.nD Cert.EvenKernelIdeal.τ).loc Cert.EvenKernelIdeal.main_arg11)
      ∧ m' ((c.tc : Thread Cert.EvenReferenceIdeal.nD Cert.EvenReferenceIdeal.τ).loc Cert.EvenReferenceIdeal.main_arg12) = m ((c.tc : Thread Cert.EvenKernelIdeal.nD Cert.EvenKernelIdeal.τ).loc Cert.EvenKernelIdeal.main_arg12)) →
    ∃ (v0 : (c : Dev Cert.EvenKernelIdeal.nD) → Buf (Elt Ideal) ((c.tc : Thread Cert.EvenKernelIdeal.nD Cert.EvenKernelIdeal.τ).loc Cert.EvenKernelIdeal.main_v7)),
      θ_run (Cert.EvenKernelIdeal.defs (F := Ideal)) (onTc (τ := Cert.EvenKernelIdeal.τ) (Cert.EvenKernelIdeal.main (F := Ideal))) ⟨m, fun _ => 0, g⟩ (fun r => ∀ c : Dev Cert.EvenKernelIdeal.nD,
          r.2.mem ((c.tc : Thread Cert.EvenKernelIdeal.nD Cert.EvenKernelIdeal.τ).loc Cert.EvenKernelIdeal.main_v7) = v0 c
          ∧ r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
          ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
          ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
          ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
          ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
          ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
          ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
          ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7)
          ∧ r.2.mem ((c.tc : Thread Cert.EvenKernelIdeal.nD Cert.EvenKernelIdeal.τ).loc Cert.EvenKernelIdeal.main_arg8) = m ((c.tc : Thread Cert.EvenKernelIdeal.nD Cert.EvenKernelIdeal.τ).loc Cert.EvenKernelIdeal.main_arg8)
          ∧ r.2.mem ((c.tc : Thread Cert.EvenKernelIdeal.nD Cert.EvenKernelIdeal.τ).loc Cert.EvenKernelIdeal.main_arg9) = m ((c.tc : Thread Cert.EvenKernelIdeal.nD Cert.EvenKernelIdeal.τ).loc Cert.EvenKernelIdeal.main_arg9)
          ∧ r.2.mem ((c.tc : Thread Cert.EvenKernelIdeal.nD Cert.EvenKernelIdeal.τ).loc Cert.EvenKernelIdeal.main_arg10) = m ((c.tc : Thread Cert.EvenKernelIdeal.nD Cert.EvenKernelIdeal.τ).loc Cert.EvenKernelIdeal.main_arg10)
          ∧ r.2.mem ((c.tc : Thread Cert.EvenKernelIdeal.nD Cert.EvenKernelIdeal.τ).loc Cert.EvenKernelIdeal.main_arg11) = m ((c.tc : Thread Cert.EvenKernelIdeal.nD Cert.EvenKernelIdeal.τ).loc Cert.EvenKernelIdeal.main_arg11)
          ∧ r.2.mem ((c.tc : Thread Cert.EvenKernelIdeal.nD Cert.EvenKernelIdeal.τ).loc Cert.EvenKernelIdeal.main_arg12) = m ((c.tc : Thread Cert.EvenKernelIdeal.nD Cert.EvenKernelIdeal.τ).loc Cert.EvenKernelIdeal.main_arg12))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v54) = v0 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5)
          ∧ r.2.mem ((c.tc : Thread Cert.EvenReferenceIdeal.nD Cert.EvenReferenceIdeal.τ).loc Cert.EvenReferenceIdeal.main_arg6) = m' ((c.tc : Thread Cert.EvenReferenceIdeal.nD Cert.EvenReferenceIdeal.τ).loc Cert.EvenReferenceIdeal.main_arg6)
          ∧ r.2.mem ((c.tc : Thread Cert.EvenReferenceIdeal.nD Cert.EvenReferenceIdeal.τ).loc Cert.EvenReferenceIdeal.main_arg7) = m' ((c.tc : Thread Cert.EvenReferenceIdeal.nD Cert.EvenReferenceIdeal.τ).loc Cert.EvenReferenceIdeal.main_arg7)
          ∧ r.2.mem ((c.tc : Thread Cert.EvenReferenceIdeal.nD Cert.EvenReferenceIdeal.τ).loc Cert.EvenReferenceIdeal.main_arg8) = m' ((c.tc : Thread Cert.EvenReferenceIdeal.nD Cert.EvenReferenceIdeal.τ).loc Cert.EvenReferenceIdeal.main_arg8)
          ∧ r.2.mem ((c.tc : Thread Cert.EvenReferenceIdeal.nD Cert.EvenReferenceIdeal.τ).loc Cert.EvenReferenceIdeal.main_arg9) = m' ((c.tc : Thread Cert.EvenReferenceIdeal.nD Cert.EvenReferenceIdeal.τ).loc Cert.EvenReferenceIdeal.main_arg9)
          ∧ r.2.mem ((c.tc : Thread Cert.EvenReferenceIdeal.nD Cert.EvenReferenceIdeal.τ).loc Cert.EvenReferenceIdeal.main_arg10) = m' ((c.tc : Thread Cert.EvenReferenceIdeal.nD Cert.EvenReferenceIdeal.τ).loc Cert.EvenReferenceIdeal.main_arg10)
          ∧ r.2.mem ((c.tc : Thread Cert.EvenReferenceIdeal.nD Cert.EvenReferenceIdeal.τ).loc Cert.EvenReferenceIdeal.main_arg11) = m' ((c.tc : Thread Cert.EvenReferenceIdeal.nD Cert.EvenReferenceIdeal.τ).loc Cert.EvenReferenceIdeal.main_arg11)
          ∧ r.2.mem ((c.tc : Thread Cert.EvenReferenceIdeal.nD Cert.EvenReferenceIdeal.τ).loc Cert.EvenReferenceIdeal.main_arg12) = m' ((c.tc : Thread Cert.EvenReferenceIdeal.nD Cert.EvenReferenceIdeal.τ).loc Cert.EvenReferenceIdeal.main_arg12))

def preserves_FirstKernel_FirstKernelIdeal : Prop :=
  True

def algebraic_FirstKernelIdeal_FirstReferenceIdeal_pre_finite [hFirstKernelIdeal : Cert.FirstKernelIdeal.Facts] [hFirstReferenceIdeal : Cert.FirstReferenceIdeal.Facts] [hPre_finite : Cert.Pre_finite.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstKernelIdeal_finite m →
    (∀ c : Dev Cert.FirstKernelIdeal.nD,
      m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)
      ∧ m' ((c.tc : Thread Cert.FirstReferenceIdeal.nD Cert.FirstReferenceIdeal.τ).loc Cert.FirstReferenceIdeal.main_arg3) = m ((c.tc : Thread Cert.FirstKernelIdeal.nD Cert.FirstKernelIdeal.τ).loc Cert.FirstKernelIdeal.main_arg3)
      ∧ m' ((c.tc : Thread Cert.FirstReferenceIdeal.nD Cert.FirstReferenceIdeal.τ).loc Cert.FirstReferenceIdeal.main_arg4) = m ((c.tc : Thread Cert.FirstKernelIdeal.nD Cert.FirstKernelIdeal.τ).loc Cert.FirstKernelIdeal.main_arg4)
      ∧ m' ((c.tc : Thread Cert.FirstReferenceIdeal.nD Cert.FirstReferenceIdeal.τ).loc Cert.FirstReferenceIdeal.main_arg5) = m ((c.tc : Thread Cert.FirstKernelIdeal.nD Cert.FirstKernelIdeal.τ).loc Cert.FirstKernelIdeal.main_arg5)
      ∧ m' ((c.tc : Thread Cert.FirstReferenceIdeal.nD Cert.FirstReferenceIdeal.τ).loc Cert.FirstReferenceIdeal.main_arg6) = m ((c.tc : Thread Cert.FirstKernelIdeal.nD Cert.FirstKernelIdeal.τ).loc Cert.FirstKernelIdeal.main_arg6)
      ∧ m' ((c.tc : Thread Cert.FirstReferenceIdeal.nD Cert.FirstReferenceIdeal.τ).loc Cert.FirstReferenceIdeal.main_arg7) = m ((c.tc : Thread Cert.FirstKernelIdeal.nD Cert.FirstKernelIdeal.τ).loc Cert.FirstKernelIdeal.main_arg7)
      ∧ m' ((c.tc : Thread Cert.FirstReferenceIdeal.nD Cert.FirstReferenceIdeal.τ).loc Cert.FirstReferenceIdeal.main_arg8) = m ((c.tc : Thread Cert.FirstKernelIdeal.nD Cert.FirstKernelIdeal.τ).loc Cert.FirstKernelIdeal.main_arg8)) →
    ∃ (v0 : (c : Dev Cert.FirstKernelIdeal.nD) → Buf (Elt Ideal) ((c.tc : Thread Cert.FirstKernelIdeal.nD Cert.FirstKernelIdeal.τ).loc Cert.FirstKernelIdeal.main_v2)),
      θ_run (Cert.FirstKernelIdeal.defs (F := Ideal)) (onTc (τ := Cert.FirstKernelIdeal.τ) (Cert.FirstKernelIdeal.main (F := Ideal))) ⟨m, fun _ => 0, g⟩ (fun r => ∀ c : Dev Cert.FirstKernelIdeal.nD,
          r.2.mem ((c.tc : Thread Cert.FirstKernelIdeal.nD Cert.FirstKernelIdeal.τ).loc Cert.FirstKernelIdeal.main_v2) = v0 c
          ∧ r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
          ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
          ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
          ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
          ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
          ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
          ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6)
          ∧ r.2.mem ((c.tc : Thread Cert.FirstKernelIdeal.nD Cert.FirstKernelIdeal.τ).loc Cert.FirstKernelIdeal.main_arg7) = m ((c.tc : Thread Cert.FirstKernelIdeal.nD Cert.FirstKernelIdeal.τ).loc Cert.FirstKernelIdeal.main_arg7)
          ∧ r.2.mem ((c.tc : Thread Cert.FirstKernelIdeal.nD Cert.FirstKernelIdeal.τ).loc Cert.FirstKernelIdeal.main_arg8) = m ((c.tc : Thread Cert.FirstKernelIdeal.nD Cert.FirstKernelIdeal.τ).loc Cert.FirstKernelIdeal.main_arg8))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v30) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7)
          ∧ r.2.mem ((c.tc : Thread Cert.FirstReferenceIdeal.nD Cert.FirstReferenceIdeal.τ).loc Cert.FirstReferenceIdeal.main_arg8) = m' ((c.tc : Thread Cert.FirstReferenceIdeal.nD Cert.FirstReferenceIdeal.τ).loc Cert.FirstReferenceIdeal.main_arg8))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)) →
    ∃ (v0 : (c : Dev Cert.MemKernelIdeal.nD) → Buf (Elt Ideal) ((c.tc : Thread Cert.MemKernelIdeal.nD Cert.MemKernelIdeal.τ).loc Cert.MemKernelIdeal.main_v2_0)) (v1 : (c : Dev Cert.MemKernelIdeal.nD) → Buf (Elt Ideal) ((c.tc : Thread Cert.MemKernelIdeal.nD Cert.MemKernelIdeal.τ).loc Cert.MemKernelIdeal.main_v2_1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v2_0) = v0 c
          ∧ r.2.mem ((c.tc : Thread Cert.MemKernelIdeal.nD Cert.MemKernelIdeal.τ).loc Cert.MemKernelIdeal.main_v2_1) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v31) = v0 c
          ∧ r.2.mem ((c.tc : Thread Cert.MemReferenceIdeal.nD Cert.MemReferenceIdeal.τ).loc Cert.MemReferenceIdeal.main_v33) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def preserves_FlashKernel_FlashKernelIdeal : Prop :=
  True

def algebraic_FlashKernelIdeal_FlashReferenceIdeal_pre_flash_finite [hFlashKernelIdeal : Cert.FlashKernelIdeal.Facts] [hFlashReferenceIdeal : Cert.FlashReferenceIdeal.Facts] [hPre_flash_finite : Cert.Pre_flash_finite.Facts] : Prop :=
  ∀ (m : (ℓ : Loc Cert.FlashKernelIdeal.nD Cert.FlashKernelIdeal.τ Cert.FlashKernelIdeal.sig) → Buf (Elt Ideal) ℓ) (g : Dev Cert.FlashKernelIdeal.nD → PrngReg)
    (m' : (ℓ : Loc Cert.FlashReferenceIdeal.nD Cert.FlashReferenceIdeal.τ Cert.FlashReferenceIdeal.sig) → Buf (Elt Ideal) ℓ) (g' : Dev Cert.FlashReferenceIdeal.nD → PrngReg), Pre_FlashKernelIdeal_flash_finite m →
    (∀ c : Dev Cert.FlashKernelIdeal.nD,
      m' ((c.tc : Thread Cert.FlashReferenceIdeal.nD Cert.FlashReferenceIdeal.τ).loc Cert.FlashReferenceIdeal.main_arg0) = m ((c.tc : Thread Cert.FlashKernelIdeal.nD Cert.FlashKernelIdeal.τ).loc Cert.FlashKernelIdeal.main_arg0)
      ∧ m' ((c.tc : Thread Cert.FlashReferenceIdeal.nD Cert.FlashReferenceIdeal.τ).loc Cert.FlashReferenceIdeal.main_arg1) = m ((c.tc : Thread Cert.FlashKernelIdeal.nD Cert.FlashKernelIdeal.τ).loc Cert.FlashKernelIdeal.main_arg1)
      ∧ m' ((c.tc : Thread Cert.FlashReferenceIdeal.nD Cert.FlashReferenceIdeal.τ).loc Cert.FlashReferenceIdeal.main_arg2) = m ((c.tc : Thread Cert.FlashKernelIdeal.nD Cert.FlashKernelIdeal.τ).loc Cert.FlashKernelIdeal.main_arg2)) →
    ∃ (v0 : (c : Dev Cert.FlashKernelIdeal.nD) → Buf (Elt Ideal) ((c.tc : Thread Cert.FlashKernelIdeal.nD Cert.FlashKernelIdeal.τ).loc Cert.FlashKernelIdeal.main_v0)),
      θ_run (Cert.FlashKernelIdeal.defs (F := Ideal)) (onTc (τ := Cert.FlashKernelIdeal.τ) (Cert.FlashKernelIdeal.main (F := Ideal))) ⟨m, fun _ => 0, g⟩ (fun r => ∀ c : Dev Cert.FlashKernelIdeal.nD,
          r.2.mem ((c.tc : Thread Cert.FlashKernelIdeal.nD Cert.FlashKernelIdeal.τ).loc Cert.FlashKernelIdeal.main_v0) = v0 c
          ∧ r.2.mem ((c.tc : Thread Cert.FlashKernelIdeal.nD Cert.FlashKernelIdeal.τ).loc Cert.FlashKernelIdeal.main_arg0) = m ((c.tc : Thread Cert.FlashKernelIdeal.nD Cert.FlashKernelIdeal.τ).loc Cert.FlashKernelIdeal.main_arg0)
          ∧ r.2.mem ((c.tc : Thread Cert.FlashKernelIdeal.nD Cert.FlashKernelIdeal.τ).loc Cert.FlashKernelIdeal.main_arg1) = m ((c.tc : Thread Cert.FlashKernelIdeal.nD Cert.FlashKernelIdeal.τ).loc Cert.FlashKernelIdeal.main_arg1)
          ∧ r.2.mem ((c.tc : Thread Cert.FlashKernelIdeal.nD Cert.FlashKernelIdeal.τ).loc Cert.FlashKernelIdeal.main_arg2) = m ((c.tc : Thread Cert.FlashKernelIdeal.nD Cert.FlashKernelIdeal.τ).loc Cert.FlashKernelIdeal.main_arg2))
      ∧ θ_run (Cert.FlashReferenceIdeal.defs (F := Ideal)) (onTc (τ := Cert.FlashReferenceIdeal.τ) (Cert.FlashReferenceIdeal.main (F := Ideal))) ⟨m', fun _ => 0, g'⟩ (fun r => ∀ c : Dev Cert.FlashReferenceIdeal.nD,
          r.2.mem ((c.tc : Thread Cert.FlashReferenceIdeal.nD Cert.FlashReferenceIdeal.τ).loc Cert.FlashReferenceIdeal.main_v27) = v0 c
          ∧ r.2.mem ((c.tc : Thread Cert.FlashReferenceIdeal.nD Cert.FlashReferenceIdeal.τ).loc Cert.FlashReferenceIdeal.main_arg0) = m' ((c.tc : Thread Cert.FlashReferenceIdeal.nD Cert.FlashReferenceIdeal.τ).loc Cert.FlashReferenceIdeal.main_arg0)
          ∧ r.2.mem ((c.tc : Thread Cert.FlashReferenceIdeal.nD Cert.FlashReferenceIdeal.τ).loc Cert.FlashReferenceIdeal.main_arg1) = m' ((c.tc : Thread Cert.FlashReferenceIdeal.nD Cert.FlashReferenceIdeal.τ).loc Cert.FlashReferenceIdeal.main_arg1)
          ∧ r.2.mem ((c.tc : Thread Cert.FlashReferenceIdeal.nD Cert.FlashReferenceIdeal.τ).loc Cert.FlashReferenceIdeal.main_arg2) = m' ((c.tc : Thread Cert.FlashReferenceIdeal.nD Cert.FlashReferenceIdeal.τ).loc Cert.FlashReferenceIdeal.main_arg2))

def Claim : Prop :=
  ∃ (hKernel : Cert.Kernel.Facts) (hKernelIdeal : Cert.KernelIdeal.Facts) (hProjKernel : Cert.ProjKernel.Facts) (hProjKernelIdeal : Cert.ProjKernelIdeal.Facts) (hProjReferenceIdeal : Cert.ProjReferenceIdeal.Facts) (hTailKernel : Cert.TailKernel.Facts) (hTailKernelIdeal : Cert.TailKernelIdeal.Facts) (hTailReferenceIdeal : Cert.TailReferenceIdeal.Facts) (hOddKernel : Cert.OddKernel.Facts) (hOddKernelIdeal : Cert.OddKernelIdeal.Facts) (hOddReferenceIdeal : Cert.OddReferenceIdeal.Facts) (hEvenKernel : Cert.EvenKernel.Facts) (hEvenKernelIdeal : Cert.EvenKernelIdeal.Facts) (hEvenReferenceIdeal : Cert.EvenReferenceIdeal.Facts) (hFirstKernel : Cert.FirstKernel.Facts) (hFirstKernelIdeal : Cert.FirstKernelIdeal.Facts) (hFirstReferenceIdeal : Cert.FirstReferenceIdeal.Facts) (hMemKernel : Cert.MemKernel.Facts) (hMemKernelIdeal : Cert.MemKernelIdeal.Facts) (hMemReferenceIdeal : Cert.MemReferenceIdeal.Facts) (hFlashKernel : Cert.FlashKernel.Facts) (hFlashKernelIdeal : Cert.FlashKernelIdeal.Facts) (hFlashReferenceIdeal : Cert.FlashReferenceIdeal.Facts) (hPre_finite : Cert.Pre_finite.Facts) (hPre_even_finite : Cert.Pre_even_finite.Facts) (hPre_flash_finite : Cert.Pre_flash_finite.Facts),
    quiescent_Kernel (hKernel := hKernel)
    ∧ quiescent_KernelIdeal (hKernelIdeal := hKernelIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_TailKernel (hTailKernel := hTailKernel)
    ∧ quiescent_TailKernelIdeal (hTailKernelIdeal := hTailKernelIdeal)
    ∧ quiescent_TailKernelIdeal_pre_finite (hTailKernelIdeal := hTailKernelIdeal) (hPre_finite := hPre_finite)
    ∧ quiescent_TailReferenceIdeal (hTailReferenceIdeal := hTailReferenceIdeal)
    ∧ quiescent_TailReferenceIdeal_pre_finite (hTailReferenceIdeal := hTailReferenceIdeal) (hPre_finite := hPre_finite)
    ∧ quiescent_OddKernel (hOddKernel := hOddKernel)
    ∧ quiescent_OddKernelIdeal (hOddKernelIdeal := hOddKernelIdeal)
    ∧ quiescent_OddReferenceIdeal (hOddReferenceIdeal := hOddReferenceIdeal)
    ∧ quiescent_EvenKernel (hEvenKernel := hEvenKernel)
    ∧ quiescent_EvenKernelIdeal (hEvenKernelIdeal := hEvenKernelIdeal)
    ∧ quiescent_EvenKernelIdeal_pre_even_finite (hEvenKernelIdeal := hEvenKernelIdeal) (hPre_even_finite := hPre_even_finite)
    ∧ quiescent_EvenReferenceIdeal (hEvenReferenceIdeal := hEvenReferenceIdeal)
    ∧ quiescent_EvenReferenceIdeal_pre_even_finite (hEvenReferenceIdeal := hEvenReferenceIdeal) (hPre_even_finite := hPre_even_finite)
    ∧ quiescent_FirstKernel (hFirstKernel := hFirstKernel)
    ∧ quiescent_FirstKernelIdeal (hFirstKernelIdeal := hFirstKernelIdeal)
    ∧ quiescent_FirstKernelIdeal_pre_finite (hFirstKernelIdeal := hFirstKernelIdeal) (hPre_finite := hPre_finite)
    ∧ quiescent_FirstReferenceIdeal (hFirstReferenceIdeal := hFirstReferenceIdeal)
    ∧ quiescent_FirstReferenceIdeal_pre_finite (hFirstReferenceIdeal := hFirstReferenceIdeal) (hPre_finite := hPre_finite)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_FlashKernel (hFlashKernel := hFlashKernel)
    ∧ quiescent_FlashKernelIdeal (hFlashKernelIdeal := hFlashKernelIdeal)
    ∧ quiescent_FlashKernelIdeal_pre_flash_finite (hFlashKernelIdeal := hFlashKernelIdeal) (hPre_flash_finite := hPre_flash_finite)
    ∧ quiescent_FlashReferenceIdeal (hFlashReferenceIdeal := hFlashReferenceIdeal)
    ∧ quiescent_FlashReferenceIdeal_pre_flash_finite (hFlashReferenceIdeal := hFlashReferenceIdeal) (hPre_flash_finite := hPre_flash_finite)
    ∧ preserves_Kernel_KernelIdeal
    ∧ preserves_ProjKernel_ProjKernelIdeal
    ∧ algebraic_ProjKernelIdeal_ProjReferenceIdeal (hProjKernelIdeal := hProjKernelIdeal) (hProjReferenceIdeal := hProjReferenceIdeal)
    ∧ preserves_TailKernel_TailKernelIdeal
    ∧ algebraic_TailKernelIdeal_TailReferenceIdeal_pre_finite (hTailKernelIdeal := hTailKernelIdeal) (hTailReferenceIdeal := hTailReferenceIdeal) (hPre_finite := hPre_finite)
    ∧ preserves_OddKernel_OddKernelIdeal
    ∧ algebraic_OddKernelIdeal_OddReferenceIdeal (hOddKernelIdeal := hOddKernelIdeal) (hOddReferenceIdeal := hOddReferenceIdeal)
    ∧ preserves_EvenKernel_EvenKernelIdeal
    ∧ algebraic_EvenKernelIdeal_EvenReferenceIdeal_pre_even_finite (hEvenKernelIdeal := hEvenKernelIdeal) (hEvenReferenceIdeal := hEvenReferenceIdeal) (hPre_even_finite := hPre_even_finite)
    ∧ preserves_FirstKernel_FirstKernelIdeal
    ∧ algebraic_FirstKernelIdeal_FirstReferenceIdeal_pre_finite (hFirstKernelIdeal := hFirstKernelIdeal) (hFirstReferenceIdeal := hFirstReferenceIdeal) (hPre_finite := hPre_finite)
    ∧ preserves_MemKernel_MemKernelIdeal
    ∧ algebraic_MemKernelIdeal_MemReferenceIdeal (hMemKernelIdeal := hMemKernelIdeal) (hMemReferenceIdeal := hMemReferenceIdeal)
    ∧ preserves_FlashKernel_FlashKernelIdeal
    ∧ algebraic_FlashKernelIdeal_FlashReferenceIdeal_pre_flash_finite (hFlashKernelIdeal := hFlashKernelIdeal) (hFlashReferenceIdeal := hFlashReferenceIdeal) (hPre_flash_finite := hPre_flash_finite)
-- ==== Pre_even_finite.lean ====
abbrev S32768x1024 : Shape := ⟨2, ![32768, 1024]⟩
abbrev S32768x256 : Shape := ⟨2, ![32768, 256]⟩
abbrev S32768x2304 : Shape := ⟨2, ![32768, 2304]⟩
abbrev S8x256x256 : Shape := ⟨3, ![8, 256, 256]⟩
abbrev S1024 : Shape := ⟨1, ![1024]⟩
abbrev S1024x1024 : Shape := ⟨2, ![1024, 1024]⟩
abbrev S2304x1024 : Shape := ⟨2, ![2304, 1024]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bitsLt_bf16_f32 : FTy.bits .bf16 < FTy.bits .f32
  bcast_S_S8x256x256 : S_.BroadcastsInDim S8x256x256 (![] : Fin 0 → Fin S8x256x256.rank)
  reducesTo_S8x256x256_S_d0_1_2 : S8x256x256.ReducesTo [0, 1, 2] S_

variable [Facts]

def fn {F : FTy → Type} [FloatOps F] (main_arg0 : FVec F S32768x1024 .f32) (main_arg1 : FVec F S32768x1024 .f32) (main_arg2 : FVec F S32768x1024 .f32) (main_arg3 : FVec F S32768x256 .f32) (main_arg4 : FVec F S32768x2304 .f32) (main_arg5 : FVec F S32768x1024 .f32) (main_arg6 : FVec F S8x256x256 .bf16) (main_arg7 : FVec F S8x256x256 .bf16) (main_arg8 : FVec F S1024 .f32) (main_arg9 : FVec F S1024x1024 .f32) (main_arg10 : FVec F S1024 .f32) (main_arg11 : FVec F S2304x1024 .f32) (main_arg12 : FVec F S1024 .f32) : IVec S_ 1 :=
  let main_v0 : FVec F S32768x256 .f32 := Host.absf main_arg3
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S8x256x256 .f32 := (extf .f32 · bitsLt_bf16_f32) main_arg6
  let main_v5 : FVec F S8x256x256 .f32 := Host.absf main_v4
  let main_cst_0 : FVec F S_ .f32 := constant S_ .f32 0x7F800000#32
  let main_v6 : FVec F S8x256x256 .f32 := broadcastInDim S8x256x256 ![] bcast_S_S8x256x256 main_cst_0
  let main_v7 : IVec S8x256x256 1 := cmpf .olt main_v5 main_v6
  let main_c_1 : IVec S_ 1 := constantI S_ 1 1#1
  let main_v8 : IVec S_ 1 := (fun x v => Host.reduce IntOp.andi x v reducesTo_S8x256x256_S_d0_1_2 h_S_) main_v7 main_c_1
  let main_v9 : IVec S_ 1 := andi main_v3 main_v8
  main_v9
-- ==== Pre_finite.lean ====
abbrev S32768x1024 : Shape := ⟨2, ![32768, 1024]⟩
abbrev S32768x256 : Shape := ⟨2, ![32768, 256]⟩
abbrev S32768x1280 : Shape := ⟨2, ![32768, 1280]⟩
abbrev S8x256x256 : Shape := ⟨3, ![8, 256, 256]⟩
abbrev S2304x1024 : Shape := ⟨2, ![2304, 1024]⟩
abbrev S1024 : Shape := ⟨1, ![1024]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bitsLt_bf16_f32 : FTy.bits .bf16 < FTy.bits .f32
  bcast_S_S8x256x256 : S_.BroadcastsInDim S8x256x256 (![] : Fin 0 → Fin S8x256x256.rank)
  reducesTo_S8x256x256_S_d0_1_2 : S8x256x256.ReducesTo [0, 1, 2] S_

variable [Facts]

def fn {F : FTy → Type} [FloatOps F] (main_arg0 : FVec F S32768x1024 .f32) (main_arg1 : FVec F S32768x1024 .f32) (main_arg2 : FVec F S32768x256 .f32) (main_arg3 : FVec F S32768x1280 .f32) (main_arg4 : FVec F S32768x1024 .f32) (main_arg5 : FVec F S8x256x256 .bf16) (main_arg6 : FVec F S8x256x256 .bf16) (main_arg7 : FVec F S2304x1024 .f32) (main_arg8 : FVec F S1024 .f32) : IVec S_ 1 :=
  let main_v0 : FVec F S32768x256 .f32 := Host.absf main_arg2
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S8x256x256 .f32 := (extf .f32 · bitsLt_bf16_f32) main_arg5
  let main_v5 : FVec F S8x256x256 .f32 := Host.absf main_v4
  let main_cst_0 : FVec F S_ .f32 := constant S_ .f32 0x7F800000#32
  let main_v6 : FVec F S8x256x256 .f32 := broadcastInDim S8x256x256 ![] bcast_S_S8x256x256 main_cst_0
  let main_v7 : IVec S8x256x256 1 := cmpf .olt main_v5 main_v6
  let main_c_1 : IVec S_ 1 := constantI S_ 1 1#1
  let main_v8 : IVec S_ 1 := (fun x v => Host.reduce IntOp.andi x v reducesTo_S8x256x256_S_d0_1_2 h_S_) main_v7 main_c_1
  let main_v9 : IVec S_ 1 := andi main_v3 main_v8
  main_v9
-- ==== Pre_flash_finite.lean ====
abbrev S32768x2048 : Shape := ⟨2, ![32768, 2048]⟩
abbrev S1024x32768 : Shape := ⟨2, ![1024, 32768]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .bf16) (main_arg1 : FVec F S32768x2048 .bf16) (main_arg2 : FVec F S1024x32768 .bf16) : IVec S_ 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_c : IVec S_ 1 := constantI S_ 1 1#1
  let main_v4 : IVec S_ 1 := (fun x v => Host.reduce IntOp.andi x v reducesTo_S32768x2048_S_d0_1 h_S_) main_v3 main_c
  let main_v5 : FVec F S32768x2048 .f32 := (extf .f32 · bitsLt_bf16_f32) main_arg1
  let main_v6 : FVec F S32768x2048 .f32 := Host.absf main_v5
  let main_cst_0 : FVec F S_ .f32 := constant S_ .f32 0x7F800000#32
  let main_v7 : FVec F S32768x2048 .f32 := broadcastInDim S32768x2048 ![] bcast_S_S32768x2048 main_cst_0
  let main_v8 : IVec S32768x2048 1 := cmpf .olt main_v6 main_v7
  let main_c_1 : IVec S_ 1 := constantI S_ 1 1#1
  let main_v9 : IVec S_ 1 := (fun x v => Host.reduce IntOp.andi x v reducesTo_S32768x2048_S_d0_1 h_S_) main_v8 main_c_1
  let main_v10 : IVec S_ 1 := andi main_v4 main_v9
  main_v10
-- ==== Kernel.lean ====
abbrev S32768x1024 : Shape := ⟨2, ![32768, 1024]⟩
abbrev S64x64 : Shape := ⟨2, ![64, 64]⟩
abbrev S64x64x16 : Shape := ⟨3, ![64, 64, 16]⟩
abbrev S64x16x64 : Shape := ⟨3, ![64, 16, 64]⟩
abbrev S64 : Shape := ⟨1, ![64]⟩
abbrev S8 : Shape := ⟨1, ![8]⟩
abbrev S64x1 : Shape := ⟨2, ![64, 1]⟩
abbrev S_ : Shape := ⟨0, ![]⟩
abbrev S1 : Shape := ⟨1, ![1]⟩
abbrev S1x1x1 : Shape := ⟨3, ![1, 1, 1]⟩
abbrev S1x64x64 : Shape := ⟨3, ![1, 64, 64]⟩
abbrev S64x64x1 : Shape := ⟨3, ![64, 64, 1]⟩
abbrev S17 : Shape := ⟨1, ![17]⟩
abbrev S17x1x1 : Shape := ⟨3, ![17, 1, 1]⟩
abbrev S17x64x64 : Shape := ⟨3, ![17, 64, 64]⟩
abbrev S1x64x16x64 : Shape := ⟨4, ![1, 64, 16, 64]⟩
abbrev S17x64x1x64 : Shape := ⟨4, ![17, 64, 1, 64]⟩
abbrev S17x64x16x64 : Shape := ⟨4, ![17, 64, 16, 64]⟩
abbrev S16x64x16x64 : Shape := ⟨4, ![16, 64, 16, 64]⟩
abbrev S16x64x16x128 : Shape := ⟨4, ![16, 64, 16, 128]⟩
abbrev S64x128x16 : Shape := ⟨3, ![64, 128, 16]⟩
abbrev S64x16x16x16 : Shape := ⟨4, ![64, 16, 16, 16]⟩
abbrev S16x64x16x16 : Shape := ⟨4, ![16, 64, 16, 16]⟩
abbrev S16 : Shape := ⟨1, ![16]⟩
abbrev S1x16 : Shape := ⟨2, ![1, 16]⟩
abbrev S16x1 : Shape := ⟨2, ![16, 1]⟩
abbrev S16x16 : Shape := ⟨2, ![16, 16]⟩
abbrev S16x16x1x1x1 : Shape := ⟨5, ![16, 16, 1, 1, 1]⟩
abbrev S16x16x1 : Shape := ⟨3, ![16, 16, 1]⟩
abbrev S16x16x64x16x16 : Shape := ⟨5, ![16, 16, 64, 16, 16]⟩
abbrev S64x16x16x16x16 : Shape := ⟨5, ![64, 16, 16, 16, 16]⟩
abbrev S64x256x256 : Shape := ⟨3, ![64, 256, 256]⟩
abbrev S16x64x64 : Shape := ⟨3, ![16, 64, 64]⟩
abbrev S16x64x64x1 : Shape := ⟨4, ![16, 64, 64, 1]⟩
abbrev S1x64x64x16 : Shape := ⟨4, ![1, 64, 64, 16]⟩
abbrev S16x64x64x16 : Shape := ⟨4, ![16, 64, 64, 16]⟩
abbrev S16x64x128x16 : Shape := ⟨4, ![16, 64, 128, 16]⟩
abbrev S64x16x16x128 : Shape := ⟨4, ![64, 16, 16, 128]⟩
abbrev S64x256x128 : Shape := ⟨3, ![64, 256, 128]⟩
abbrev S64x128x16x16 : Shape := ⟨4, ![64, 128, 16, 16]⟩
abbrev S64x128x256 : Shape := ⟨3, ![64, 128, 256]⟩
abbrev S8x1x1 : Shape := ⟨3, ![8, 1, 1]⟩
abbrev S8x64x64 : Shape := ⟨3, ![8, 64, 64]⟩
abbrev S8x64x128 : Shape := ⟨3, ![8, 64, 128]⟩
abbrev S8x1x64x128 : Shape := ⟨4, ![8, 1, 64, 128]⟩
abbrev S8x2x64x128 : Shape := ⟨4, ![8, 2, 64, 128]⟩
abbrev S16x64x128 : Shape := ⟨3, ![16, 64, 128]⟩
abbrev S64x16x128 : Shape := ⟨3, ![64, 16, 128]⟩
abbrev S64x0x128 : Shape := ⟨3, ![64, 0, 128]⟩
abbrev S8x8x16x2x64 : Shape := ⟨5, ![8, 8, 16, 2, 64]⟩
abbrev S8x16x2x8x64 : Shape := ⟨5, ![8, 16, 2, 8, 64]⟩
abbrev S8x16x1024 : Shape := ⟨3, ![8, 16, 1024]⟩
abbrev S8192x128 : Shape := ⟨2, ![8192, 128]⟩
abbrev S8x256x256 : Shape := ⟨3, ![8, 256, 256]⟩
abbrev S8x256x128 : Shape := ⟨3, ![8, 256, 128]⟩
abbrev S8x128x256 : Shape := ⟨3, ![8, 128, 256]⟩
abbrev S1x16x1024 : Shape := ⟨3, ![1, 16, 1024]⟩
abbrev S2048x2048 : Shape := ⟨2, ![2048, 2048]⟩
abbrev S2048x1024 : Shape := ⟨2, ![2048, 1024]⟩
abbrev S1024x2048 : Shape := ⟨2, ![1024, 2048]⟩
abbrev S1x16x16 : Shape := ⟨3, ![1, 16, 16]⟩
abbrev S1x16x64 : Shape := ⟨3, ![1, 16, 64]⟩
abbrev S16x64 : Shape := ⟨2, ![16, 64]⟩
abbrev S1x64x16 : Shape := ⟨3, ![1, 64, 16]⟩
abbrev S64x16 : Shape := ⟨2, ![64, 16]⟩
abbrev S512x128 : Shape := ⟨2, ![512, 128]⟩
abbrev S512x2048 : Shape := ⟨2, ![512, 2048]⟩
abbrev S512x256 : Shape := ⟨2, ![512, 256]⟩
abbrev S256x256 : Shape := ⟨2, ![256, 256]⟩
abbrev S512x512 : Shape := ⟨2, ![512, 512]⟩
abbrev S512x768 : Shape := ⟨2, ![512, 768]⟩
abbrev S768x256 : Shape := ⟨2, ![768, 256]⟩
abbrev S512x1024 : Shape := ⟨2, ![512, 1024]⟩
abbrev S1024x256 : Shape := ⟨2, ![1024, 256]⟩
abbrev S512x1280 : Shape := ⟨2, ![512, 1280]⟩
abbrev S1280x256 : Shape := ⟨2, ![1280, 256]⟩
abbrev S512x1536 : Shape := ⟨2, ![512, 1536]⟩
abbrev S1536x256 : Shape := ⟨2, ![1536, 256]⟩
abbrev S512x1792 : Shape := ⟨2, ![512, 1792]⟩
abbrev S1792x256 : Shape := ⟨2, ![1792, 256]⟩
abbrev S2048x256 : Shape := ⟨2, ![2048, 256]⟩
abbrev S512x1 : Shape := ⟨2, ![512, 1]⟩
abbrev S16x1024 : Shape := ⟨2, ![16, 1024]⟩
abbrev S1x1024 : Shape := ⟨2, ![1, 1024]⟩

abbrev nBuf : Space → Nat
  | .hbm => 216
  | .vmem => 15
  | .smem => 0
  | _ => 0

abbrev hbmTy0_0 (i : Nat) : BufTy := match i % 128 with
  | 0 => ⟨S32768x1024, .f32⟩
  | 1 => ⟨S64x64, .f32⟩
  | 2 => ⟨S64x64, .f32⟩
  | 3 => ⟨S64x64x16, .f32⟩
  | 4 => ⟨S64x64x16, .f32⟩
  | 5 => ⟨S64x16x64, .f32⟩
  | 6 => ⟨S64x16x64, .f32⟩
  | 7 => ⟨S64, .f32⟩
  | 8 => ⟨S8, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S1, .f32⟩
  | 17 => ⟨S1x1x1, .f32⟩
  | 18 => ⟨S1x64x64, .f32⟩
  | 19 => ⟨S1x64x64, .f32⟩
  | 20 => ⟨S1x64x64, .f32⟩
  | 21 => ⟨S1x64x64, .f32⟩
  | 22 => ⟨S1x64x64, .f32⟩
  | 23 => ⟨S1x64x64, .f32⟩
  | 24 => ⟨S1x64x64, .f32⟩
  | 25 => ⟨S1x64x64, .f32⟩
  | 26 => ⟨S1x64x64, .f32⟩
  | 27 => ⟨S1x64x64, .f32⟩
  | 28 => ⟨S1x64x64, .f32⟩
  | 29 => ⟨S1x64x64, .f32⟩
  | 30 => ⟨S1x64x64, .f32⟩
  | 31 => ⟨S1x64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S_, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64x1, .f32⟩
  | 49 => ⟨S64x64x16, .f32⟩
  | 50 => ⟨S64x64x16, .f32⟩
  | 51 => ⟨S64x64x1, .f32⟩
  | 52 => ⟨S64x64x16, .f32⟩
  | 53 => ⟨S64x64x16, .f32⟩
  | 54 => ⟨S64x64x16, .f32⟩
  | 55 => ⟨S64x64x1, .f32⟩
  | 56 => ⟨S64x64x16, .f32⟩
  | 57 => ⟨S64x64x16, .f32⟩
  | 58 => ⟨S64x64x1, .f32⟩
  | 59 => ⟨S64x64x16, .f32⟩
  | 60 => ⟨S64x64x16, .f32⟩
  | 61 => ⟨S64x64x16, .f32⟩
  | 62 => ⟨S17, .f32⟩
  | 63 => ⟨S17x1x1, .f32⟩
  | 64 => ⟨S1x64x64, .f32⟩
  | 65 => ⟨S17x64x64, .f32⟩
  | 66 => ⟨S17x64x64, .f32⟩
  | 67 => ⟨S17x64x64, .f32⟩
  | 68 => ⟨S17x64x64, .f32⟩
  | 69 => ⟨S1x64x64, .f32⟩
  | 70 => ⟨S17x64x64, .f32⟩
  | 71 => ⟨S17x64x64, .f32⟩
  | 72 => ⟨S17x64x64, .f32⟩
  | 73 => ⟨S17x64x64, .f32⟩
  | 74 => ⟨S17x64x64, .f32⟩
  | 75 => ⟨S1x64x64, .f32⟩
  | 76 => ⟨S17x64x64, .f32⟩
  | 77 => ⟨S17x64x64, .f32⟩
  | 78 => ⟨S17x64x64, .f32⟩
  | 79 => ⟨S17x64x64, .f32⟩
  | 80 => ⟨S17x64x64, .f32⟩
  | 81 => ⟨S1x64x16x64, .f32⟩
  | 82 => ⟨S17x64x1x64, .f32⟩
  | 83 => ⟨S17x64x16x64, .f32⟩
  | 84 => ⟨S17x64x16x64, .f32⟩
  | 85 => ⟨S17x64x16x64, .f32⟩
  | 86 => ⟨S1x64x16x64, .f32⟩
  | 87 => ⟨S17x64x1x64, .f32⟩
  | 88 => ⟨S17x64x16x64, .f32⟩
  | 89 => ⟨S17x64x16x64, .f32⟩
  | 90 => ⟨S17x64x16x64, .f32⟩
  | 91 => ⟨S17x64x16x64, .f32⟩
  | 92 => ⟨S1x64x16x64, .f32⟩
  | 93 => ⟨S17x64x1x64, .f32⟩
  | 94 => ⟨S17x64x16x64, .f32⟩
  | 95 => ⟨S17x64x16x64, .f32⟩
  | 96 => ⟨S17x64x16x64, .f32⟩
  | 97 => ⟨S1x64x16x64, .f32⟩
  | 98 => ⟨S17x64x1x64, .f32⟩
  | 99 => ⟨S17x64x16x64, .f32⟩
  | 100 => ⟨S17x64x16x64, .f32⟩
  | 101 => ⟨S17x64x16x64, .f32⟩
  | 102 => ⟨S17x64x16x64, .f32⟩
  | 103 => ⟨S16x64x16x64, .f32⟩
  | 104 => ⟨S16x64x16x64, .f32⟩
  | 105 => ⟨S16x64x16x64, .f32⟩
  | 106 => ⟨S16x64x16x128, .f32⟩
  | 107 => ⟨S64x128x16, .f32⟩
  | 108 => ⟨S64x16x16x16, .f32⟩
  | 109 => ⟨S16x64x16x16, .f32⟩
  | 110 => ⟨S16, .i32⟩
  | 111 => ⟨S1x16, .i32⟩
  | 112 => ⟨S16, .i32⟩
  | 113 => ⟨S16x1, .i32⟩
  | 114 => ⟨S16x16, .i32⟩
  | 115 => ⟨S16x16, .i32⟩
  | 116 => ⟨S16x16, .i32⟩
  | 117 => ⟨S_, .i32⟩
  | 118 => ⟨S16x16, .i32⟩
  | 119 => ⟨S16x16, .i1⟩
  | 120 => ⟨S16x16x1x1x1, .i1⟩
  | 121 => ⟨S_, .i32⟩
  | 122 => ⟨S_, .i32⟩
  | 123 => ⟨S_, .i32⟩
  | 124 => ⟨S16x16, .i32⟩
  | 125 => ⟨S16x16, .i32⟩
  | 126 => ⟨S_, .i32⟩
  | 127 => ⟨S16x16, .i32⟩
  | _ => ⟨S32768x1024, .f32⟩

abbrev hbmTy0_1 (i : Nat) : BufTy := match i % 128 with
  | 0 => ⟨S16x16, .i32⟩
  | 1 => ⟨S_, .i32⟩
  | 2 => ⟨S16x16, .i32⟩
  | 3 => ⟨S16x16, .i1⟩
  | 4 => ⟨S_, .i32⟩
  | 5 => ⟨S16x16, .i32⟩
  | 6 => ⟨S16x16, .i32⟩
  | 7 => ⟨S16x16, .i32⟩
  | 8 => ⟨S16x16x1, .i32⟩
  | 9 => ⟨S16x16x64x16x16, .f32⟩
  | 10 => ⟨S_, .f32⟩
  | 11 => ⟨S_, .f32⟩
  | 12 => ⟨S16x16x64x16x16, .i1⟩
  | 13 => ⟨S16x16x64x16x16, .f32⟩
  | 14 => ⟨S16x16x64x16x16, .f32⟩
  | 15 => ⟨S64x16x16x16x16, .f32⟩
  | 16 => ⟨S64x256x256, .f32⟩
  | 17 => ⟨S16x64x64, .f32⟩
  | 18 => ⟨S16x64x64, .f32⟩
  | 19 => ⟨S16x64x64, .f32⟩
  | 20 => ⟨S16x64x64, .f32⟩
  | 21 => ⟨S16x64x64x1, .f32⟩
  | 22 => ⟨S1x64x64x16, .f32⟩
  | 23 => ⟨S16x64x64x16, .f32⟩
  | 24 => ⟨S16x64x64x16, .f32⟩
  | 25 => ⟨S16x64x64x16, .f32⟩
  | 26 => ⟨S16x64x64x1, .f32⟩
  | 27 => ⟨S1x64x64x16, .f32⟩
  | 28 => ⟨S16x64x64x16, .f32⟩
  | 29 => ⟨S16x64x64x16, .f32⟩
  | 30 => ⟨S16x64x64x16, .f32⟩
  | 31 => ⟨S16x64x64x16, .f32⟩
  | 32 => ⟨S16x64x64x1, .f32⟩
  | 33 => ⟨S1x64x64x16, .f32⟩
  | 34 => ⟨S16x64x64x16, .f32⟩
  | 35 => ⟨S16x64x64x16, .f32⟩
  | 36 => ⟨S16x64x64x16, .f32⟩
  | 37 => ⟨S16x64x64x1, .f32⟩
  | 38 => ⟨S1x64x64x16, .f32⟩
  | 39 => ⟨S16x64x64x16, .f32⟩
  | 40 => ⟨S16x64x64x16, .f32⟩
  | 41 => ⟨S16x64x64x16, .f32⟩
  | 42 => ⟨S16x64x64x16, .f32⟩
  | 43 => ⟨S16x64x128x16, .f32⟩
  | 44 => ⟨S64x16x16x128, .f32⟩
  | 45 => ⟨S64x256x128, .f32⟩
  | 46 => ⟨S16x64x16x64, .f32⟩
  | 47 => ⟨S16x64x16x64, .f32⟩
  | 48 => ⟨S16x64x16x64, .f32⟩
  | 49 => ⟨S16x64x16x128, .f32⟩
  | 50 => ⟨S64x128x16x16, .f32⟩
  | 51 => ⟨S64x128x256, .f32⟩
  | 52 => ⟨S8x1x1, .f32⟩
  | 53 => ⟨S1x64x64, .f32⟩
  | 54 => ⟨S8x64x64, .f32⟩
  | 55 => ⟨S8x64x64, .f32⟩
  | 56 => ⟨S8x64x64, .f32⟩
  | 57 => ⟨S8x64x64, .f32⟩
  | 58 => ⟨S1x64x64, .f32⟩
  | 59 => ⟨S8x64x64, .f32⟩
  | 60 => ⟨S8x64x64, .f32⟩
  | 61 => ⟨S8x64x64, .f32⟩
  | 62 => ⟨S8x64x64, .f32⟩
  | 63 => ⟨S8x64x64, .f32⟩
  | 64 => ⟨S1x64x64, .f32⟩
  | 65 => ⟨S8x64x64, .f32⟩
  | 66 => ⟨S8x64x64, .f32⟩
  | 67 => ⟨S8x64x64, .f32⟩
  | 68 => ⟨S8x64x64, .f32⟩
  | 69 => ⟨S8x64x64, .f32⟩
  | 70 => ⟨S8x64x128, .f32⟩
  | 71 => ⟨S8x64x64, .f32⟩
  | 72 => ⟨S8x64x128, .f32⟩
  | 73 => ⟨S8x1x64x128, .f32⟩
  | 74 => ⟨S8x1x64x128, .f32⟩
  | 75 => ⟨S8x2x64x128, .f32⟩
  | 76 => ⟨S16x64x128, .f32⟩
  | 77 => ⟨S64x16x128, .f32⟩
  | 78 => ⟨S_, .f32⟩
  | 79 => ⟨S64x0x128, .f32⟩
  | 80 => ⟨S64x16x128, .f32⟩
  | 81 => ⟨S64x256x256, .bf16⟩
  | 82 => ⟨S64x256x128, .bf16⟩
  | 83 => ⟨S64x128x256, .bf16⟩
  | 84 => ⟨S8x8x16x2x64, .f32⟩
  | 85 => ⟨S8x16x2x8x64, .f32⟩
  | 86 => ⟨S8x16x1024, .f32⟩
  | 87 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8x256x256, .bf16⟩
  | .local _ .vmem, ⟨3, _⟩ => ⟨S8x256x256, .bf16⟩
  | .local _ .vmem, ⟨4, _⟩ => ⟨S8x256x128, .bf16⟩
  | .local _ .vmem, ⟨5, _⟩ => ⟨S8x256x128, .bf16⟩
  | .local _ .vmem, ⟨6, _⟩ => ⟨S8x128x256, .bf16⟩
  | .local _ .vmem, ⟨7, _⟩ => ⟨S8x128x256, .bf16⟩
  | .local _ .vmem, ⟨8, _⟩ => ⟨S1x16x1024, .f32⟩
  | .local _ .vmem, ⟨9, _⟩ => ⟨S1x16x1024, .f32⟩
  | .local _ .vmem, ⟨10, _⟩ => ⟨S8192x128, .f32⟩
  | .local _ .vmem, ⟨11, _⟩ => ⟨S8192x128, .f32⟩
  | .local _ .vmem, ⟨12, _⟩ => ⟨S2048x2048, .bf16⟩
  | .local _ .vmem, ⟨13, _⟩ => ⟨S2048x1024, .bf16⟩
  | .local _ .vmem, ⟨14, _⟩ => ⟨S1024x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_c : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_c_2 : Ref sig .tc := ⟨.hbm, 121, rfl⟩
abbrev main_c_3 : Ref sig .tc := ⟨.hbm, 122, rfl⟩
abbrev main_call0_v0 : Ref sig .tc := ⟨.hbm, 123, rfl⟩
abbrev main_call0_v1 : Ref sig .tc := ⟨.hbm, 124, rfl⟩
abbrev main_call0_v2 : Ref sig .tc := ⟨.hbm, 125, rfl⟩
abbrev main_call0_v3 : Ref sig .tc := ⟨.hbm, 126, rfl⟩
abbrev main_call0_v4 : Ref sig .tc := ⟨.hbm, 127, rfl⟩
abbrev main_v109 : Ref sig .tc := ⟨.hbm, 128, rfl⟩
abbrev main_c_4 : Ref sig .tc := ⟨.hbm, 129, rfl⟩
abbrev main_v110 : Ref sig .tc := ⟨.hbm, 130, rfl⟩
abbrev main_v111 : Ref sig .tc := ⟨.hbm, 131, rfl⟩
abbrev main_c_5 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_6 : Ref sig .tc := ⟨.hbm, 138, rfl⟩
abbrev main_call1_v0 : Ref sig .tc := ⟨.hbm, 139, rfl⟩
abbrev main_call1_v1 : Ref sig .tc := ⟨.hbm, 140, rfl⟩
abbrev main_call1_v2 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_cst_7 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjKernel.lean ====
abbrev S32768x1024 : Shape := ⟨2, ![32768, 1024]⟩
abbrev S1024 : Shape := ⟨1, ![1024]⟩
abbrev S1024x6784 : Shape := ⟨2, ![1024, 6784]⟩
abbrev S1x1024 : Shape := ⟨2, ![1, 1024]⟩
abbrev S32768x3200 : Shape := ⟨2, ![32768, 3200]⟩
abbrev S32768x256 : Shape := ⟨2, ![32768, 256]⟩
abbrev S32768x2304 : Shape := ⟨2, ![32768, 2304]⟩
abbrev S256x1024 : Shape := ⟨2, ![256, 1024]⟩
abbrev S256x3200 : Shape := ⟨2, ![256, 3200]⟩
abbrev S256x256 : Shape := ⟨2, ![256, 256]⟩
abbrev S256x2304 : Shape := ⟨2, ![256, 2304]⟩
abbrev S256 : Shape := ⟨1, ![256]⟩
abbrev S256x1 : Shape := ⟨2, ![256, 1]⟩
abbrev S1024x3200 : Shape := ⟨2, ![1024, 3200]⟩
abbrev S1024x1024 : Shape := ⟨2, ![1024, 1024]⟩
abbrev S1024x256 : Shape := ⟨2, ![1024, 256]⟩
abbrev S1024x2304 : Shape := ⟨2, ![1024, 2304]⟩

abbrev nBuf : Space → Nat
  | .hbm => 9
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6784, .f32⟩
  | .hbm, ⟨3, _⟩ => ⟨S1024x6784, .bf16⟩
  | .hbm, ⟨4, _⟩ => ⟨S1x1024, .f32⟩
  | .hbm, ⟨5, _⟩ => ⟨S32768x3200, .f32⟩
  | .hbm, ⟨6, _⟩ => ⟨S32768x1024, .f32⟩
  | .hbm, ⟨7, _⟩ => ⟨S32768x256, .f32⟩
  | .hbm, ⟨8, _⟩ => ⟨S32768x2304, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6784, .bf16⟩
  | .local _ .vmem, ⟨4, _⟩ => ⟨S256x3200, .f32⟩
  | .local _ .vmem, ⟨5, _⟩ => ⟨S256x3200, .f32⟩
  | .local _ .vmem, ⟨6, _⟩ => ⟨S256x1024, .f32⟩
  | .local _ .vmem, ⟨7, _⟩ => ⟨S256x1024, .f32⟩
  | .local _ .vmem, ⟨8, _⟩ => ⟨S256x256, .f32⟩
  | .local _ .vmem, ⟨9, _⟩ => ⟨S256x256, .f32⟩
  | .local _ .vmem, ⟨10, _⟩ => ⟨S256x2304, .f32⟩
  | .local _ .vmem, ⟨11, _⟩ => ⟨S256x2304, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6784 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjReferenceIdeal.lean ====
abbrev S32768x1024 : Shape := ⟨2, ![32768, 1024]⟩
abbrev S1024 : Shape := ⟨1, ![1024]⟩
abbrev S1024x6784 : Shape := ⟨2, ![1024, 6784]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x6784 : Shape := ⟨2, ![32768, 6784]⟩
abbrev S32768x3200 : Shape := ⟨2, ![32768, 3200]⟩
abbrev S32768x256 : Shape := ⟨2, ![32768, 256]⟩
abbrev S32768x2304 : Shape := ⟨2, ![32768, 2304]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6784, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x6784, .f32⟩
  | .hbm, ⟨20, _⟩ => ⟨S32768x3200, .f32⟩
  | .hbm, ⟨21, _⟩ => ⟨S32768x1024, .f32⟩
  | .hbm, ⟨22, _⟩ => ⟨S32768x256, .f32⟩
  | .hbm, ⟨23, _⟩ => ⟨S32768x2304, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== TailKernel.lean ====
abbrev S32768x1024 : Shape := ⟨2, ![32768, 1024]⟩
abbrev S32768x256 : Shape := ⟨2, ![32768, 256]⟩
abbrev S32768x1280 : Shape := ⟨2, ![32768, 1280]⟩
abbrev S8x256x256 : Shape := ⟨3, ![8, 256, 256]⟩
abbrev S2304x1024 : Shape := ⟨2, ![2304, 1024]⟩
abbrev S1024 : Shape := ⟨1, ![1024]⟩
abbrev S1x1024 : Shape := ⟨2, ![1, 1024]⟩
abbrev S256x1024 : Shape := ⟨2, ![256, 1024]⟩
abbrev S256x256 : Shape := ⟨2, ![256, 256]⟩
abbrev S256x1280 : Shape := ⟨2, ![256, 1280]⟩
abbrev S1x256x256 : Shape := ⟨3, ![1, 256, 256]⟩
abbrev S1x256 : Shape := ⟨2, ![1, 256]⟩
abbrev S256 : Shape := ⟨1, ![256]⟩
abbrev S256x1 : Shape := ⟨2, ![256, 1]⟩
abbrev S1024x1024 : Shape := ⟨2, ![1024, 1024]⟩

abbrev nBuf : Space → Nat
  | .hbm => 12
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x256, .f32⟩
  | .hbm, ⟨3, _⟩ => ⟨S32768x1280, .f32⟩
  | .hbm, ⟨4, _⟩ => ⟨S32768x1024, .f32⟩
  | .hbm, ⟨5, _⟩ => ⟨S8x256x256, .bf16⟩
  | .hbm, ⟨6, _⟩ => ⟨S8x256x256, .bf16⟩
  | .hbm, ⟨7, _⟩ => ⟨S2304x1024, .f32⟩
  | .hbm, ⟨8, _⟩ => ⟨S1024, .f32⟩
  | .hbm, ⟨9, _⟩ => ⟨S2304x1024, .bf16⟩
  | .hbm, ⟨10, _⟩ => ⟨S1x1024, .f32⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S256x1280, .f32⟩
  | .local _ .vmem, ⟨7, _⟩ => ⟨S256x1280, .f32⟩
  | .local _ .vmem, ⟨8, _⟩ => ⟨S256x1024, .f32⟩
  | .local _ .vmem, ⟨9, _⟩ => ⟨S256x1024, .f32⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S2304x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2304x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== TailReferenceIdeal.lean ====
abbrev S32768x1024 : Shape := ⟨2, ![32768, 1024]⟩
abbrev S32768x256 : Shape := ⟨2, ![32768, 256]⟩
abbrev S32768x1280 : Shape := ⟨2, ![32768, 1280]⟩
abbrev S8x256x256 : Shape := ⟨3, ![8, 256, 256]⟩
abbrev S2304x1024 : Shape := ⟨2, ![2304, 1024]⟩
abbrev S1024 : Shape := ⟨1, ![1024]⟩
abbrev S_ : Shape := ⟨0, ![]⟩
abbrev S8x256x4x64 : Shape := ⟨4, ![8, 256, 4, 64]⟩
abbrev S8x4096x4x64 : Shape := ⟨4, ![8, 4096, 4, 64]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S32768x2304 : Shape := ⟨2, ![32768, 2304]⟩
abbrev S32768 : Shape := ⟨1, ![32768]⟩
abbrev S32768x1 : Shape := ⟨2, ![32768, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x256, .f32⟩
  | .hbm, ⟨3, _⟩ => ⟨S32768x1280, .f32⟩
  | .hbm, ⟨4, _⟩ => ⟨S32768x1024, .f32⟩
  | .hbm, ⟨5, _⟩ => ⟨S8x256x256, .bf16⟩
  | .hbm, ⟨6, _⟩ => ⟨S8x256x256, .bf16⟩
  | .hbm, ⟨7, _⟩ => ⟨S2304x1024, .f32⟩
  | .hbm, ⟨8, _⟩ => ⟨S1024, .f32⟩
  | .hbm, ⟨9, _⟩ => ⟨S32768x1024, .f32⟩
  | .hbm, ⟨10, _⟩ => ⟨S32768x256, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S8x256x256, .f32⟩
  | .hbm, ⟨22, _⟩ => ⟨S8x256x4x64, .f32⟩
  | .hbm, ⟨23, _⟩ => ⟨S8x256x256, .f32⟩
  | .hbm, ⟨24, _⟩ => ⟨S8x256x4x64, .f32⟩
  | .hbm, ⟨25, _⟩ => ⟨S8x4096x4x64, .f32⟩
  | .hbm, ⟨26, _⟩ => ⟨S8x4x4096x256, .f32⟩
  | .hbm, ⟨27, _⟩ => ⟨S_, .f32⟩
  | .hbm, ⟨28, _⟩ => ⟨S8x4x4096x256, .f32⟩
  | .hbm, ⟨29, _⟩ => ⟨S8x4x4096x256, .f32⟩
  | .hbm, ⟨30, _⟩ => ⟨S_, .f32⟩
  | .hbm, ⟨31, _⟩ => ⟨S8x4x4096, .f32⟩
  | .hbm, ⟨32, _⟩ => ⟨S_, .f32⟩
  | .hbm, ⟨33, _⟩ => ⟨S8x4x4096, .f32⟩
  | .hbm, ⟨34, _⟩ => ⟨S8x4x4096, .f32⟩
  | .hbm, ⟨35, _⟩ => ⟨S8x4x4096x1, .f32⟩
  | .hbm, ⟨36, _⟩ => ⟨S8x4x4096x256, .f32⟩
  | .hbm, ⟨37, _⟩ => ⟨S8x4x4096x256, .f32⟩
  | .hbm, ⟨38, _⟩ => ⟨S8x4x4096x256, .f32⟩
  | .hbm, ⟨39, _⟩ => ⟨S_, .f32⟩
  | .hbm, ⟨40, _⟩ => ⟨S8x4x4096, .f32⟩
  | .hbm, ⟨41, _⟩ => ⟨S8x4x4096x1, .f32⟩
  | .hbm, ⟨42, _⟩ => ⟨S8x4x4096x256, .f32⟩
  | .hbm, ⟨43, _⟩ => ⟨S8x4x4096x256, .f32⟩
  | .hbm, ⟨44, _⟩ => ⟨S8x4x64x4096, .f32⟩
  | .hbm, ⟨45, _⟩ => ⟨S8x4096x4x64, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S_, .f32⟩
  | .hbm, ⟨50, _⟩ => ⟨S32768x256, .f32⟩
  | .hbm, ⟨51, _⟩ => ⟨S32768x256, .f32⟩
  | .hbm, ⟨52, _⟩ => ⟨S_, .f32⟩
  | .hbm, ⟨53, _⟩ => ⟨S32768x256, .f32⟩
  | .hbm, ⟨54, _⟩ => ⟨S32768x256, .f32⟩
  | .hbm, ⟨55, _⟩ => ⟨S32768x256, .f32⟩
  | .hbm, ⟨56, _⟩ => ⟨S32768x256, .f32⟩
  | .hbm, ⟨57, _⟩ => ⟨S32768x2304, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768, .f32⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S32768x1, .f32⟩
  | .hbm, ⟨71, _⟩ => ⟨S32768x1024, .f32⟩
  | .hbm, ⟨72, _⟩ => ⟨S32768x1024, .f32⟩
  | .hbm, ⟨73, _⟩ => ⟨S1x1024, .f32⟩
  | .hbm, ⟨74, _⟩ => ⟨S32768x1024, .f32⟩
  | .hbm, ⟨75, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_3 : Ref sig .tc := ⟨.hbm, 61, rfl⟩
abbrev main_v32 : Ref sig .tc := ⟨.hbm, 62, rfl⟩
abbrev main_v33 : Ref sig .tc := ⟨.hbm, 63, rfl⟩
abbrev main_cst_4 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩

abbrev nD : Nat := 1
abbrev τ : Topo := Topo.v7x

variable {F : FTy → Type} [FloatOps F]
-- ==== OddKernel.lean ====
abbrev S32768x1024 : Shape := ⟨2, ![32768, 1024]⟩
abbrev S1024 : Shape := ⟨1, ![1024]⟩
abbrev S1024x4816 : Shape := ⟨2, ![1024, 4816]⟩
abbrev S1024x64 : Shape := ⟨2, ![1024, 64]⟩
abbrev S1024x32 : Shape := ⟨2, ![1024, 32]⟩
abbrev S1024x16 : Shape := ⟨2, ![1024, 16]⟩
abbrev S_ : Shape := ⟨0, ![]⟩
abbrev S1024x112 : Shape := ⟨2, ![1024, 112]⟩
abbrev S1024x384 : Shape := ⟨2, ![1024, 384]⟩
abbrev S1024x1536 : Shape := ⟨2, ![1024, 1536]⟩
abbrev S1024x256 : Shape := ⟨2, ![1024, 256]⟩
abbrev S1024x2304 : Shape := ⟨2, ![1024, 2304]⟩
abbrev S1024x5120 : Shape := ⟨2, ![1024, 5120]⟩
abbrev S1x1024 : Shape := ⟨2, ![1, 1024]⟩
abbrev S32768x1536 : Shape := ⟨2, ![32768, 1536]⟩
abbrev S32768x384 : Shape := ⟨2, ![32768, 384]⟩
abbrev S32768x256 : Shape := ⟨2, ![32768, 256]⟩
abbrev S32768x1280 : Shape := ⟨2, ![32768, 1280]⟩
abbrev S256x1024 : Shape := ⟨2, ![256, 1024]⟩
abbrev S256x1536 : Shape := ⟨2, ![256, 1536]⟩
abbrev S256x384 : Shape := ⟨2, ![256, 384]⟩
abbrev S256x256 : Shape := ⟨2, ![256, 256]⟩
abbrev S256x1280 : Shape := ⟨2, ![256, 1280]⟩
abbrev S256 : Shape := ⟨1, ![256]⟩
abbrev S256x1 : Shape := ⟨2, ![256, 1]⟩
abbrev S1024x1024 : Shape := ⟨2, ![1024, 1024]⟩
abbrev S1024x1280 : Shape := ⟨2, ![1024, 1280]⟩

abbrev nBuf : Space → Nat
  | .hbm => 26
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4816, .f32⟩
  | .hbm, ⟨3, _⟩ => ⟨S1024x64, .f32⟩
  | .hbm, ⟨4, _⟩ => ⟨S1024x32, .f32⟩
  | .hbm, ⟨5, _⟩ => ⟨S1024x32, .f32⟩
  | .hbm, ⟨6, _⟩ => ⟨S1024x64, .f32⟩
  | .hbm, ⟨7, _⟩ => ⟨S1024x16, .f32⟩
  | .hbm, ⟨8, _⟩ => ⟨S_, .f32⟩
  | .hbm, ⟨9, _⟩ => ⟨S1024x112, .f32⟩
  | .hbm, ⟨10, _⟩ => ⟨S1024x384, .f32⟩
  | .hbm, ⟨11, _⟩ => ⟨S1024x1536, .f32⟩
  | .hbm, ⟨12, _⟩ => ⟨S1024x384, .f32⟩
  | .hbm, ⟨13, _⟩ => ⟨S1024x256, .f32⟩
  | .hbm, ⟨14, _⟩ => ⟨S1024x256, .f32⟩
  | .hbm, ⟨15, _⟩ => ⟨S1024x2304, .f32⟩
  | .hbm, ⟨16, _⟩ => ⟨S1024x5120, .f32⟩
  | .hbm, ⟨17, _⟩ => ⟨S1024x5120, .bf16⟩
  | .hbm, ⟨18, _⟩ => ⟨S1x1024, .f32⟩
  | .hbm, ⟨19, _⟩ => ⟨S32768x1536, .f32⟩
  | .hbm, ⟨20, _⟩ => ⟨S32768x384, .f32⟩
  | .hbm, ⟨21, _⟩ => ⟨S32768x256, .f32⟩
  | .hbm, ⟨22, _⟩ => ⟨S32768x256, .f32⟩
  | .hbm, ⟨23, _⟩ => ⟨S32768x1024, .f32⟩
  | .hbm, ⟨24, _⟩ => ⟨S32768x1280, .f32⟩
  | .hbm, ⟨25, _⟩ => ⟨S32768x384, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5120, .bf16⟩
  | .local _ .vmem, ⟨4, _⟩ => ⟨S256x1536, .f32⟩
  | .local _ .vmem, ⟨5, _⟩ => ⟨S256x1536, .f32⟩
  | .local _ .vmem, ⟨6, _⟩ => ⟨S256x384, .f32⟩
  | .local _ .vmem, ⟨7, _⟩ => ⟨S256x384, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x1024, .f32⟩
  | .local _ .vmem, ⟨13, _⟩ => ⟨S256x1024, .f32⟩
  | .local _ .vmem, ⟨14, _⟩ => ⟨S256x1280, .f32⟩
  | .local _ .vmem, ⟨15, _⟩ => ⟨S256x1280, .f32⟩
  | .local _ .vmem, ⟨16, _⟩ => ⟨S256x384, .f32⟩
  | .local _ .vmem, ⟨17, _⟩ => ⟨S256x384, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev main_v15_3 : Ref sig .tc := ⟨.hbm, 22, rfl⟩
abbrev main_v15_4 : Ref sig .tc := ⟨.hbm, 23, rfl⟩
abbrev main_v15_5 : Ref sig .tc := ⟨.hbm, 24, rfl⟩
abbrev main_v15_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OddReferenceIdeal.lean ====
abbrev S32768x1024 : Shape := ⟨2, ![32768, 1024]⟩
abbrev S1024 : Shape := ⟨1, ![1024]⟩
abbrev S1024x4816 : Shape := ⟨2, ![1024, 4816]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4816 : Shape := ⟨2, ![32768, 4816]⟩
abbrev S32768x1536 : Shape := ⟨2, ![32768, 1536]⟩
abbrev S32768x16 : Shape := ⟨2, ![32768, 16]⟩
abbrev S32768x384 : Shape := ⟨2, ![32768, 384]⟩
abbrev S32768x256 : Shape := ⟨2, ![32768, 256]⟩
abbrev S32768x64 : Shape := ⟨2, ![32768, 64]⟩
abbrev S32768x2304 : Shape := ⟨2, ![32768, 2304]⟩
abbrev S32768x32 : Shape := ⟨2, ![32768, 32]⟩
abbrev S32768x112 : Shape := ⟨2, ![32768, 112]⟩
abbrev S32768x1280 : Shape := ⟨2, ![32768, 1280]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4816, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x4816, .f32⟩
  | .hbm, ⟨20, _⟩ => ⟨S32768x1536, .f32⟩
  | .hbm, ⟨21, _⟩ => ⟨S32768x16, .f32⟩
  | .hbm, ⟨22, _⟩ => ⟨S32768x384, .f32⟩
  | .hbm, ⟨23, _⟩ => ⟨S32768x256, .f32⟩
  | .hbm, ⟨24, _⟩ => ⟨S32768x64, .f32⟩
  | .hbm, ⟨25, _⟩ => ⟨S32768x256, .f32⟩
  | .hbm, ⟨26, _⟩ => ⟨S32768x2304, .f32⟩
  | .hbm, ⟨27, _⟩ => ⟨S32768x32, .f32⟩
  | .hbm, ⟨28, _⟩ => ⟨S32768x32, .f32⟩
  | .hbm, ⟨29, _⟩ => ⟨S32768x64, .f32⟩
  | .hbm, ⟨30, _⟩ => ⟨S_, .f32⟩
  | .hbm, ⟨31, _⟩ => ⟨S32768x112, .f32⟩
  | .hbm, ⟨32, _⟩ => ⟨S32768x384, .f32⟩
  | .hbm, ⟨33, _⟩ => ⟨S32768x1024, .f32⟩
  | .hbm, ⟨34, _⟩ => ⟨S32768x1280, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== EvenKernel.lean ====
abbrev S32768x1024 : Shape := ⟨2, ![32768, 1024]⟩
abbrev S32768x256 : Shape := ⟨2, ![32768, 256]⟩
abbrev S32768x2304 : Shape := ⟨2, ![32768, 2304]⟩
abbrev S8x256x256 : Shape := ⟨3, ![8, 256, 256]⟩
abbrev S1024 : Shape := ⟨1, ![1024]⟩
abbrev S1024x1024 : Shape := ⟨2, ![1024, 1024]⟩
abbrev S2304x1024 : Shape := ⟨2, ![2304, 1024]⟩
abbrev S1x1024 : Shape := ⟨2, ![1, 1024]⟩
abbrev S_ : Shape := ⟨0, ![]⟩
abbrev S6x1024 : Shape := ⟨2, ![6, 1024]⟩
abbrev S8x1024 : Shape := ⟨2, ![8, 1024]⟩
abbrev S256x1024 : Shape := ⟨2, ![256, 1024]⟩
abbrev S256x256 : Shape := ⟨2, ![256, 256]⟩
abbrev S256x2304 : Shape := ⟨2, ![256, 2304]⟩
abbrev S1x256x256 : Shape := ⟨3, ![1, 256, 256]⟩
abbrev S1x256 : Shape := ⟨2, ![1, 256]⟩
abbrev S256 : Shape := ⟨1, ![256]⟩
abbrev S256x1 : Shape := ⟨2, ![256, 1]⟩

abbrev nBuf : Space → Nat
  | .hbm => 22
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x256, .f32⟩
  | .hbm, ⟨4, _⟩ => ⟨S32768x2304, .f32⟩
  | .hbm, ⟨5, _⟩ => ⟨S32768x1024, .f32⟩
  | .hbm, ⟨6, _⟩ => ⟨S8x256x256, .bf16⟩
  | .hbm, ⟨7, _⟩ => ⟨S8x256x256, .bf16⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2304x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S6x1024, .f32⟩
  | .hbm, ⟨17, _⟩ => ⟨S8x1024, .f32⟩
  | .hbm, ⟨18, _⟩ => ⟨S1024x1024, .bf16⟩
  | .hbm, ⟨19, _⟩ => ⟨S2304x1024, .bf16⟩
  | .hbm, ⟨20, _⟩ => ⟨S1x1024, .f32⟩
  | .hbm, ⟨21, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S256x2304, .f32⟩
  | .local _ .vmem, ⟨9, _⟩ => ⟨S256x2304, .f32⟩
  | .local _ .vmem, ⟨10, _⟩ => ⟨S256x1024, .f32⟩
  | .local _ .vmem, ⟨11, _⟩ => ⟨S256x1024, .f32⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S8x1024, .f32⟩
  | .local _ .vmem, ⟨17, _⟩ => ⟨S1024x1024, .bf16⟩
  | .local _ .vmem, ⟨18, _⟩ => ⟨S2304x1024, .bf16⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2304x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== EvenReferenceIdeal.lean ====
abbrev S32768x1024 : Shape := ⟨2, ![32768, 1024]⟩
abbrev S32768x256 : Shape := ⟨2, ![32768, 256]⟩
abbrev S32768x2304 : Shape := ⟨2, ![32768, 2304]⟩
abbrev S8x256x256 : Shape := ⟨3, ![8, 256, 256]⟩
abbrev S1024 : Shape := ⟨1, ![1024]⟩
abbrev S1024x1024 : Shape := ⟨2, ![1024, 1024]⟩
abbrev S2304x1024 : Shape := ⟨2, ![2304, 1024]⟩
abbrev S1x1024 : Shape := ⟨2, ![1, 1024]⟩
abbrev S_ : Shape := ⟨0, ![]⟩
abbrev S8x256x4x64 : Shape := ⟨4, ![8, 256, 4, 64]⟩
abbrev S8x4096x4x64 : Shape := ⟨4, ![8, 4096, 4, 64]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩

abbrev nBuf : Space → Nat
  | .hbm => 86
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x256, .f32⟩
  | .hbm, ⟨4, _⟩ => ⟨S32768x2304, .f32⟩
  | .hbm, ⟨5, _⟩ => ⟨S32768x1024, .f32⟩
  | .hbm, ⟨6, _⟩ => ⟨S8x256x256, .bf16⟩
  | .hbm, ⟨7, _⟩ => ⟨S8x256x256, .bf16⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2304x1024, .f32⟩
  | .hbm, ⟨12, _⟩ => ⟨S1024, .f32⟩
  | .hbm, ⟨13, _⟩ => ⟨S1x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S8x256x256, .f32⟩
  | .hbm, ⟨48, _⟩ => ⟨S8x256x4x64, .f32⟩
  | .hbm, ⟨49, _⟩ => ⟨S8x256x256, .f32⟩
  | .hbm, ⟨50, _⟩ => ⟨S8x256x4x64, .f32⟩
  | .hbm, ⟨51, _⟩ => ⟨S8x4096x4x64, .f32⟩
  | .hbm, ⟨52, _⟩ => ⟨S8x4x4096x256, .f32⟩
  | .hbm, ⟨53, _⟩ => ⟨S_, .f32⟩
  | .hbm, ⟨54, _⟩ => ⟨S8x4x4096x256, .f32⟩
  | .hbm, ⟨55, _⟩ => ⟨S8x4x4096x256, .f32⟩
  | .hbm, ⟨56, _⟩ => ⟨S_, .f32⟩
  | .hbm, ⟨57, _⟩ => ⟨S8x4x4096, .f32⟩
  | .hbm, ⟨58, _⟩ => ⟨S_, .f32⟩
  | .hbm, ⟨59, _⟩ => ⟨S8x4x4096, .f32⟩
  | .hbm, ⟨60, _⟩ => ⟨S8x4x4096, .f32⟩
  | .hbm, ⟨61, _⟩ => ⟨S8x4x4096x1, .f32⟩
  | .hbm, ⟨62, _⟩ => ⟨S8x4x4096x256, .f32⟩
  | .hbm, ⟨63, _⟩ => ⟨S8x4x4096x256, .f32⟩
  | .hbm, ⟨64, _⟩ => ⟨S8x4x4096x256, .f32⟩
  | .hbm, ⟨65, _⟩ => ⟨S_, .f32⟩
  | .hbm, ⟨66, _⟩ => ⟨S8x4x4096, .f32⟩
  | .hbm, ⟨67, _⟩ => ⟨S8x4x4096x1, .f32⟩
  | .hbm, ⟨68, _⟩ => ⟨S8x4x4096x256, .f32⟩
  | .hbm, ⟨69, _⟩ => ⟨S8x4x4096x256, .f32⟩
  | .hbm, ⟨70, _⟩ => ⟨S8x4x64x4096, .f32⟩
  | .hbm, ⟨71, _⟩ => ⟨S8x4096x4x64, .f32⟩
  | .hbm, ⟨72, _⟩ => ⟨S32768x256, .f32⟩
  | .hbm, ⟨73, _⟩ => ⟨S32768x2304, .f32⟩
  | .hbm, ⟨74, _⟩ => ⟨S32768x2304, .f32⟩
  | .hbm, ⟨75, _⟩ => ⟨S32768x2304, .f32⟩
  | .hbm, ⟨76, _⟩ => ⟨S_, .f32⟩
  | .hbm, ⟨77, _⟩ => ⟨S32768x2304, .f32⟩
  | .hbm, ⟨78, _⟩ => ⟨S32768x2304, .f32⟩
  | .hbm, ⟨79, _⟩ => ⟨S_, .f32⟩
  | .hbm, ⟨80, _⟩ => ⟨S32768x2304, .f32⟩
  | .hbm, ⟨81, _⟩ => ⟨S32768x2304, .f32⟩
  | .hbm, ⟨82, _⟩ => ⟨S32768x2304, .f32⟩
  | .hbm, ⟨83, _⟩ => ⟨S32768x2304, .f32⟩
  | .hbm, ⟨84, _⟩ => ⟨S32768x1024, .f32⟩
  | .hbm, ⟨85, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩

abbrev nD : Nat := 1
abbrev τ : Topo := Topo.v7x

variable {F : FTy → Type} [FloatOps F]
-- ==== FirstKernel.lean ====
abbrev S32768x1024 : Shape := ⟨2, ![32768, 1024]⟩
abbrev S32768x256 : Shape := ⟨2, ![32768, 256]⟩
abbrev S32768x1280 : Shape := ⟨2, ![32768, 1280]⟩
abbrev S8x256x256 : Shape := ⟨3, ![8, 256, 256]⟩
abbrev S2304x1024 : Shape := ⟨2, ![2304, 1024]⟩
abbrev S1024 : Shape := ⟨1, ![1024]⟩
abbrev S1x1024 : Shape := ⟨2, ![1, 1024]⟩
abbrev S256x1024 : Shape := ⟨2, ![256, 1024]⟩
abbrev S256x256 : Shape := ⟨2, ![256, 256]⟩
abbrev S256x1280 : Shape := ⟨2, ![256, 1280]⟩
abbrev S1x256x256 : Shape := ⟨3, ![1, 256, 256]⟩
abbrev S1x256 : Shape := ⟨2, ![1, 256]⟩
abbrev S256 : Shape := ⟨1, ![256]⟩
abbrev S256x1 : Shape := ⟨2, ![256, 1]⟩
abbrev S1024x1024 : Shape := ⟨2, ![1024, 1024]⟩

abbrev nBuf : Space → Nat
  | .hbm => 12
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x256, .f32⟩
  | .hbm, ⟨3, _⟩ => ⟨S32768x1280, .f32⟩
  | .hbm, ⟨4, _⟩ => ⟨S32768x1024, .f32⟩
  | .hbm, ⟨5, _⟩ => ⟨S8x256x256, .bf16⟩
  | .hbm, ⟨6, _⟩ => ⟨S8x256x256, .bf16⟩
  | .hbm, ⟨7, _⟩ => ⟨S2304x1024, .f32⟩
  | .hbm, ⟨8, _⟩ => ⟨S1024, .f32⟩
  | .hbm, ⟨9, _⟩ => ⟨S2304x1024, .bf16⟩
  | .hbm, ⟨10, _⟩ => ⟨S1x1024, .f32⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S256x1280, .f32⟩
  | .local _ .vmem, ⟨7, _⟩ => ⟨S256x1280, .f32⟩
  | .local _ .vmem, ⟨8, _⟩ => ⟨S256x1024, .f32⟩
  | .local _ .vmem, ⟨9, _⟩ => ⟨S256x1024, .f32⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S2304x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2304x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FirstReferenceIdeal.lean ====
abbrev S32768x1024 : Shape := ⟨2, ![32768, 1024]⟩
abbrev S32768x256 : Shape := ⟨2, ![32768, 256]⟩
abbrev S32768x1280 : Shape := ⟨2, ![32768, 1280]⟩
abbrev S8x256x256 : Shape := ⟨3, ![8, 256, 256]⟩
abbrev S2304x1024 : Shape := ⟨2, ![2304, 1024]⟩
abbrev S1024 : Shape := ⟨1, ![1024]⟩
abbrev S_ : Shape := ⟨0, ![]⟩
abbrev S8x256x4x64 : Shape := ⟨4, ![8, 256, 4, 64]⟩
abbrev S8x4096x4x64 : Shape := ⟨4, ![8, 4096, 4, 64]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S32768x2304 : Shape := ⟨2, ![32768, 2304]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x256, .f32⟩
  | .hbm, ⟨3, _⟩ => ⟨S32768x1280, .f32⟩
  | .hbm, ⟨4, _⟩ => ⟨S32768x1024, .f32⟩
  | .hbm, ⟨5, _⟩ => ⟨S8x256x256, .bf16⟩
  | .hbm, ⟨6, _⟩ => ⟨S8x256x256, .bf16⟩
  | .hbm, ⟨7, _⟩ => ⟨S2304x1024, .f32⟩
  | .hbm, ⟨8, _⟩ => ⟨S1024, .f32⟩
  | .hbm, ⟨9, _⟩ => ⟨S32768x1024, .f32⟩
  | .hbm, ⟨10, _⟩ => ⟨S32768x256, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S8x256x256, .f32⟩
  | .hbm, ⟨22, _⟩ => ⟨S8x256x4x64, .f32⟩
  | .hbm, ⟨23, _⟩ => ⟨S8x256x256, .f32⟩
  | .hbm, ⟨24, _⟩ => ⟨S8x256x4x64, .f32⟩
  | .hbm, ⟨25, _⟩ => ⟨S8x4096x4x64, .f32⟩
  | .hbm, ⟨26, _⟩ => ⟨S8x4x4096x256, .f32⟩
  | .hbm, ⟨27, _⟩ => ⟨S_, .f32⟩
  | .hbm, ⟨28, _⟩ => ⟨S8x4x4096x256, .f32⟩
  | .hbm, ⟨29, _⟩ => ⟨S8x4x4096x256, .f32⟩
  | .hbm, ⟨30, _⟩ => ⟨S_, .f32⟩
  | .hbm, ⟨31, _⟩ => ⟨S8x4x4096, .f32⟩
  | .hbm, ⟨32, _⟩ => ⟨S_, .f32⟩
  | .hbm, ⟨33, _⟩ => ⟨S8x4x4096, .f32⟩
  | .hbm, ⟨34, _⟩ => ⟨S8x4x4096, .f32⟩
  | .hbm, ⟨35, _⟩ => ⟨S8x4x4096x1, .f32⟩
  | .hbm, ⟨36, _⟩ => ⟨S8x4x4096x256, .f32⟩
  | .hbm, ⟨37, _⟩ => ⟨S8x4x4096x256, .f32⟩
  | .hbm, ⟨38, _⟩ => ⟨S8x4x4096x256, .f32⟩
  | .hbm, ⟨39, _⟩ => ⟨S_, .f32⟩
  | .hbm, ⟨40, _⟩ => ⟨S8x4x4096, .f32⟩
  | .hbm, ⟨41, _⟩ => ⟨S8x4x4096x1, .f32⟩
  | .hbm, ⟨42, _⟩ => ⟨S8x4x4096x256, .f32⟩
  | .hbm, ⟨43, _⟩ => ⟨S8x4x4096x256, .f32⟩
  | .hbm, ⟨44, _⟩ => ⟨S8x4x64x4096, .f32⟩
  | .hbm, ⟨45, _⟩ => ⟨S8x4096x4x64, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S_, .f32⟩
  | .hbm, ⟨50, _⟩ => ⟨S32768x256, .f32⟩
  | .hbm, ⟨51, _⟩ => ⟨S32768x256, .f32⟩
  | .hbm, ⟨52, _⟩ => ⟨S_, .f32⟩
  | .hbm, ⟨53, _⟩ => ⟨S32768x256, .f32⟩
  | .hbm, ⟨54, _⟩ => ⟨S32768x256, .f32⟩
  | .hbm, ⟨55, _⟩ => ⟨S32768x256, .f32⟩
  | .hbm, ⟨56, _⟩ => ⟨S32768x256, .f32⟩
  | .hbm, ⟨57, _⟩ => ⟨S32768x2304, .f32⟩
  | .hbm, ⟨58, _⟩ => ⟨S32768x1024, .f32⟩
  | .hbm, ⟨59, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩

abbrev nD : Nat := 1
abbrev τ : Topo := Topo.v7x

variable {F : FTy → Type} [FloatOps F]
-- ==== MemKernel.lean ====
abbrev S8x256x1024 : Shape := ⟨3, ![8, 256, 1024]⟩
abbrev S1024 : Shape := ⟨1, ![1024]⟩
abbrev S4x1024x512 : Shape := ⟨3, ![4, 1024, 512]⟩
abbrev S1x1024 : Shape := ⟨2, ![1, 1024]⟩
abbrev S4x8x256x256 : Shape := ⟨4, ![4, 8, 256, 256]⟩
abbrev S1x256x1024 : Shape := ⟨3, ![1, 256, 1024]⟩
abbrev S1x1024x512 : Shape := ⟨3, ![1, 1024, 512]⟩
abbrev S1x1x256x256 : Shape := ⟨4, ![1, 1, 256, 256]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S4x1024x512, .f32⟩
  | .hbm, ⟨3, _⟩ => ⟨S4x1024x512, .bf16⟩
  | .hbm, ⟨4, _⟩ => ⟨S1x1024, .f32⟩
  | .hbm, ⟨5, _⟩ => ⟨S4x8x256x256, .bf16⟩
  | .hbm, ⟨6, _⟩ => ⟨S4x8x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1x256x256, .bf16⟩
  | .local _ .vmem, ⟨6, _⟩ => ⟨S1x1x256x256, .bf16⟩
  | .local _ .vmem, ⟨7, _⟩ => ⟨S1x1x256x256, .bf16⟩
  | .local _ .vmem, ⟨8, _⟩ => ⟨S1x1x256x256, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemReferenceIdeal.lean ====
abbrev S8x256x1024 : Shape := ⟨3, ![8, 256, 1024]⟩
abbrev S1024 : Shape := ⟨1, ![1024]⟩
abbrev S4x1024x512 : Shape := ⟨3, ![4, 1024, 512]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x512 : Shape := ⟨3, ![1, 1024, 512]⟩
abbrev S1024x512 : Shape := ⟨2, ![1024, 512]⟩
abbrev S8x256x512 : Shape := ⟨3, ![8, 256, 512]⟩
abbrev S1x8x256x512 : Shape := ⟨4, ![1, 8, 256, 512]⟩
abbrev S4x8x256x512 : Shape := ⟨4, ![4, 8, 256, 512]⟩
abbrev S4x8x256x256 : Shape := ⟨4, ![4, 8, 256, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S4x1024x512, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S1x1024x512, .f32⟩
  | .hbm, ⟨20, _⟩ => ⟨S1024x512, .f32⟩
  | .hbm, ⟨21, _⟩ => ⟨S8x256x512, .f32⟩
  | .hbm, ⟨22, _⟩ => ⟨S1x1024x512, .f32⟩
  | .hbm, ⟨23, _⟩ => ⟨S1024x512, .f32⟩
  | .hbm, ⟨24, _⟩ => ⟨S8x256x512, .f32⟩
  | .hbm, ⟨25, _⟩ => ⟨S1x1024x512, .f32⟩
  | .hbm, ⟨26, _⟩ => ⟨S1024x512, .f32⟩
  | .hbm, ⟨27, _⟩ => ⟨S8x256x512, .f32⟩
  | .hbm, ⟨28, _⟩ => ⟨S1x1024x512, .f32⟩
  | .hbm, ⟨29, _⟩ => ⟨S1024x512, .f32⟩
  | .hbm, ⟨30, _⟩ => ⟨S8x256x512, .f32⟩
  | .hbm, ⟨31, _⟩ => ⟨S1x8x256x512, .f32⟩
  | .hbm, ⟨32, _⟩ => ⟨S1x8x256x512, .f32⟩
  | .hbm, ⟨33, _⟩ => ⟨S1x8x256x512, .f32⟩
  | .hbm, ⟨34, _⟩ => ⟨S1x8x256x512, .f32⟩
  | .hbm, ⟨35, _⟩ => ⟨S4x8x256x512, .f32⟩
  | .hbm, ⟨36, _⟩ => ⟨S4x8x256x256, .f32⟩
  | .hbm, ⟨37, _⟩ => ⟨S4x8x256x256, .bf16⟩
  | .hbm, ⟨38, _⟩ => ⟨S4x8x256x256, .f32⟩
  | .hbm, ⟨39, _⟩ => ⟨S4x8x256x256, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== FlashKernel.lean ====
abbrev S32768x2048 : Shape := ⟨2, ![32768, 2048]⟩
abbrev S1024x32768 : Shape := ⟨2, ![1024, 32768]⟩
abbrev S32768x1024 : Shape := ⟨2, ![32768, 1024]⟩
abbrev S512x1024 : Shape := ⟨2, ![512, 1024]⟩
abbrev S4096x1024 : Shape := ⟨2, ![4096, 1024]⟩
abbrev S512x4096 : Shape := ⟨2, ![512, 4096]⟩
abbrev S512x512 : Shape := ⟨2, ![512, 512]⟩
abbrev S512x256 : Shape := ⟨2, ![512, 256]⟩
abbrev S1x512 : Shape := ⟨2, ![1, 512]⟩
abbrev S128x512 : Shape := ⟨2, ![128, 512]⟩
abbrev S512 : Shape := ⟨1, ![512]⟩
abbrev S512x128 : Shape := ⟨2, ![512, 128]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S1024x32768, .bf16⟩
  | .hbm, ⟨3, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S512x4096, .bf16⟩
  | .local _ .vmem, ⟨5, _⟩ => ⟨S512x4096, .bf16⟩
  | .local _ .vmem, ⟨6, _⟩ => ⟨S512x512, .f32⟩
  | .local _ .vmem, ⟨7, _⟩ => ⟨S512x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

@[reducible] def k0_t1_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_15 : BitVec 32 := 1#32
  ⟨c0_i32, v20, c1_i32_15⟩
def k0_mult1 (i : grid0.Coords) (k0_t1 : Fin (k0_t1_loop i).trips) : BitVec 32 :=
  let c0_i32 : BitVec 32 := 0#32
  let c1_i32_15 : BitVec 32 := 1#32
  let arg7 : BitVec 32 := Scf.iv c0_i32 c1_i32_15 k0_t1
  let c512_i32_51 : BitVec 32 := 512#32
  let v140 : BitVec 32 := Scalar.muli arg7 c512_i32_51
  v140
def k0_off1 (i : grid0.Coords) (k0_t1 : Fin (k0_t1_loop i).trips) : Fin 2 → Nat :=
  let c0_i32 : BitVec 32 := 0#32
  let c1_i32_15 : BitVec 32 := 1#32
  let arg7 : BitVec 32 := Scf.iv c0_i32 c1_i32_15 k0_t1
  let c512_i32_51 : BitVec 32 := 512#32
  let v140 : BitVec 32 := Scalar.muli arg7 c512_i32_51
  let v141 : BitVec 32 := v140
  let v142 : Index := Scalar.indexCast v141
  let c0_52 : Index := 0#32
  ![v142.toNat, 0]
def k0_off2 (i : grid0.Coords) (k0_t1 : Fin (k0_t1_loop i).trips) : Fin 2 → Nat :=
  let c0_i32 : BitVec 32 := 0#32
  let c1_i32_15 : BitVec 32 := 1#32
  let arg7 : BitVec 32 := Scf.iv c0_i32 c1_i32_15 k0_t1
  let c512_i32_51 : BitVec 32 := 512#32
  let v140 : BitVec 32 := Scalar.muli arg7 c512_i32_51
  let v141 : BitVec 32 := v140
  let v145 : Index := Scalar.indexCast v141
  let c256_54 : Index := 256#32
  ![v145.toNat, 256]
def k0_off3 (i : grid0.Coords) (k0_t1 : Fin (k0_t1_loop i).trips) : Fin 2 → Nat :=
  let c0_i32 : BitVec 32 := 0#32
  let c1_i32_15 : BitVec 32 := 1#32
  let arg7 : BitVec 32 := Scf.iv c0_i32 c1_i32_15 k0_t1
  let c512_i32_51 : BitVec 32 := 512#32
  let v140 : BitVec 32 := Scalar.muli arg7 c512_i32_51
  let v141 : BitVec 32 := v140
  let v148 : Index := Scalar.indexCast v141
  let c512_56 : Index := 512#32
  ![v148.toNat, 512]
def k0_off4 (i : grid0.Coords) (k0_t1 : Fin (k0_t1_loop i).trips) : Fin 2 → Nat :=
  let c0_i32 : BitVec 32 := 0#32
  let c1_i32_15 : BitVec 32 := 1#32
  let arg7 : BitVec 32 := Scf.iv c0_i32 c1_i32_15 k0_t1
  let c512_i32_51 : BitVec 32 := 512#32
  let v140 : BitVec 32 := Scalar.muli arg7 c512_i32_51
  let v141 : BitVec 32 := v140
  let v151 : Index := Scalar.indexCast v141
  let c768_58 : Index := 768#32
  ![v151.toNat, 768]
def k0_off5 (i : grid0.Coords) (k0_t1 : Fin (k0_t1_loop i).trips) : Fin 2 → Nat :=
  let c0_68 : Index := 0#32
  let c0_i32 : BitVec 32 := 0#32
  let c1_i32_15 : BitVec 32 := 1#32
  let arg7 : BitVec 32 := Scf.iv c0_i32 c1_i32_15 k0_t1
  let c512_i32_51 : BitVec 32 := 512#32
  let v140 : BitVec 32 := Scalar.muli arg7 c512_i32_51
  let v141 : BitVec 32 := v140
  let v202 : Index := Scalar.indexCast v141
  ![0, v202.toNat]
def k0_off6 (i : grid0.Coords) (k0_t1 : Fin (k0_t1_loop i).trips) : Fin 2 → Nat :=
  let c128_70 : Index := 128#32
  let c0_i32 : BitVec 32 := 0#32
  let c1_i32_15 : BitVec 32 := 1#32
  let arg7 : BitVec 32 := Scf.iv c0_i32 c1_i32_15 k0_t1
  let c512_i32_51 : BitVec 32 := 512#32
  let v140 : BitVec 32 := Scalar.muli arg7 c512_i32_51
  let v141 : BitVec 32 := v140
  let v206 : Index := Scalar.indexCast v141
  ![128, v206.toNat]
def k0_off7 (i : grid0.Coords) (k0_t1 : Fin (k0_t1_loop i).trips) : Fin 2 → Nat :=
  let c256_72 : Index := 256#32
  let c0_i32 : BitVec 32 := 0#32
  let c1_i32_15 : BitVec 32 := 1#32
  let arg7 : BitVec 32 := Scf.iv c0_i32 c1_i32_15 k0_t1
  let c512_i32_51 : BitVec 32 := 512#32
  let v140 : BitVec 32 := Scalar.muli arg7 c512_i32_51
  let v141 : BitVec 32 := v140
  let v210 : Index := Scalar.indexCast v141
  ![256, v210.toNat]
def k0_off8 (i : grid0.Coords) (k0_t1 : Fin (k0_t1_loop i).trips) : Fin 2 → Nat :=
  let c384_74 : Index := 384#32
  let c0_i32 : BitVec 32 := 0#32
  let c1_i32_15 : BitVec 32 := 1#32
  let arg7 : BitVec 32 := Scf.iv c0_i32 c1_i32_15 k0_t1
  let c512_i32_51 : BitVec 32 := 512#32
  let v140 : BitVec 32 := Scalar.muli arg7 c512_i32_51
  let v141 : BitVec 32 := v140
  let v214 : Index := Scalar.indexCast v141
  ![384, v214.toNat]
@[reducible] def k0_t2_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_16 : BitVec 32 := 1#32
  ⟨v20, v17, c1_i32_16⟩
def k0_mult2 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c512_i32_51 : BitVec 32 := 512#32
  let v140 : BitVec 32 := Scalar.muli arg7 c512_i32_51
  v140
def k0_off9 (i : grid0.Coords) (k0_t2 : Fin (k0_t2_loop i).trips) : Fin 2 → Nat :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c512_i32_51 : BitVec 32 := 512#32
  let v140 : BitVec 32 := Scalar.muli arg7 c512_i32_51
  let v141 : BitVec 32 := v140
  let v142 : Index := Scalar.indexCast v141
  let c0_52 : Index := 0#32
  ![v142.toNat, 0]
def k0_off10 (i : grid0.Coords) (k0_t2 : Fin (k0_t2_loop i).trips) : Fin 2 → Nat :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c512_i32_51 : BitVec 32 := 512#32
  let v140 : BitVec 32 := Scalar.muli arg7 c512_i32_51
  let v141 : BitVec 32 := v140
  let v145 : Index := Scalar.indexCast v141
  let c256_54 : Index := 256#32
  ![v145.toNat, 256]
def k0_off11 (i : grid0.Coords) (k0_t2 : Fin (k0_t2_loop i).trips) : Fin 2 → Nat :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c512_i32_51 : BitVec 32 := 512#32
  let v140 : BitVec 32 := Scalar.muli arg7 c512_i32_51
  let v141 : BitVec 32 := v140
  let v148 : Index := Scalar.indexCast v141
  let c512_56 : Index := 512#32
  ![v148.toNat, 512]
def k0_off12 (i : grid0.Coords) (k0_t2 : Fin (k0_t2_loop i).trips) : Fin 2 → Nat :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c512_i32_51 : BitVec 32 := 512#32
  let v140 : BitVec 32 := Scalar.muli arg7 c512_i32_51
  let v141 : BitVec 32 := v140
  let v151 : Index := Scalar.indexCast v141
  let c768_58 : Index := 768#32
  ![v151.toNat, 768]
def k0_off13 (i : grid0.Coords) (k0_t2 : Fin (k0_t2_loop i).trips) : Fin 2 → Nat :=
  let c0_68 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c512_i32_51 : BitVec 32 := 512#32
  let v140 : BitVec 32 := Scalar.muli arg7 c512_i32_51
  let v141 : BitVec 32 := v140
  let v202 : Index := Scalar.indexCast v141
  ![0, v202.toNat]
def k0_off14 (i : grid0.Coords) (k0_t2 : Fin (k0_t2_loop i).trips) : Fin 2 → Nat :=
  let c128_70 : Index := 128#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c512_i32_51 : BitVec 32 := 512#32
  let v140 : BitVec 32 := Scalar.muli arg7 c512_i32_51
  let v141 : BitVec 32 := v140
  let v206 : Index := Scalar.indexCast v141
  ![128, v206.toNat]
def k0_off15 (i : grid0.Coords) (k0_t2 : Fin (k0_t2_loop i).trips) : Fin 2 → Nat :=
  let c256_72 : Index := 256#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c512_i32_51 : BitVec 32 := 512#32
  let v140 : BitVec 32 := Scalar.muli arg7 c512_i32_51
  let v141 : BitVec 32 := v140
  let v210 : Index := Scalar.indexCast v141
  ![256, v210.toNat]
def k0_off16 (i : grid0.Coords) (k0_t2 : Fin (k0_t2_loop i).trips) : Fin 2 → Nat :=
  let c384_74 : Index := 384#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_16 : BitVec 32 := 1#32
  let arg7 : BitVec 32 := Scf.iv v20 c1_i32_16 k0_t2
  let c512_i32_51 : BitVec 32 := 512#32
  let v140 : BitVec 32 := Scalar.muli arg7 c512_i32_51
  let v141 : BitVec 32 := v140
  let v214 : Index := Scalar.indexCast v141
  ![384, v214.toNat]
def k0_mult3 (i : grid0.Coords) : BitVec 32 :=
  let arg2 : BitVec 32 := BitVec.ofNat 32 (i 2).val
  let c512_i32 : BitVec 32 := 512#32
  let v26 : BitVec 32 := Scalar.muli arg2 c512_i32
  v26
def k0_off17 (i : grid0.Coords) : Fin 2 → Nat :=
  let arg2 : BitVec 32 := BitVec.ofNat 32 (i 2).val
  let c512_i32 : BitVec 32 := 512#32
  let v26 : BitVec 32 := Scalar.muli arg2 c512_i32
  let v27 : BitVec 32 := v26
  let v28 : Index := Scalar.indexCast v27
  let c0_17 : Index := 0#32
  ![v28.toNat, 0]
def k0_off18 (i : grid0.Coords) : Fin 2 → Nat :=
  let arg2 : BitVec 32 := BitVec.ofNat 32 (i 2).val
  let c512_i32 : BitVec 32 := 512#32
  let v26 : BitVec 32 := Scalar.muli arg2 c512_i32
  let v27 : BitVec 32 := v26
  let v31 : Index := Scalar.indexCast v27
  let c256_19 : Index := 256#32
  ![v31.toNat, 256]
def k0_off19 (i : grid0.Coords) : Fin 2 → Nat :=
  let arg2 : BitVec 32 := BitVec.ofNat 32 (i 2).val
  let c512_i32 : BitVec 32 := 512#32
  let v26 : BitVec 32 := Scalar.muli arg2 c512_i32
  let v27 : BitVec 32 := v26
  let v34 : Index := Scalar.indexCast v27
  let c512_21 : Index := 512#32
  ![v34.toNat, 512]
def k0_off20 (i : grid0.Coords) : Fin 2 → Nat :=
  let arg2 : BitVec 32 := BitVec.ofNat 32 (i 2).val
  let c512_i32 : BitVec 32 := 512#32
  let v26 : BitVec 32 := Scalar.muli arg2 c512_i32
  let v27 : BitVec 32 := v26
  let v37 : Index := Scalar.indexCast v27
  let c768_23 : Index := 768#32
  ![v37.toNat, 768]
def k0_off21 (i : grid0.Coords) : Fin 2 → Nat :=
  let c0_37 : Index := 0#32
  let arg2 : BitVec 32 := BitVec.ofNat 32 (i 2).val
  let c512_i32 : BitVec 32 := 512#32
  let v26 : BitVec 32 := Scalar.muli arg2 c512_i32
  let v27 : BitVec 32 := v26
  let v96 : Index := Scalar.indexCast v27
  ![0, v96.toNat]
def k0_off22 (i : grid0.Coords) : Fin 2 → Nat :=
  let c128 : Index := 128#32
  let arg2 : BitVec 32 := BitVec.ofNat 32 (i 2).val
  let c512_i32 : BitVec 32 := 512#32
  let v26 : BitVec 32 := Scalar.muli arg2 c512_i32
  let v27 : BitVec 32 := v26
  let v100 : Index := Scalar.indexCast v27
  ![128, v100.toNat]
def k0_off23 (i : grid0.Coords) : Fin 2 → Nat :=
  let c256_40 : Index := 256#32
  let arg2 : BitVec 32 := BitVec.ofNat 32 (i 2).val
  let c512_i32 : BitVec 32 := 512#32
  let v26 : BitVec 32 := Scalar.muli arg2 c512_i32
  let v27 : BitVec 32 := v26
  let v104 : Index := Scalar.indexCast v27
  ![256, v104.toNat]
def k0_off24 (i : grid0.Coords) : Fin 2 → Nat :=
  let c384 : Index := 384#32
  let arg2 : BitVec 32 := BitVec.ofNat 32 (i 2).val
  let c512_i32 : BitVec 32 := 512#32
  let v26 : BitVec 32 := Scalar.muli arg2 c512_i32
  let v27 : BitVec 32 := v26
  let v108 : Index := Scalar.indexCast v27
  ![384, v108.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FlashReferenceIdeal.lean ====
abbrev S32768x2048 : Shape := ⟨2, ![32768, 2048]⟩
abbrev S1024x32768 : Shape := ⟨2, ![1024, 32768]⟩
abbrev S8x4096x8x256 : Shape := ⟨4, ![8, 4096, 8, 256]⟩
abbrev S8x128x8x4096 : Shape := ⟨4, ![8, 128, 8, 4096]⟩
abbrev S8x8x4096x4096 : Shape := ⟨4, ![8, 8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S8x4096x8x128 : Shape := ⟨4, ![8, 4096, 8, 128]⟩
abbrev S32768x1024 : Shape := ⟨2, ![32768, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S1024x32768, .bf16⟩
  | .hbm, ⟨3, _⟩ => ⟨S32768x2048, .f32⟩
  | .hbm, ⟨4, _⟩ => ⟨S8x4096x8x256, .f32⟩
  | .hbm, ⟨5, _⟩ => ⟨S32768x2048, .f32⟩
  | .hbm, ⟨6, _⟩ => ⟨S8x4096x8x256, .f32⟩
  | .hbm, ⟨7, _⟩ => ⟨S1024x32768, .f32⟩
  | .hbm, ⟨8, _⟩ => ⟨S8x128x8x4096, .f32⟩
  | .hbm, ⟨9, _⟩ => ⟨S8x8x4096x4096, .f32⟩
  | .hbm, ⟨10, _⟩ => ⟨S4096, .i32⟩
  | .hbm, ⟨11, _⟩ => ⟨S4096x1, .i32⟩
  | .hbm, ⟨12, _⟩ => ⟨S4096, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S8x8x4096x4096, .i1⟩
  | .hbm, ⟨20, _⟩ => ⟨S8x8x4096x4096, .f32⟩
  | .hbm, ⟨21, _⟩ => ⟨S8x8x4096x4096, .f32⟩
  | .hbm, ⟨22, _⟩ => ⟨S_, .f32⟩
  | .hbm, ⟨23, _⟩ => ⟨S8x8x4096x4096, .f32⟩
  | .hbm, ⟨24, _⟩ => ⟨S_, .f32⟩
  | .hbm, ⟨25, _⟩ => ⟨S8x8x4096, .f32⟩
  | .hbm, ⟨26, _⟩ => ⟨S8x8x4096x1, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S_, .f32⟩
  | .hbm, ⟨31, _⟩ => ⟨S8x8x4096, .f32⟩
  | .hbm, ⟨32, _⟩ => ⟨S8x8x4096x1, .f32⟩
  | .hbm, ⟨33, _⟩ => ⟨S8x8x4096x4096, .f32⟩
  | .hbm, ⟨34, _⟩ => ⟨S8x8x4096x4096, .f32⟩
  | .hbm, ⟨35, _⟩ => ⟨S8x8x128x4096, .f32⟩
  | .hbm, ⟨36, _⟩ => ⟨S8x4096x8x128, .f32⟩
  | .hbm, ⟨37, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.S5Rules.lean ====
/-
  Rules for running the S5 kernel's body one memory operation at a time, stated of memrefs owned at contents that meet
  a predicate (`ownsSat`): a load continues at what the contents hold under the rectangle, a store takes the predicate
  to any predicate that holds of contents which are the stored values inside the rectangle and the old ones outside it.
-/
module

public import proofs.«01_k».proof.Proof.Gen.KernelIdeal
public import proofs.«01_k».proof.Proof.Gen.KernelIdeal.Launch
public import Idealize.ShloMosaic.Lib.MemrefSat
public import Idealize.ShloMosaic.Lib.Pipeline.FrameBody
public import Idealize.ShloMosaic.Lib.Tactic

@[expose] public section

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The weakest precondition of a piece of the kernel's body on core `c`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- What a load of the rectangle `r` gives of the contents `X`. -/
def rd {s : Shape} {α : Type} (X : s.Idx → α) (r : LoadRect s) : r.shape.Idx → α := fun x => X (r.idx x)

variable (c : Dev nD)

/-- A program run after another: the second is what the first's postcondition asks for. -/
theorem wp_seq {R : sProp 𝕄} {α β : Type} {p : Prog (TpuEff nD τ sig (Elt F) Λ₀ .tc) α}
    {k : α → Prog (TpuEff nD τ sig (Elt F) Λ₀ .tc) β} {Q : β → sProp 𝕄}
    (h : R ⊢ WP c p fun v => WP c (k v) Q) : R ⊢ WP c (p >>= k) Q := by
  unfold WP; rw [wp_bind]; exact h

/-- A finished program meets its postcondition. -/
theorem wp_done {R : sProp 𝕄} {α : Type} {a : α} {Q : α → sProp 𝕄} (h : R ⊢ Q a) :
    R ⊢ WP c (pure a) Q := by
  unfold WP
  rw [wp_pure]
  exact h.trans fupd_intro

section

variable {sp : CoreSpace} {sh : Shape} {e : EltTy} {M : Memref sig .tc sp sh e}

/-- A load of contents that meet a predicate: the program goes on at what it reads, the contents known to it. -/
theorem wp_load_sat {R : sProp 𝕄} {Φ : (sh.Idx → Elt F e) → Prop} {α : Type} {r : LoadRect sh} {hl : M.view.LoadsAt r}
    {k : (r.shape.Idx → Elt F e) → Prog (TpuEff nD τ sig (Elt F) Λ₀ .tc) α} {Q : α → sProp 𝕄}
    (h : ∀ X, Φ X → iprop(owns (c : Thread nD τ) M fullShare X ∗ R) ⊢ WP c (k (rd X r)) Q) :
    iprop(ownsSat (c : Thread nD τ) M fullShare Φ ∗ R) ⊢ WP c (Prog.lift (.load M r hl) >>= k) Q := by
  rw [Prog.bind_lift]
  unfold ownsSat
  iintro ⟨⟨%f, %hf, H⟩, HR⟩
  iapply (wp_load Variants.none (c : Thread nD τ) none Set.univ (m := M) (r := r) (hl := hl) (k := k)
    (S := M.view.set) (q := fullShare) (f := f) (by
      unfold View.set; exact Finset.map_subset_map.mpr (Finset.subset_univ _))) $$ H
  iintro H
  iapply (h (M.view.read (Elt F) f) hf)
  isplitl [H]
  · iapply (owns_intro (c : Thread nD τ) M fullShare f); iexact H
  · iexact HR

/-- A store into contents that meet `Φ` leaves contents that meet `Ψ`, if `Ψ` holds whenever the values stored are
    found in the rectangle and what was there outside it. -/
theorem wp_store_sat {R : sProp 𝕄} {Φ Ψ : (sh.Idx → Elt F e) → Prop} {α : Type} {r : Rect sh} {w : r.shape.Idx → Elt F e}
    {hx : (M.access r).Stores Finset.univ} {hm : Finset.univ = Finset.univ ∨ ∀ a, r.stride a = 1}
    {k : PUnit → Prog (TpuEff nD τ sig (Elt F) Λ₀ .tc) α} {Q : α → sProp 𝕄}
    (hΨ : ∀ X Y, Φ X → (∀ x, Y (r.emb x) = w x) → (∀ j, j ∉ r.set → Y j = X j) → Ψ Y)
    (h : iprop(ownsSat (c : Thread nD τ) M fullShare Ψ ∗ R) ⊢ WP c (k ⟨⟩) Q) :
    iprop(ownsSat (c : Thread nD τ) M fullShare Φ ∗ R) ⊢ WP c (Prog.lift (.store M r w Finset.univ hx hm) >>= k) Q := by
  rw [Prog.bind_lift]
  refine BIBase.Entails.trans ?_ (show iprop((ownsSat (c : Thread nD τ) M fullShare Φ ∗ (ownsSat (c : Thread nD τ) M fullShare Ψ -∗ WP c (k ⟨⟩) Q))) ⊢ _ from ?_)
  · iintro ⟨H, HR⟩
    isplitl [H]; · iexact H
    iintro H
    iapply h
    isplitl [H]; · iexact H
    iexact HR
  unfold ownsSat
  iintro ⟨⟨%f, %hf, H⟩, HR⟩
  iapply (wp_store Variants.none (c : Thread nD τ) none Set.univ (m := M) (r := r) (w := w) (Mk := Finset.univ) (hx := hx) (hm := hm)
    (k := k) (S := M.view.set) (f := f) (by
      rw [View.setOn_univ]; exact View.set_slice_subset _ _)) $$ H
  iintro H
  iapply HR
  iexists ((M.access r).write (Elt F) f w Finset.univ)
  isplitr
  · ipureintro
    refine hΨ _ _ hf (fun x => View.read_slice_write_emb r f w (Finset.mem_univ x)) (fun j hj => ?_)
    exact View.read_slice_write_of_not_mem r f w Finset.univ (by rw [Rect.map_emb_univ]; exact hj)
  · iexact H

end

end Cert.Proof.S5

end
-- ==== Proof.S5Fill.lean ====
/-
  The S5 kernel's fill of its three scratch operands. At the first block of a slab the kernel writes zeros and then
  copies the small blocks of the operands `tz`, `gm` and `cc` to their places in the block-diagonal-by-group matrices
  it multiplies by. The copies go through the groups `g`, in a group through the row blocks `a`, in a row block through
  the column blocks `b ≥ a` of `tz` and the halves `c` of `gm` and `cc`. How far the fill has come is one number for
  each of the three, and what the scratch holds then is a predicate of that number: `P8`, `P9`, `P10`.
-/
module

public import Idealize.ShloMosaic.Lib.Pipeline.Value
public import proofs.«01_k».proof.Proof.S5Rules

@[expose] public section

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The zero the scratch is filled with. -/
def Z : F .bf16 := Scalar.ofBits .bf16 0x0000#16

/-- The element of row `r`, column `q` of `tzd` lies in a block the fill copies: the same group, the column block not
    before the row block. -/
def ok8 (r q : ℕ) : Prop := r / 16 % 8 = q / 16 % 8 ∧ r / 128 ≤ q / 128
/-- The place of that block in the fill's order. -/
def code8 (r q : ℕ) : ℕ := r / 16 % 8 * 256 + r / 128 * 16 + q / 128
/-- The element of `gmd` lies in a block the fill copies: the row's group is the column's. -/
def ok9 (r q : ℕ) : Prop := r / 16 % 8 = q / 64 % 8
/-- The place of that block in the fill's order. -/
def code9 (r q : ℕ) : ℕ := r / 16 % 8 * 32 + r / 128 * 2 + q / 512
/-- A block is there in the order of `tzd`'s copies. -/
def real8 (m : ℕ) : Bool := decide (m / 16 % 16 ≤ m % 16)

instance (r q : ℕ) : Decidable (ok8 r q) := inferInstanceAs (Decidable (_ ∧ _))
instance (r q : ℕ) : Decidable (ok9 r q) := inferInstanceAs (Decidable (_ = _))

/-- `tzd` when the copies before the `n`-th place are done. -/
def P8 (x3 : S8x256x256.Idx → F .bf16) (n : ℕ) (X : S2048x2048.Idx → F .bf16) : Prop :=
  ∀ i, ((ok8 (i 0) (i 1) ∧ code8 (i 0) (i 1) < n) → ∀ j : S8x256x256.Idx, (j 0).val = (i 0).val / 16 % 8 →
      (j 1).val = (i 0).val / 128 * 16 + (i 0).val % 16 → (j 2).val = (i 1).val / 128 * 16 + (i 1).val % 16 → X i = x3 j) ∧
    (¬ (ok8 (i 0) (i 1) ∧ code8 (i 0) (i 1) < n) → X i = Z)

/-- `gmd` when the copies before the `n`-th place are done. -/
def P9 (x4 : S8x256x128.Idx → F .bf16) (n : ℕ) (X : S2048x1024.Idx → F .bf16) : Prop :=
  ∀ i, ((ok9 (i 0) (i 1) ∧ code9 (i 0) (i 1) < n) → ∀ j : S8x256x128.Idx, (j 0).val = (i 0).val / 16 % 8 →
      (j 1).val = (i 0).val / 128 * 16 + (i 0).val % 16 → (j 2).val = (i 1).val / 512 * 64 + (i 1).val % 64 → X i = x4 j) ∧
    (¬ (ok9 (i 0) (i 1) ∧ code9 (i 0) (i 1) < n) → X i = Z)

/-- `ccd` when the copies before the `n`-th place are done. -/
def P10 (x5 : S8x128x256.Idx → F .bf16) (n : ℕ) (X : S1024x2048.Idx → F .bf16) : Prop :=
  ∀ i, ((ok9 (i 1) (i 0) ∧ code9 (i 1) (i 0) < n) → ∀ j : S8x128x256.Idx, (j 0).val = (i 1).val / 16 % 8 →
      (j 1).val = (i 0).val / 512 * 64 + (i 0).val % 64 → (j 2).val = (i 1).val / 128 * 16 + (i 1).val % 16 → X i = x5 j) ∧
    (¬ (ok9 (i 1) (i 0) ∧ code9 (i 1) (i 0) < n) → X i = Z)

/-- The block stored to `tzd` at `off` is the block of `tz` at `o`, and is the next to be copied. -/
def chk8 (n : ℕ) (off : Fin 2 → ℕ) (o : Fin 3 → ℕ) : Bool :=
  decide (off 0 % 16 = 0 ∧ off 1 % 16 = 0 ∧ off 0 / 16 % 8 = off 1 / 16 % 8 ∧ off 0 / 128 ≤ off 1 / 128 ∧
    off 0 < 2048 ∧ off 1 < 2048 ∧
    o 0 = off 0 / 16 % 8 ∧ o 1 = off 0 / 128 * 16 ∧ o 2 = off 1 / 128 * 16 ∧ n ≤ code8 (off 0) (off 1)) &&
  (List.range (code8 (off 0) (off 1) - n)).all fun m => !real8 (n + m)

/-- The block stored to `gmd` at `off` is the block of `gm` at `o`, and is the next to be copied. -/
def chk9 (n : ℕ) (off : Fin 2 → ℕ) (o : Fin 3 → ℕ) : Bool :=
  decide (off 0 % 16 = 0 ∧ off 1 % 64 = 0 ∧ off 0 / 16 % 8 = off 1 / 64 % 8 ∧ off 0 < 2048 ∧ off 1 < 1024 ∧
    o 0 = off 0 / 16 % 8 ∧ o 1 = off 0 / 128 * 16 ∧ o 2 = off 1 / 512 * 64 ∧ n = code9 (off 0) (off 1))

/-- The block stored to `ccd` at `off` is the block of `cc` at `o`, and is the next to be copied. -/
def chk10 (n : ℕ) (off : Fin 2 → ℕ) (o : Fin 3 → ℕ) : Bool :=
  decide (off 1 % 16 = 0 ∧ off 0 % 64 = 0 ∧ off 1 / 16 % 8 = off 0 / 64 % 8 ∧ off 1 < 2048 ∧ off 0 < 1024 ∧
    o 0 = off 1 / 16 % 8 ∧ o 1 = off 0 / 512 * 64 ∧ o 2 = off 1 / 128 * 16 ∧ n = code9 (off 1) (off 0))

/-- The index of two given coordinates. -/
def ix2 {d : Fin 2 → ℕ} (a b : ℕ) (ha : a < d 0) (hb : b < d 1) : (⟨2, d⟩ : Shape).Idx :=
  fun k => match k with
    | 0 => ⟨a, ha⟩
    | 1 => ⟨b, hb⟩

/-- The middle and the low digit of a block's place. -/
theorem digit_mid (g a b : ℕ) (ha : a < 16) (hb : b < 16) : (g * 256 + a * 16 + b) / 16 % 16 = a := by
  have h : (g * 256 + a * 16 + b) / 16 = g * 16 + a := by omega
  omega
theorem digit_low (g a b : ℕ) (hb : b < 16) : (g * 256 + a * 16 + b) % 16 = b := by omega

/-- One copy into `tzd`: the block stored is the next, and the fill is one place further. -/
theorem P8_step (x : S8x256x256.Idx → F .bf16) (n : ℕ) (off : Fin 2 → ℕ) (o : Fin 3 → ℕ)
    (inb : ∀ a, off a + S16x16.size a ≤ S2048x2048.size a) (ino : ∀ a, o a + S1x16x16.size a ≤ S8x256x256.size a)
    (h1 : S1x16x16.ShapeCasts S16x16) (h2 : S16x16.ShapeCasts S16x16)
    (hc : chk8 n off o = true) (X Y : S2048x2048.Idx → F .bf16) (hX : P8 x n X)
    (hY : ∀ y : S16x16.Idx, Y ((Rect.unit (s := S2048x2048) off S16x16.size inb).emb y) =
      shapeCast S16x16 (shapeCast S16x16 (rd x (Rect.unit (s := S8x256x256) o S1x16x16.size ino).toLoadRect) h1) h2 y)
    (hN : ∀ j, j ∉ (Rect.unit (s := S2048x2048) off S16x16.size inb).set → Y j = X j) :
    P8 x (code8 (off 0) (off 1) + 1) Y := by
  intro i
  have hi0 : (i 0).val < 2048 := (i 0).isLt
  have hi1 : (i 1).val < 2048 := (i 1).isLt
  obtain ⟨hc, hc'⟩ := (Bool.and_eq_true _ _).mp hc
  obtain ⟨c1, c2, c3, c4, c5, c6, c7, c8, c9, c10⟩ := of_decide_eq_true hc
  simp only [List.all_eq_true, List.mem_range, real8, Bool.not_eq_true', decide_eq_false_iff_not] at hc'
  have hcode : code8 (off 0) (off 1) = off 0 / 16 % 8 * 256 + off 0 / 128 * 16 + off 1 / 128 := rfl
  rw [hcode] at hc' c10
  by_cases hm : i ∈ (Rect.unit (s := S2048x2048) off S16x16.size inb).set
  · rw [Rect.mem_set_unit] at hm
    have m0 : off 0 ≤ (i 0).val ∧ (i 0).val < off 0 + 16 := hm 0
    have m1 : off 1 ≤ (i 1).val ∧ (i 1).val < off 1 + 16 := hm 1
    have d0 : (i 0).val / 16 = off 0 / 16 := by omega
    have d1 : (i 0).val / 128 = off 0 / 128 := by omega
    have d2 : (i 1).val / 16 = off 1 / 16 := by omega
    have d3 : (i 1).val / 128 = off 1 / 128 := by omega
    have hY' : ∀ j : S8x256x256.Idx, (j 0).val = o 0 → (j 1).val = o 1 + ((i 0).val - off 0) → (j 2).val = o 2 + ((i 1).val - off 1) →
        Y i = x j := by
      intro j j0 j1 j2
      have e : i = (Rect.unit (s := S2048x2048) off S16x16.size inb).emb
          (ix2 (d := ![16, 16]) ((i 0).val - off 0) ((i 1).val - off 1) (show _ < 16 by omega) (show _ < 16 by omega)) := by
        funext a
        apply Fin.ext
        rw [Rect.emb_apply]
        match a with
        | 0 => show (i 0).val = off 0 + 1 * ((i 0).val - off 0); omega
        | 1 => show (i 1).val = off 1 + 1 * ((i 1).val - off 1); omega
      rw [e, hY, shapeCast_self, shapeCast_dropUnit_apply]
      refine congrArg x (funext fun a => Fin.ext ?_)
      match a with
      | 0 => show o 0 + 1 * 0 = (j 0).val; omega
      | 1 => show o 1 + 1 * ((i 0).val - off 0) = (j 1).val; omega
      | 2 => show o 2 + 1 * ((i 1).val - off 1) = (j 2).val; omega
    refine ⟨fun _ j j0 j1 j2 => hY' j ?_ ?_ ?_, fun hno => absurd ?_ hno⟩
    · omega
    · omega
    · omega
    · unfold ok8 code8; rw [d0, d1, d2, d3]; exact ⟨⟨by omega, by omega⟩, by omega⟩
  · have hout := hN i hm
    rw [Rect.mem_set_unit] at hm
    have hm' : ¬ ((off 0 ≤ (i 0).val ∧ (i 0).val < off 0 + 16) ∧ (off 1 ≤ (i 1).val ∧ (i 1).val < off 1 + 16)) := fun h => hm fun a => by
      match a with
      | 0 => exact h.1
      | 1 => exact h.2
    rw [hout]
    have key : (ok8 (i 0) (i 1) ∧ code8 (i 0) (i 1) < code8 (off 0) (off 1) + 1) ↔ (ok8 (i 0) (i 1) ∧ code8 (i 0) (i 1) < n) := by
      unfold ok8 code8
      constructor
      · rintro ⟨⟨e1, e2⟩, e3⟩
        refine ⟨⟨e1, e2⟩, ?_⟩
        by_contra hlt
        have l1 : (i 0).val / 128 < 16 := by omega
        have l2 : (i 1).val / 128 < 16 := by omega
        have l3 : off 0 / 128 < 16 := by omega
        have l4 : off 1 / 128 < 16 := by omega
        rcases Nat.lt_or_ge ((i 0).val / 16 % 8 * 256 + (i 0).val / 128 * 16 + (i 1).val / 128)
          (off 0 / 16 % 8 * 256 + off 0 / 128 * 16 + off 1 / 128) with hl | hl
        · have := hc' ((i 0).val / 16 % 8 * 256 + (i 0).val / 128 * 16 + (i 1).val / 128 - n) (by omega)
          rw [Nat.add_sub_cancel' (by omega)] at this
          have q1 : ((i 0).val / 16 % 8 * 256 + (i 0).val / 128 * 16 + (i 1).val / 128) / 16 % 16 = (i 0).val / 128 := digit_mid _ _ _ l1 l2
          have q2 : ((i 0).val / 16 % 8 * 256 + (i 0).val / 128 * 16 + (i 1).val / 128) % 16 = (i 1).val / 128 := digit_low _ _ _ l2
          omega
        · have q0 : (i 0).val / 16 % 8 * 256 + (i 0).val / 128 * 16 + (i 1).val / 128 =
            off 0 / 16 % 8 * 256 + off 0 / 128 * 16 + off 1 / 128 := by omega
          have q1 : (i 0).val / 16 % 8 = off 0 / 16 % 8 := by omega
          have q2 : (i 0).val / 128 = off 0 / 128 := by omega
          have q3 : (i 1).val / 128 = off 1 / 128 := by omega
          omega
      · rintro ⟨⟨e1, e2⟩, e3⟩
        exact ⟨⟨e1, e2⟩, by omega⟩
    rw [key]
    exact hX i

/-- One copy into `gmd`: the block stored is the next, and the fill is one place further. -/
theorem P9_step (x : S8x256x128.Idx → F .bf16) (n : ℕ) (off : Fin 2 → ℕ) (o : Fin 3 → ℕ)
    (inb : ∀ a, off a + S16x64.size a ≤ S2048x1024.size a) (ino : ∀ a, o a + S1x16x64.size a ≤ S8x256x128.size a)
    (h1 : S1x16x64.ShapeCasts S16x64) (h2 : S16x64.ShapeCasts S16x64)
    (hc : chk9 n off o = true) (X Y : S2048x1024.Idx → F .bf16) (hX : P9 x n X)
    (hY : ∀ y : S16x64.Idx, Y ((Rect.unit (s := S2048x1024) off S16x64.size inb).emb y) =
      shapeCast S16x64 (shapeCast S16x64 (rd x (Rect.unit (s := S8x256x128) o S1x16x64.size ino).toLoadRect) h1) h2 y)
    (hN : ∀ j, j ∉ (Rect.unit (s := S2048x1024) off S16x64.size inb).set → Y j = X j) :
    P9 x (code9 (off 0) (off 1) + 1) Y := by
  intro i
  have hi0 : (i 0).val < 2048 := (i 0).isLt
  have hi1 : (i 1).val < 1024 := (i 1).isLt
  obtain ⟨c1, c2, c3, c5, c6, c7, c8, c9, c10⟩ := of_decide_eq_true hc
  have hcode : code9 (off 0) (off 1) = off 0 / 16 % 8 * 32 + off 0 / 128 * 2 + off 1 / 512 := rfl
  rw [hcode] at c10
  by_cases hm : i ∈ (Rect.unit (s := S2048x1024) off S16x64.size inb).set
  · rw [Rect.mem_set_unit] at hm
    have m0 : off 0 ≤ (i 0).val ∧ (i 0).val < off 0 + 16 := hm 0
    have m1 : off 1 ≤ (i 1).val ∧ (i 1).val < off 1 + 64 := hm 1
    have d0 : (i 0).val / 16 = off 0 / 16 := by omega
    have d1 : (i 0).val / 128 = off 0 / 128 := by omega
    have d2 : (i 1).val / 64 = off 1 / 64 := by omega
    have d3 : (i 1).val / 512 = off 1 / 512 := by omega
    have hY' : ∀ j : S8x256x128.Idx, (j 0).val = o 0 → (j 1).val = o 1 + ((i 0).val - off 0) → (j 2).val = o 2 + ((i 1).val - off 1) →
        Y i = x j := by
      intro j j0 j1 j2
      have e : i = (Rect.unit (s := S2048x1024) off S16x64.size inb).emb
          (ix2 (d := ![16, 64]) ((i 0).val - off 0) ((i 1).val - off 1) (show _ < 16 by omega) (show _ < 64 by omega)) := by
        funext a
        apply Fin.ext
        rw [Rect.emb_apply]
        match a with
        | 0 => show (i 0).val = off 0 + 1 * ((i 0).val - off 0); omega
        | 1 => show (i 1).val = off 1 + 1 * ((i 1).val - off 1); omega
      rw [e, hY, shapeCast_self, shapeCast_dropUnit_apply]
      refine congrArg x (funext fun a => Fin.ext ?_)
      match a with
      | 0 => show o 0 + 1 * 0 = (j 0).val; omega
      | 1 => show o 1 + 1 * ((i 0).val - off 0) = (j 1).val; omega
      | 2 => show o 2 + 1 * ((i 1).val - off 1) = (j 2).val; omega
    refine ⟨fun _ j j0 j1 j2 => hY' j ?_ ?_ ?_, fun hno => absurd ?_ hno⟩
    · omega
    · omega
    · omega
    · unfold ok9 code9; rw [d0, d1, d2, d3]; exact ⟨by omega, by omega⟩
  · have hout := hN i hm
    rw [Rect.mem_set_unit] at hm
    have hm' : ¬ ((off 0 ≤ (i 0).val ∧ (i 0).val < off 0 + 16) ∧ (off 1 ≤ (i 1).val ∧ (i 1).val < off 1 + 64)) := fun h => hm fun a => by
      match a with
      | 0 => exact h.1
      | 1 => exact h.2
    rw [hout]
    have key : (ok9 (i 0) (i 1) ∧ code9 (i 0) (i 1) < code9 (off 0) (off 1) + 1) ↔ (ok9 (i 0) (i 1) ∧ code9 (i 0) (i 1) < n) := by
      unfold ok9 code9
      constructor
      · rintro ⟨e1, e3⟩
        refine ⟨e1, ?_⟩
        by_contra hlt
        have l1 : (i 0).val / 128 < 16 := by omega
        have l2 : (i 1).val / 512 < 2 := by omega
        have l3 : off 0 / 128 < 16 := by omega
        have l4 : off 1 / 512 < 2 := by omega
        have q0 : (i 0).val / 16 % 8 * 32 + (i 0).val / 128 * 2 + (i 1).val / 512 = off 0 / 16 % 8 * 32 + off 0 / 128 * 2 + off 1 / 512 := by omega
        have q1 : (i 0).val / 16 % 8 = off 0 / 16 % 8 := by omega
        have q2 : (i 0).val / 128 = off 0 / 128 := by omega
        have q3 : (i 1).val / 512 = off 1 / 512 := by omega
        omega
      · rintro ⟨e1, e3⟩
        exact ⟨e1, by omega⟩
    rw [key]
    exact hX i

/-- One copy into `ccd`: the block stored is the next, and the fill is one place further. -/
theorem P10_step (x : S8x128x256.Idx → F .bf16) (n : ℕ) (off : Fin 2 → ℕ) (o : Fin 3 → ℕ)
    (inb : ∀ a, off a + S64x16.size a ≤ S1024x2048.size a) (ino : ∀ a, o a + S1x64x16.size a ≤ S8x128x256.size a)
    (h1 : S1x64x16.ShapeCasts S64x16) (h2 : S64x16.ShapeCasts S64x16)
    (hc : chk10 n off o = true) (X Y : S1024x2048.Idx → F .bf16) (hX : P10 x n X)
    (hY : ∀ y : S64x16.Idx, Y ((Rect.unit (s := S1024x2048) off S64x16.size inb).emb y) =
      shapeCast S64x16 (shapeCast S64x16 (rd x (Rect.unit (s := S8x128x256) o S1x64x16.size ino).toLoadRect) h1) h2 y)
    (hN : ∀ j, j ∉ (Rect.unit (s := S1024x2048) off S64x16.size inb).set → Y j = X j) :
    P10 x (code9 (off 1) (off 0) + 1) Y := by
  intro i
  have hi0 : (i 0).val < 1024 := (i 0).isLt
  have hi1 : (i 1).val < 2048 := (i 1).isLt
  obtain ⟨c1, c2, c3, c5, c6, c7, c8, c9, c10⟩ := of_decide_eq_true hc
  have hcode : code9 (off 1) (off 0) = off 1 / 16 % 8 * 32 + off 1 / 128 * 2 + off 0 / 512 := rfl
  rw [hcode] at c10
  by_cases hm : i ∈ (Rect.unit (s := S1024x2048) off S64x16.size inb).set
  · rw [Rect.mem_set_unit] at hm
    have m0 : off 0 ≤ (i 0).val ∧ (i 0).val < off 0 + 64 := hm 0
    have m1 : off 1 ≤ (i 1).val ∧ (i 1).val < off 1 + 16 := hm 1
    have d0 : (i 0).val / 64 = off 0 / 64 := by omega
    have d1 : (i 0).val / 512 = off 0 / 512 := by omega
    have d2 : (i 1).val / 16 = off 1 / 16 := by omega
    have d3 : (i 1).val / 128 = off 1 / 128 := by omega
    have hY' : ∀ j : S8x128x256.Idx, (j 0).val = o 0 → (j 1).val = o 1 + ((i 0).val - off 0) → (j 2).val = o 2 + ((i 1).val - off 1) →
        Y i = x j := by
      intro j j0 j1 j2
      have e : i = (Rect.unit (s := S1024x2048) off S64x16.size inb).emb
          (ix2 (d := ![64, 16]) ((i 0).val - off 0) ((i 1).val - off 1) (show _ < 64 by omega) (show _ < 16 by omega)) := by
        funext a
        apply Fin.ext
        rw [Rect.emb_apply]
        match a with
        | 0 => show (i 0).val = off 0 + 1 * ((i 0).val - off 0); omega
        | 1 => show (i 1).val = off 1 + 1 * ((i 1).val - off 1); omega
      rw [e, hY, shapeCast_self, shapeCast_dropUnit_apply]
      refine congrArg x (funext fun a => Fin.ext ?_)
      match a with
      | 0 => show o 0 + 1 * 0 = (j 0).val; omega
      | 1 => show o 1 + 1 * ((i 0).val - off 0) = (j 1).val; omega
      | 2 => show o 2 + 1 * ((i 1).val - off 1) = (j 2).val; omega
    refine ⟨fun _ j j0 j1 j2 => hY' j ?_ ?_ ?_, fun hno => absurd ?_ hno⟩
    · omega
    · omega
    · omega
    · unfold ok9 code9; rw [d0, d1, d2, d3]; exact ⟨by omega, by omega⟩
  · have hout := hN i hm
    rw [Rect.mem_set_unit] at hm
    have hm' : ¬ ((off 0 ≤ (i 0).val ∧ (i 0).val < off 0 + 64) ∧ (off 1 ≤ (i 1).val ∧ (i 1).val < off 1 + 16)) := fun h => hm fun a => by
      match a with
      | 0 => exact h.1
      | 1 => exact h.2
    rw [hout]
    have key : (ok9 (i 1) (i 0) ∧ code9 (i 1) (i 0) < code9 (off 1) (off 0) + 1) ↔ (ok9 (i 1) (i 0) ∧ code9 (i 1) (i 0) < n) := by
      unfold ok9 code9
      constructor
      · rintro ⟨e1, e3⟩
        refine ⟨e1, ?_⟩
        by_contra hlt
        have l1 : (i 1).val / 128 < 16 := by omega
        have l2 : (i 0).val / 512 < 2 := by omega
        have l3 : off 1 / 128 < 16 := by omega
        have l4 : off 0 / 512 < 2 := by omega
        have q0 : (i 1).val / 16 % 8 * 32 + (i 1).val / 128 * 2 + (i 0).val / 512 = off 1 / 16 % 8 * 32 + off 1 / 128 * 2 + off 0 / 512 := by omega
        have q1 : (i 1).val / 16 % 8 = off 1 / 16 % 8 := by omega
        have q2 : (i 1).val / 128 = off 1 / 128 := by omega
        have q3 : (i 0).val / 512 = off 0 / 512 := by omega
        omega
      · rintro ⟨e1, e3⟩
        exact ⟨e1, by omega⟩
    rw [key]
    exact hX i

/-- The zeros every scratch operand is first filled with are the fill before its first copy. -/
theorem P8_zero (x : S8x256x256.Idx → F .bf16) : P8 x 0 (fun _ => Z) :=
  fun _ => ⟨fun h => absurd h.2 (Nat.not_lt_zero _), fun _ => rfl⟩
theorem P9_zero (x : S8x256x128.Idx → F .bf16) : P9 x 0 (fun _ => Z) :=
  fun _ => ⟨fun h => absurd h.2 (Nat.not_lt_zero _), fun _ => rfl⟩
theorem P10_zero (x : S8x128x256.Idx → F .bf16) : P10 x 0 (fun _ => Z) :=
  fun _ => ⟨fun h => absurd h.2 (Nat.not_lt_zero _), fun _ => rfl⟩

section

variable (c : Dev nD) {M3 : Memref sig .tc .vmem S8x256x256 .bf16} {M4 : Memref sig .tc .vmem S8x256x128 .bf16}
  {M5 : Memref sig .tc .vmem S8x128x256 .bf16} {M8 : Memref sig .tc .vmem S2048x2048 .bf16}
  {M9 : Memref sig .tc .vmem S2048x1024 .bf16} {M10 : Memref sig .tc .vmem S1024x2048 .bf16}
  {x3 : S8x256x256.Idx → F .bf16} {x4 : S8x256x128.Idx → F .bf16} {x5 : S8x128x256.Idx → F .bf16} {n8 n9 n10 : ℕ}

/-- The operands, scratch whose contents meet three predicates, and the rest `R`. -/
def InvG (M3 : Memref sig .tc .vmem S8x256x256 .bf16) (M4 : Memref sig .tc .vmem S8x256x128 .bf16)
    (M5 : Memref sig .tc .vmem S8x128x256 .bf16) (M8 : Memref sig .tc .vmem S2048x2048 .bf16)
    (M9 : Memref sig .tc .vmem S2048x1024 .bf16) (M10 : Memref sig .tc .vmem S1024x2048 .bf16)
    (x3 : S8x256x256.Idx → F .bf16) (x4 : S8x256x128.Idx → F .bf16) (x5 : S8x128x256.Idx → F .bf16)
    (Φ8 : (S2048x2048.Idx → Elt F .bf16) → Prop) (Φ9 : (S2048x1024.Idx → Elt F .bf16) → Prop)
    (Φ10 : (S1024x2048.Idx → Elt F .bf16) → Prop) (R : sProp 𝕄) : sProp 𝕄 :=
  iprop(owns (c : Thread nD τ) M3 fullShare x3 ∗ owns (c : Thread nD τ) M4 fullShare x4 ∗ owns (c : Thread nD τ) M5 fullShare x5 ∗
    ownsSat (c : Thread nD τ) M8 fullShare Φ8 ∗ ownsSat (c : Thread nD τ) M9 fullShare Φ9 ∗ ownsSat (c : Thread nD τ) M10 fullShare Φ10 ∗ R)

/-- The state of the fill: the operands, and the scratch as far as it is filled. -/
abbrev Inv (M3 : Memref sig .tc .vmem S8x256x256 .bf16) (M4 : Memref sig .tc .vmem S8x256x128 .bf16)
    (M5 : Memref sig .tc .vmem S8x128x256 .bf16) (M8 : Memref sig .tc .vmem S2048x2048 .bf16)
    (M9 : Memref sig .tc .vmem S2048x1024 .bf16) (M10 : Memref sig .tc .vmem S1024x2048 .bf16)
    (x3 : S8x256x256.Idx → F .bf16) (x4 : S8x256x128.Idx → F .bf16) (x5 : S8x128x256.Idx → F .bf16) (n8 n9 n10 : ℕ) (R : sProp 𝕄) : sProp 𝕄 :=
  InvG c M3 M4 M5 M8 M9 M10 x3 x4 x5 (P8 x3 n8) (P9 x4 n9) (P10 x5 n10) R

/-- What is owned at contents is owned at contents that meet what they meet. -/
theorem owns_sat {sp : CoreSpace} {sh : Shape} {e : EltTy} {M : Memref sig .tc sp sh e} {X : sh.Idx → Elt F e}
    {Φ : (sh.Idx → Elt F e) → Prop} (h : Φ X) :
    owns (c : Thread nD τ) M fullShare X ⊢ (ownsSat (c : Thread nD τ) M fullShare Φ : sProp 𝕄) := by
  unfold owns ownsSat
  iintro ⟨%f, %hf, H⟩
  iexists f
  isplitr
  · ipureintro; rw [hf]; exact h
  · iexact H

/-- A finished program. -/
theorem Fin' {α : Type} {R : sProp 𝕄} {Q : α → sProp 𝕄} {a : α} (h : R ⊢ Q a) : R ⊢ WP c (.ret a) Q := wp_done c h

/-- A load of an operand gives its elements under the rectangle. -/
theorem L3 {α : Type} {R : sProp 𝕄} {Q : α → sProp 𝕄} {Φ8 : (S2048x2048.Idx → Elt F .bf16) → Prop} {Φ9 : (S2048x1024.Idx → Elt F .bf16) → Prop}
    {Φ10 : (S1024x2048.Idx → Elt F .bf16) → Prop} {r : LoadRect S8x256x256} {hl : M3.view.LoadsAt r}
    {k : (r.shape.Idx → Elt F .bf16) → Prog (TpuEff nD τ sig (Elt F) Λ₀ .tc) α}
    (h : InvG c M3 M4 M5 M8 M9 M10 x3 x4 x5 Φ8 Φ9 Φ10 R ⊢ WP c (k (rd x3 r)) Q) :
    InvG c M3 M4 M5 M8 M9 M10 x3 x4 x5 Φ8 Φ9 Φ10 R ⊢ WP c (.op (.load M3 r hl) k) Q := by
  refine BIBase.Entails.trans ?_ (wp_load_sat c (R := iprop(owns (c : Thread nD τ) M4 fullShare x4 ∗ owns (c : Thread nD τ) M5 fullShare x5 ∗ ownsSat (c : Thread nD τ) M8 fullShare Φ8 ∗ ownsSat (c : Thread nD τ) M9 fullShare Φ9 ∗ ownsSat (c : Thread nD τ) M10 fullShare Φ10 ∗ R)) (Φ := fun X => X = x3) (k := k) (hl := hl) ?_)
  · unfold InvG
    rw [← owns_eq_ownsSat]
  · rintro X rfl
    refine BIBase.Entails.trans ?_ h
    unfold InvG
    iintro ⟨H3, H4, H5, H8, H9, H10, HR⟩
    isplitl [H3]; · iexact H3
    isplitl [H4]; · iexact H4
    isplitl [H5]; · iexact H5
    isplitl [H8]; · iexact H8
    isplitl [H9]; · iexact H9
    isplitl [H10]; · iexact H10
    iexact HR

/-- A load of an operand gives its elements under the rectangle. -/
theorem L4 {α : Type} {R : sProp 𝕄} {Q : α → sProp 𝕄} {Φ8 : (S2048x2048.Idx → Elt F .bf16) → Prop} {Φ9 : (S2048x1024.Idx → Elt F .bf16) → Prop}
    {Φ10 : (S1024x2048.Idx → Elt F .bf16) → Prop} {r : LoadRect S8x256x128} {hl : M4.view.LoadsAt r}
    {k : (r.shape.Idx → Elt F .bf16) → Prog (TpuEff nD τ sig (Elt F) Λ₀ .tc) α}
    (h : InvG c M3 M4 M5 M8 M9 M10 x3 x4 x5 Φ8 Φ9 Φ10 R ⊢ WP c (k (rd x4 r)) Q) :
    InvG c M3 M4 M5 M8 M9 M10 x3 x4 x5 Φ8 Φ9 Φ10 R ⊢ WP c (.op (.load M4 r hl) k) Q := by
  refine BIBase.Entails.trans ?_ (wp_load_sat c (R := iprop(owns (c : Thread nD τ) M3 fullShare x3 ∗ owns (c : Thread nD τ) M5 fullShare x5 ∗ ownsSat (c : Thread nD τ) M8 fullShare Φ8 ∗ ownsSat (c : Thread nD τ) M9 fullShare Φ9 ∗ ownsSat (c : Thread nD τ) M10 fullShare Φ10 ∗ R)) (Φ := fun X => X = x4) (k := k) (hl := hl) ?_)
  · unfold InvG
    rw [← owns_eq_ownsSat]
    iintro ⟨H3, H4, H5, H8, H9, H10, HR⟩
    isplitl [H4]; · iexact H4
    isplitl [H3]; · iexact H3
    isplitl [H5]; · iexact H5
    isplitl [H8]; · iexact H8
    isplitl [H9]; · iexact H9
    isplitl [H10]; · iexact H10
    iexact HR
  · rintro X rfl
    refine BIBase.Entails.trans ?_ h
    unfold InvG
    iintro ⟨H4, H3, H5, H8, H9, H10, HR⟩
    isplitl [H3]; · iexact H3
    isplitl [H4]; · iexact H4
    isplitl [H5]; · iexact H5
    isplitl [H8]; · iexact H8
    isplitl [H9]; · iexact H9
    isplitl [H10]; · iexact H10
    iexact HR

/-- A load of an operand gives its elements under the rectangle. -/
theorem L5 {α : Type} {R : sProp 𝕄} {Q : α → sProp 𝕄} {Φ8 : (S2048x2048.Idx → Elt F .bf16) → Prop} {Φ9 : (S2048x1024.Idx → Elt F .bf16) → Prop}
    {Φ10 : (S1024x2048.Idx → Elt F .bf16) → Prop} {r : LoadRect S8x128x256} {hl : M5.view.LoadsAt r}
    {k : (r.shape.Idx → Elt F .bf16) → Prog (TpuEff nD τ sig (Elt F) Λ₀ .tc) α}
    (h : InvG c M3 M4 M5 M8 M9 M10 x3 x4 x5 Φ8 Φ9 Φ10 R ⊢ WP c (k (rd x5 r)) Q) :
    InvG c M3 M4 M5 M8 M9 M10 x3 x4 x5 Φ8 Φ9 Φ10 R ⊢ WP c (.op (.load M5 r hl) k) Q := by
  refine BIBase.Entails.trans ?_ (wp_load_sat c (R := iprop(owns (c : Thread nD τ) M3 fullShare x3 ∗ owns (c : Thread nD τ) M4 fullShare x4 ∗ ownsSat (c : Thread nD τ) M8 fullShare Φ8 ∗ ownsSat (c : Thread nD τ) M9 fullShare Φ9 ∗ ownsSat (c : Thread nD τ) M10 fullShare Φ10 ∗ R)) (Φ := fun X => X = x5) (k := k) (hl := hl) ?_)
  · unfold InvG
    rw [← owns_eq_ownsSat]
    iintro ⟨H3, H4, H5, H8, H9, H10, HR⟩
    isplitl [H5]; · iexact H5
    isplitl [H3]; · iexact H3
    isplitl [H4]; · iexact H4
    isplitl [H8]; · iexact H8
    isplitl [H9]; · iexact H9
    isplitl [H10]; · iexact H10
    iexact HR
  · rintro X rfl
    refine BIBase.Entails.trans ?_ h
    unfold InvG
    iintro ⟨H5, H3, H4, H8, H9, H10, HR⟩
    isplitl [H3]; · iexact H3
    isplitl [H4]; · iexact H4
    isplitl [H5]; · iexact H5
    isplitl [H8]; · iexact H8
    isplitl [H9]; · iexact H9
    isplitl [H10]; · iexact H10
    iexact HR

/-- A load of the scratch whose value is not used. -/
theorem D8 {α : Type} {R : sProp 𝕄} {Q : α → sProp 𝕄} {Φ8 : (S2048x2048.Idx → Elt F .bf16) → Prop} {Φ9 : (S2048x1024.Idx → Elt F .bf16) → Prop}
    {Φ10 : (S1024x2048.Idx → Elt F .bf16) → Prop} {r : LoadRect S2048x2048} {hl : M8.view.LoadsAt r}
    {k : (r.shape.Idx → Elt F .bf16) → Prog (TpuEff nD τ sig (Elt F) Λ₀ .tc) α}
    (h : ∀ v, InvG c M3 M4 M5 M8 M9 M10 x3 x4 x5 Φ8 Φ9 Φ10 R ⊢ WP c (k v) Q) :
    InvG c M3 M4 M5 M8 M9 M10 x3 x4 x5 Φ8 Φ9 Φ10 R ⊢ WP c (.op (.load M8 r hl) k) Q := by
  refine BIBase.Entails.trans ?_ (wp_load_sat c (R := iprop(owns (c : Thread nD τ) M3 fullShare x3 ∗ owns (c : Thread nD τ) M4 fullShare x4 ∗ owns (c : Thread nD τ) M5 fullShare x5 ∗ ownsSat (c : Thread nD τ) M9 fullShare Φ9 ∗ ownsSat (c : Thread nD τ) M10 fullShare Φ10 ∗ R)) (Φ := Φ8) (k := k) (hl := hl) ?_)
  · unfold InvG
    iintro ⟨H3, H4, H5, H8, H9, H10, HR⟩
    isplitl [H8]; · iexact H8
    isplitl [H3]; · iexact H3
    isplitl [H4]; · iexact H4
    isplitl [H5]; · iexact H5
    isplitl [H9]; · iexact H9
    isplitl [H10]; · iexact H10
    iexact HR
  · intro X hX
    refine BIBase.Entails.trans ?_ (h _)
    unfold InvG
    iintro ⟨H8, H3, H4, H5, H9, H10, HR⟩
    ihave H8 := (owns_sat c hX) $$ H8
    isplitl [H3]; · iexact H3
    isplitl [H4]; · iexact H4
    isplitl [H5]; · iexact H5
    isplitl [H8]; · iexact H8
    isplitl [H9]; · iexact H9
    isplitl [H10]; · iexact H10
    iexact HR

/-- A load of the scratch whose value is not used. -/
theorem D9 {α : Type} {R : sProp 𝕄} {Q : α → sProp 𝕄} {Φ8 : (S2048x2048.Idx → Elt F .bf16) → Prop} {Φ9 : (S2048x1024.Idx → Elt F .bf16) → Prop}
    {Φ10 : (S1024x2048.Idx → Elt F .bf16) → Prop} {r : LoadRect S2048x1024} {hl : M9.view.LoadsAt r}
    {k : (r.shape.Idx → Elt F .bf16) → Prog (TpuEff nD τ sig (Elt F) Λ₀ .tc) α}
    (h : ∀ v, InvG c M3 M4 M5 M8 M9 M10 x3 x4 x5 Φ8 Φ9 Φ10 R ⊢ WP c (k v) Q) :
    InvG c M3 M4 M5 M8 M9 M10 x3 x4 x5 Φ8 Φ9 Φ10 R ⊢ WP c (.op (.load M9 r hl) k) Q := by
  refine BIBase.Entails.trans ?_ (wp_load_sat c (R := iprop(owns (c : Thread nD τ) M3 fullShare x3 ∗ owns (c : Thread nD τ) M4 fullShare x4 ∗ owns (c : Thread nD τ) M5 fullShare x5 ∗ ownsSat (c : Thread nD τ) M8 fullShare Φ8 ∗ ownsSat (c : Thread nD τ) M10 fullShare Φ10 ∗ R)) (Φ := Φ9) (k := k) (hl := hl) ?_)
  · unfold InvG
    iintro ⟨H3, H4, H5, H8, H9, H10, HR⟩
    isplitl [H9]; · iexact H9
    isplitl [H3]; · iexact H3
    isplitl [H4]; · iexact H4
    isplitl [H5]; · iexact H5
    isplitl [H8]; · iexact H8
    isplitl [H10]; · iexact H10
    iexact HR
  · intro X hX
    refine BIBase.Entails.trans ?_ (h _)
    unfold InvG
    iintro ⟨H9, H3, H4, H5, H8, H10, HR⟩
    ihave H9 := (owns_sat c hX) $$ H9
    isplitl [H3]; · iexact H3
    isplitl [H4]; · iexact H4
    isplitl [H5]; · iexact H5
    isplitl [H8]; · iexact H8
    isplitl [H9]; · iexact H9
    isplitl [H10]; · iexact H10
    iexact HR

/-- A load of the scratch whose value is not used. -/
theorem D10 {α : Type} {R : sProp 𝕄} {Q : α → sProp 𝕄} {Φ8 : (S2048x2048.Idx → Elt F .bf16) → Prop} {Φ9 : (S2048x1024.Idx → Elt F .bf16) → Prop}
    {Φ10 : (S1024x2048.Idx → Elt F .bf16) → Prop} {r : LoadRect S1024x2048} {hl : M10.view.LoadsAt r}
    {k : (r.shape.Idx → Elt F .bf16) → Prog (TpuEff nD τ sig (Elt F) Λ₀ .tc) α}
    (h : ∀ v, InvG c M3 M4 M5 M8 M9 M10 x3 x4 x5 Φ8 Φ9 Φ10 R ⊢ WP c (k v) Q) :
    InvG c M3 M4 M5 M8 M9 M10 x3 x4 x5 Φ8 Φ9 Φ10 R ⊢ WP c (.op (.load M10 r hl) k) Q := by
  refine BIBase.Entails.trans ?_ (wp_load_sat c (R := iprop(owns (c : Thread nD τ) M3 fullShare x3 ∗ owns (c : Thread nD τ) M4 fullShare x4 ∗ owns (c : Thread nD τ) M5 fullShare x5 ∗ ownsSat (c : Thread nD τ) M8 fullShare Φ8 ∗ ownsSat (c : Thread nD τ) M9 fullShare Φ9 ∗ R)) (Φ := Φ10) (k := k) (hl := hl) ?_)
  · unfold InvG
    iintro ⟨H3, H4, H5, H8, H9, H10, HR⟩
    isplitl [H10]; · iexact H10
    isplitl [H3]; · iexact H3
    isplitl [H4]; · iexact H4
    isplitl [H5]; · iexact H5
    isplitl [H8]; · iexact H8
    isplitl [H9]; · iexact H9
    iexact HR
  · intro X hX
    refine BIBase.Entails.trans ?_ (h _)
    unfold InvG
    iintro ⟨H10, H3, H4, H5, H8, H9, HR⟩
    ihave H10 := (owns_sat c hX) $$ H10
    isplitl [H3]; · iexact H3
    isplitl [H4]; · iexact H4
    isplitl [H5]; · iexact H5
    isplitl [H8]; · iexact H8
    isplitl [H9]; · iexact H9
    isplitl [H10]; · iexact H10
    iexact HR

/-- The copy that is next. -/
theorem S8 {α : Type} {R : sProp 𝕄} {Q : α → sProp 𝕄} {off : Fin 2 → ℕ} {o : Fin 3 → ℕ} {inb : ∀ a, off a + S16x16.size a ≤ S2048x2048.size a}
    {ino : ∀ a, o a + S1x16x16.size a ≤ S8x256x256.size a} {h1 : S1x16x16.ShapeCasts S16x16} {h2 : S16x16.ShapeCasts S16x16}
    {hx : (M8.access (Rect.unit (s := S2048x2048) off S16x16.size inb)).Stores Finset.univ}
    {hm : Finset.univ = Finset.univ ∨ ∀ a, (Rect.unit (s := S2048x2048) off S16x16.size inb).stride a = 1}
    {k : PUnit → Prog (TpuEff nD τ sig (Elt F) Λ₀ .tc) α} (hc : chk8 n8 off o = true)
    (h : Inv c M3 M4 M5 M8 M9 M10 x3 x4 x5 (code8 (off 0) (off 1) + 1) n9 n10 R ⊢ WP c (k ⟨⟩) Q) :
    Inv c M3 M4 M5 M8 M9 M10 x3 x4 x5 n8 n9 n10 R ⊢ WP c (.op (.store M8 (Rect.unit (s := S2048x2048) off S16x16.size inb)
      (shapeCast S16x16 (shapeCast S16x16 (rd x3 (Rect.unit (s := S8x256x256) o S1x16x16.size ino).toLoadRect) h1) h2)
      Finset.univ hx hm) k) Q := by
  refine BIBase.Entails.trans ?_ (wp_store_sat c (R := iprop(owns (c : Thread nD τ) M3 fullShare x3 ∗ owns (c : Thread nD τ) M4 fullShare x4 ∗ owns (c : Thread nD τ) M5 fullShare x5 ∗ ownsSat (c : Thread nD τ) M9 fullShare (P9 x4 n9) ∗ ownsSat (c : Thread nD τ) M10 fullShare (P10 x5 n10) ∗ R)) (Φ := P8 x3 n8) (Ψ := P8 x3 (code8 (off 0) (off 1) + 1)) (k := k)
    (fun X Y hX hY hN => P8_step x3 n8 off o inb ino h1 h2 hc X Y hX hY hN) ?_)
  · unfold Inv InvG
    iintro ⟨H3, H4, H5, H8, H9, H10, HR⟩
    isplitl [H8]; · iexact H8
    isplitl [H3]; · iexact H3
    isplitl [H4]; · iexact H4
    isplitl [H5]; · iexact H5
    isplitl [H9]; · iexact H9
    isplitl [H10]; · iexact H10
    iexact HR
  · refine BIBase.Entails.trans ?_ h
    unfold Inv InvG
    iintro ⟨H8, H3, H4, H5, H9, H10, HR⟩
    isplitl [H3]; · iexact H3
    isplitl [H4]; · iexact H4
    isplitl [H5]; · iexact H5
    isplitl [H8]; · iexact H8
    isplitl [H9]; · iexact H9
    isplitl [H10]; · iexact H10
    iexact HR

/-- The copy that is next. -/
theorem S9 {α : Type} {R : sProp 𝕄} {Q : α → sProp 𝕄} {off : Fin 2 → ℕ} {o : Fin 3 → ℕ} {inb : ∀ a, off a + S16x64.size a ≤ S2048x1024.size a}
    {ino : ∀ a, o a + S1x16x64.size a ≤ S8x256x128.size a} {h1 : S1x16x64.ShapeCasts S16x64} {h2 : S16x64.ShapeCasts S16x64}
    {hx : (M9.access (Rect.unit (s := S2048x1024) off S16x64.size inb)).Stores Finset.univ}
    {hm : Finset.univ = Finset.univ ∨ ∀ a, (Rect.unit (s := S2048x1024) off S16x64.size inb).stride a = 1}
    {k : PUnit → Prog (TpuEff nD τ sig (Elt F) Λ₀ .tc) α} (hc : chk9 n9 off o = true)
    (h : Inv c M3 M4 M5 M8 M9 M10 x3 x4 x5 n8 (code9 (off 0) (off 1) + 1) n10 R ⊢ WP c (k ⟨⟩) Q) :
    Inv c M3 M4 M5 M8 M9 M10 x3 x4 x5 n8 n9 n10 R ⊢ WP c (.op (.store M9 (Rect.unit (s := S2048x1024) off S16x64.size inb)
      (shapeCast S16x64 (shapeCast S16x64 (rd x4 (Rect.unit (s := S8x256x128) o S1x16x64.size ino).toLoadRect) h1) h2)
      Finset.univ hx hm) k) Q := by
  refine BIBase.Entails.trans ?_ (wp_store_sat c (R := iprop(owns (c : Thread nD τ) M3 fullShare x3 ∗ owns (c : Thread nD τ) M4 fullShare x4 ∗ owns (c : Thread nD τ) M5 fullShare x5 ∗ ownsSat (c : Thread nD τ) M8 fullShare (P8 x3 n8) ∗ ownsSat (c : Thread nD τ) M10 fullShare (P10 x5 n10) ∗ R)) (Φ := P9 x4 n9) (Ψ := P9 x4 (code9 (off 0) (off 1) + 1)) (k := k)
    (fun X Y hX hY hN => P9_step x4 n9 off o inb ino h1 h2 hc X Y hX hY hN) ?_)
  · unfold Inv InvG
    iintro ⟨H3, H4, H5, H8, H9, H10, HR⟩
    isplitl [H9]; · iexact H9
    isplitl [H3]; · iexact H3
    isplitl [H4]; · iexact H4
    isplitl [H5]; · iexact H5
    isplitl [H8]; · iexact H8
    isplitl [H10]; · iexact H10
    iexact HR
  · refine BIBase.Entails.trans ?_ h
    unfold Inv InvG
    iintro ⟨H9, H3, H4, H5, H8, H10, HR⟩
    isplitl [H3]; · iexact H3
    isplitl [H4]; · iexact H4
    isplitl [H5]; · iexact H5
    isplitl [H8]; · iexact H8
    isplitl [H9]; · iexact H9
    isplitl [H10]; · iexact H10
    iexact HR

/-- The copy that is next. -/
theorem S10 {α : Type} {R : sProp 𝕄} {Q : α → sProp 𝕄} {off : Fin 2 → ℕ} {o : Fin 3 → ℕ} {inb : ∀ a, off a + S64x16.size a ≤ S1024x2048.size a}
    {ino : ∀ a, o a + S1x64x16.size a ≤ S8x128x256.size a} {h1 : S1x64x16.ShapeCasts S64x16} {h2 : S64x16.ShapeCasts S64x16}
    {hx : (M10.access (Rect.unit (s := S1024x2048) off S64x16.size inb)).Stores Finset.univ}
    {hm : Finset.univ = Finset.univ ∨ ∀ a, (Rect.unit (s := S1024x2048) off S64x16.size inb).stride a = 1}
    {k : PUnit → Prog (TpuEff nD τ sig (Elt F) Λ₀ .tc) α} (hc : chk10 n10 off o = true)
    (h : Inv c M3 M4 M5 M8 M9 M10 x3 x4 x5 n8 n9 (code9 (off 1) (off 0) + 1) R ⊢ WP c (k ⟨⟩) Q) :
    Inv c M3 M4 M5 M8 M9 M10 x3 x4 x5 n8 n9 n10 R ⊢ WP c (.op (.store M10 (Rect.unit (s := S1024x2048) off S64x16.size inb)
      (shapeCast S64x16 (shapeCast S64x16 (rd x5 (Rect.unit (s := S8x128x256) o S1x64x16.size ino).toLoadRect) h1) h2)
      Finset.univ hx hm) k) Q := by
  refine BIBase.Entails.trans ?_ (wp_store_sat c (R := iprop(owns (c : Thread nD τ) M3 fullShare x3 ∗ owns (c : Thread nD τ) M4 fullShare x4 ∗ owns (c : Thread nD τ) M5 fullShare x5 ∗ ownsSat (c : Thread nD τ) M8 fullShare (P8 x3 n8) ∗ ownsSat (c : Thread nD τ) M9 fullShare (P9 x4 n9) ∗ R)) (Φ := P10 x5 n10) (Ψ := P10 x5 (code9 (off 1) (off 0) + 1)) (k := k)
    (fun X Y hX hY hN => P10_step x5 n10 off o inb ino h1 h2 hc X Y hX hY hN) ?_)
  · unfold Inv InvG
    iintro ⟨H3, H4, H5, H8, H9, H10, HR⟩
    isplitl [H10]; · iexact H10
    isplitl [H3]; · iexact H3
    isplitl [H4]; · iexact H4
    isplitl [H5]; · iexact H5
    isplitl [H8]; · iexact H8
    isplitl [H9]; · iexact H9
    iexact HR
  · refine BIBase.Entails.trans ?_ h
    unfold Inv InvG
    iintro ⟨H10, H3, H4, H5, H8, H9, HR⟩
    isplitl [H3]; · iexact H3
    isplitl [H4]; · iexact H4
    isplitl [H5]; · iexact H5
    isplitl [H8]; · iexact H8
    isplitl [H9]; · iexact H9
    isplitl [H10]; · iexact H10
    iexact HR

/-- Zeros stored over the whole of it. -/
theorem P8_fresh (x : S8x256x256.Idx → F .bf16) (inb : ∀ a, (![0, 0] : Fin 2 → ℕ) a + S2048x2048.size a ≤ S2048x2048.size a)
    (Y : S2048x2048.Idx → F .bf16) (hY : ∀ y : S2048x2048.Idx, Y ((Rect.unit (s := S2048x2048) ![0, 0] S2048x2048.size inb).emb y) = Z) : P8 x 0 Y := by
  have e : Y = fun _ => Z := funext fun i => by
    rw [← hY i]
    refine congrArg Y (funext fun a => Fin.ext ?_)
    rw [Rect.emb_apply]
    match a with
    | 0 => show (i 0).val = 0 + 1 * (i 0).val; omega
    | 1 => show (i 1).val = 0 + 1 * (i 1).val; omega
  rw [e]; exact P8_zero x

/-- The zeros stored over the whole of it. -/
theorem Z8 {α : Type} {R : sProp 𝕄} {Q : α → sProp 𝕄} {Φ8 : (S2048x2048.Idx → Elt F .bf16) → Prop} {Φ9 : (S2048x1024.Idx → Elt F .bf16) → Prop}
    {Φ10 : (S1024x2048.Idx → Elt F .bf16) → Prop} {inb : ∀ a, (![0, 0] : Fin 2 → ℕ) a + S2048x2048.size a ≤ S2048x2048.size a}
    {h2 : S2048x2048.ShapeCasts S2048x2048} {hx : (M8.access (Rect.unit (s := S2048x2048) ![0, 0] S2048x2048.size inb)).Stores Finset.univ}
    {hm : Finset.univ = Finset.univ ∨ ∀ a, (Rect.unit (s := S2048x2048) ![0, 0] S2048x2048.size inb).stride a = 1}
    {k : PUnit → Prog (TpuEff nD τ sig (Elt F) Λ₀ .tc) α}
    (h : InvG c M3 M4 M5 M8 M9 M10 x3 x4 x5 (P8 x3 0) Φ9 Φ10 R ⊢ WP c (k ⟨⟩) Q) :
    InvG c M3 M4 M5 M8 M9 M10 x3 x4 x5 Φ8 Φ9 Φ10 R ⊢ WP c (.op (.store M8 (Rect.unit (s := S2048x2048) ![0, 0] S2048x2048.size inb)
      (shapeCast S2048x2048 (broadcast S2048x2048 (Scalar.ofBits .bf16 0x0000#16)) h2) Finset.univ hx hm) k) Q := by
  refine BIBase.Entails.trans ?_ (wp_store_sat c (R := iprop(owns (c : Thread nD τ) M3 fullShare x3 ∗ owns (c : Thread nD τ) M4 fullShare x4 ∗ owns (c : Thread nD τ) M5 fullShare x5 ∗ ownsSat (c : Thread nD τ) M9 fullShare Φ9 ∗ ownsSat (c : Thread nD τ) M10 fullShare Φ10 ∗ R)) (Φ := Φ8) (Ψ := P8 x3 0) (k := k)
    (fun X Y _ hY _ => P8_fresh x3 inb Y hY) ?_)
  · unfold InvG
    iintro ⟨H3, H4, H5, H8, H9, H10, HR⟩
    isplitl [H8]; · iexact H8
    isplitl [H3]; · iexact H3
    isplitl [H4]; · iexact H4
    isplitl [H5]; · iexact H5
    isplitl [H9]; · iexact H9
    isplitl [H10]; · iexact H10
    iexact HR
  · refine BIBase.Entails.trans ?_ h
    unfold InvG
    iintro ⟨H8, H3, H4, H5, H9, H10, HR⟩
    isplitl [H3]; · iexact H3
    isplitl [H4]; · iexact H4
    isplitl [H5]; · iexact H5
    isplitl [H8]; · iexact H8
    isplitl [H9]; · iexact H9
    isplitl [H10]; · iexact H10
    iexact HR

/-- Zeros stored over the whole of it. -/
theorem P9_fresh (x : S8x256x128.Idx → F .bf16) (inb : ∀ a, (![0, 0] : Fin 2 → ℕ) a + S2048x1024.size a ≤ S2048x1024.size a)
    (Y : S2048x1024.Idx → F .bf16) (hY : ∀ y : S2048x1024.Idx, Y ((Rect.unit (s := S2048x1024) ![0, 0] S2048x1024.size inb).emb y) = Z) : P9 x 0 Y := by
  have e : Y = fun _ => Z := funext fun i => by
    rw [← hY i]
    refine congrArg Y (funext fun a => Fin.ext ?_)
    rw [Rect.emb_apply]
    match a with
    | 0 => show (i 0).val = 0 + 1 * (i 0).val; omega
    | 1 => show (i 1).val = 0 + 1 * (i 1).val; omega
  rw [e]; exact P9_zero x

/-- The zeros stored over the whole of it. -/
theorem Z9 {α : Type} {R : sProp 𝕄} {Q : α → sProp 𝕄} {Φ8 : (S2048x2048.Idx → Elt F .bf16) → Prop} {Φ9 : (S2048x1024.Idx → Elt F .bf16) → Prop}
    {Φ10 : (S1024x2048.Idx → Elt F .bf16) → Prop} {inb : ∀ a, (![0, 0] : Fin 2 → ℕ) a + S2048x1024.size a ≤ S2048x1024.size a}
    {h2 : S2048x1024.ShapeCasts S2048x1024} {hx : (M9.access (Rect.unit (s := S2048x1024) ![0, 0] S2048x1024.size inb)).Stores Finset.univ}
    {hm : Finset.univ = Finset.univ ∨ ∀ a, (Rect.unit (s := S2048x1024) ![0, 0] S2048x1024.size inb).stride a = 1}
    {k : PUnit → Prog (TpuEff nD τ sig (Elt F) Λ₀ .tc) α}
    (h : InvG c M3 M4 M5 M8 M9 M10 x3 x4 x5 Φ8 (P9 x4 0) Φ10 R ⊢ WP c (k ⟨⟩) Q) :
    InvG c M3 M4 M5 M8 M9 M10 x3 x4 x5 Φ8 Φ9 Φ10 R ⊢ WP c (.op (.store M9 (Rect.unit (s := S2048x1024) ![0, 0] S2048x1024.size inb)
      (shapeCast S2048x1024 (broadcast S2048x1024 (Scalar.ofBits .bf16 0x0000#16)) h2) Finset.univ hx hm) k) Q := by
  refine BIBase.Entails.trans ?_ (wp_store_sat c (R := iprop(owns (c : Thread nD τ) M3 fullShare x3 ∗ owns (c : Thread nD τ) M4 fullShare x4 ∗ owns (c : Thread nD τ) M5 fullShare x5 ∗ ownsSat (c : Thread nD τ) M8 fullShare Φ8 ∗ ownsSat (c : Thread nD τ) M10 fullShare Φ10 ∗ R)) (Φ := Φ9) (Ψ := P9 x4 0) (k := k)
    (fun X Y _ hY _ => P9_fresh x4 inb Y hY) ?_)
  · unfold InvG
    iintro ⟨H3, H4, H5, H8, H9, H10, HR⟩
    isplitl [H9]; · iexact H9
    isplitl [H3]; · iexact H3
    isplitl [H4]; · iexact H4
    isplitl [H5]; · iexact H5
    isplitl [H8]; · iexact H8
    isplitl [H10]; · iexact H10
    iexact HR
  · refine BIBase.Entails.trans ?_ h
    unfold InvG
    iintro ⟨H9, H3, H4, H5, H8, H10, HR⟩
    isplitl [H3]; · iexact H3
    isplitl [H4]; · iexact H4
    isplitl [H5]; · iexact H5
    isplitl [H8]; · iexact H8
    isplitl [H9]; · iexact H9
    isplitl [H10]; · iexact H10
    iexact HR

/-- Zeros stored over the whole of it. -/
theorem P10_fresh (x : S8x128x256.Idx → F .bf16) (inb : ∀ a, (![0, 0] : Fin 2 → ℕ) a + S1024x2048.size a ≤ S1024x2048.size a)
    (Y : S1024x2048.Idx → F .bf16) (hY : ∀ y : S1024x2048.Idx, Y ((Rect.unit (s := S1024x2048) ![0, 0] S1024x2048.size inb).emb y) = Z) : P10 x 0 Y := by
  have e : Y = fun _ => Z := funext fun i => by
    rw [← hY i]
    refine congrArg Y (funext fun a => Fin.ext ?_)
    rw [Rect.emb_apply]
    match a with
    | 0 => show (i 0).val = 0 + 1 * (i 0).val; omega
    | 1 => show (i 1).val = 0 + 1 * (i 1).val; omega
  rw [e]; exact P10_zero x

/-- The zeros stored over the whole of it. -/
theorem Z10 {α : Type} {R : sProp 𝕄} {Q : α → sProp 𝕄} {Φ8 : (S2048x2048.Idx → Elt F .bf16) → Prop} {Φ9 : (S2048x1024.Idx → Elt F .bf16) → Prop}
    {Φ10 : (S1024x2048.Idx → Elt F .bf16) → Prop} {inb : ∀ a, (![0, 0] : Fin 2 → ℕ) a + S1024x2048.size a ≤ S1024x2048.size a}
    {h2 : S1024x2048.ShapeCasts S1024x2048} {hx : (M10.access (Rect.unit (s := S1024x2048) ![0, 0] S1024x2048.size inb)).Stores Finset.univ}
    {hm : Finset.univ = Finset.univ ∨ ∀ a, (Rect.unit (s := S1024x2048) ![0, 0] S1024x2048.size inb).stride a = 1}
    {k : PUnit → Prog (TpuEff nD τ sig (Elt F) Λ₀ .tc) α}
    (h : InvG c M3 M4 M5 M8 M9 M10 x3 x4 x5 Φ8 Φ9 (P10 x5 0) R ⊢ WP c (k ⟨⟩) Q) :
    InvG c M3 M4 M5 M8 M9 M10 x3 x4 x5 Φ8 Φ9 Φ10 R ⊢ WP c (.op (.store M10 (Rect.unit (s := S1024x2048) ![0, 0] S1024x2048.size inb)
      (shapeCast S1024x2048 (broadcast S1024x2048 (Scalar.ofBits .bf16 0x0000#16)) h2) Finset.univ hx hm) k) Q := by
  refine BIBase.Entails.trans ?_ (wp_store_sat c (R := iprop(owns (c : Thread nD τ) M3 fullShare x3 ∗ owns (c : Thread nD τ) M4 fullShare x4 ∗ owns (c : Thread nD τ) M5 fullShare x5 ∗ ownsSat (c : Thread nD τ) M8 fullShare Φ8 ∗ ownsSat (c : Thread nD τ) M9 fullShare Φ9 ∗ R)) (Φ := Φ10) (Ψ := P10 x5 0) (k := k)
    (fun X Y _ hY _ => P10_fresh x5 inb Y hY) ?_)
  · unfold InvG
    iintro ⟨H3, H4, H5, H8, H9, H10, HR⟩
    isplitl [H10]; · iexact H10
    isplitl [H3]; · iexact H3
    isplitl [H4]; · iexact H4
    isplitl [H5]; · iexact H5
    isplitl [H8]; · iexact H8
    isplitl [H9]; · iexact H9
    iexact HR
  · refine BIBase.Entails.trans ?_ h
    unfold InvG
    iintro ⟨H10, H3, H4, H5, H8, H9, HR⟩
    isplitl [H3]; · iexact H3
    isplitl [H4]; · iexact H4
    isplitl [H5]; · iexact H5
    isplitl [H8]; · iexact H8
    isplitl [H9]; · iexact H9
    isplitl [H10]; · iexact H10
    iexact HR

/-- An operation at the head of a program. -/
theorem head_op {R : sProp 𝕄} {α β : Type} {e : TpuEff nD τ sig (Elt F) Λ₀ .tc β}
    {k : β → Prog (TpuEff nD τ sig (Elt F) Λ₀ .tc) α} {Q : α → sProp 𝕄} (h : R ⊢ WP c (.op e k) Q) : R ⊢ WP c (.op e k) Q := h

end

end Cert.Proof.S5

end
-- ==== Proof.S5Part1.lean ====
/-
  The S5 kernel's fill, part 1 of 5: the copies the part makes, one rule for each operation.
-/
module

public import proofs.«01_k».proof.Proof.S5Fill

@[expose] public section

set_option maxRecDepth 65536
set_option maxHeartbeats 0

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem fill_294 (c : Dev nD) (i : grid0.Coords) (arg2 : Memref sig .tc .vmem S8192x128 .f32) (harg2 : arg2.IsWhole)
    (arg3 : Memref sig .tc .vmem S8x256x256 .bf16) (harg3 : arg3.IsWhole) (arg4 : Memref sig .tc .vmem S8x256x128 .bf16)
    (harg4 : arg4.IsWhole) (arg5 : Memref sig .tc .vmem S8x128x256 .bf16) (harg5 : arg5.IsWhole)
    (arg6 : Memref sig .tc .vmem S1x16x1024 .f32) (harg6 : arg6.IsWhole) (arg7 : Memref sig .tc .vmem S8192x128 .f32)
    (harg7 : arg7.IsWhole) (arg8 : Memref sig .tc .vmem S2048x2048 .bf16) (harg8 : arg8.IsWhole)
    (arg9 : Memref sig .tc .vmem S2048x1024 .bf16) (harg9 : arg9.IsWhole) (arg10 : Memref sig .tc .vmem S1024x2048 .bf16)
    (harg10 : arg10.IsWhole)
    (x3 : S8x256x256.Idx → F .bf16) (x4 : S8x256x128.Idx → F .bf16) (x5 : S8x128x256.Idx → F .bf16) (Φ8 : (S2048x2048.Idx → Elt F .bf16) → Prop) (Φ9 : (S2048x1024.Idx → Elt F .bf16) → Prop)
    (Φ10 : (S1024x2048.Idx → Elt F .bf16) → Prop)
    (R : sProp 𝕄) (Q : PUnit → sProp 𝕄)
    (h : Inv c arg3 arg4 arg5 arg8 arg9 arg10 x3 x4 x5 381 46 46 R ⊢ Q ⟨⟩) :
    InvG c arg3 arg4 arg5 arg8 arg9 arg10 x3 x4 x5 Φ8 Φ9 Φ10 R ⊢ WP (F := F) c (k0_part294 i arg2 harg2 arg3 harg3 arg4 harg4 arg5 harg5 arg6 harg6 arg7 harg7 arg8 harg8 arg9 harg9 arg10 harg10) Q := by
  refine head_op c ?_; refine D8 c (fun _ => ?_); refine head_op c ?_; refine Z8 c ?_
  refine head_op c ?_; refine D9 c (fun _ => ?_); refine head_op c ?_; refine Z9 c ?_
  refine head_op c ?_; refine D10 c (fun _ => ?_); refine head_op c ?_; refine Z10 c ?_
  repeat (refine head_op c ?_; first
    | with_reducible refine L3 c ?_
    | with_reducible refine D8 c (fun _ => ?_)
    | with_reducible refine S8 c (by decide +kernel) ?_
    | with_reducible refine L4 c ?_
    | with_reducible refine D9 c (fun _ => ?_)
    | with_reducible refine S9 c (by decide +kernel) ?_
    | with_reducible refine L5 c ?_
    | with_reducible refine D10 c (fun _ => ?_)
    | with_reducible refine S10 c (by decide +kernel) ?_)
  exact Fin' c h

end Cert.Proof.S5

end
-- ==== Proof.S5Part2.lean ====
/-
  The S5 kernel's fill, part 2 of 5: the copies the part makes, one rule for each operation.
-/
module

public import proofs.«01_k».proof.Proof.S5Fill

@[expose] public section

set_option maxRecDepth 65536
set_option maxHeartbeats 0

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem fill_295 (c : Dev nD) (i : grid0.Coords) (arg2 : Memref sig .tc .vmem S8192x128 .f32) (harg2 : arg2.IsWhole)
    (arg3 : Memref sig .tc .vmem S8x256x256 .bf16) (harg3 : arg3.IsWhole) (arg4 : Memref sig .tc .vmem S8x256x128 .bf16)
    (harg4 : arg4.IsWhole) (arg5 : Memref sig .tc .vmem S8x128x256 .bf16) (harg5 : arg5.IsWhole)
    (arg6 : Memref sig .tc .vmem S1x16x1024 .f32) (harg6 : arg6.IsWhole) (arg7 : Memref sig .tc .vmem S8192x128 .f32)
    (harg7 : arg7.IsWhole) (arg8 : Memref sig .tc .vmem S2048x2048 .bf16) (harg8 : arg8.IsWhole)
    (arg9 : Memref sig .tc .vmem S2048x1024 .bf16) (harg9 : arg9.IsWhole) (arg10 : Memref sig .tc .vmem S1024x2048 .bf16)
    (harg10 : arg10.IsWhole)
    (x3 : S8x256x256.Idx → F .bf16) (x4 : S8x256x128.Idx → F .bf16) (x5 : S8x128x256.Idx → F .bf16) (ino1 : ∀ a, (![3, 32, 240] : Fin 3 → ℕ) a + S1x16x16.size a ≤ S8x256x256.size a)
    (R : sProp 𝕄) (Q : Vec F S1x16x16 .bf16 → sProp 𝕄)
    (h : Inv c arg3 arg4 arg5 arg8 arg9 arg10 x3 x4 x5 815 100 100 R ⊢ Q (rd x3 (Rect.unit (s := S8x256x256) ![3, 32, 240] S1x16x16.size ino1).toLoadRect)) :
    Inv c arg3 arg4 arg5 arg8 arg9 arg10 x3 x4 x5 381 46 46 R ⊢ WP (F := F) c (k0_part295 i arg2 harg2 arg3 harg3 arg4 harg4 arg5 harg5 arg6 harg6 arg7 harg7 arg8 harg8 arg9 harg9 arg10 harg10) Q := by
  repeat (refine head_op c ?_; first
    | with_reducible refine L3 c ?_
    | with_reducible refine D8 c (fun _ => ?_)
    | with_reducible refine S8 c (by decide +kernel) ?_
    | with_reducible refine L4 c ?_
    | with_reducible refine D9 c (fun _ => ?_)
    | with_reducible refine S9 c (by decide +kernel) ?_
    | with_reducible refine L5 c ?_
    | with_reducible refine D10 c (fun _ => ?_)
    | with_reducible refine S10 c (by decide +kernel) ?_)
  exact Fin' c h

end Cert.Proof.S5

end
-- ==== Proof.S5Part3.lean ====
/-
  The S5 kernel's fill, part 3 of 5: the copies the part makes, one rule for each operation.
-/
module

public import proofs.«01_k».proof.Proof.S5Fill

@[expose] public section

set_option maxRecDepth 65536
set_option maxHeartbeats 0

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem fill_296 (c : Dev nD) (i : grid0.Coords) (arg2 : Memref sig .tc .vmem S8192x128 .f32) (harg2 : arg2.IsWhole)
    (arg3 : Memref sig .tc .vmem S8x256x256 .bf16) (harg3 : arg3.IsWhole) (arg4 : Memref sig .tc .vmem S8x256x128 .bf16)
    (harg4 : arg4.IsWhole) (arg5 : Memref sig .tc .vmem S8x128x256 .bf16) (harg5 : arg5.IsWhole)
    (arg6 : Memref sig .tc .vmem S1x16x1024 .f32) (harg6 : arg6.IsWhole) (arg7 : Memref sig .tc .vmem S8192x128 .f32)
    (harg7 : arg7.IsWhole) (arg8 : Memref sig .tc .vmem S2048x2048 .bf16) (harg8 : arg8.IsWhole)
    (arg9 : Memref sig .tc .vmem S2048x1024 .bf16) (harg9 : arg9.IsWhole) (arg10 : Memref sig .tc .vmem S1024x2048 .bf16)
    (harg10 : arg10.IsWhole)
    (x3 : S8x256x256.Idx → F .bf16) (x4 : S8x256x128.Idx → F .bf16) (x5 : S8x128x256.Idx → F .bf16) (ino1 : ∀ a, (![3, 32, 240] : Fin 3 → ℕ) a + S1x16x16.size a ≤ S8x256x256.size a) (ino2 : ∀ a, (![4, 0, 192] : Fin 3 → ℕ) a + S1x64x16.size a ≤ S8x128x256.size a) (hc2 : S1x64x16.ShapeCasts S64x16)
    (R : sProp 𝕄) (Q : FVec F S64x16 .bf16 → sProp 𝕄)
    (h : Inv c arg3 arg4 arg5 arg8 arg9 arg10 x3 x4 x5 1232 153 152 R ⊢ Q (shapeCast S64x16 (rd x5 (Rect.unit (s := S8x128x256) ![4, 0, 192] S1x64x16.size ino2).toLoadRect) hc2)) :
    Inv c arg3 arg4 arg5 arg8 arg9 arg10 x3 x4 x5 815 100 100 R ⊢ WP (F := F) c (k0_part296 i arg2 harg2 arg3 harg3 arg4 harg4 arg5 harg5 arg6 harg6 arg7 harg7 arg8 harg8 arg9 harg9 arg10 harg10 (rd x3 (Rect.unit (s := S8x256x256) ![3, 32, 240] S1x16x16.size ino1).toLoadRect)) Q := by
  repeat (refine head_op c ?_; first
    | with_reducible refine L3 c ?_
    | with_reducible refine D8 c (fun _ => ?_)
    | with_reducible refine S8 c (by decide +kernel) ?_
    | with_reducible refine L4 c ?_
    | with_reducible refine D9 c (fun _ => ?_)
    | with_reducible refine S9 c (by decide +kernel) ?_
    | with_reducible refine L5 c ?_
    | with_reducible refine D10 c (fun _ => ?_)
    | with_reducible refine S10 c (by decide +kernel) ?_)
  exact Fin' c h

end Cert.Proof.S5

end
-- ==== Proof.S5Part4.lean ====
/-
  The S5 kernel's fill, part 4 of 5: the copies the part makes, one rule for each operation.
-/
module

public import proofs.«01_k».proof.Proof.S5Fill

@[expose] public section

set_option maxRecDepth 65536
set_option maxHeartbeats 0

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem fill_297 (c : Dev nD) (i : grid0.Coords) (arg2 : Memref sig .tc .vmem S8192x128 .f32) (harg2 : arg2.IsWhole)
    (arg3 : Memref sig .tc .vmem S8x256x256 .bf16) (harg3 : arg3.IsWhole) (arg4 : Memref sig .tc .vmem S8x256x128 .bf16)
    (harg4 : arg4.IsWhole) (arg5 : Memref sig .tc .vmem S8x128x256 .bf16) (harg5 : arg5.IsWhole)
    (arg6 : Memref sig .tc .vmem S1x16x1024 .f32) (harg6 : arg6.IsWhole) (arg7 : Memref sig .tc .vmem S8192x128 .f32)
    (harg7 : arg7.IsWhole) (arg8 : Memref sig .tc .vmem S2048x2048 .bf16) (harg8 : arg8.IsWhole)
    (arg9 : Memref sig .tc .vmem S2048x1024 .bf16) (harg9 : arg9.IsWhole) (arg10 : Memref sig .tc .vmem S1024x2048 .bf16)
    (harg10 : arg10.IsWhole)
    (x3 : S8x256x256.Idx → F .bf16) (x4 : S8x256x128.Idx → F .bf16) (x5 : S8x128x256.Idx → F .bf16) (ino2 : ∀ a, (![4, 0, 192] : Fin 3 → ℕ) a + S1x64x16.size a ≤ S8x128x256.size a) (hc2 : S1x64x16.ShapeCasts S64x16) (ino3 : ∀ a, (![6, 96, 112] : Fin 3 → ℕ) a + S1x16x16.size a ≤ S8x256x256.size a) (hc3 : S1x16x16.ShapeCasts S16x16) (hc3' : S16x16.ShapeCasts S16x16)
    (R : sProp 𝕄) (Q : FVec F S16x16 .bf16 → sProp 𝕄)
    (h : Inv c arg3 arg4 arg5 arg8 arg9 arg10 x3 x4 x5 1639 204 204 R ⊢ Q (shapeCast S16x16 (shapeCast S16x16 (rd x3 (Rect.unit (s := S8x256x256) ![6, 96, 112] S1x16x16.size ino3).toLoadRect) hc3) hc3')) :
    Inv c arg3 arg4 arg5 arg8 arg9 arg10 x3 x4 x5 1232 153 152 R ⊢ WP (F := F) c (k0_part297 i arg2 harg2 arg3 harg3 arg4 harg4 arg5 harg5 arg6 harg6 arg7 harg7 arg8 harg8 arg9 harg9 arg10 harg10 (shapeCast S64x16 (rd x5 (Rect.unit (s := S8x128x256) ![4, 0, 192] S1x64x16.size ino2).toLoadRect) hc2)) Q := by
  repeat (refine head_op c ?_; first
    | with_reducible refine L3 c ?_
    | with_reducible refine D8 c (fun _ => ?_)
    | with_reducible refine S8 c (by decide +kernel) ?_
    | with_reducible refine L4 c ?_
    | with_reducible refine D9 c (fun _ => ?_)
    | with_reducible refine S9 c (by decide +kernel) ?_
    | with_reducible refine L5 c ?_
    | with_reducible refine D10 c (fun _ => ?_)
    | with_reducible refine S10 c (by decide +kernel) ?_)
  exact Fin' c h

end Cert.Proof.S5

end
-- ==== Proof.S5Part5.lean ====
/-
  The S5 kernel's fill, part 5 of 5: the copies the part makes, one rule for each operation.
-/
module

public import proofs.«01_k».proof.Proof.S5Fill

@[expose] public section

set_option maxRecDepth 65536
set_option maxHeartbeats 0

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem fill_298 (c : Dev nD) (i : grid0.Coords) (arg2 : Memref sig .tc .vmem S8192x128 .f32) (harg2 : arg2.IsWhole)
    (arg3 : Memref sig .tc .vmem S8x256x256 .bf16) (harg3 : arg3.IsWhole) (arg4 : Memref sig .tc .vmem S8x256x128 .bf16)
    (harg4 : arg4.IsWhole) (arg5 : Memref sig .tc .vmem S8x128x256 .bf16) (harg5 : arg5.IsWhole)
    (arg6 : Memref sig .tc .vmem S1x16x1024 .f32) (harg6 : arg6.IsWhole) (arg7 : Memref sig .tc .vmem S8192x128 .f32)
    (harg7 : arg7.IsWhole) (arg8 : Memref sig .tc .vmem S2048x2048 .bf16) (harg8 : arg8.IsWhole)
    (arg9 : Memref sig .tc .vmem S2048x1024 .bf16) (harg9 : arg9.IsWhole) (arg10 : Memref sig .tc .vmem S1024x2048 .bf16)
    (harg10 : arg10.IsWhole)
    (x3 : S8x256x256.Idx → F .bf16) (x4 : S8x256x128.Idx → F .bf16) (x5 : S8x128x256.Idx → F .bf16) (ino3 : ∀ a, (![6, 96, 112] : Fin 3 → ℕ) a + S1x16x16.size a ≤ S8x256x256.size a) (hc3 : S1x16x16.ShapeCasts S16x16) (hc3' : S16x16.ShapeCasts S16x16) (ino4 : ∀ a, (![7, 240, 0] : Fin 3 → ℕ) a + S1x16x64.size a ≤ S8x256x128.size a) (hc4 : S1x16x64.ShapeCasts S16x64)
    (R : sProp 𝕄) (Q : FVec F S16x64 .bf16 → sProp 𝕄)
    (h : Inv c arg3 arg4 arg5 arg8 arg9 arg10 x3 x4 x5 2048 254 254 R ⊢ Q (shapeCast S16x64 (rd x4 (Rect.unit (s := S8x256x128) ![7, 240, 0] S1x16x64.size ino4).toLoadRect) hc4)) :
    Inv c arg3 arg4 arg5 arg8 arg9 arg10 x3 x4 x5 1639 204 204 R ⊢ WP (F := F) c (k0_part298 i arg2 harg2 arg3 harg3 arg4 harg4 arg5 harg5 arg6 harg6 arg7 harg7 arg8 harg8 arg9 harg9 arg10 harg10 (shapeCast S16x16 (shapeCast S16x16 (rd x3 (Rect.unit (s := S8x256x256) ![6, 96, 112] S1x16x16.size ino3).toLoadRect) hc3) hc3')) Q := by
  repeat (refine head_op c ?_; first
    | with_reducible refine L3 c ?_
    | with_reducible refine D8 c (fun _ => ?_)
    | with_reducible refine S8 c (by decide +kernel) ?_
    | with_reducible refine L4 c ?_
    | with_reducible refine D9 c (fun _ => ?_)
    | with_reducible refine S9 c (by decide +kernel) ?_
    | with_reducible refine L5 c ?_
    | with_reducible refine D10 c (fun _ => ?_)
    | with_reducible refine S10 c (by decide +kernel) ?_)
  exact Fin' c h

end Cert.Proof.S5

end
-- ==== Proof.S5Body.lean ====
/-
  The S5 kernel's body at a grid point: what it leaves in the scratch (filled at the first block of a slab, kept at the
  others) and in its output block, as a function of its input blocks.
-/
module

public import proofs.«01_k».proof.Proof.S5Fill
public import proofs.«01_k».proof.Proof.S5Part1
public import proofs.«01_k».proof.Proof.S5Part2
public import proofs.«01_k».proof.Proof.S5Part3
public import proofs.«01_k».proof.Proof.S5Part4
public import proofs.«01_k».proof.Proof.S5Part5
public import proofs.«01_k».proof.Proof.Gen.KernelIdeal.Skeleton

@[expose] public section

set_option maxRecDepth 65536

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The index of three given coordinates. -/
def ix3 {d : Fin 3 → ℕ} (a b c : ℕ) (ha : a < d 0) (hb : b < d 1) (hc : c < d 2) : (⟨3, d⟩ : Shape).Idx :=
  fun k => match k with
    | 0 => ⟨a, ha⟩
    | 1 => ⟨b, hb⟩
    | 2 => ⟨c, hc⟩

/-- The scratch `tzd` when it is filled. -/
def tzd (x : S8x256x256.Idx → F .bf16) : S2048x2048.Idx → F .bf16 := fun i =>
  if ok8 (i 0) (i 1) then x (ix3 (d := ![8, 256, 256]) ((i 0).val / 16 % 8) ((i 0).val / 128 * 16 + (i 0).val % 16) ((i 1).val / 128 * 16 + (i 1).val % 16)
    (show _ < 8 by have := (i 0).isLt; have := (i 1).isLt; omega)
    (show _ < 256 by have h0 : (i 0).val < 2048 := (i 0).isLt; have h1 : (i 1).val < 2048 := (i 1).isLt; omega)
    (show _ < 256 by have h0 : (i 0).val < 2048 := (i 0).isLt; have h1 : (i 1).val < 2048 := (i 1).isLt; omega)) else Z

theorem P8_full (x : S8x256x256.Idx → F .bf16) (X : S2048x2048.Idx → F .bf16) (h : P8 x 2048 X) : X = tzd x := by
  funext i
  have h0 : (i 0).val < 2048 := (i 0).isLt
  have h1 : (i 1).val < 2048 := (i 1).isLt
  have hc : code8 (i 0) (i 1) < 2048 := by
    unfold code8; omega
  unfold tzd
  by_cases ho : ok8 (i 0) (i 1)
  · rw [if_pos ho]; exact (h i).1 ⟨ho, hc⟩ _ rfl rfl rfl
  · rw [if_neg ho]; exact (h i).2 fun hh => ho hh.1

/-- The scratch `gmd` when it is filled. -/
def gmd (x : S8x256x128.Idx → F .bf16) : S2048x1024.Idx → F .bf16 := fun i =>
  if ok9 (i 0) (i 1) then x (ix3 (d := ![8, 256, 128]) ((i 0).val / 16 % 8) ((i 0).val / 128 * 16 + (i 0).val % 16) ((i 1).val / 512 * 64 + (i 1).val % 64)
    (show _ < 8 by have := (i 0).isLt; have := (i 1).isLt; omega)
    (show _ < 256 by have h0 : (i 0).val < 2048 := (i 0).isLt; have h1 : (i 1).val < 1024 := (i 1).isLt; omega)
    (show _ < 128 by have h0 : (i 0).val < 2048 := (i 0).isLt; have h1 : (i 1).val < 1024 := (i 1).isLt; omega)) else Z

theorem P9_full (x : S8x256x128.Idx → F .bf16) (X : S2048x1024.Idx → F .bf16) (h : P9 x 256 X) : X = gmd x := by
  funext i
  have h0 : (i 0).val < 2048 := (i 0).isLt
  have h1 : (i 1).val < 1024 := (i 1).isLt
  have hc : code9 (i 0) (i 1) < 256 := by
    unfold code9; omega
  unfold gmd
  by_cases ho : ok9 (i 0) (i 1)
  · rw [if_pos ho]; exact (h i).1 ⟨ho, hc⟩ _ rfl rfl rfl
  · rw [if_neg ho]; exact (h i).2 fun hh => ho hh.1

/-- The scratch `ccd` when it is filled. -/
def ccd (x : S8x128x256.Idx → F .bf16) : S1024x2048.Idx → F .bf16 := fun i =>
  if ok9 (i 1) (i 0) then x (ix3 (d := ![8, 128, 256]) ((i 1).val / 16 % 8) ((i 0).val / 512 * 64 + (i 0).val % 64) ((i 1).val / 128 * 16 + (i 1).val % 16)
    (show _ < 8 by have := (i 0).isLt; have := (i 1).isLt; omega)
    (show _ < 128 by have h0 : (i 0).val < 1024 := (i 0).isLt; have h1 : (i 1).val < 2048 := (i 1).isLt; omega)
    (show _ < 256 by have h0 : (i 0).val < 1024 := (i 0).isLt; have h1 : (i 1).val < 2048 := (i 1).isLt; omega)) else Z

theorem P10_full (x : S8x128x256.Idx → F .bf16) (X : S1024x2048.Idx → F .bf16) (h : P10 x 256 X) : X = ccd x := by
  funext i
  have h0 : (i 0).val < 1024 := (i 0).isLt
  have h1 : (i 1).val < 2048 := (i 1).isLt
  have hc : code9 (i 1) (i 0) < 256 := by
    unfold code9; omega
  unfold ccd
  by_cases ho : ok9 (i 1) (i 0)
  · rw [if_pos ho]; exact (h i).1 ⟨ho, hc⟩ _ rfl rfl rfl
  · rw [if_neg ho]; exact (h i).2 fun hh => ho hh.1

/-- The rows of a block that are `l` modulo 16. -/
def xs (u : S8192x128.Idx → F .f32) (l : ℕ) (hl : l < 16) : Vec F S512x128 .f32 :=
  rd u (⟨![l, 0], S512x128.size, ![16, 1], fun a => .inr (match a with
    | 0 => show l + 16 * 511 < 8192 by omega
    | 1 => show 0 + 1 * 127 < 128 by omega)⟩ : LoadRect S8192x128)

/-- The chunks of a block, one row a chunk. -/
def xcat (u : S8192x128.Idx → F .f32) : FVec F S512x2048 .bf16 := k0_pay1743 (xs u 0 (by decide)) (xs u 1 (by decide)) (xs u 2 (by decide)) (xs u 3 (by decide)) (xs u 4 (by decide)) (xs u 5 (by decide)) (xs u 6 (by decide)) (xs u 7 (by decide)) (xs u 8 (by decide)) (xs u 9 (by decide)) (xs u 10 (by decide)) (xs u 11 (by decide)) (xs u 12 (by decide)) (xs u 13 (by decide)) (xs u 14 (by decide)) (xs u 15 (by decide))

/-- The first `r` rows of the columns from `c` on, 256 of them. -/
def blk8 (y : S2048x2048.Idx → F .bf16) (r c : ℕ) (hr : r ≤ 2048) (hc : c + 256 ≤ 2048) : Vec F ⟨2, ![r, 256]⟩ .bf16 :=
  rd y (Rect.unit (s := S2048x2048) ![0, c] ![r, 256] fun a => match a with
    | 0 => show 0 + r ≤ 2048 by omega
    | 1 => hc).toLoadRect

/-- A whole array read. -/
def whole2 {d : Fin 2 → ℕ} {e : EltTy} (y : (⟨2, d⟩ : Shape).Idx → Elt F e) : Vec F ⟨2, d⟩ e :=
  rd y (Rect.unit (s := ⟨2, d⟩) ![0, 0] d fun a => match a with
    | 0 => show 0 + d 0 ≤ d 0 by omega
    | 1 => show 0 + d 1 ≤ d 1 by omega).toLoadRect

/-- The local part of the output: the chunks by the block-triangular `tzd`. -/
def yloc (u : S8192x128.Idx → F .f32) (y8 : S2048x2048.Idx → F .bf16) : FVec F S512x2048 .f32 :=
  k0_pay1745 (xcat u) (k0_pay1744 (xs u 0 (by decide)) (xs u 1 (by decide)) (xs u 2 (by decide)) (xs u 3 (by decide)) (xs u 4 (by decide)) (xs u 5 (by decide)) (xs u 6 (by decide)) (xs u 7 (by decide)) (xs u 8 (by decide)) (xs u 9 (by decide)) (xs u 10 (by decide)) (xs u 11 (by decide)) (xs u 12 (by decide)) (xs u 13 (by decide)) (xs u 14 (by decide)) (xs u 15 (by decide)))
    (blk8 y8 256 0 (by decide) (by decide)) (blk8 y8 512 256 (by decide) (by decide)) (blk8 y8 768 512 (by decide) (by decide)) (blk8 y8 1024 768 (by decide) (by decide)) (blk8 y8 1280 1024 (by decide) (by decide)) (blk8 y8 1536 1280 (by decide) (by decide)) (blk8 y8 1792 1536 (by decide) (by decide)) (blk8 y8 2048 1792 (by decide) (by decide))

/-- The chunks' contributions to the state. -/
def xst (u : S8192x128.Idx → F .f32) (y9 : S2048x1024.Idx → F .bf16) : FVec F S512x1024 .f32 := k0_pay1746 (xcat u) (whole2 (d := ![2048, 1024]) y9)

/-- The powers. -/
def pws (p : S1x16x1024.Idx → F .f32) : FVec F S16x1024 .f32 :=
  k0_pay1748 (rd p (Rect.unit (s := S1x16x1024) ![0, 0, 0] S1x16x1024.size (by decide)).toLoadRect)

/-- The state entering each chunk: the scan of `x`. -/
def hin (x : FVec F S512x1024 .f32) (w : FVec F S16x1024 .f32) : FVec F S512x1024 .bf16 :=
  k0_pay1758 k0_pay1747 w
    (k0_pay1754 k0_pay1747 w (k0_pay1751 x k0_pay1747 w) (k0_pay1752 x k0_pay1747 w) (k0_pay1753 w))
    (k0_pay1755 k0_pay1747 w (k0_pay1751 x k0_pay1747 w) (k0_pay1752 x k0_pay1747 w) (k0_pay1753 w))
    (k0_pay1756 k0_pay1747 w (k0_pay1751 x k0_pay1747 w) (k0_pay1752 x k0_pay1747 w) (k0_pay1753 w))
    (k0_pay1757 w)

/-- The output, one row a chunk. -/
def yfin (u : S8192x128.Idx → F .f32) (p : S1x16x1024.Idx → F .f32) (y8 : S2048x2048.Idx → F .bf16) (y9 : S2048x1024.Idx → F .bf16)
    (y10 : S1024x2048.Idx → F .bf16) : FVec F S512x2048 .f32 :=
  k0_pay1759 (yloc u y8) (hin (xst u y9) (pws p)) (whole2 (d := ![1024, 2048]) y10)

/-- The output block: row `16 r + l` is the piece `l` of row `r`. -/
def outY (Y : S512x2048.Idx → F .f32) : S8192x128.Idx → F .f32 := fun i =>
  Y (ix2 (d := ![512, 2048]) ((i 0).val / 16) ((i 0).val % 16 * 128 + (i 1).val)
    (show _ < 512 by have h : (i 0).val < 8192 := (i 0).isLt; omega)
    (show _ < 2048 by have h : (i 1).val < 128 := (i 1).isLt; omega))

/-- The output block when the rows that are less than `n` modulo 16 are written. -/
def P7 (Y : S512x2048.Idx → F .f32) (n : ℕ) (X : S8192x128.Idx → F .f32) : Prop :=
  ∀ i, (i 0).val % 16 < n → X i = outY Y i

theorem P7_step (Y : S512x2048.Idx → F .f32) (n : ℕ) (o : Fin 2 → ℕ) (q : Fin 2 → ℕ) (hs : S512x2048.Slices q S512x128)
    (inb : ∀ a, S512x128.size a = 0 ∨ o a + (![16, 1] : Fin 2 → ℕ) a * (S512x128.size a - 1) < S8192x128.size a)
    (sp : ∀ a, 0 < (![16, 1] : Fin 2 → ℕ) a)
    (hc : o 0 = n ∧ o 1 = 0 ∧ n < 16 ∧ q 0 = 0 ∧ q 1 = n * 128) (w : S512x128.Idx → F .f32)
    (hw : w = extractStridedSlice S512x128 q Y hs) (X X' : S8192x128.Idx → F .f32) (hX : P7 Y n X)
    (hY : ∀ y : S512x128.Idx, X' ((⟨⟨o, S512x128.size, ![16, 1], inb⟩, sp⟩ : Rect S8192x128).emb y) = w y)
    (hN : ∀ j, j ∉ (⟨⟨o, S512x128.size, ![16, 1], inb⟩, sp⟩ : Rect S8192x128).set → X' j = X j) : P7 Y (o 0 + 1) X' := by
  obtain ⟨c1, c2, c3, c4, c5⟩ := hc
  intro i hi
  have h0 : (i 0).val < 8192 := (i 0).isLt
  have h1 : (i 1).val < 128 := (i 1).isLt
  by_cases hm : (i 0).val % 16 = n
  · have e : i = (⟨⟨o, S512x128.size, ![16, 1], inb⟩, sp⟩ : Rect S8192x128).emb
        (ix2 (d := ![512, 128]) ((i 0).val / 16) (i 1).val (show _ < 512 by omega) h1) := by
      funext a
      apply Fin.ext
      rw [Rect.emb_apply]
      match a with
      | 0 => show (i 0).val = o 0 + 16 * ((i 0).val / 16); omega
      | 1 => show (i 1).val = o 1 + 1 * (i 1).val; omega
    have hv := hY (ix2 (d := ![512, 128]) ((i 0).val / 16) (i 1).val (show _ < 512 by omega) h1)
    rw [← e, hw] at hv
    rw [hv]
    unfold outY
    refine extractStridedSlice_apply q Y hs _ _ fun a => ?_
    match a with
    | 0 => show (i 0).val / 16 = q 0 + (i 0).val / 16; omega
    | 1 => show (i 0).val % 16 * 128 + (i 1).val = q 1 + (i 1).val; omega
  · rw [hN i ?_]
    · exact hX i (by omega)
    · intro hmem
      obtain ⟨j, -, hj⟩ := (LoadRect.mem_set _).mp hmem 0
      have hj' : (i 0).val = o 0 + 16 * j := hj
      omega

section

variable (c : Dev nD) {M2 : Memref sig .tc .vmem S8192x128 .f32} {M3 : Memref sig .tc .vmem S8x256x256 .bf16}
  {M4 : Memref sig .tc .vmem S8x256x128 .bf16} {M5 : Memref sig .tc .vmem S8x128x256 .bf16} {M6 : Memref sig .tc .vmem S1x16x1024 .f32}
  {M7 : Memref sig .tc .vmem S8192x128 .f32} {M8 : Memref sig .tc .vmem S2048x2048 .bf16}
  {M9 : Memref sig .tc .vmem S2048x1024 .bf16} {M10 : Memref sig .tc .vmem S1024x2048 .bf16}
  {x2 : S8192x128.Idx → F .f32} {x6 : S1x16x1024.Idx → F .f32}
  {y8 : S2048x2048.Idx → F .bf16} {y9 : S2048x1024.Idx → F .bf16} {y10 : S1024x2048.Idx → F .bf16}
  {Φ7 : (S8192x128.Idx → Elt F .f32) → Prop}

/-- The state of the body after the fill: inputs and scratch at known contents, an output block that meets a predicate,
    and the rest `R`. -/
def St (M2 : Memref sig .tc .vmem S8192x128 .f32) (M6 : Memref sig .tc .vmem S1x16x1024 .f32)
    (M7 : Memref sig .tc .vmem S8192x128 .f32) (M8 : Memref sig .tc .vmem S2048x2048 .bf16)
    (M9 : Memref sig .tc .vmem S2048x1024 .bf16) (M10 : Memref sig .tc .vmem S1024x2048 .bf16)
    (x2 : S8192x128.Idx → F .f32) (x6 : S1x16x1024.Idx → F .f32)
    (y8 : S2048x2048.Idx → F .bf16) (y9 : S2048x1024.Idx → F .bf16) (y10 : S1024x2048.Idx → F .bf16)
    (Φ7 : (S8192x128.Idx → Elt F .f32) → Prop) (R : sProp 𝕄) : sProp 𝕄 :=
  iprop(owns (c : Thread nD τ) M2 fullShare x2 ∗ owns (c : Thread nD τ) M6 fullShare x6 ∗ owns (c : Thread nD τ) M8 fullShare y8 ∗
    owns (c : Thread nD τ) M9 fullShare y9 ∗ owns (c : Thread nD τ) M10 fullShare y10 ∗ ownsSat (c : Thread nD τ) M7 fullShare Φ7 ∗ R)

/-- A load of a known array. -/
theorem B2 {α : Type} {Q : α → sProp 𝕄} {R : sProp 𝕄} {r : LoadRect S8192x128} {hl : M2.view.LoadsAt r}
    {k : (r.shape.Idx → Elt F .f32) → Prog (TpuEff nD τ sig (Elt F) Λ₀ .tc) α}
    (h : St c M2 M6 M7 M8 M9 M10 x2 x6 y8 y9 y10 Φ7 R ⊢ WP c (k (rd x2 r)) Q) : St c M2 M6 M7 M8 M9 M10 x2 x6 y8 y9 y10 Φ7 R ⊢ WP c (.op (.load M2 r hl) k) Q := by
  refine BIBase.Entails.trans (show _ ⊢ iprop(owns (c : Thread nD τ) M2 fullShare x2 ∗ (owns (c : Thread nD τ) M6 fullShare x6 ∗ owns (c : Thread nD τ) M8 fullShare y8 ∗ owns (c : Thread nD τ) M9 fullShare y9 ∗ owns (c : Thread nD τ) M10 fullShare y10 ∗ ownsSat (c : Thread nD τ) M7 fullShare Φ7 ∗ R)) from ?_)
    (wp_load_sat c (Φ := fun X => X = x2) (k := k) (hl := hl) ?_)
  · unfold St
    iintro ⟨H2, H6, H8, H9, H10, H7, HR⟩
    isplitl [H2]; · iexact H2
    isplitl [H6]; · iexact H6
    isplitl [H8]; · iexact H8
    isplitl [H9]; · iexact H9
    isplitl [H10]; · iexact H10
    isplitl [H7]; · iexact H7
    iexact HR
  · rintro X rfl
    refine BIBase.Entails.trans ?_ h
    unfold St
    iintro ⟨H2, H6, H8, H9, H10, H7, HR⟩
    isplitl [H2]; · iexact H2
    isplitl [H6]; · iexact H6
    isplitl [H8]; · iexact H8
    isplitl [H9]; · iexact H9
    isplitl [H10]; · iexact H10
    isplitl [H7]; · iexact H7
    iexact HR

/-- A load of a known array. -/
theorem B6 {α : Type} {Q : α → sProp 𝕄} {R : sProp 𝕄} {r : LoadRect S1x16x1024} {hl : M6.view.LoadsAt r}
    {k : (r.shape.Idx → Elt F .f32) → Prog (TpuEff nD τ sig (Elt F) Λ₀ .tc) α}
    (h : St c M2 M6 M7 M8 M9 M10 x2 x6 y8 y9 y10 Φ7 R ⊢ WP c (k (rd x6 r)) Q) : St c M2 M6 M7 M8 M9 M10 x2 x6 y8 y9 y10 Φ7 R ⊢ WP c (.op (.load M6 r hl) k) Q := by
  refine BIBase.Entails.trans (show _ ⊢ iprop(owns (c : Thread nD τ) M6 fullShare x6 ∗ (owns (c : Thread nD τ) M2 fullShare x2 ∗ owns (c : Thread nD τ) M8 fullShare y8 ∗ owns (c : Thread nD τ) M9 fullShare y9 ∗ owns (c : Thread nD τ) M10 fullShare y10 ∗ ownsSat (c : Thread nD τ) M7 fullShare Φ7 ∗ R)) from ?_)
    (wp_load_sat c (Φ := fun X => X = x6) (k := k) (hl := hl) ?_)
  · unfold St
    iintro ⟨H2, H6, H8, H9, H10, H7, HR⟩
    isplitl [H6]; · iexact H6
    isplitl [H2]; · iexact H2
    isplitl [H8]; · iexact H8
    isplitl [H9]; · iexact H9
    isplitl [H10]; · iexact H10
    isplitl [H7]; · iexact H7
    iexact HR
  · rintro X rfl
    refine BIBase.Entails.trans ?_ h
    unfold St
    iintro ⟨H6, H2, H8, H9, H10, H7, HR⟩
    isplitl [H2]; · iexact H2
    isplitl [H6]; · iexact H6
    isplitl [H8]; · iexact H8
    isplitl [H9]; · iexact H9
    isplitl [H10]; · iexact H10
    isplitl [H7]; · iexact H7
    iexact HR

/-- A load of a known array. -/
theorem B8 {α : Type} {Q : α → sProp 𝕄} {R : sProp 𝕄} {r : LoadRect S2048x2048} {hl : M8.view.LoadsAt r}
    {k : (r.shape.Idx → Elt F .bf16) → Prog (TpuEff nD τ sig (Elt F) Λ₀ .tc) α}
    (h : St c M2 M6 M7 M8 M9 M10 x2 x6 y8 y9 y10 Φ7 R ⊢ WP c (k (rd y8 r)) Q) : St c M2 M6 M7 M8 M9 M10 x2 x6 y8 y9 y10 Φ7 R ⊢ WP c (.op (.load M8 r hl) k) Q := by
  refine BIBase.Entails.trans (show _ ⊢ iprop(owns (c : Thread nD τ) M8 fullShare y8 ∗ (owns (c : Thread nD τ) M2 fullShare x2 ∗ owns (c : Thread nD τ) M6 fullShare x6 ∗ owns (c : Thread nD τ) M9 fullShare y9 ∗ owns (c : Thread nD τ) M10 fullShare y10 ∗ ownsSat (c : Thread nD τ) M7 fullShare Φ7 ∗ R)) from ?_)
    (wp_load_sat c (Φ := fun X => X = y8) (k := k) (hl := hl) ?_)
  · unfold St
    iintro ⟨H2, H6, H8, H9, H10, H7, HR⟩
    isplitl [H8]; · iexact H8
    isplitl [H2]; · iexact H2
    isplitl [H6]; · iexact H6
    isplitl [H9]; · iexact H9
    isplitl [H10]; · iexact H10
    isplitl [H7]; · iexact H7
    iexact HR
  · rintro X rfl
    refine BIBase.Entails.trans ?_ h
    unfold St
    iintro ⟨H8, H2, H6, H9, H10, H7, HR⟩
    isplitl [H2]; · iexact H2
    isplitl [H6]; · iexact H6
    isplitl [H8]; · iexact H8
    isplitl [H9]; · iexact H9
    isplitl [H10]; · iexact H10
    isplitl [H7]; · iexact H7
    iexact HR

/-- A load of a known array. -/
theorem B9 {α : Type} {Q : α → sProp 𝕄} {R : sProp 𝕄} {r : LoadRect S2048x1024} {hl : M9.view.LoadsAt r}
    {k : (r.shape.Idx → Elt F .bf16) → Prog (TpuEff nD τ sig (Elt F) Λ₀ .tc) α}
    (h : St c M2 M6 M7 M8 M9 M10 x2 x6 y8 y9 y10 Φ7 R ⊢ WP c (k (rd y9 r)) Q) : St c M2 M6 M7 M8 M9 M10 x2 x6 y8 y9 y10 Φ7 R ⊢ WP c (.op (.load M9 r hl) k) Q := by
  refine BIBase.Entails.trans (show _ ⊢ iprop(owns (c : Thread nD τ) M9 fullShare y9 ∗ (owns (c : Thread nD τ) M2 fullShare x2 ∗ owns (c : Thread nD τ) M6 fullShare x6 ∗ owns (c : Thread nD τ) M8 fullShare y8 ∗ owns (c : Thread nD τ) M10 fullShare y10 ∗ ownsSat (c : Thread nD τ) M7 fullShare Φ7 ∗ R)) from ?_)
    (wp_load_sat c (Φ := fun X => X = y9) (k := k) (hl := hl) ?_)
  · unfold St
    iintro ⟨H2, H6, H8, H9, H10, H7, HR⟩
    isplitl [H9]; · iexact H9
    isplitl [H2]; · iexact H2
    isplitl [H6]; · iexact H6
    isplitl [H8]; · iexact H8
    isplitl [H10]; · iexact H10
    isplitl [H7]; · iexact H7
    iexact HR
  · rintro X rfl
    refine BIBase.Entails.trans ?_ h
    unfold St
    iintro ⟨H9, H2, H6, H8, H10, H7, HR⟩
    isplitl [H2]; · iexact H2
    isplitl [H6]; · iexact H6
    isplitl [H8]; · iexact H8
    isplitl [H9]; · iexact H9
    isplitl [H10]; · iexact H10
    isplitl [H7]; · iexact H7
    iexact HR

/-- A load of a known array. -/
theorem B10 {α : Type} {Q : α → sProp 𝕄} {R : sProp 𝕄} {r : LoadRect S1024x2048} {hl : M10.view.LoadsAt r}
    {k : (r.shape.Idx → Elt F .bf16) → Prog (TpuEff nD τ sig (Elt F) Λ₀ .tc) α}
    (h : St c M2 M6 M7 M8 M9 M10 x2 x6 y8 y9 y10 Φ7 R ⊢ WP c (k (rd y10 r)) Q) : St c M2 M6 M7 M8 M9 M10 x2 x6 y8 y9 y10 Φ7 R ⊢ WP c (.op (.load M10 r hl) k) Q := by
  refine BIBase.Entails.trans (show _ ⊢ iprop(owns (c : Thread nD τ) M10 fullShare y10 ∗ (owns (c : Thread nD τ) M2 fullShare x2 ∗ owns (c : Thread nD τ) M6 fullShare x6 ∗ owns (c : Thread nD τ) M8 fullShare y8 ∗ owns (c : Thread nD τ) M9 fullShare y9 ∗ ownsSat (c : Thread nD τ) M7 fullShare Φ7 ∗ R)) from ?_)
    (wp_load_sat c (Φ := fun X => X = y10) (k := k) (hl := hl) ?_)
  · unfold St
    iintro ⟨H2, H6, H8, H9, H10, H7, HR⟩
    isplitl [H10]; · iexact H10
    isplitl [H2]; · iexact H2
    isplitl [H6]; · iexact H6
    isplitl [H8]; · iexact H8
    isplitl [H9]; · iexact H9
    isplitl [H7]; · iexact H7
    iexact HR
  · rintro X rfl
    refine BIBase.Entails.trans ?_ h
    unfold St
    iintro ⟨H10, H2, H6, H8, H9, H7, HR⟩
    isplitl [H2]; · iexact H2
    isplitl [H6]; · iexact H6
    isplitl [H8]; · iexact H8
    isplitl [H9]; · iexact H9
    isplitl [H10]; · iexact H10
    isplitl [H7]; · iexact H7
    iexact HR

/-- A load of the output block whose value is not used. -/
theorem B7 {α : Type} {Q : α → sProp 𝕄} {R : sProp 𝕄} {r : LoadRect S8192x128} {hl : M7.view.LoadsAt r}
    {k : (r.shape.Idx → Elt F .f32) → Prog (TpuEff nD τ sig (Elt F) Λ₀ .tc) α}
    (h : ∀ v, St c M2 M6 M7 M8 M9 M10 x2 x6 y8 y9 y10 Φ7 R ⊢ WP c (k v) Q) : St c M2 M6 M7 M8 M9 M10 x2 x6 y8 y9 y10 Φ7 R ⊢ WP c (.op (.load M7 r hl) k) Q := by
  refine BIBase.Entails.trans (show _ ⊢ iprop(ownsSat (c : Thread nD τ) M7 fullShare Φ7 ∗ (owns (c : Thread nD τ) M2 fullShare x2 ∗ owns (c : Thread nD τ) M6 fullShare x6 ∗ owns (c : Thread nD τ) M8 fullShare y8 ∗ owns (c : Thread nD τ) M9 fullShare y9 ∗ owns (c : Thread nD τ) M10 fullShare y10 ∗ R)) from ?_)
    (wp_load_sat c (Φ := Φ7) (k := k) (hl := hl) ?_)
  · unfold St
    iintro ⟨H2, H6, H8, H9, H10, H7, HR⟩
    isplitl [H7]; · iexact H7
    isplitl [H2]; · iexact H2
    isplitl [H6]; · iexact H6
    isplitl [H8]; · iexact H8
    isplitl [H9]; · iexact H9
    isplitl [H10]; · iexact H10
    iexact HR
  · intro X hX
    refine BIBase.Entails.trans ?_ (h _)
    unfold St
    iintro ⟨H7, H2, H6, H8, H9, H10, HR⟩
    ihave H7 := (owns_sat c hX) $$ H7
    isplitl [H2]; · iexact H2
    isplitl [H6]; · iexact H6
    isplitl [H8]; · iexact H8
    isplitl [H9]; · iexact H9
    isplitl [H10]; · iexact H10
    isplitl [H7]; · iexact H7
    iexact HR

/-- The next piece of the output stored. -/
theorem S7 {α : Type} {Q : α → sProp 𝕄} {R : sProp 𝕄} {Y : S512x2048.Idx → F .f32} {n : ℕ} {o : Fin 2 → ℕ}
    {inb : ∀ a, S512x128.size a = 0 ∨ o a + (![16, 1] : Fin 2 → ℕ) a * (S512x128.size a - 1) < S8192x128.size a}
    {sp : ∀ a, 0 < (![16, 1] : Fin 2 → ℕ) a} {w : S512x128.Idx → Elt F .f32}
    {hx : (M7.access (⟨⟨o, S512x128.size, ![16, 1], inb⟩, sp⟩ : Rect S8192x128)).Stores Finset.univ}
    {hm : Finset.univ = Finset.univ ∨ ∀ a, (⟨⟨o, S512x128.size, ![16, 1], inb⟩, sp⟩ : Rect S8192x128).stride a = 1}
    {k : PUnit → Prog (TpuEff nD τ sig (Elt F) Λ₀ .tc) α}
    (hw : ∃ (q : Fin 2 → ℕ) (hs : S512x2048.Slices q S512x128), w = extractStridedSlice S512x128 q Y hs ∧
      (o 0 = n ∧ o 1 = 0 ∧ n < 16 ∧ q 0 = 0 ∧ q 1 = n * 128))
    (h : St c M2 M6 M7 M8 M9 M10 x2 x6 y8 y9 y10 (P7 Y (n + 1)) R ⊢ WP c (k ⟨⟩) Q) :
    St c M2 M6 M7 M8 M9 M10 x2 x6 y8 y9 y10 (P7 Y n) R ⊢ WP c (.op (.store M7 (⟨⟨o, S512x128.size, ![16, 1], inb⟩, sp⟩ : Rect S8192x128) w Finset.univ hx hm) k) Q := by
  obtain ⟨q, hs, hw, hc⟩ := hw
  have hΨ : ∀ X X' : S8192x128.Idx → Elt F .f32, P7 Y n X →
      (∀ y : S512x128.Idx, X' ((⟨⟨o, S512x128.size, ![16, 1], inb⟩, sp⟩ : Rect S8192x128).emb y) = w y) →
      (∀ j, j ∉ (⟨⟨o, S512x128.size, ![16, 1], inb⟩, sp⟩ : Rect S8192x128).set → X' j = X j) → P7 Y (n + 1) X' := by
    intro X X' hX hY hN
    have := P7_step Y n o q hs inb sp hc w hw X X' hX hY hN
    rw [hc.1] at this
    exact this
  refine BIBase.Entails.trans (show _ ⊢ iprop(ownsSat (c : Thread nD τ) M7 fullShare (P7 Y n) ∗ (owns (c : Thread nD τ) M2 fullShare x2 ∗ owns (c : Thread nD τ) M6 fullShare x6 ∗ owns (c : Thread nD τ) M8 fullShare y8 ∗ owns (c : Thread nD τ) M9 fullShare y9 ∗ owns (c : Thread nD τ) M10 fullShare y10 ∗ R)) from ?_)
    (wp_store_sat c (Φ := (P7 Y n : (S8192x128.Idx → Elt F .f32) → Prop)) (Ψ := (P7 Y (n + 1) : (S8192x128.Idx → Elt F .f32) → Prop)) (M := M7) (r := (⟨⟨o, S512x128.size, ![16, 1], inb⟩, sp⟩ : Rect S8192x128)) (w := w) (hx := hx) (hm := hm) (k := k) hΨ ?_)
  · unfold St
    iintro ⟨H2, H6, H8, H9, H10, H7, HR⟩
    isplitl [H7]; · iexact H7
    isplitl [H2]; · iexact H2
    isplitl [H6]; · iexact H6
    isplitl [H8]; · iexact H8
    isplitl [H9]; · iexact H9
    isplitl [H10]; · iexact H10
    iexact HR
  · refine BIBase.Entails.trans ?_ h
    unfold St
    iintro ⟨H7, H2, H6, H8, H9, H10, HR⟩
    isplitl [H2]; · iexact H2
    isplitl [H6]; · iexact H6
    isplitl [H8]; · iexact H8
    isplitl [H9]; · iexact H9
    isplitl [H10]; · iexact H10
    isplitl [H7]; · iexact H7
    iexact HR

/-- What is known of the output block weakened. -/
theorem W7 {P : sProp 𝕄} {R : sProp 𝕄} {Ψ : (S8192x128.Idx → Elt F .f32) → Prop} (hΦ : ∀ X, Φ7 X → Ψ X)
    (h : St c M2 M6 M7 M8 M9 M10 x2 x6 y8 y9 y10 Ψ R ⊢ P) : St c M2 M6 M7 M8 M9 M10 x2 x6 y8 y9 y10 Φ7 R ⊢ P := by
  refine BIBase.Entails.trans ?_ h
  unfold St
  iintro ⟨H2, H6, H8, H9, H10, H7, HR⟩
  ihave H7 := (ownsSat_mono (c : Thread nD τ) M7 fullShare hΦ) $$ H7
  isplitl [H2]; · iexact H2
  isplitl [H6]; · iexact H6
  isplitl [H8]; · iexact H8
  isplitl [H9]; · iexact H9
  isplitl [H10]; · iexact H10
  isplitl [H7]; · iexact H7
  iexact HR

/-- Contents that meet a predicate that one array alone meets. -/
theorem sat_owns {sp : CoreSpace} {sh : Shape} {e : EltTy} {M : Memref sig .tc sp sh e} {X : sh.Idx → Elt F e}
    {Φ : (sh.Idx → Elt F e) → Prop} (h : ∀ Y, Φ Y → Y = X) :
    (ownsSat (c : Thread nD τ) M fullShare Φ : sProp 𝕄) ⊢ owns (c : Thread nD τ) M fullShare X := ownsSat_mono (c : Thread nD τ) M fullShare h

/-- The state after the fill, from the fill's invariant. -/
theorem to_St {M3 : Memref sig .tc .vmem S8x256x256 .bf16} {M4 : Memref sig .tc .vmem S8x256x128 .bf16}
    {M5 : Memref sig .tc .vmem S8x128x256 .bf16} {x3 : S8x256x256.Idx → F .bf16} {x4 : S8x256x128.Idx → F .bf16}
    {x5 : S8x128x256.Idx → F .bf16} {Φ8 : (S2048x2048.Idx → Elt F .bf16) → Prop}
    {Φ9 : (S2048x1024.Idx → Elt F .bf16) → Prop} {Φ10 : (S1024x2048.Idx → Elt F .bf16) → Prop}
    (h8 : ∀ X, Φ8 X → X = y8) (h9 : ∀ X, Φ9 X → X = y9) (h10 : ∀ X, Φ10 X → X = y10) :
    (InvG c M3 M4 M5 M8 M9 M10 x3 x4 x5 Φ8 Φ9 Φ10 iprop(owns (c : Thread nD τ) M2 fullShare x2 ∗ owns (c : Thread nD τ) M6 fullShare x6 ∗ ownsSat (c : Thread nD τ) M7 fullShare Φ7) : sProp 𝕄) ⊢
      St c M2 M6 M7 M8 M9 M10 x2 x6 y8 y9 y10 Φ7 iprop(owns (c : Thread nD τ) M3 fullShare x3 ∗ owns (c : Thread nD τ) M4 fullShare x4 ∗ owns (c : Thread nD τ) M5 fullShare x5) := by
  unfold InvG St
  iintro ⟨H3, H4, H5, H8, H9, H10, H2, H6, H7⟩
  ihave H8 := (sat_owns c h8) $$ H8
  ihave H9 := (sat_owns c h9) $$ H9
  ihave H10 := (sat_owns c h10) $$ H10
  isplitl [H2]; · iexact H2
  isplitl [H6]; · iexact H6
  isplitl [H8]; · iexact H8
  isplitl [H9]; · iexact H9
  isplitl [H10]; · iexact H10
  isplitl [H7]; · iexact H7
  isplitl [H3]; · iexact H3
  isplitl [H4]; · iexact H4
  iexact H5

end

end Cert.Proof.S5

end
-- ==== Proof.S5Tri1.lean ====
/-
  The S5 kernel's body run: its parts in order, then the whole body at a grid point.
-/
module

public import proofs.«01_k».proof.Proof.S5Body

@[expose] public section

set_option maxRecDepth 65536
set_option maxHeartbeats 400000

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The test for the first block of a slab. -/
theorem first_iff : ∀ k : Fin 4, (Scalar.cmpi .ne (Scalar.extui (Scalar.cmpi .eq (BitVec.ofNat 32 k.val) 0#32)) 0#32 = 1#1) ↔ k = 0 := by
  decide

/-- The part that fills the scratch at the first block of a slab and then reads the block. -/
theorem part_299 (c : Dev nD) (i : grid0.Coords) (arg2 : Memref sig .tc .vmem S8192x128 .f32) (harg2 : arg2.IsWhole)
    (arg3 : Memref sig .tc .vmem S8x256x256 .bf16) (harg3 : arg3.IsWhole) (arg4 : Memref sig .tc .vmem S8x256x128 .bf16)
    (harg4 : arg4.IsWhole) (arg5 : Memref sig .tc .vmem S8x128x256 .bf16) (harg5 : arg5.IsWhole)
    (arg6 : Memref sig .tc .vmem S1x16x1024 .f32) (harg6 : arg6.IsWhole) (arg7 : Memref sig .tc .vmem S8192x128 .f32)
    (harg7 : arg7.IsWhole) (arg8 : Memref sig .tc .vmem S2048x2048 .bf16) (harg8 : arg8.IsWhole)
    (arg9 : Memref sig .tc .vmem S2048x1024 .bf16) (harg9 : arg9.IsWhole) (arg10 : Memref sig .tc .vmem S1024x2048 .bf16)
    (harg10 : arg10.IsWhole)
    (x3 : S8x256x256.Idx → F .bf16) (x4 : S8x256x128.Idx → F .bf16) (x5 : S8x128x256.Idx → F .bf16)
    (x2 : S8192x128.Idx → F .f32) (x6 : S1x16x1024.Idx → F .f32)
    (y8 : S2048x2048.Idx → F .bf16) (y9 : S2048x1024.Idx → F .bf16) (y10 : S1024x2048.Idx → F .bf16)
    (Φ7 : (S8192x128.Idx → Elt F .f32) → Prop) (Φ8 : (S2048x2048.Idx → Elt F .bf16) → Prop)
    (Φ9 : (S2048x1024.Idx → Elt F .bf16) → Prop) (Φ10 : (S1024x2048.Idx → Elt F .bf16) → Prop)
    (Q : (Σ' (v20 : FVec F S512x2048 .bf16), FVec F S512x256 .bf16) → sProp 𝕄)
    (h8 : (y8 = tzd x3 ∧ y9 = gmd x4 ∧ y10 = ccd x5))
    (hΦ : (i 1) ≠ (0 : Fin 4) → (∀ X, Φ8 X → X = y8) ∧ (∀ X, Φ9 X → X = y9) ∧ (∀ X, Φ10 X → X = y10))
    (h : St c arg2 arg6 arg7 arg8 arg9 arg10 x2 x6 y8 y9 y10 Φ7 iprop(owns (c : Thread nD τ) arg3 fullShare x3 ∗ owns (c : Thread nD τ) arg4 fullShare x4 ∗ owns (c : Thread nD τ) arg5 fullShare x5) ⊢ Q ⟨xcat x2, k0_pay1744 (xs x2 0 (by decide)) (xs x2 1 (by decide)) (xs x2 2 (by decide)) (xs x2 3 (by decide)) (xs x2 4 (by decide)) (xs x2 5 (by decide)) (xs x2 6 (by decide)) (xs x2 7 (by decide)) (xs x2 8 (by decide)) (xs x2 9 (by decide)) (xs x2 10 (by decide)) (xs x2 11 (by decide)) (xs x2 12 (by decide)) (xs x2 13 (by decide)) (xs x2 14 (by decide)) (xs x2 15 (by decide))⟩) :
    InvG c arg3 arg4 arg5 arg8 arg9 arg10 x3 x4 x5 Φ8 Φ9 Φ10
      iprop(owns (c : Thread nD τ) arg2 fullShare x2 ∗ owns (c : Thread nD τ) arg6 fullShare x6 ∗ ownsSat (c : Thread nD τ) arg7 fullShare Φ7)
      ⊢ WP (F := F) c (k0_part299 i arg2 harg2 arg3 harg3 arg4 harg4 arg5 harg5 arg6 harg6 arg7 harg7 arg8 harg8 arg9 harg9 arg10 harg10) Q := by
  obtain ⟨e8, e9, e10⟩ := h8
  unfold k0_part299
  by_cases hi : (i 1) = (0 : Fin 4)
  · have ht := (first_iff (i 1)).mpr hi
    extract_lets
    rw [dif_pos]; swap; · exact ht
    with_reducible refine wp_seq c ?_
    with_reducible refine fill_294 c i arg2 harg2 arg3 harg3 arg4 harg4 arg5 harg5 arg6 harg6 arg7 harg7 arg8 harg8 arg9 harg9 arg10 harg10 x3 x4 x5 Φ8 Φ9 Φ10 _ _ ?_
    with_reducible refine wp_seq c ?_
    with_reducible refine fill_295 c i arg2 harg2 arg3 harg3 arg4 harg4 arg5 harg5 arg6 harg6 arg7 harg7 arg8 harg8 arg9 harg9 arg10 harg10 x3 x4 x5 (by decide) _ _ ?_
    with_reducible refine wp_seq c ?_
    with_reducible refine fill_296 c i arg2 harg2 arg3 harg3 arg4 harg4 arg5 harg5 arg6 harg6 arg7 harg7 arg8 harg8 arg9 harg9 arg10 harg10 x3 x4 x5 (by decide) (by decide) (by decide) _ _ ?_
    with_reducible refine wp_seq c ?_
    with_reducible refine fill_297 c i arg2 harg2 arg3 harg3 arg4 harg4 arg5 harg5 arg6 harg6 arg7 harg7 arg8 harg8 arg9 harg9 arg10 harg10 x3 x4 x5 (by decide) (by decide) (by decide) (by decide) (by decide) _ _ ?_
    with_reducible refine wp_seq c ?_
    with_reducible refine fill_298 c i arg2 harg2 arg3 harg3 arg4 harg4 arg5 harg5 arg6 harg6 arg7 harg7 arg8 harg8 arg9 harg9 arg10 harg10 x3 x4 x5 (by decide) (by decide) (by decide) (by decide) (by decide) _ _ ?_
    repeat (refine head_op c ?_; first
      | with_reducible refine L4 c ?_
      | with_reducible refine D9 c (fun _ => ?_)
      | with_reducible refine S9 c (by decide +kernel) ?_
      | with_reducible refine L5 c ?_
      | with_reducible refine D10 c (fun _ => ?_)
      | with_reducible refine S10 c (by decide +kernel) ?_)

    refine BIBase.Entails.trans (Q := St c arg2 arg6 arg7 arg8 arg9 arg10 x2 x6 y8 y9 y10 Φ7 iprop(owns (c : Thread nD τ) arg3 fullShare x3 ∗ owns (c : Thread nD τ) arg4 fullShare x4 ∗ owns (c : Thread nD τ) arg5 fullShare x5)) ?_ ?_
    · exact to_St c (fun X hX => by rw [e8]; exact P8_full x3 X hX) (fun X hX => by rw [e9]; exact P9_full x4 X hX) (fun X hX => by rw [e10]; exact P10_full x5 X hX)
    · repeat (refine head_op c ?_; with_reducible refine B2 c ?_)
      exact Fin' c h
  · have ht := fun hh => hi ((first_iff (i 1)).mp hh)
    extract_lets
    rw [dif_neg]; swap; · exact ht
    refine BIBase.Entails.trans (Q := St c arg2 arg6 arg7 arg8 arg9 arg10 x2 x6 y8 y9 y10 Φ7 iprop(owns (c : Thread nD τ) arg3 fullShare x3 ∗ owns (c : Thread nD τ) arg4 fullShare x4 ∗ owns (c : Thread nD τ) arg5 fullShare x5)) ?_ ?_
    · exact to_St c (hΦ hi).1 (hΦ hi).2.1 (hΦ hi).2.2
    · repeat (refine head_op c ?_; with_reducible refine B2 c ?_)
      exact Fin' c h

end Cert.Proof.S5

end
-- ==== Proof.S5Tri2.lean ====
/-
  The S5 kernel's body run: its parts in order, then the whole body at a grid point.
-/
module

public import proofs.«01_k».proof.Proof.S5Body

@[expose] public section

set_option maxRecDepth 65536
set_option maxHeartbeats 400000

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The local products and the loads. -/
theorem part_300 (c : Dev nD) (i : grid0.Coords) (arg2 : Memref sig .tc .vmem S8192x128 .f32) (harg2 : arg2.IsWhole)
    (arg3 : Memref sig .tc .vmem S8x256x256 .bf16) (harg3 : arg3.IsWhole) (arg4 : Memref sig .tc .vmem S8x256x128 .bf16)
    (harg4 : arg4.IsWhole) (arg5 : Memref sig .tc .vmem S8x128x256 .bf16) (harg5 : arg5.IsWhole)
    (arg6 : Memref sig .tc .vmem S1x16x1024 .f32) (harg6 : arg6.IsWhole) (arg7 : Memref sig .tc .vmem S8192x128 .f32)
    (harg7 : arg7.IsWhole) (arg8 : Memref sig .tc .vmem S2048x2048 .bf16) (harg8 : arg8.IsWhole)
    (arg9 : Memref sig .tc .vmem S2048x1024 .bf16) (harg9 : arg9.IsWhole) (arg10 : Memref sig .tc .vmem S1024x2048 .bf16)
    (harg10 : arg10.IsWhole)
    (x2 : S8192x128.Idx → F .f32) (x6 : S1x16x1024.Idx → F .f32)
    (y8 : S2048x2048.Idx → F .bf16) (y9 : S2048x1024.Idx → F .bf16) (y10 : S1024x2048.Idx → F .bf16) (v20 : FVec F S512x2048 .bf16) (v21 : FVec F S512x256 .bf16)
    (Φ7 : (S8192x128.Idx → Elt F .f32) → Prop) (R : sProp 𝕄)
    (Q : (Σ' (v44 : FVec F S512x2048 .f32) (v46 : FVec F S512x1024 .f32) (v49 : IVec S512x1 32), FVec F S16x1024 .f32) → sProp 𝕄)
    (h : St c arg2 arg6 arg7 arg8 arg9 arg10 x2 x6 y8 y9 y10 Φ7 R ⊢ Q ⟨k0_pay1745 v20 v21 (blk8 y8 256 0 (by decide) (by decide)) (blk8 y8 512 256 (by decide) (by decide)) (blk8 y8 768 512 (by decide) (by decide)) (blk8 y8 1024 768 (by decide) (by decide)) (blk8 y8 1280 1024 (by decide) (by decide)) (blk8 y8 1536 1280 (by decide) (by decide)) (blk8 y8 1792 1536 (by decide) (by decide)) (blk8 y8 2048 1792 (by decide) (by decide)), k0_pay1746 v20 (whole2 (d := ![2048, 1024]) y9), k0_pay1747, pws x6⟩) :
    St c arg2 arg6 arg7 arg8 arg9 arg10 x2 x6 y8 y9 y10 Φ7 R ⊢ WP (F := F) c (k0_part300 i arg2 harg2 arg3 harg3 arg4 harg4 arg5 harg5 arg6 harg6 arg7 harg7 arg8 harg8 arg9 harg9 arg10 harg10 v20 v21) Q := by
  rw [k0_part300_eq_skeleton]
  unfold k0_part300_skel
  repeat (refine head_op c ?_; first
    | with_reducible refine B2 c ?_
    | with_reducible refine B8 c ?_
    | with_reducible refine B9 c ?_
    | with_reducible refine B6 c ?_
    | with_reducible refine B10 c ?_)
  exact Fin' c h

/-- The output computed and its first eleven pieces stored. -/
theorem part_304 (c : Dev nD) (i : grid0.Coords) (arg2 : Memref sig .tc .vmem S8192x128 .f32) (harg2 : arg2.IsWhole)
    (arg3 : Memref sig .tc .vmem S8x256x256 .bf16) (harg3 : arg3.IsWhole) (arg4 : Memref sig .tc .vmem S8x256x128 .bf16)
    (harg4 : arg4.IsWhole) (arg5 : Memref sig .tc .vmem S8x128x256 .bf16) (harg5 : arg5.IsWhole)
    (arg6 : Memref sig .tc .vmem S1x16x1024 .f32) (harg6 : arg6.IsWhole) (arg7 : Memref sig .tc .vmem S8192x128 .f32)
    (harg7 : arg7.IsWhole) (arg8 : Memref sig .tc .vmem S2048x2048 .bf16) (harg8 : arg8.IsWhole)
    (arg9 : Memref sig .tc .vmem S2048x1024 .bf16) (harg9 : arg9.IsWhole) (arg10 : Memref sig .tc .vmem S1024x2048 .bf16)
    (harg10 : arg10.IsWhole)
    (x2 : S8192x128.Idx → F .f32) (x6 : S1x16x1024.Idx → F .f32)
    (y8 : S2048x2048.Idx → F .bf16) (y9 : S2048x1024.Idx → F .bf16) (y10 : S1024x2048.Idx → F .bf16) (v44 : FVec F S512x2048 .f32) (v203 : FVec F S512x1024 .bf16) (Y : FVec F S512x2048 .f32)
    (eY : Y = k0_pay1759 v44 v203 (whole2 (d := ![1024, 2048]) y10))
    (Φ7 : (S8192x128.Idx → Elt F .f32) → Prop) (R : sProp 𝕄) (Q : FVec F S512x2048 .f32 → sProp 𝕄)
    (h : St c arg2 arg6 arg7 arg8 arg9 arg10 x2 x6 y8 y9 y10 (P7 Y 11) R ⊢ Q Y) :
    St c arg2 arg6 arg7 arg8 arg9 arg10 x2 x6 y8 y9 y10 Φ7 R ⊢ WP (F := F) c (k0_part304 i arg2 harg2 arg3 harg3 arg4 harg4 arg5 harg5 arg6 harg6 arg7 harg7 arg8 harg8 arg9 harg9 arg10 harg10 v44 v203) Q := by
  subst eY
  rw [k0_part304_eq_skeleton]
  unfold k0_part304_skel
  refine W7 c (Ψ := P7 (k0_pay1759 v44 v203 (whole2 (d := ![1024, 2048]) y10)) 0) (fun X _ i hi => absurd hi (Nat.not_lt_zero _)) ?_
  · refine head_op c ?_
    with_reducible refine B10 c ?_
    repeat (refine head_op c ?_; (with_reducible refine B7 c (fun _ => ?_)); refine head_op c ?_; (with_reducible refine S7 c ?_ ?_); focus (exact ⟨_, by decide, rfl, by decide⟩))
    exact Fin' c h

end Cert.Proof.S5

end
-- ==== Proof.S5Tri3.lean ====
/-
  The S5 kernel's body run: its parts in order, then the whole body at a grid point.
-/
module

public import proofs.«01_k».proof.Proof.S5Tri1
public import proofs.«01_k».proof.Proof.S5Tri2

@[expose] public section

set_option maxRecDepth 65536
set_option maxHeartbeats 400000

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole body at a grid point. -/
theorem body_run (c : Dev nD) (i : grid0.Coords) (arg2 : Memref sig .tc .vmem S8192x128 .f32) (harg2 : arg2.IsWhole)
    (arg3 : Memref sig .tc .vmem S8x256x256 .bf16) (harg3 : arg3.IsWhole) (arg4 : Memref sig .tc .vmem S8x256x128 .bf16)
    (harg4 : arg4.IsWhole) (arg5 : Memref sig .tc .vmem S8x128x256 .bf16) (harg5 : arg5.IsWhole)
    (arg6 : Memref sig .tc .vmem S1x16x1024 .f32) (harg6 : arg6.IsWhole) (arg7 : Memref sig .tc .vmem S8192x128 .f32)
    (harg7 : arg7.IsWhole) (arg8 : Memref sig .tc .vmem S2048x2048 .bf16) (harg8 : arg8.IsWhole)
    (arg9 : Memref sig .tc .vmem S2048x1024 .bf16) (harg9 : arg9.IsWhole) (arg10 : Memref sig .tc .vmem S1024x2048 .bf16)
    (harg10 : arg10.IsWhole)
    (x3 : S8x256x256.Idx → F .bf16) (x4 : S8x256x128.Idx → F .bf16) (x5 : S8x128x256.Idx → F .bf16) (x2 : S8192x128.Idx → F .f32) (x6 : S1x16x1024.Idx → F .f32)
    (Φ7 : (S8192x128.Idx → Elt F .f32) → Prop) (Φ8 : (S2048x2048.Idx → Elt F .bf16) → Prop)
    (Φ9 : (S2048x1024.Idx → Elt F .bf16) → Prop) (Φ10 : (S1024x2048.Idx → Elt F .bf16) → Prop)
    (Q : PUnit → sProp 𝕄)
    (hΦ : (i 1) ≠ (0 : Fin 4) → (∀ X, Φ8 X → X = tzd x3) ∧ (∀ X, Φ9 X → X = gmd x4) ∧ (∀ X, Φ10 X → X = ccd x5))
    (h : St c arg2 arg6 arg7 arg8 arg9 arg10 x2 x6 (tzd x3) (gmd x4) (ccd x5) (P7 (yfin x2 x6 (tzd x3) (gmd x4) (ccd x5)) 16)
      iprop(owns (c : Thread nD τ) arg3 fullShare x3 ∗ owns (c : Thread nD τ) arg4 fullShare x4 ∗ owns (c : Thread nD τ) arg5 fullShare x5) ⊢ Q ⟨⟩) :
    InvG c arg3 arg4 arg5 arg8 arg9 arg10 x3 x4 x5 Φ8 Φ9 Φ10
      iprop(owns (c : Thread nD τ) arg2 fullShare x2 ∗ owns (c : Thread nD τ) arg6 fullShare x6 ∗ ownsSat (c : Thread nD τ) arg7 fullShare Φ7)
      ⊢ WP (F := F) c (cc0_s5 i arg2 harg2 arg3 harg3 arg4 harg4 arg5 harg5 arg6 harg6 arg7 harg7 arg8 harg8 arg9 harg9 arg10 harg10) Q := by
  rw [cc0_s5_eq_skeleton]
  unfold cc0_s5_skel
  with_reducible refine wp_seq c ?_
  refine part_299 c i arg2 harg2 arg3 harg3 arg4 harg4 arg5 harg5 arg6 harg6 arg7 harg7 arg8 harg8 arg9 harg9 arg10 harg10 x3 x4 x5 x2 x6 (tzd x3) (gmd x4) (ccd x5) Φ7 Φ8 Φ9 Φ10 _ ⟨rfl, rfl, rfl⟩ hΦ ?_
  dsimp only
  with_reducible refine wp_seq c ?_
  refine part_300 c i arg2 harg2 arg3 harg3 arg4 harg4 arg5 harg5 arg6 harg6 arg7 harg7 arg8 harg8 arg9 harg9 arg10 harg10 x2 x6 (tzd x3) (gmd x4) (ccd x5) _ _ Φ7 _ _ ?_
  dsimp only
  with_reducible refine wp_seq c ?_
  rw [k0_part301_eq_skeleton]
  unfold k0_part301_skel
  refine wp_done c ?_
  dsimp only
  with_reducible refine wp_seq c ?_
  rw [k0_part302_eq_skeleton]
  unfold k0_part302_skel
  refine wp_done c ?_
  dsimp only
  with_reducible refine wp_seq c ?_
  rw [k0_part303_eq_skeleton]
  unfold k0_part303_skel
  refine wp_done c ?_
  with_reducible refine wp_seq c ?_
  refine part_304 c i arg2 harg2 arg3 harg3 arg4 harg4 arg5 harg5 arg6 harg6 arg7 harg7 arg8 harg8 arg9 harg9 arg10 harg10 x2 x6 (tzd x3) (gmd x4) (ccd x5) _ _ (yfin x2 x6 (tzd x3) (gmd x4) (ccd x5)) rfl Φ7 _ _ ?_
  repeat (refine head_op c ?_; (with_reducible refine B7 c (fun _ => ?_)); refine head_op c ?_; (with_reducible refine S7 c ?_ ?_); focus (exact ⟨_, by decide, rfl, by decide⟩))
  exact Fin' c h

end Cert.Proof.S5

end
-- ==== Proof.S5Run.lean ====
/-
  The S5 kernel's run: what the pipeline carries from a grid point to the next (the filled scratch), the body's obligation,
  and the run of @main with every semaphore at zero.
-/
module

public import proofs.«01_k».proof.Proof.S5Tri3
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody

@[expose] public section

set_option maxRecDepth 16384
set_option maxHeartbeats 1000000

noncomputable section

namespace Cert.Proof.S5

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six input and output blocks at a grid point: the tokens, the three operators, the powers. -/
abbrev bu (c : Dev nD) (t : Fin cfg0.N) : S8192x128.Idx → F .f32 := iblk m c 0 t
abbrev btz (c : Dev nD) (t : Fin cfg0.N) : S8x256x256.Idx → F .bf16 := iblk m c 1 t
abbrev bgm (c : Dev nD) (t : Fin cfg0.N) : S8x256x128.Idx → F .bf16 := iblk m c 2 t
abbrev bcc (c : Dev nD) (t : Fin cfg0.N) : S8x128x256.Idx → F .bf16 := iblk m c 3 t
abbrev bpw (c : Dev nD) (t : Fin cfg0.N) : S1x16x1024.Idx → F .f32 := iblk m c 4 t

/-- The output, one row a chunk, at a grid point. -/
def yAt (c : Dev nD) (t : Fin cfg0.N) : FVec F S512x2048 .f32 :=
  yfin (bu m c t) (bpw m c t) (tzd (btz m c t)) (gmd (bgm m c t)) (ccd (bcc m c t))

/-- What is known of a scratch array before point `t`: from the second block of a slab on, its contents `f` at the point
    before. -/
def kept {sh : Shape} {e : EltTy} (f : Fin cfg0.N → sh.Idx → Elt F e) (t : Fin (cfg0.N + 1)) (X : sh.Idx → Elt F e) : Prop :=
  ∀ t' : Fin cfg0.N, t'.val + 1 = t.val → t.val % 4 ≠ 0 → X = f t'

/-- What the pipeline carries: the scratch, and the generator register. -/
def carry (c : Dev nD) (t : Fin (cfg0.N + 1)) : sProp 𝕄 :=
  iprop(ownsSat (c : Thread nD τ) (Memref.whole cc0_scratch0) fullShare (kept (e := .bf16) (fun t => tzd (btz m c t)) t) ∗
    ownsSat (c : Thread nD τ) (Memref.whole cc0_scratch1) fullShare (kept (e := .bf16) (fun t => gmd (bgm m c t)) t) ∗
    ownsSat (c : Thread nD τ) (Memref.whole cc0_scratch2) fullShare (kept (e := .bf16) (fun t => ccd (bcc m c t)) t) ∗
    ∃ r, prngReg c r)

/-- The proof data: the arrays as the region finds them; after the body the inputs in place, the output block written. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outY (yAt m c t)
  Φ t := carry m c t
  q _ := fullShare
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d

/-- The second coordinate of a grid point. -/
theorem coord1 : ∀ t : Fin grid0.N, ((grid0.coords t) 1).val = t.val % 4 := by decide
theorem coord0 : ∀ t : Fin grid0.N, ((grid0.coords t) 0).val = t.val / 4 := by decide

/-- An operator's block does not move within a slab. -/
theorem prev_1 (c : Dev nD) (t t' : Fin cfg0.N) (h : t'.val + 1 = t.val) (h4 : t.val % 4 ≠ 0) : iblk m c 1 t' = iblk m c 1 t := by
  have e := before_1 m c t (iblk m c 1 t)
  unfold Dat.before at e
  rw [if_neg (fun hf => h4 ((fetch0_1 t).mp hf)), if_neg (by omega)] at e
  have : (⟨t.val - 1, by omega⟩ : Fin cfg0.N) = t' := Fin.ext (by show t.val - 1 = t'.val; omega)
  rw [this] at e
  exact e
theorem prev_2 (c : Dev nD) (t t' : Fin cfg0.N) (h : t'.val + 1 = t.val) (h4 : t.val % 4 ≠ 0) : iblk m c 2 t' = iblk m c 2 t := by
  have e := before_2 m c t (iblk m c 2 t)
  unfold Dat.before at e
  rw [if_neg (fun hf => h4 ((fetch0_2 t).mp hf)), if_neg (by omega)] at e
  have : (⟨t.val - 1, by omega⟩ : Fin cfg0.N) = t' := Fin.ext (by show t.val - 1 = t'.val; omega)
  rw [this] at e
  exact e
theorem prev_3 (c : Dev nD) (t t' : Fin cfg0.N) (h : t'.val + 1 = t.val) (h4 : t.val % 4 ≠ 0) : iblk m c 3 t' = iblk m c 3 t := by
  have e := before_3 m c t (iblk m c 3 t)
  unfold Dat.before at e
  rw [if_neg (fun hf => h4 ((fetch0_3 t).mp hf)), if_neg (by omega)] at e
  have : (⟨t.val - 1, by omega⟩ : Fin cfg0.N) = t' := Fin.ext (by show t.val - 1 = t'.val; omega)
  rw [this] at e
  exact e

/-- What was kept before a point that is not a slab's first, is what the point needs. -/
theorem kept_at (c : Dev nD) (t : Fin cfg0.N) (hi : ((grid0.coords t) 1) ≠ (0 : Fin 4)) :
    (∀ X, kept (F := F) (e := .bf16) (fun t => tzd (btz m c t)) t.castSucc X → X = tzd (btz m c t)) ∧
    (∀ X, kept (F := F) (e := .bf16) (fun t => gmd (bgm m c t)) t.castSucc X → X = gmd (bgm m c t)) ∧
    (∀ X, kept (F := F) (e := .bf16) (fun t => ccd (bcc m c t)) t.castSucc X → X = ccd (bcc m c t)) := by
  have h4 : t.val % 4 ≠ 0 := fun h => hi (Fin.ext ((coord1 t).trans h))
  have hlt := t.isLt
  have ht : (⟨t.val - 1, by omega⟩ : Fin cfg0.N).val + 1 = t.val := by show t.val - 1 + 1 = t.val; omega
  refine ⟨fun X hX => ?_, fun X hX => ?_, fun X hX => ?_⟩
  · exact (hX ⟨t.val - 1, by omega⟩ ht h4).trans (congrArg tzd (prev_1 m c t _ ht h4))
  · exact (hX ⟨t.val - 1, by omega⟩ ht h4).trans (congrArg gmd (prev_2 m c t _ ht h4))
  · exact (hX ⟨t.val - 1, by omega⟩ ht h4).trans (congrArg ccd (prev_3 m c t _ ht h4))

/-- What a point leaves is what is kept before the next. -/
theorem kept_succ {sh : Shape} {e : EltTy} (f : Fin cfg0.N → sh.Idx → Elt F e) (t : Fin cfg0.N) : kept f t.succ (f t) := by
  intro t' h _
  have : t' = t := Fin.ext (by simpa using h)
  rw [this]

/-- The body's obligation. -/
theorem body_obligation (c : Dev nD) : BodyObligationLoose (dats m 0 c) (defs₀ (F := F)) Variants.none () Set.univ := fun t => by
  show iprop(carry m c t.castSucc ∗ _ ∗ _) ⊢ wp frame (wpE defs₀ Variants.none c none) Set.univ (bodyAt0 t) fun _ => iprop(carry m c t.succ ∗ _ ∗ _)
  rw [bigSep_W0, bigSep_W0]
  simp only [before_0, before_1, before_2, before_3, before_4]
  unfold carry
  iintro ⟨⟨H8, H9, H10, Hr⟩, Hw, ⟨%_, H2⟩, ⟨%_, H3⟩, ⟨%_, H4⟩, ⟨%_, H5⟩, ⟨%_, H6⟩, %d, H7⟩
  iapply (wp_wand_r Idealize.ShloMosaic.frame (wpE (defs₀ (F := F)) Variants.none (c : Thread nD τ) none) Set.univ)
  isplitl [H2 H3 H4 H5 H6 H7 H8 H9 H10]
  · iapply (body_run c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (Memref.whole cc0_scratch0) (Memref.isWhole_whole _) (Memref.whole cc0_scratch1) (Memref.isWhole_whole _)
      (Memref.whole cc0_scratch2) (Memref.isWhole_whole _) (btz m c t) (bgm m c t) (bcc m c t) (bu m c t) (bpw m c t)
      (fun _ => True) _ _ _
      (fun _ => St c (st0_0 t) (st0_4 t) (st0_5 t) (Memref.whole cc0_scratch0) (Memref.whole cc0_scratch1) (Memref.whole cc0_scratch2)
        (bu m c t) (bpw m c t) (tzd (btz m c t)) (gmd (bgm m c t)) (ccd (bcc m c t)) (P7 (yAt m c t) 16)
        iprop(owns (c : Thread nD τ) (st0_1 t) fullShare (btz m c t) ∗ owns (c : Thread nD τ) (st0_2 t) fullShare (bgm m c t) ∗ owns (c : Thread nD τ) (st0_3 t) fullShare (bcc m c t)))
      (kept_at m c t) .rfl)
    unfold InvG
    isplitl [H3]; · iexact H3
    isplitl [H4]; · iexact H4
    isplitl [H5]; · iexact H5
    isplitl [H8]; · iexact H8
    isplitl [H9]; · iexact H9
    isplitl [H10]; · iexact H10
    isplitl [H2]; · iexact H2
    isplitl [H6]; · iexact H6
    iapply (owns_sat c (Φ := fun _ => True) (X := (dats m 0 c).before 5 t d) trivial)
    iexact H7
  · iintro %a H
    unfold St
    icases H with ⟨H2, H6, H8, H9, H10, H7, H3, H4, H5⟩
    ihave H7 := (sat_owns c (X := outY (yAt m c t)) (fun X hX => funext fun i => hX i (Nat.mod_lt _ (by decide)))) $$ H7
    ihave H8 := (owns_sat c (Φ := kept (e := .bf16) (fun t => tzd (btz m c t)) t.succ) (kept_succ (e := .bf16) (fun t => tzd (btz m c t)) t)) $$ H8
    ihave H9 := (owns_sat c (Φ := kept (e := .bf16) (fun t => gmd (bgm m c t)) t.succ) (kept_succ (e := .bf16) (fun t => gmd (bgm m c t)) t)) $$ H9
    ihave H10 := (owns_sat c (Φ := kept (e := .bf16) (fun t => ccd (bcc m c t)) t.succ) (kept_succ (e := .bf16) (fun t => ccd (bcc m c t)) t)) $$ H10
    isplitl [H8 H9 H10 Hr]
    · isplitl [H8]; · iexact H8
      isplitl [H9]; · iexact H9
      isplitl [H10]; · iexact H10
      iexact Hr
    isplitl [Hw]; · iexact Hw
    isplitl [H2]; · iexact H2
    isplitl [H3]; · iexact H3
    isplitl [H4]; · iexact H4
    isplitl [H5]; · iexact H5
    isplitl [H6]; · iexact H6
    iexact H7

theorem share_eq (c : Dev nD) (w : Fin cfg0.W) : (dats m 0 c).share w = fullShare := by
  unfold Dat.share; split <;> rfl

theorem phi_in (c : Dev nD) : (Pipeline.ΦA spec0 c : sProp 𝕄) ⊢ (dats m 0 c).Φ 0 := by
  show _ ⊢ carry m c 0
  unfold Pipeline.ΦA carry
  rw [scopedRest0_eq]
  have hk : ∀ {sh : Shape} {e : EltTy} (f : Fin cfg0.N → sh.Idx → Elt F e) (X : sh.Idx → Elt F e), kept f (0 : Fin (cfg0.N + 1)) X :=
    fun f X t' h _ => absurd h (Nat.succ_ne_zero _)
  iintro ⟨⟨⟨%f8, H8⟩, ⟨%f9, H9⟩, %f10, H10⟩, Hr⟩
  isplitl [H8]
  · iapply (owns_sat c (X := f8) (hk _ _)); rw [owns_whole_eq]; iexists f8; isplitr; · ipureintro; rfl
    iexact H8
  isplitl [H9]
  · iapply (owns_sat c (X := f9) (hk _ _)); rw [owns_whole_eq]; iexists f9; isplitr; · ipureintro; rfl
    iexact H9
  isplitl [H10]
  · iapply (owns_sat c (X := f10) (hk _ _)); rw [owns_whole_eq]; iexists f10; isplitr; · ipureintro; rfl
    iexact H10
  iexact Hr

theorem phi_out (c : Dev nD) : (dats m 0 c).Φ (Fin.last cfg0.N) ⊢ (Pipeline.ΦA spec0 c : sProp 𝕄) := by
  show carry m c _ ⊢ _
  unfold Pipeline.ΦA carry
  rw [scopedRest0_eq]
  iintro ⟨H8, H9, H10, Hr⟩
  ihave H8 := (ownsSat_any (c : Thread nD τ) (Memref.whole cc0_scratch0) fullShare) $$ H8
  ihave H9 := (ownsSat_any (c : Thread nD τ) (Memref.whole cc0_scratch1) fullShare) $$ H9
  ihave H10 := (ownsSat_any (c : Thread nD τ) (Memref.whole cc0_scratch2) fullShare) $$ H10
  simp only [owns_whole_eq]
  icases H8 with ⟨%_, %f8, -, H8⟩
  icases H9 with ⟨%_, %f9, -, H9⟩
  icases H10 with ⟨%_, %f10, -, H10⟩
  isplitr [Hr]
  · isplitl [H8]; · iexists f8; iexact H8
    isplitl [H9]; · iexists f9; iexact H9
    iexists f10; iexact H10
  iexact Hr

/-- The run of @main: the arrays at what the proof data compute, every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) 0 launch0 defs₀ Variants.none m ρ main (body_obligation m) (share_eq m) (fun _ _ => rfl) (V m)
    (hmain m Variants.none) (fun _ _ => rfl) (phi_in m) (phi_out m) (Q' := fun r => Pipeline.FramePost cfgs (dats m) 0 (V m) r ∧ r.2.sem = fun _ => 0)
    (hQ' := fun _ h => h)

/-- The arguments are as launched after the run. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats m 0 c).arrAt_in 0 rfl _).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

/-- The run: the arguments end as launched and every semaphore at zero. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨args_kept m r h.1, h.2⟩) (run_main m ρ)

end Cert.Proof.S5

end
-- ==== Proof.ProjValue.lean ====
/-
  The input projection's values: every row normalized by its root mean square and scaled, then one product with the
  weight, whose columns the four results share out. The kernel works on 256 rows at a time; a row of a result reads
  one row of the input only, so a block of rows gives that block of the results.
-/
module

public import proofs.«01_k».proof.Proof.Gen.ProjKernelIdeal.Value
public import proofs.«01_k».proof.Proof.Gen.ProjReferenceIdeal
public import proofs.«01_k».proof.Proof.Gen.ProjReferenceIdeal.Run
public import Idealize.ShloMosaic.Lib.Pointwise
public import Idealize.ShloMosaic.Lib.Claim

@[expose] public section

set_option maxRecDepth 16384

noncomputable section

namespace Cert.Proof.Proj

open Idealize.ShloMosaic Idealize.ShloMosaic.TcCoe Idealize.SL.Sem

/-- A row of `n` rows of 1024 values, normalized by its root mean square and scaled by `w`, at place `k`. -/
def nrm {n : ℕ} (x : (⟨2, ![n, 1024]⟩ : Shape).Idx → EReal) (w : Fin 1024 → EReal) (r : Fin n) (k : Fin 1024) : EReal :=
  x (ix2 r k) * Ideal.rsqrt (Ideal.div (∑ j : Fin 1024, x (ix2 r j) * x (ix2 r j)) (Ideal.ofBits .f32 1149239296#32) + Ideal.ofBits .f32 897988541#32) * w k

/-- The result that takes the weight's columns from `off` on. -/
def G {n : ℕ} (off : ℕ) (h : off + n ≤ 6784) (x : (⟨2, ![32768, 1024]⟩ : Shape).Idx → EReal) (w : (⟨1, ![1024]⟩ : Shape).Idx → EReal)
    (W : (⟨2, ![1024, 6784]⟩ : Shape).Idx → EReal) : (⟨2, ![32768, n]⟩ : Shape).Idx → EReal := fun i =>
  ∑ k : Fin 1024, nrm x (fun k => w (ix1 k)) (i 0) k * W (ix2 k ⟨off + (i 1).val, lt_of_lt_of_le (Nat.add_lt_add_left (i 1).isLt off) h⟩)

section reference

open Cert.ProjReferenceIdeal Cert.ProjReferenceIdeal.Gen

/-- The reference's run, its four results named. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = G (n := 3200) 0 (by decide) (m ((c.tc : Thread nD τ).loc main_arg0)) (m ((c.tc : Thread nD τ).loc main_arg1)) (m ((c.tc : Thread nD τ).loc main_arg2))
      ∧ r.2.mem ((c.tc : Thread nD τ).loc main_v15) = G (n := 1024) 3200 (by decide) (m ((c.tc : Thread nD τ).loc main_arg0)) (m ((c.tc : Thread nD τ).loc main_arg1)) (m ((c.tc : Thread nD τ).loc main_arg2))
      ∧ r.2.mem ((c.tc : Thread nD τ).loc main_v16) = G (n := 256) 4224 (by decide) (m ((c.tc : Thread nD τ).loc main_arg0)) (m ((c.tc : Thread nD τ).loc main_arg1)) (m ((c.tc : Thread nD τ).loc main_arg2))
      ∧ r.2.mem ((c.tc : Thread nD τ).loc main_v17) = G (n := 2304) 4480 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, hr⟩ := h c
    refine ⟨h0.trans ?_, h1.trans ?_, h2.trans ?_, h3.trans ?_, hr⟩ <;>
    · funext j
      idx_vars j
      unfold G nrm
      pointwise
      try rfl) (Value.run (F := Ideal) m ρ)

end reference

open Cert.ProjKernelIdeal Cert.ProjKernelIdeal.Gen Cert.ProjKernelIdeal.Value

theorem hz : (![0, 0] : Fin 2 → Nat) = fun _ => 0 := funext fun a => by fin_cases a <;> rfl

/-- What the body leaves in result 0's block, at a row and a column. -/
theorem out3_apply (x0 : Vec Ideal S256x1024 .f32) (x1 : Vec Ideal S1x1024 .f32) (x2 : Vec Ideal S1024x6784 .bf16) (r : Fin 256) (q : Fin 3200) :
    out0_3 x0 x1 x2 (ix2 r q) = ∑ k : Fin 1024, nrm x0 (fun k => x1 (ix2 0 k)) r k * x2 (ix2 k ⟨0 + q.val, by omega⟩) := by
  unfold out0_3 nrm
  rw [View.canon_unit_zero hz]
  pointwise [k0_pay2, k0_pay1]
  try rfl

/-- What the body leaves in result 1's block, at a row and a column. -/
theorem out4_apply (x0 : Vec Ideal S256x1024 .f32) (x1 : Vec Ideal S1x1024 .f32) (x2 : Vec Ideal S1024x6784 .bf16) (r : Fin 256) (q : Fin 1024) :
    out0_4 x0 x1 x2 (ix2 r q) = ∑ k : Fin 1024, nrm x0 (fun k => x1 (ix2 0 k)) r k * x2 (ix2 k ⟨3200 + q.val, by omega⟩) := by
  unfold out0_4 nrm
  rw [View.canon_unit_zero hz]
  pointwise [k0_pay3, k0_pay1]
  try rfl

/-- What the body leaves in result 2's block, at a row and a column. -/
theorem out5_apply (x0 : Vec Ideal S256x1024 .f32) (x1 : Vec Ideal S1x1024 .f32) (x2 : Vec Ideal S1024x6784 .bf16) (r : Fin 256) (q : Fin 256) :
    out0_5 x0 x1 x2 (ix2 r q) = ∑ k : Fin 1024, nrm x0 (fun k => x1 (ix2 0 k)) r k * x2 (ix2 k ⟨4224 + q.val, by omega⟩) := by
  unfold out0_5 nrm
  rw [View.canon_unit_zero hz]
  pointwise [k0_pay4, k0_pay1]
  try rfl

/-- What the body leaves in result 3's block, at a row and a column. -/
theorem out6_apply (x0 : Vec Ideal S256x1024 .f32) (x1 : Vec Ideal S1x1024 .f32) (x2 : Vec Ideal S1024x6784 .bf16) (r : Fin 256) (q : Fin 2304) :
    out0_6 x0 x1 x2 (ix2 r q) = ∑ k : Fin 1024, nrm x0 (fun k => x1 (ix2 0 k)) r k * x2 (ix2 k ⟨4480 + q.val, by omega⟩) := by
  unfold out0_6 nrm
  rw [View.canon_unit_zero hz]
  pointwise [k0_pay5, k0_pay1]
  try rfl

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- Row `r` of the block at point `t`, among all rows. -/
def grow (t : Fin cfg0.N) (r : Fin 256) : Fin 32768 := ⟨t.val * 256 + r.val, by
  have h := t.isLt
  have : cfg0.N = 128 := by decide
  omega⟩

/-- The input's block at point `t`. -/
theorem iblk0_apply (c : Dev nD) (t : Fin cfg0.N) (r : Fin 256) (k : Fin 1024) :
    iblk m c 0 t (ix2 r k) = m ((c : Thread nD τ).loc main_arg0) (ix2 (grow t r) k) := by
  show V m c main_arg0 (((cfg0.win 0).blk t).view.emb (ix2 r k)) = _
  rw [V_main_arg0]
  obtain ⟨e0, e1⟩ := idx0 t
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 1024 + 1 * k.val = k.val; omega

/-- The scale's block, at every point. -/
theorem iblk1_apply (c : Dev nD) (t : Fin cfg0.N) (k : Fin 1024) :
    iblk m c 1 t (ix2 0 k) = m ((c : Thread nD τ).loc main_arg1) (ix1 k) := by
  show V m c main_v1 (((cfg0.win 1).blk t).view.emb (ix2 0 k)) = _
  have e : (((cfg0.win 1).blk t).view.emb (ix2 (0 : Fin 1) k)) = (ix2 (0 : Fin 1) k : S1x1024.Idx) := by
    obtain ⟨e0, e1⟩ := idx1 t
    refine funext fun a => Fin.ext ?_
    match a with
    | ⟨0, _⟩ => show win0_1.index t (0 : Fin 2) * 1 + 1 * 0 = 0; omega
    | ⟨1, _⟩ => show win0_1.index t (1 : Fin 2) * 1024 + 1 * k.val = k.val; omega
  rw [e]
  have hV : (V m c main_v1 : S1x1024.Idx → EReal) = shapeCast S1x1024 (m ((c : Thread nD τ).loc main_arg1) : Vec Ideal S1024 .f32) shapeCasts_S1024_S1x1024 := by
    unfold V; after_results; rfl
  rw [hV]
  pointwise

/-- The weight's block, at every point. -/
theorem iblk2_apply (c : Dev nD) (t : Fin cfg0.N) (k : Fin 1024) (q : Fin 6784) :
    iblk m c 2 t (ix2 k q) = m ((c : Thread nD τ).loc main_arg2) (ix2 k q) := by
  show V m c main_v0 (((cfg0.win 2).blk t).view.emb (ix2 k q)) = _
  have e : (((cfg0.win 2).blk t).view.emb (ix2 k q)) = (ix2 k q : S1024x6784.Idx) := by
    obtain ⟨e0, e1⟩ := idx2 t
    refine funext fun a => Fin.ext ?_
    match a with
    | ⟨0, _⟩ => show win0_2.index t (0 : Fin 2) * 1024 + 1 * k.val = k.val; omega
    | ⟨1, _⟩ => show win0_2.index t (1 : Fin 2) * 6784 + 1 * q.val = q.val; omega
  rw [e]
  have hV : (V m c main_v0 : S1024x6784.Idx → EReal) = truncf (F := Ideal) .bf16 (m ((c : Thread nD τ).loc main_arg2) : Vec Ideal S1024x6784 .f32) bitsLt_bf16_f32 := by
    unfold V; after_results
  rw [hV]
  pointwise

/-- A normalized row of the block is that row of the whole input, normalized. -/
theorem nrm_block (c : Dev nD) (t : Fin cfg0.N) (r : Fin 256) (k : Fin 1024) :
    nrm (n := 256) (iblk m c 0 t) (fun k => iblk m c 1 t (ix2 0 k)) r k
      = nrm (n := 32768) (m ((c : Thread nD τ).loc main_arg0)) (fun k => m ((c : Thread nD τ).loc main_arg1) (ix1 k)) (grow t r) k := by
  unfold nrm
  simp only [iblk0_apply, iblk1_apply]

/-- Result 0. -/
abbrev res3 (c : Dev nD) : Vec Ideal S32768x3200 .f32 :=
  G (n := 3200) 0 (by decide) (m ((c : Thread nD τ).loc main_arg0)) (m ((c : Thread nD τ).loc main_arg1)) (m ((c : Thread nD τ).loc main_arg2))

theorem emb3 (t : Fin cfg0.N) (r : Fin 256) (q : Fin 3200) : ((cfg0.win 3).blk t).view.emb (ix2 r q) = (ix2 (grow t r) q : S32768x3200.Idx) := by
  obtain ⟨e0, e1⟩ := idx3 t
  refine funext fun a => Fin.ext ?_
  match a with
  | ⟨0, _⟩ => show win0_3.index t (0 : Fin 2) * 256 + 1 * r.val = t.val * 256 + r.val; omega
  | ⟨1, _⟩ => show win0_3.index t (1 : Fin 2) * 3200 + 1 * q.val = q.val; omega

theorem flushed3_eq (c : Dev nD) (t : Fin cfg0.N) :
    (dats m 0 c).flushed 3 t = ((cfg0.win 3).blk t).view.read (Elt Ideal) (res3 m c) := by
  rw [flushed3]
  refine funext fun (j : S256x3200.Idx) => ?_
  obtain ⟨r, q, rfl⟩ : ∃ (a : Fin 256) (b : Fin 3200), j = ix2 a b := ⟨j 0, j 1, eq_ix2 j⟩
  show out0_3 (iblk m c 0 t) (iblk m c 1 t) (iblk m c 2 t) (ix2 r q) = res3 m c (((cfg0.win 3).blk t).view.emb (ix2 r q))
  rw [emb3, out3_apply]
  refine Finset.sum_congr rfl fun k _ => ?_
  rw [nrm_block, iblk2_apply]
  rfl

theorem covered3 (i : S32768x3200.Idx) : ∃ t : Fin cfg0.N, (cfg0.win 3).flush t = true ∧ i ∈ ((cfg0.win 3).blk t).view.set := by
  obtain ⟨r, q, rfl⟩ : ∃ (a : Fin 32768) (b : Fin 3200), i = ix2 a b := ⟨i 0, i 1, eq_ix2 i⟩
  have hN : cfg0.N = 128 := by decide
  refine ⟨⟨r.val / 256, by omega⟩, flush0_3 _, ?_⟩
  have h := ((cfg0.win 3).blk (⟨r.val / 256, by omega⟩ : Fin cfg0.N)).view.emb_mem_set (ix2 (⟨r.val % 256, by omega⟩ : Fin 256) q)
  rw [emb3] at h
  have e : grow (⟨r.val / 256, by omega⟩ : Fin cfg0.N) (⟨r.val % 256, by omega⟩ : Fin 256) = r := Fin.ext (Nat.div_add_mod' r.val 256)
  rwa [e] at h

theorem final3 (c : Dev nD) : (dats m 0 c).arrAt 3 cfg0.N = res3 m c :=
  (dats m 0 c).arrAt_eq_of_cover 3 (res3 m c) (fun t _ => flushed3_eq m c t) covered3

/-- Result 1. -/
abbrev res4 (c : Dev nD) : Vec Ideal S32768x1024 .f32 :=
  G (n := 1024) 3200 (by decide) (m ((c : Thread nD τ).loc main_arg0)) (m ((c : Thread nD τ).loc main_arg1)) (m ((c : Thread nD τ).loc main_arg2))

theorem emb4 (t : Fin cfg0.N) (r : Fin 256) (q : Fin 1024) : ((cfg0.win 4).blk t).view.emb (ix2 r q) = (ix2 (grow t r) q : S32768x1024.Idx) := by
  obtain ⟨e0, e1⟩ := idx4 t
  refine funext fun a => Fin.ext ?_
  match a with
  | ⟨0, _⟩ => show win0_4.index t (0 : Fin 2) * 256 + 1 * r.val = t.val * 256 + r.val; omega
  | ⟨1, _⟩ => show win0_4.index t (1 : Fin 2) * 1024 + 1 * q.val = q.val; omega

theorem flushed4_eq (c : Dev nD) (t : Fin cfg0.N) :
    (dats m 0 c).flushed 4 t = ((cfg0.win 4).blk t).view.read (Elt Ideal) (res4 m c) := by
  rw [flushed4]
  refine funext fun (j : S256x1024.Idx) => ?_
  obtain ⟨r, q, rfl⟩ : ∃ (a : Fin 256) (b : Fin 1024), j = ix2 a b := ⟨j 0, j 1, eq_ix2 j⟩
  show out0_4 (iblk m c 0 t) (iblk m c 1 t) (iblk m c 2 t) (ix2 r q) = res4 m c (((cfg0.win 4).blk t).view.emb (ix2 r q))
  rw [emb4, out4_apply]
  refine Finset.sum_congr rfl fun k _ => ?_
  rw [nrm_block, iblk2_apply]
  rfl

theorem covered4 (i : S32768x1024.Idx) : ∃ t : Fin cfg0.N, (cfg0.win 4).flush t = true ∧ i ∈ ((cfg0.win 4).blk t).view.set := by
  obtain ⟨r, q, rfl⟩ : ∃ (a : Fin 32768) (b : Fin 1024), i = ix2 a b := ⟨i 0, i 1, eq_ix2 i⟩
  have hN : cfg0.N = 128 := by decide
  refine ⟨⟨r.val / 256, by omega⟩, flush0_4 _, ?_⟩
  have h := ((cfg0.win 4).blk (⟨r.val / 256, by omega⟩ : Fin cfg0.N)).view.emb_mem_set (ix2 (⟨r.val % 256, by omega⟩ : Fin 256) q)
  rw [emb4] at h
  have e : grow (⟨r.val / 256, by omega⟩ : Fin cfg0.N) (⟨r.val % 256, by omega⟩ : Fin 256) = r := Fin.ext (Nat.div_add_mod' r.val 256)
  rwa [e] at h

theorem final4 (c : Dev nD) : (dats m 0 c).arrAt 4 cfg0.N = res4 m c :=
  (dats m 0 c).arrAt_eq_of_cover 4 (res4 m c) (fun t _ => flushed4_eq m c t) covered4

/-- Result 2. -/
abbrev res5 (c : Dev nD) : Vec Ideal S32768x256 .f32 :=
  G (n := 256) 4224 (by decide) (m ((c : Thread nD τ).loc main_arg0)) (m ((c : Thread nD τ).loc main_arg1)) (m ((c : Thread nD τ).loc main_arg2))

theorem emb5 (t : Fin cfg0.N) (r : Fin 256) (q : Fin 256) : ((cfg0.win 5).blk t).view.emb (ix2 r q) = (ix2 (grow t r) q : S32768x256.Idx) := by
  obtain ⟨e0, e1⟩ := idx5 t
  refine funext fun a => Fin.ext ?_
  match a with
  | ⟨0, _⟩ => show win0_5.index t (0 : Fin 2) * 256 + 1 * r.val = t.val * 256 + r.val; omega
  | ⟨1, _⟩ => show win0_5.index t (1 : Fin 2) * 256 + 1 * q.val = q.val; omega

theorem flushed5_eq (c : Dev nD) (t : Fin cfg0.N) :
    (dats m 0 c).flushed 5 t = ((cfg0.win 5).blk t).view.read (Elt Ideal) (res5 m c) := by
  rw [flushed5]
  refine funext fun (j : S256x256.Idx) => ?_
  obtain ⟨r, q, rfl⟩ : ∃ (a : Fin 256) (b : Fin 256), j = ix2 a b := ⟨j 0, j 1, eq_ix2 j⟩
  show out0_5 (iblk m c 0 t) (iblk m c 1 t) (iblk m c 2 t) (ix2 r q) = res5 m c (((cfg0.win 5).blk t).view.emb (ix2 r q))
  rw [emb5, out5_apply]
  refine Finset.sum_congr rfl fun k _ => ?_
  rw [nrm_block, iblk2_apply]
  rfl

theorem covered5 (i : S32768x256.Idx) : ∃ t : Fin cfg0.N, (cfg0.win 5).flush t = true ∧ i ∈ ((cfg0.win 5).blk t).view.set := by
  obtain ⟨r, q, rfl⟩ : ∃ (a : Fin 32768) (b : Fin 256), i = ix2 a b := ⟨i 0, i 1, eq_ix2 i⟩
  have hN : cfg0.N = 128 := by decide
  refine ⟨⟨r.val / 256, by omega⟩, flush0_5 _, ?_⟩
  have h := ((cfg0.win 5).blk (⟨r.val / 256, by omega⟩ : Fin cfg0.N)).view.emb_mem_set (ix2 (⟨r.val % 256, by omega⟩ : Fin 256) q)
  rw [emb5] at h
  have e : grow (⟨r.val / 256, by omega⟩ : Fin cfg0.N) (⟨r.val % 256, by omega⟩ : Fin 256) = r := Fin.ext (Nat.div_add_mod' r.val 256)
  rwa [e] at h

theorem final5 (c : Dev nD) : (dats m 0 c).arrAt 5 cfg0.N = res5 m c :=
  (dats m 0 c).arrAt_eq_of_cover 5 (res5 m c) (fun t _ => flushed5_eq m c t) covered5

/-- Result 3. -/
abbrev res6 (c : Dev nD) : Vec Ideal S32768x2304 .f32 :=
  G (n := 2304) 4480 (by decide) (m ((c : Thread nD τ).loc main_arg0)) (m ((c : Thread nD τ).loc main_arg1)) (m ((c : Thread nD τ).loc main_arg2))

theorem emb6 (t : Fin cfg0.N) (r : Fin 256) (q : Fin 2304) : ((cfg0.win 6).blk t).view.emb (ix2 r q) = (ix2 (grow t r) q : S32768x2304.Idx) := by
  obtain ⟨e0, e1⟩ := idx6 t
  refine funext fun a => Fin.ext ?_
  match a with
  | ⟨0, _⟩ => show win0_6.index t (0 : Fin 2) * 256 + 1 * r.val = t.val * 256 + r.val; omega
  | ⟨1, _⟩ => show win0_6.index t (1 : Fin 2) * 2304 + 1 * q.val = q.val; omega

theorem flushed6_eq (c : Dev nD) (t : Fin cfg0.N) :
    (dats m 0 c).flushed 6 t = ((cfg0.win 6).blk t).view.read (Elt Ideal) (res6 m c) := by
  rw [flushed6]
  refine funext fun (j : S256x2304.Idx) => ?_
  obtain ⟨r, q, rfl⟩ : ∃ (a : Fin 256) (b : Fin 2304), j = ix2 a b := ⟨j 0, j 1, eq_ix2 j⟩
  show out0_6 (iblk m c 0 t) (iblk m c 1 t) (iblk m c 2 t) (ix2 r q) = res6 m c (((cfg0.win 6).blk t).view.emb (ix2 r q))
  rw [emb6, out6_apply]
  refine Finset.sum_congr rfl fun k _ => ?_
  rw [nrm_block, iblk2_apply]
  rfl

theorem covered6 (i : S32768x2304.Idx) : ∃ t : Fin cfg0.N, (cfg0.win 6).flush t = true ∧ i ∈ ((cfg0.win 6).blk t).view.set := by
  obtain ⟨r, q, rfl⟩ : ∃ (a : Fin 32768) (b : Fin 2304), i = ix2 a b := ⟨i 0, i 1, eq_ix2 i⟩
  have hN : cfg0.N = 128 := by decide
  refine ⟨⟨r.val / 256, by omega⟩, flush0_6 _, ?_⟩
  have h := ((cfg0.win 6).blk (⟨r.val / 256, by omega⟩ : Fin cfg0.N)).view.emb_mem_set (ix2 (⟨r.val % 256, by omega⟩ : Fin 256) q)
  rw [emb6] at h
  have e : grow (⟨r.val / 256, by omega⟩ : Fin cfg0.N) (⟨r.val % 256, by omega⟩ : Fin 256) = r := Fin.ext (Nat.div_add_mod' r.val 256)
  rwa [e] at h

theorem final6 (c : Dev nD) : (dats m 0 c).arrAt 6 cfg0.N = res6 m c :=
  (dats m 0 c).arrAt_eq_of_cover 6 (res6 m c) (fun t _ => flushed6_eq m c t) covered6

/-- The kernel's run, its four results named. -/
theorem run_kernel : θ_run (defs (F := Ideal)) (onTc (τ := τ) (main (F := Ideal))) ⟨m, fun _ => 0, ρ⟩ fun r => ∀ c : Dev nD,
      r.2.mem ((c : Thread nD τ).loc main_v2_0) = res3 m c
      ∧ r.2.mem ((c : Thread nD τ).loc main_v2_1) = res4 m c
      ∧ r.2.mem ((c : Thread nD τ).loc main_v2_2) = res5 m c
      ∧ r.2.mem ((c : Thread nD τ).loc main_v2_3) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨h0, h1, h2, h3, hr⟩ := h c
    exact ⟨h0.trans (final3 m c), h1.trans (final4 m c), h2.trans (final5 m c), h3.trans (final6 m c), hr⟩) (run_blocks m ρ)

end Cert.Proof.Proj

end
-- ==== Proof.TailMath.lean ====
/-
  One row of the tail. Its memory attention is written twice: as softmax with each weight divided by the row's sum, head
  by head over that head's 64 lanes; and over all 256 lanes with the other heads' lanes set to zero, the sum divided out
  once at the end. For finite queries and keys the two agree; with an infinite score they need not, since the row's sum is then
  zero.
-/
module

public import Idealize.ShloMosaic.Lib.Pointwise
public import Idealize.ShloMosaic.Lib.Claim
public import Mathlib.Data.EReal.Operations
public import Mathlib.Data.EReal.Inv
public import Mathlib.Logic.Equiv.Fin.Basic

@[expose] public section

set_option maxRecDepth 16384

noncomputable section

namespace Cert.Proof.Tail

open Idealize.ShloMosaic

/-- One eighth, the scale of the scores. -/
abbrev eighth : EReal := Ideal.ofBits .f32 1040187392#32
/-- What a row's greatest score is folded from. -/
abbrev least : EReal := Ideal.ofBits .f32 4286578688#32

theorem eighth_eq : eighth = ((1 / 8 : ℝ) : EReal) := by
  unfold eighth; simp [Ideal.ofBits, Ideal.ieee]
  rw [← EReal.coe_mul]; exact congrArg _ (by norm_num)
theorem least_eq : least = ⊥ := by
  unfold least; simp [Ideal.ofBits, Ideal.ieee]

/-- Every value is a real number. -/
def Fin' {ι : Type} (f : ι → EReal) : Prop := ∃ g : ι → ℝ, f = fun i => (g i : EReal)

/-- `x` times its logistic. -/
def sil (x : EReal) : EReal := x * Ideal.div 1 (1 + Ideal.exp (-x))

/-- Exponentials of scores less their greatest. -/
def smx (s : Fin 256 → EReal) (m : Fin 256) : EReal := Ideal.exp (s m - Finset.fold max least s Finset.univ)

/-- Scores over all lanes, the lanes outside head `h` counted zero. -/
def kSc (q : Fin 256 → EReal) (k : Fin 256 → Fin 256 → EReal) (h : ℕ) (m : Fin 256) : EReal :=
  ∑ l : Fin 256, if l.val / 64 = h then q l * eighth * k m l else 0
/-- Scores over the lanes of head `h`. -/
def rSc (q : Fin 256 → EReal) (k : Fin 256 → Fin 256 → EReal) (h : Fin 4) (m : Fin 256) : EReal :=
  (∑ d : Fin 64, q ⟨h.val * 64 + d.val, by omega⟩ * k m ⟨h.val * 64 + d.val, by omega⟩) * eighth
/-- Head `h`'s part at lane `l`, the sum divided out at the end. -/
def kAtt (q : Fin 256 → EReal) (k v : Fin 256 → Fin 256 → EReal) (h : ℕ) (l : Fin 256) : EReal :=
  (∑ m : Fin 256, if l.val / 64 = h then smx (kSc q k h) m * v m l else 0) * Ideal.div 1 (∑ m : Fin 256, smx (kSc q k h) m)
/-- The attention at lane `l`. -/
def rAtt (q : Fin 256 → EReal) (k v : Fin 256 → Fin 256 → EReal) (l : Fin 256) : EReal :=
  ∑ m : Fin 256, v m l * Ideal.div (smx (rSc q k ⟨l.val / 64, by omega⟩) m) (∑ m : Fin 256, smx (rSc q k ⟨l.val / 64, by omega⟩) m)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the lanes of one head. -/
theorem sum_head {α : Type} [AddCommMonoid α] (f : Fin 256 → α) (h : Fin 4) :
    (∑ l : Fin 256, if l.val / 64 = h.val then f l else 0) = ∑ d : Fin 64, f ⟨h.val * 64 + d.val, by omega⟩ := by
  have e : (∑ l : Fin 256, if l.val / 64 = h.val then f l else 0)
      = ∑ p : Fin 4 × Fin 64, if p.1 = h then f ⟨p.1.val * 64 + p.2.val, by omega⟩ else 0 := by
    refine Fintype.sum_equiv (finProdFinEquiv (m := 4) (n := 64)).symm _ _ fun l => ?_
    have e1 : ((finProdFinEquiv (m := 4) (n := 64)).symm l).1.val = l.val / 64 := rfl
    have e2 : ((finProdFinEquiv (m := 4) (n := 64)).symm l).2.val = l.val % 64 := rfl
    have e3 : (⟨((finProdFinEquiv (m := 4) (n := 64)).symm l).1.val * 64 + ((finProdFinEquiv (m := 4) (n := 64)).symm l).2.val, by omega⟩ : Fin 256) = l :=
      Fin.ext (by simp only [e1, e2]; omega)
    rw [e3]
    refine if_congr ?_ rfl rfl
    rw [Fin.ext_iff, e1]
  rw [e, Fintype.sum_prod_type]
  rw [Finset.sum_eq_single h]
  · simp
  · intro b _ hb; simp [hb]
  · simp

theorem sc_eq {q : Fin 256 → EReal} {k : Fin 256 → Fin 256 → EReal} (hq : Fin' q) (hk : ∀ m, Fin' (k m)) (h : Fin 4) :
    kSc q k h.val = rSc q k h ∧ Fin' (rSc q k h) := by
  obtain ⟨q', rfl⟩ := hq
  choose k' hk' using hk
  obtain rfl : k = fun m l => (k' m l : EReal) := funext hk'
  have er : rSc (fun i => (q' i : EReal)) (fun m l => (k' m l : EReal)) h
      = fun m => (((∑ d : Fin 64, q' ⟨h.val * 64 + d.val, by omega⟩ * k' m ⟨h.val * 64 + d.val, by omega⟩) * (1 / 8) : ℝ) : EReal) := by
    funext m
    unfold rSc
    rw [eighth_eq, EReal.coe_mul, coe_sum]
    simp only [EReal.coe_mul]
  refine ⟨?_, _, er⟩
  rw [er]
  funext m
  unfold kSc
  rw [sum_head (fun l => (q' l : EReal) * eighth * (k' m l : EReal)) h, Finset.sum_mul, coe_sum]
  refine Finset.sum_congr rfl fun d _ => ?_
  rw [eighth_eq, ← EReal.coe_mul, ← EReal.coe_mul]
  exact congrArg _ (by ring)

/-- Finite scores have positive real exponentials. -/
theorem smx_real {s : Fin 256 → EReal} (hs : Fin' s) : ∃ p : Fin 256 → ℝ, (∀ m, 0 < p m) ∧ smx s = fun m => (p m : EReal) := by
  obtain ⟨s', rfl⟩ := hs
  have hm : ∃ x : ℝ, Finset.fold max least (fun i => (s' i : EReal)) Finset.univ = x := by
    refine ⟨_, (EReal.coe_toReal (ne_of_lt ?_) (ne_of_gt ?_)).symm⟩
    · rw [Finset.fold_max_lt, least_eq]
      exact ⟨bot_lt_top, fun i _ => EReal.coe_lt_top _⟩
    · rw [Finset.lt_fold_max]
      exact Or.inr ⟨0, Finset.mem_univ _, EReal.bot_lt_coe _⟩
  obtain ⟨x, hx⟩ := hm
  refine ⟨fun m => Real.exp (s' m - x), fun m => Real.exp_pos _, funext fun m => ?_⟩
  unfold smx
  rw [hx, ← EReal.coe_sub, Ideal.exp_coe]

/-- A positive real factor over a sum, whatever its terms. -/
theorem sum_mul_real {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih, EReal.right_distrib_of_nonneg_of_ne_top (EReal.coe_nonneg.2 hc) (EReal.coe_ne_top c)]

/-- The two writings of the attention agree. -/
theorem att_eq {q : Fin 256 → EReal} {k v : Fin 256 → Fin 256 → EReal} (hq : Fin' q) (hk : ∀ m, Fin' (k m)) (l : Fin 256) :
    kAtt q k v 0 l + kAtt q k v 1 l + kAtt q k v 2 l + kAtt q k v 3 l = rAtt q k v l := by
  have hz : ∀ h : ℕ, l.val / 64 ≠ h → kAtt q k v h l = 0 := fun h hh => by
    unfold kAtt; simp only [if_neg hh, Finset.sum_const_zero, zero_mul]
  have hh : kAtt q k v (l.val / 64) l = rAtt q k v l := by
    obtain ⟨es, hs⟩ := sc_eq hq hk ⟨l.val / 64, by omega⟩
    unfold kAtt rAtt
    simp only [if_true]
    rw [show kSc q k (l.val / 64) = rSc q k ⟨l.val / 64, by omega⟩ from es]
    obtain ⟨p, hp, ep⟩ := smx_real hs
    rw [ep]
    have hS : 0 < ∑ m : Fin 256, p m := Finset.sum_pos (fun m _ => hp m) ⟨0, Finset.mem_univ _⟩
    simp only [← coe_sum, Ideal.div_coe hS.ne']
    rw [one_mul, sum_mul_real _ _ (one_div_pos.2 hS).le]
    exact Finset.sum_congr rfl fun m _ => by rw [mul_comm (p m : EReal), mul_assoc]
  rw [← hh]
  have hl : l.val / 64 = 0 ∨ l.val / 64 = 1 ∨ l.val / 64 = 2 ∨ l.val / 64 = 3 := by omega
  rcases hl with e | e | e | e <;> rw [e] at hz ⊢ <;> simp only [hz 0, hz 1, hz 2, hz 3, ne_eq, not_false_eq_true, zero_add, add_zero, reduceCtorEq, OfNat.ofNat_ne_zero, OfNat.zero_ne_ofNat, OfNat.one_ne_ofNat, OfNat.ofNat_ne_one, zero_ne_one, one_ne_zero, Nat.reduceEqDiff]

/-- The residual stream plus the product of the three parts of a row with the weight, at column `j`. -/
def mixed (att : Fin 256 → EReal) (c d : Fin 1024 → EReal) (z : Fin 1280 → EReal) (h : Fin 1024 → EReal) (W : Fin 2304 → Fin 1024 → EReal) (j : Fin 1024) : EReal :=
  h j + (∑ k : Fin 1024, c k * W ⟨k.val, by omega⟩ j + ∑ k : Fin 1024, d k * sil (z ⟨k.val, by omega⟩) * W ⟨1024 + k.val, by omega⟩ j
    + ∑ l : Fin 256, att l * sil (z ⟨1024 + l.val, by omega⟩) * W ⟨2048 + l.val, by omega⟩ j)

/-- A row normalized by its root mean square and scaled. -/
def norm (x : Fin 1024 → EReal) (w : Fin 1024 → EReal) (j : Fin 1024) : EReal :=
  x j * Ideal.rsqrt (Ideal.div (∑ k : Fin 1024, x k * x k) (Ideal.ofBits .f32 1149239296#32) + Ideal.ofBits .f32 897988541#32) * w j

/-- A sum over the three parts side by side. -/
theorem sum_parts (f : Fin 2304 → EReal) :
    ∑ k : Fin 2304, f k = ∑ k : Fin 1024, f ⟨k.val, by omega⟩ + ∑ k : Fin 1024, f ⟨1024 + k.val, by omega⟩ + ∑ k : Fin 256, f ⟨2048 + k.val, by omega⟩ := by
  rw [show (∑ k : Fin 2304, f k) = ∑ k : Fin (2048 + 256), f k from rfl, Fin.sum_univ_add]
  rw [show (∑ i : Fin 2048, f (Fin.castAdd 256 i)) = ∑ i : Fin (1024 + 1024), f (Fin.castAdd 256 i) from rfl, Fin.sum_univ_add]
  rfl

end Cert.Proof.Tail

end
-- ==== Proof.TailBody.lean ====
/-
  What the tail's body leaves in its block, at a row and a column. Each head's lanes are picked out by a mask on the lane's
  number; the scores, their exponentials and the weighed values are opened at an index, and joined into a row of the tail.
-/
module

public import proofs.«01_k».proof.Proof.TailMath
public import proofs.«01_k».proof.Proof.Gen.TailKernelIdeal.Value

@[expose] public section

set_option maxRecDepth 16384

noncomputable section

namespace Cert.Proof.Tail

open Idealize.ShloMosaic Idealize.ShloMosaic.TcCoe Idealize.SL.Sem
open Cert.TailKernelIdeal Cert.TailKernelIdeal.Gen

/-- A mask of the lanes of head `h`. -/
def Head (M : IVec S1x256 1) (h : ℕ) : Prop := ∀ l : Fin 256, M (ix2 0 l) = if l.val / 64 = h then 1#1 else 0#1

theorem head0 : Head k0_pay7 0 := fun l => by
  pointwise [k0_pay7]
  revert l; decide +kernel
theorem head1 : Head k0_pay8 1 := fun l => by
  pointwise [k0_pay8]
  revert l; decide +kernel
theorem head2 : Head (k0_pay10 k0_pay9 2#32) 2 := fun l => by
  pointwise [k0_pay10, k0_pay9]
  revert l; decide +kernel
theorem head3 : Head (k0_pay11 (iota .tc S1x256 32 [1] iota_S1x256_d1_w32)) 3 := fun l => by
  pointwise [k0_pay11]
  revert l; decide +kernel

/-- A choice by a head's mask. -/
theorem sel_head {M : IVec S1x256 1} {h : ℕ} (hM : Head M h) (l : Fin 256) (a b : EReal) :
    Scalar.select (M (ix2 0 l)) a b = if l.val / 64 = h then a else b := by
  rw [hM l]
  split <;> rfl

/-- One head's exponentials. -/
theorem exps {K Q : FVec Ideal S256x256 .bf16} {M : IVec S1x256 1} {h : ℕ} (hM : Head M h) (q : Fin 256 → EReal) (k : Fin 256 → Fin 256 → EReal) (r : Fin 256)
    (hQ : ∀ l, Q (ix2 r l) = q l * eighth) (hK : ∀ m l, K (ix2 m l) = k m l) (m : Fin 256) :
    k0_pay12 K Q M (ix2 r m) = smx (kSc q k h) m := by
  have e : k0_pay12 K Q M (ix2 r m) = smx (fun m => ∑ l : Fin 256, Scalar.select (M (ix2 0 l)) (Q (ix2 r l) * K (ix2 m l)) 0) m := by
    unfold smx
    pointwise [k0_pay12]
    try rfl
  rw [e]
  refine congrArg (fun s => smx s m) (funext fun m => ?_)
  unfold kSc
  exact Finset.sum_congr rfl fun l _ => by rw [sel_head hM, hQ, hK]

/-- One head's part of the attention. -/
theorem part {V : FVec Ideal S256x256 .bf16} {P : FVec Ideal S256x256 .f32} {M : IVec S1x256 1} {h : ℕ} (hM : Head M h) (q : Fin 256 → EReal) (k v : Fin 256 → Fin 256 → EReal) (r : Fin 256)
    (hP : ∀ m, P (ix2 r m) = smx (kSc q k h) m) (hV : ∀ m l, V (ix2 m l) = v m l) (l : Fin 256) :
    k0_pay17 V M P (ix2 r l) = kAtt q k v h l := by
  have e : k0_pay17 V M P (ix2 r l) = (∑ m : Fin 256, Scalar.select (M (ix2 0 l)) (P (ix2 r m) * V (ix2 m l)) 0) * Ideal.div 1 (∑ m : Fin 256, P (ix2 r m)) := by
    pointwise [k0_pay17]
    try rfl
  rw [e]
  unfold kAtt
  simp only [sel_head hM, hP, hV]

variable (x0 x1 : Vec Ideal S256x1024 .f32) (x2 : Vec Ideal S256x256 .f32) (x3 : Vec Ideal S256x1280 .f32) (x4 : Vec Ideal S256x1024 .f32)
  (x5 x6 : Vec Ideal S1x256x256 .bf16) (x7 : Vec Ideal S2304x1024 .bf16) (x8 : Vec Ideal S1x1024 .f32)

theorem p26_apply (r : Fin 256) (k : Fin 1024) : k0_pay26 x0 x1 x2 x3 x4 x5 x6 x7 x8 (ix2 r k) = x0 (ix2 r k) := by
  unfold k0_pay26
  pointwise [k0_pay2]

theorem p27_apply (r : Fin 256) (k : Fin 1024) : k0_pay27 x0 x1 x2 x3 x4 x5 x6 x7 x8 (ix2 r k) = x1 (ix2 r k) * sil (x3 (ix2 r ⟨k.val, by omega⟩)) := by
  unfold k0_pay27 sil
  rw [← zero_sub]
  pointwise [k0_pay3]
  try rfl

theorem p28_apply (m l : Fin 256) : k0_pay28 x0 x1 x2 x3 x4 x5 x6 x7 x8 (ix2 m l) = x5 (ix3 0 m l) := by
  unfold k0_pay28
  pointwise [k0_pay4]

theorem p29_apply (m l : Fin 256) : k0_pay29 x0 x1 x2 x3 x4 x5 x6 x7 x8 (ix2 m l) = x6 (ix3 0 m l) := by
  unfold k0_pay29
  pointwise [k0_pay5]

theorem p30_apply (r l : Fin 256) : k0_pay30 x0 x1 x2 x3 x4 x5 x6 x7 x8 (ix2 r l) = x2 (ix2 r l) * eighth := by
  unfold k0_pay30 eighth
  pointwise [k0_pay6]

/-- A row's queries. -/
abbrev bq (r : Fin 256) : Fin 256 → EReal := fun l => x2 (ix2 r l)
/-- The block's keys or values. -/
abbrev bm (x : Vec Ideal S1x256x256 .bf16) : Fin 256 → Fin 256 → EReal := fun m l => x (ix3 0 m l)

theorem p34_apply (r m : Fin 256) : k0_pay34 x0 x1 x2 x3 x4 x5 x6 x7 x8 (ix2 r m) = smx (kSc (bq x2 r) (bm x5) 3) m :=
  exps head3 (bq x2 r) (bm x5) r (p30_apply x0 x1 x2 x3 x4 x5 x6 x7 x8 r) (p28_apply x0 x1 x2 x3 x4 x5 x6 x7 x8) m

theorem p36_apply (r l : Fin 256) : k0_pay36 x0 x1 x2 x3 x4 x5 x6 x7 x8 (ix2 r l) = kAtt (bq x2 r) (bm x5) (bm x6) 0 l :=
  part head0 (bq x2 r) (bm x5) (bm x6) r (exps head0 _ _ r (p30_apply x0 x1 x2 x3 x4 x5 x6 x7 x8 r) (p28_apply x0 x1 x2 x3 x4 x5 x6 x7 x8)) (p29_apply x0 x1 x2 x3 x4 x5 x6 x7 x8) l

theorem p37_apply (r l : Fin 256) : k0_pay37 x0 x1 x2 x3 x4 x5 x6 x7 x8 (ix2 r l) = kAtt (bq x2 r) (bm x5) (bm x6) 1 l :=
  part head1 (bq x2 r) (bm x5) (bm x6) r (exps head1 _ _ r (p30_apply x0 x1 x2 x3 x4 x5 x6 x7 x8 r) (p28_apply x0 x1 x2 x3 x4 x5 x6 x7 x8)) (p29_apply x0 x1 x2 x3 x4 x5 x6 x7 x8) l

theorem p38_apply (r l : Fin 256) : k0_pay38 x0 x1 x2 x3 x4 x5 x6 x7 x8 (ix2 r l) = kAtt (bq x2 r) (bm x5) (bm x6) 2 l :=
  part head2 (bq x2 r) (bm x5) (bm x6) r (exps head2 _ _ r (p30_apply x0 x1 x2 x3 x4 x5 x6 x7 x8 r) (p28_apply x0 x1 x2 x3 x4 x5 x6 x7 x8)) (p29_apply x0 x1 x2 x3 x4 x5 x6 x7 x8) l

theorem p35_apply (r : Fin 256) : k0_pay35 x0 x1 x2 x3 x4 x5 x6 x7 x8 (ix2 r 0) = Ideal.div 1 (∑ m : Fin 256, smx (kSc (bq x2 r) (bm x5) 3) m) := by
  have e : ∀ P : FVec Ideal S256x256 .f32, k0_pay16 P (ix2 r 0) = Ideal.div 1 (∑ m : Fin 256, P (ix2 r m)) := fun P => by
    pointwise [k0_pay16]
    try rfl
  refine (e (k0_pay34 x0 x1 x2 x3 x4 x5 x6 x7 x8)).trans ?_
  simp only [p34_apply]

theorem p39_apply (r m : Fin 256) : k0_pay39 x0 x1 x2 x3 x4 x5 x6 x7 x8 (ix2 r m) = smx (kSc (bq x2 r) (bm x5) 3) m :=
  p34_apply x0 x1 x2 x3 x4 x5 x6 x7 x8 r m

theorem p40_apply (m l : Fin 256) : k0_pay40 x0 x1 x2 x3 x4 x5 x6 x7 x8 (ix2 m l) = if l.val / 64 = 3 then bm x6 m l else 0 := by
  have e : ∀ (V : FVec Ideal S256x256 .bf16) (M : IVec S1x256 1), k0_pay21 V M (ix2 m l) = Scalar.select (M (ix2 0 l)) (V (ix2 m l)) 0 := fun V M => by
    pointwise [k0_pay21]
    try rfl
  refine (e (k0_pay29 x0 x1 x2 x3 x4 x5 x6 x7 x8) (k0_pay11 (iota .tc S1x256 32 [1] iota_S1x256_d1_w32))).trans ?_
  rw [sel_head head3, p29_apply]

theorem hz : (![0, 0] : Fin 2 → Nat) = fun _ => 0 := funext fun a => by fin_cases a <;> rfl

/-- What the body leaves in its block, at a row and a column. -/
theorem out_apply (r : Fin 256) (j : Fin 1024) :
    out0_9 x0 x1 x2 x3 x4 x5 x6 x7 x8 (ix2 r j) = norm (mixed (fun l => kAtt (bq x2 r) (bm x5) (bm x6) 0 l + kAtt (bq x2 r) (bm x5) (bm x6) 1 l + kAtt (bq x2 r) (bm x5) (bm x6) 2 l + kAtt (bq x2 r) (bm x5) (bm x6) 3 l)
      (fun k => x0 (ix2 r k)) (fun k => x1 (ix2 r k)) (fun k => x3 (ix2 r k)) (fun k => x4 (ix2 r k)) (fun k j => x7 (ix2 k j))) (fun k => x8 (ix2 0 k)) j := by
  have e : out0_9 x0 x1 x2 x3 x4 x5 x6 x7 x8 (ix2 r j) = norm (fun j => x4 (ix2 r j) + (∑ k : Fin 1024, k0_pay26 x0 x1 x2 x3 x4 x5 x6 x7 x8 (ix2 r k) * x7 (ix2 ⟨k.val, by omega⟩ j)
      + ∑ k : Fin 1024, k0_pay27 x0 x1 x2 x3 x4 x5 x6 x7 x8 (ix2 r k) * x7 (ix2 ⟨1024 + k.val, by omega⟩ j)
      + ∑ l : Fin 256, (k0_pay36 x0 x1 x2 x3 x4 x5 x6 x7 x8 (ix2 r l) + k0_pay37 x0 x1 x2 x3 x4 x5 x6 x7 x8 (ix2 r l) + k0_pay38 x0 x1 x2 x3 x4 x5 x6 x7 x8 (ix2 r l)
          + (∑ m : Fin 256, k0_pay39 x0 x1 x2 x3 x4 x5 x6 x7 x8 (ix2 r m) * k0_pay40 x0 x1 x2 x3 x4 x5 x6 x7 x8 (ix2 m l)) * k0_pay35 x0 x1 x2 x3 x4 x5 x6 x7 x8 (ix2 r 0))
        * sil (x3 (ix2 r ⟨1024 + l.val, by omega⟩)) * x7 (ix2 ⟨2048 + l.val, by omega⟩ j))) (fun k => x8 (ix2 0 k)) j := by
    unfold out0_9 norm sil
    rw [View.canon_unit_zero hz]
    generalize k0_pay26 x0 x1 x2 x3 x4 x5 x6 x7 x8 = p26
    generalize k0_pay27 x0 x1 x2 x3 x4 x5 x6 x7 x8 = p27
    generalize k0_pay35 x0 x1 x2 x3 x4 x5 x6 x7 x8 = p35
    generalize k0_pay36 x0 x1 x2 x3 x4 x5 x6 x7 x8 = p36
    generalize k0_pay37 x0 x1 x2 x3 x4 x5 x6 x7 x8 = p37
    generalize k0_pay38 x0 x1 x2 x3 x4 x5 x6 x7 x8 = p38
    generalize k0_pay39 x0 x1 x2 x3 x4 x5 x6 x7 x8 = p39
    generalize k0_pay40 x0 x1 x2 x3 x4 x5 x6 x7 x8 = p40
    simp only [← zero_sub]
    pointwise [k0_pay1, k0_pay24, k0_pay22, k0_pay23]
    try rfl
  rw [e]
  refine congrArg (fun x => norm x _ j) (funext fun j => ?_)
  unfold mixed
  simp only [p26_apply, p27_apply, p35_apply, p36_apply, p37_apply, p38_apply, p39_apply, p40_apply]
  unfold kAtt
  simp only [mul_ite, mul_zero]

end Cert.Proof.Tail

end
-- ==== Proof.TailRef.lean ====
/-
  The tail's reference at an index: the operations of its text gathered into the parts they make (scores, softmax, weighed
  values, gates, product, norm), each part opened at an index, and the parts joined into `mixed` and `norm`.
-/
module

public import proofs.«01_k».proof.Proof.TailMath
public import proofs.«01_k».proof.Proof.Gen.TailReferenceIdeal
public import proofs.«01_k».proof.Proof.Gen.TailReferenceIdeal.Run

@[expose] public section

set_option maxRecDepth 16384

noncomputable section

namespace Cert.Proof.Tail

open Idealize.ShloMosaic Idealize.ShloMosaic.TcCoe Idealize.SL.Sem

/-- The tail at a row and a column, from the whole arrays. -/
def T (a0 a1 : (⟨2, ![32768, 1024]⟩ : Shape).Idx → EReal) (a2 : (⟨2, ![32768, 256]⟩ : Shape).Idx → EReal) (a3 : (⟨2, ![32768, 1280]⟩ : Shape).Idx → EReal)
    (a4 : (⟨2, ![32768, 1024]⟩ : Shape).Idx → EReal) (a5 a6 : (⟨3, ![8, 256, 256]⟩ : Shape).Idx → EReal) (a7 : (⟨2, ![2304, 1024]⟩ : Shape).Idx → EReal)
    (a8 : (⟨1, ![1024]⟩ : Shape).Idx → EReal) : (⟨2, ![32768, 1024]⟩ : Shape).Idx → EReal := fun i =>
  norm (mixed (rAtt (fun l => a2 (ix2 (i 0) l)) (fun m l => a5 (ix3 ⟨(i 0).val / 4096, Nat.div_lt_of_lt_mul (i 0).isLt⟩ m l)) (fun m l => a6 (ix3 ⟨(i 0).val / 4096, Nat.div_lt_of_lt_mul (i 0).isLt⟩ m l)))
    (fun k => a0 (ix2 (i 0) k)) (fun k => a1 (ix2 (i 0) k)) (fun k => a3 (ix2 (i 0) k)) (fun k => a4 (ix2 (i 0) k)) (fun k j => a7 (ix2 k j)))
    (fun k => a8 (ix1 k)) (i 1)

open Cert.TailReferenceIdeal Cert.TailReferenceIdeal.Gen Cert.TailReferenceIdeal.Value

/-- The reference's scores, scaled: queries against the memory's keys, head by head. -/
def hSc (a2 : FVec Ideal S32768x256 .f32) (a5 : FVec Ideal S8x256x256 .bf16) : FVec Ideal S8x4x4096x256 .f32 :=
  mulf (Host.dotGeneral dot_S8x4096x4x64_S8x256x4x64_S8x4x4096x256_3_3_1_1_02_02 none (shapeCast _ a2 shapeCasts_S32768x256_S8x4096x4x64) (shapeCast _ (extf .f32 a5 bitsLt_bf16_f32) shapeCasts_S8x256x256_S8x256x4x64)) (broadcastInDim S8x4x4096x256 ![] bcast_S_S8x4x4096x256 (constant S_ .f32 0x3E000000#32))

/-- Each row's greatest score. -/
def hMx (s : FVec Ideal S8x4x4096x256 .f32) : FVec Ideal S8x4x4096 .f32 :=
  Host.reduce FloatOps.maximumf s (constant S_ .f32 0xFF800000#32) reducesTo_S8x4x4096x256_S8x4x4096_d3 h_S_

/-- Exponentials of scores less their row's greatest. -/
def hPe (s : FVec Ideal S8x4x4096x256 .f32) (mx : FVec Ideal S8x4x4096 .f32) : FVec Ideal S8x4x4096x256 .f32 :=
  Host.exp (subf s (broadcastInDim S8x4x4096x256 ![0, 1, 2, 3] bcast_S8x4x4096x1_S8x4x4096x256_0_1_2_3 (broadcastInDim S8x4x4096x1 ![0, 1, 2] bcast_S8x4x4096_S8x4x4096x1_0_1_2 (maximumf (broadcastInDim S8x4x4096 ![] bcast_S_S8x4x4096 (constant S_ .f32 0xFF800000#32)) mx))))

/-- Each over its row's sum. -/
def hPr (p : FVec Ideal S8x4x4096x256 .f32) : FVec Ideal S8x4x4096x256 .f32 :=
  Host.divf p (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd p (constant S_ .f32 0x00000000#32) reducesTo_S8x4x4096x256_S8x4x4096_d3 h_S_)))

/-- The values, weighed. -/
def hMo (a6 : FVec Ideal S8x256x256 .bf16) (p : FVec Ideal S8x4x4096x256 .f32) : FVec Ideal S32768x256 .f32 :=
  shapeCast _ (transpose S8x4096x4x64 [0, 3, 1, 2] (Host.dotGeneral dot_S8x256x4x64_S8x4x4096x256_S8x4x64x4096_1_3_3_2_02_01 none (shapeCast _ (extf .f32 a6 bitsLt_bf16_f32) shapeCasts_S8x256x256_S8x256x4x64) p) transposes_S8x4x64x4096_S8x4096x4x64_0_3_1_2) shapeCasts_S8x4096x4x64_S32768x256

/-- The memory's part, gated. -/
def hGm (mo : FVec Ideal S32768x256 .f32) (a3 : FVec Ideal S32768x1280 .f32) : FVec Ideal S32768x256 .f32 :=
  mulf mo (mulf (extractStridedSlice S32768x256 ![0, 1024] a3 slices_S32768x1280_S32768x256_0_1024) (Host.divf (broadcastInDim S32768x256 ![] bcast_S_S32768x256 (constant S_ .f32 0x3F800000#32)) (addf (broadcastInDim S32768x256 ![] bcast_S_S32768x256 (constant S_ .f32 0x3F800000#32)) (Host.exp (Host.negf (extractStridedSlice S32768x256 ![0, 1024] a3 slices_S32768x1280_S32768x256_0_1024))))))

/-- The latent attention's part, gated. -/
def hGd (a1 : FVec Ideal S32768x1024 .f32) (a3 : FVec Ideal S32768x1280 .f32) : FVec Ideal S32768x1024 .f32 :=
  mulf a1 (mulf (extractStridedSlice S32768x1024 ![0, 0] a3 slices_S32768x1280_S32768x1024_0_0) (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 0] a3 slices_S32768x1280_S32768x1024_0_0))))))

/-- The three parts side by side. -/
def hCat (a0 gd : FVec Ideal S32768x1024 .f32) (gm : FVec Ideal S32768x256 .f32) : FVec Ideal S32768x2304 .f32 :=
  concatenate S32768x2304 1 [⟨S32768x1024, a0⟩, ⟨S32768x1024, gd⟩, ⟨S32768x256, gm⟩] concatenates_S32768x1024_S32768x1024_S32768x256_S32768x2304_d1

/-- Their product with the weight, added to the residual stream. -/
def hX (a4 : FVec Ideal S32768x1024 .f32) (cat : FVec Ideal S32768x2304 .f32) (a7 : FVec Ideal S2304x1024 .f32) : FVec Ideal S32768x1024 .f32 :=
  addf a4 (Host.dotGeneral dot_S32768x2304_S2304x1024_S32768x1024_1_0_0_1_n_n none cat a7)

/-- The final norm. -/
def hOut (x : FVec Ideal S32768x1024 .f32) (a8 : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a8))

theorem res_eq (m : (ℓ : Loc nD τ sig) → Buf (Elt Ideal) ℓ) (c : Dev nD) :
    res_main_v43 m c = hOut (hX (m ((c.tc : Thread nD τ).loc main_arg4)) (hCat (m ((c.tc : Thread nD τ).loc main_arg0)) (hGd (m ((c.tc : Thread nD τ).loc main_arg1)) (m ((c.tc : Thread nD τ).loc main_arg3)))
      (hGm (hMo (m ((c.tc : Thread nD τ).loc main_arg6)) (hPr (hPe (hSc (m ((c.tc : Thread nD τ).loc main_arg2)) (m ((c.tc : Thread nD τ).loc main_arg5))) (hMx (hSc (m ((c.tc : Thread nD τ).loc main_arg2)) (m ((c.tc : Thread nD τ).loc main_arg5)))))))
        (m ((c.tc : Thread nD τ).loc main_arg3)))) (m ((c.tc : Thread nD τ).loc main_arg7)))
      (m ((c.tc : Thread nD τ).loc main_arg8)) := by
  unfold res_main_v43 hOut hX hCat hGd hGm hMo hPr hPe hMx hSc
  rfl

theorem red3 : S8x4x4096x256.Reduces [3] S8x4x4096 := by decide

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

/-- The greatest of a row. -/
theorem hMx_apply (a : FVec Ideal S8x4x4096x256 .f32) (b : Fin 8) (h : Fin 4) (s : Fin 4096) :
    hMx a (ix3 b h s)
      = Finset.fold max (Ideal.ofBits .f32 4286578688#32) (fun k : Fin 256 => a (ix4 b h s k)) Finset.univ := by
  unfold hMx
  rw [Host.reduce_eq_fold_single FloatOps.maximumf a _ reducesTo_S8x4x4096x256_S8x4x4096_d3 red3 h_S_ (ix3 b h s)]
  have e : a ∘ red3.lift (ix3 b h s) = fun k : Fin 256 => a (ix4 b h s k) := by
    funext k
    refine congrArg a (funext fun c => Fin.ext ?_)
    match c with
    | ⟨0, _⟩ => rfl
    | ⟨1, _⟩ => rfl
    | ⟨2, _⟩ => rfl
    | ⟨3, _⟩ => rfl
  rw [e]
  rfl

theorem hSc_apply (a2 : FVec Ideal S32768x256 .f32) (a5 : FVec Ideal S8x256x256 .bf16) (b : Fin 8) (h : Fin 4) (s : Fin 4096) (k : Fin 256) :
    hSc a2 a5 (ix4 b h s k) = rSc (fun l => a2 (ix2 ⟨b.val * 4096 + s.val, by omega⟩ l)) (fun m l => a5 (ix3 b m l)) h k := by
  unfold hSc rSc
  pointwise

theorem hPe_at (a : FVec Ideal S8x4x4096x256 .f32) (mx : FVec Ideal S8x4x4096 .f32) (b : Fin 8) (h : Fin 4) (s : Fin 4096) (k : Fin 256) :
    hPe a mx (ix4 b h s k) = Ideal.exp (a (ix4 b h s k) - max (Ideal.ofBits .f32 4286578688#32) (mx (ix3 b h s))) := by
  unfold hPe
  pointwise

theorem exp_max (s : Fin 256 → EReal) (k : Fin 256) (x : EReal) (hx : x = Finset.fold max least s Finset.univ) :
    Ideal.exp (s k - max least x) = smx s k := by
  subst hx
  unfold smx
  rw [max_eq_right ((Finset.le_fold_max _).2 (Or.inl le_rfl))]

theorem hPe_apply (a : FVec Ideal S8x4x4096x256 .f32) (b : Fin 8) (h : Fin 4) (s : Fin 4096) (k : Fin 256) :
    hPe a (hMx a) (ix4 b h s k) = smx (fun m => a (ix4 b h s m)) k :=
  (hPe_at a (hMx a) b h s k).trans (exp_max (fun m => a (ix4 b h s m)) k (hMx a (ix3 b h s)) (hMx_apply a b h s))

theorem hPr_apply (a : FVec Ideal S8x4x4096x256 .f32) (b : Fin 8) (h : Fin 4) (s : Fin 4096) (k : Fin 256) :
    hPr a (ix4 b h s k) = Ideal.div (a (ix4 b h s k)) (∑ m : Fin 256, a (ix4 b h s m)) := by
  unfold hPr
  pointwise

theorem hMo_apply (a6 : FVec Ideal S8x256x256 .bf16) (a : FVec Ideal S8x4x4096x256 .f32) (r : Fin 32768) (l : Fin 256) :
    hMo a6 a (ix2 r l) = ∑ m : Fin 256, a6 (ix3 ⟨r.val / 4096, by omega⟩ m l) * a (ix4 ⟨r.val / 4096, by omega⟩ ⟨l.val / 64, by omega⟩ ⟨r.val % 4096, by omega⟩ m) := by
  unfold hMo
  pointwise

theorem hGm_apply (mo : FVec Ideal S32768x256 .f32) (a3 : FVec Ideal S32768x1280 .f32) (r : Fin 32768) (l : Fin 256) :
    hGm mo a3 (ix2 r l) = mo (ix2 r l) * sil (a3 (ix2 r ⟨1024 + l.val, by omega⟩)) := by
  unfold hGm sil
  pointwise

theorem hGd_apply (a1 : FVec Ideal S32768x1024 .f32) (a3 : FVec Ideal S32768x1280 .f32) (r : Fin 32768) (l : Fin 1024) :
    hGd a1 a3 (ix2 r l) = a1 (ix2 r l) * sil (a3 (ix2 r ⟨l.val, by omega⟩)) := by
  unfold hGd sil
  pointwise

theorem hCat_apply (a0 gd : FVec Ideal S32768x1024 .f32) (gm : FVec Ideal S32768x256 .f32) (r : Fin 32768) (l : Fin 2304) :
    hCat a0 gd gm (ix2 r l) = if h : l.val < 1024 then a0 (ix2 r ⟨l.val, h⟩) else if h' : l.val - 1024 < 1024 then gd (ix2 r ⟨l.val - 1024, h'⟩) else gm (ix2 r ⟨l.val - 1024 - 1024, by omega⟩) := by
  unfold hCat
  pointwise

theorem hX_apply (a4 : FVec Ideal S32768x1024 .f32) (cat : FVec Ideal S32768x2304 .f32) (a7 : FVec Ideal S2304x1024 .f32) (r : Fin 32768) (j : Fin 1024) :
    hX a4 cat a7 (ix2 r j) = a4 (ix2 r j) + ∑ k : Fin 2304, cat (ix2 r k) * a7 (ix2 k j) := by
  unfold hX
  pointwise

theorem hOut_apply (x : FVec Ideal S32768x1024 .f32) (a8 : FVec Ideal S1024 .f32) (r : Fin 32768) (j : Fin 1024) :
    hOut x a8 (ix2 r j) = norm (fun k => x (ix2 r k)) (fun k => a8 (ix1 k)) j := by
  unfold hOut norm
  pointwise

/-- The residual stream plus the product, its parts joined, at a row and a column. -/
theorem hX_mixed (a0 a1 : FVec Ideal S32768x1024 .f32) (a2 : FVec Ideal S32768x256 .f32) (a3 : FVec Ideal S32768x1280 .f32) (a4 : FVec Ideal S32768x1024 .f32)
    (a5 a6 : FVec Ideal S8x256x256 .bf16) (a7 : FVec Ideal S2304x1024 .f32) (r : Fin 32768) (j : Fin 1024) :
    hX a4 (hCat a0 (hGd a1 a3) (hGm (hMo a6 (hPr (hPe (hSc a2 a5) (hMx (hSc a2 a5))))) a3)) a7 (ix2 r j)
      = mixed (rAtt (fun l => a2 (ix2 r l)) (fun m l => a5 (ix3 ⟨r.val / 4096, by omega⟩ m l)) (fun m l => a6 (ix3 ⟨r.val / 4096, by omega⟩ m l)))
        (fun k => a0 (ix2 r k)) (fun k => a1 (ix2 r k)) (fun k => a3 (ix2 r k)) (fun k => a4 (ix2 r k)) (fun k j => a7 (ix2 k j)) j := by
  rw [hX_apply, sum_parts]
  unfold mixed
  have er : (⟨r.val / 4096 * 4096 + r.val % 4096, by omega⟩ : Fin 32768) = r := Fin.ext (Nat.div_add_mod' r.val 4096)
  refine congrArg₂ (· + ·) rfl (congrArg₂ (· + ·) (congrArg₂ (· + ·) ?_ ?_) ?_)
  · refine Finset.sum_congr rfl fun k _ => ?_
    rw [hCat_apply, dif_pos k.isLt]
  · refine Finset.sum_congr rfl fun k _ => ?_
    rw [hCat_apply, dif_neg (by simp), dif_pos (by simp), hGd_apply]
    simp only [Nat.add_sub_cancel_left]
  · refine Finset.sum_congr rfl fun l _ => ?_
    rw [hCat_apply, dif_neg (by simp only []; omega), dif_neg (by simp only []; omega)]
    rw [show (⟨2048 + l.val - 1024 - 1024, by omega⟩ : Fin 256) = l from Fin.ext (by simp only []; omega), hGm_apply, hMo_apply]
    refine congrArg₂ (· * ·) (congrArg₂ (· * ·) ?_ rfl) rfl
    unfold rAtt
    refine Finset.sum_congr rfl fun m _ => ?_
    rw [hPr_apply]
    simp only [hPe_apply, hSc_apply, er]

/-- The reference's result. -/
theorem res_T (m : (ℓ : Loc nD τ sig) → Buf (Elt Ideal) ℓ) (c : Dev nD) :
    res_main_v43 m c = T (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [res_eq]
  funext i
  obtain ⟨r, q, rfl⟩ : ∃ (a : Fin 32768) (b : Fin 1024), i = ix2 a b := ⟨i 0, i 1, eq_ix2 i⟩
  rw [hOut_apply]
  unfold T
  refine congrArg (fun x => norm x _ q) (funext fun j => ?_)
  exact hX_mixed _ _ _ _ _ _ _ _ r j

/-- The reference's run. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = T (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (res_T m c), (h c).2⟩) (Value.run (F := Ideal) m ρ)

end Cert.Proof.Tail

end
-- ==== Proof.TailValue.lean ====
/-
  The tail's values. Point `t` of the grid works on rows 256·t … 256·t+255 and on the memory of their sequence, t/16; a
  row of the result reads one row of each input only, so a block of rows gives that block of the result.
-/
module

public import proofs.«01_k».proof.Proof.TailBody
public import proofs.«01_k».proof.Proof.TailRef

@[expose] public section

set_option maxRecDepth 16384

noncomputable section

namespace Cert.Proof.Tail

open Idealize.ShloMosaic Idealize.ShloMosaic.TcCoe Idealize.SL.Sem
open Cert.TailKernelIdeal Cert.TailKernelIdeal.Gen Cert.TailKernelIdeal.Value

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx5 : ∀ t : Fin cfg0.N, win0_5.index t (0 : Fin 3) = t.val / 16 ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val / 16 ∧ win0_6.index t (1 : Fin 3) = 0 ∧ win0_6.index t (2 : Fin 3) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-- Row `r` of the block at point `t`, among all rows. -/
def grow (t : Fin cfg0.N) (r : Fin 256) : Fin 32768 := ⟨t.val * 256 + r.val, by
  have h := t.isLt
  have : cfg0.N = 128 := by decide
  omega⟩

/-- The sequence a row belongs to. -/
abbrev sq (r : Fin 32768) : Fin 8 := ⟨r.val / 4096, by omega⟩

theorem iblk0_apply (c : Dev nD) (t : Fin cfg0.N) (r : Fin 256) (k : Fin 1024) :
    iblk m c 0 t (ix2 r k) = m ((c : Thread nD τ).loc main_arg0) (ix2 (grow t r) k) := by
  show V m c main_arg0 (((cfg0.win 0).blk t).view.emb (ix2 r k)) = _
  rw [V_main_arg0]
  obtain ⟨e0, e1⟩ := idx0 t
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 1024 + 1 * k.val = k.val; omega

theorem iblk1_apply (c : Dev nD) (t : Fin cfg0.N) (r : Fin 256) (k : Fin 1024) :
    iblk m c 1 t (ix2 r k) = m ((c : Thread nD τ).loc main_arg1) (ix2 (grow t r) k) := by
  show V m c main_arg1 (((cfg0.win 1).blk t).view.emb (ix2 r k)) = _
  rw [V_main_arg1]
  obtain ⟨e0, e1⟩ := idx1 t
  refine congrArg _ (funext fun a => Fin.ext ?_)
  match a with
  | ⟨0, _⟩ => show win0_1.index t (0 : Fin 2) * 256 + 1 * r.val = t.val * 256 + r.val; omega
  | ⟨1, _⟩ => show win0_1.index t (1 : Fin 2) * 1024 + 1 * k.val = k.val; omega

theorem iblk2_apply (c : Dev nD) (t : Fin cfg0.N) (r : Fin 256) (k : Fin 256) :
    iblk m c 2 t (ix2 r k) = m ((c : Thread nD τ).loc main_arg2) (ix2 (grow t r) k) := by
  show V m c main_arg2 (((cfg0.win 2).blk t).view.emb (ix2 r k)) = _
  rw [V_main_arg2]
  obtain ⟨e0, e1⟩ := idx2 t
  refine congrArg _ (funext fun a => Fin.ext ?_)
  match a with
  | ⟨0, _⟩ => show win0_2.index t (0 : Fin 2) * 256 + 1 * r.val = t.val * 256 + r.val; omega
  | ⟨1, _⟩ => show win0_2.index t (1 : Fin 2) * 256 + 1 * k.val = k.val; omega

theorem iblk3_apply (c : Dev nD) (t : Fin cfg0.N) (r : Fin 256) (k : Fin 1280) :
    iblk m c 3 t (ix2 r k) = m ((c : Thread nD τ).loc main_arg3) (ix2 (grow t r) k) := by
  show V m c main_arg3 (((cfg0.win 3).blk t).view.emb (ix2 r k)) = _
  rw [V_main_arg3]
  obtain ⟨e0, e1⟩ := idx3 t
  refine congrArg _ (funext fun a => Fin.ext ?_)
  match a with
  | ⟨0, _⟩ => show win0_3.index t (0 : Fin 2) * 256 + 1 * r.val = t.val * 256 + r.val; omega
  | ⟨1, _⟩ => show win0_3.index t (1 : Fin 2) * 1280 + 1 * k.val = k.val; omega

theorem iblk4_apply (c : Dev nD) (t : Fin cfg0.N) (r : Fin 256) (k : Fin 1024) :
    iblk m c 4 t (ix2 r k) = m ((c : Thread nD τ).loc main_arg4) (ix2 (grow t r) k) := by
  show V m c main_arg4 (((cfg0.win 4).blk t).view.emb (ix2 r k)) = _
  rw [V_main_arg4]
  obtain ⟨e0, e1⟩ := idx4 t
  refine congrArg _ (funext fun a => Fin.ext ?_)
  match a with
  | ⟨0, _⟩ => show win0_4.index t (0 : Fin 2) * 256 + 1 * r.val = t.val * 256 + r.val; omega
  | ⟨1, _⟩ => show win0_4.index t (1 : Fin 2) * 1024 + 1 * k.val = k.val; omega

theorem iblk5_apply (c : Dev nD) (t : Fin cfg0.N) (r : Fin 256) (k l : Fin 256) :
    iblk m c 5 t (ix3 0 k l) = m ((c : Thread nD τ).loc main_arg5) (ix3 (sq (grow t r)) k l) := by
  show V m c main_arg5 (((cfg0.win 5).blk t).view.emb (ix3 0 k l)) = _
  rw [V_main_arg5]
  obtain ⟨e0, e1, e2⟩ := idx5 t
  refine congrArg _ (funext fun a => Fin.ext ?_)
  match a with
  | ⟨0, _⟩ => show win0_5.index t (0 : Fin 3) * 1 + 1 * 0 = (t.val * 256 + r.val) / 4096; omega
  | ⟨1, _⟩ => show win0_5.index t (1 : Fin 3) * 256 + 1 * k.val = k.val; omega
  | ⟨2, _⟩ => show win0_5.index t (2 : Fin 3) * 256 + 1 * l.val = l.val; omega

theorem iblk6_apply (c : Dev nD) (t : Fin cfg0.N) (r : Fin 256) (k l : Fin 256) :
    iblk m c 6 t (ix3 0 k l) = m ((c : Thread nD τ).loc main_arg6) (ix3 (sq (grow t r)) k l) := by
  show V m c main_arg6 (((cfg0.win 6).blk t).view.emb (ix3 0 k l)) = _
  rw [V_main_arg6]
  obtain ⟨e0, e1, e2⟩ := idx6 t
  refine congrArg _ (funext fun a => Fin.ext ?_)
  match a with
  | ⟨0, _⟩ => show win0_6.index t (0 : Fin 3) * 1 + 1 * 0 = (t.val * 256 + r.val) / 4096; omega
  | ⟨1, _⟩ => show win0_6.index t (1 : Fin 3) * 256 + 1 * k.val = k.val; omega
  | ⟨2, _⟩ => show win0_6.index t (2 : Fin 3) * 256 + 1 * l.val = l.val; omega

/-- The weight's block, at every point. -/
theorem iblk7_apply (c : Dev nD) (t : Fin cfg0.N) (k : Fin 2304) (j : Fin 1024) :
    iblk m c 7 t (ix2 k j) = m ((c : Thread nD τ).loc main_arg7) (ix2 k j) := by
  show V m c main_v0 (((cfg0.win 7).blk t).view.emb (ix2 k j)) = _
  have e : (((cfg0.win 7).blk t).view.emb (ix2 k j)) = (ix2 k j : S2304x1024.Idx) := by
    obtain ⟨e0, e1⟩ := idx7 t
    refine funext fun a => Fin.ext ?_
    match a with
    | ⟨0, _⟩ => show win0_7.index t (0 : Fin 2) * 2304 + 1 * k.val = k.val; omega
    | ⟨1, _⟩ => show win0_7.index t (1 : Fin 2) * 1024 + 1 * j.val = j.val; omega
  rw [e]
  have hV : (V m c main_v0 : S2304x1024.Idx → EReal) = truncf (F := Ideal) .bf16 (m ((c : Thread nD τ).loc main_arg7) : Vec Ideal S2304x1024 .f32) bitsLt_bf16_f32 := by
    unfold V; after_results
  rw [hV]
  pointwise

/-- The scale's block, at every point. -/
theorem iblk8_apply (c : Dev nD) (t : Fin cfg0.N) (k : Fin 1024) :
    iblk m c 8 t (ix2 0 k) = m ((c : Thread nD τ).loc main_arg8) (ix1 k) := by
  show V m c main_v1 (((cfg0.win 8).blk t).view.emb (ix2 0 k)) = _
  have e : (((cfg0.win 8).blk t).view.emb (ix2 (0 : Fin 1) k)) = (ix2 (0 : Fin 1) k : S1x1024.Idx) := by
    obtain ⟨e0, e1⟩ := idx8 t
    refine funext fun a => Fin.ext ?_
    match a with
    | ⟨0, _⟩ => show win0_8.index t (0 : Fin 2) * 1 + 1 * 0 = 0; omega
    | ⟨1, _⟩ => show win0_8.index t (1 : Fin 2) * 1024 + 1 * k.val = k.val; omega
  rw [e]
  have hV : (V m c main_v1 : S1x1024.Idx → EReal) = shapeCast S1x1024 (m ((c : Thread nD τ).loc main_arg8) : Vec Ideal S1024 .f32) shapeCasts_S1024_S1x1024 := by
    unfold V; after_results; rfl
  rw [hV]
  pointwise

/-- Every element is a real number. -/
def Reals {s : Shape} (f : s.Idx → EReal) : Prop := ∀ i, ∃ y : ℝ, f i = y

/-- The queries and the memory's keys are real numbers. -/
def Real' (c : Dev nD) : Prop :=
  Reals (s := S32768x256) (m ((c : Thread nD τ).loc main_arg2)) ∧ Reals (s := S8x256x256) (m ((c : Thread nD τ).loc main_arg5))

/-- The result. -/
abbrev res (c : Dev nD) : Vec Ideal S32768x1024 .f32 :=
  T (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

theorem emb9 (t : Fin cfg0.N) (r : Fin 256) (q : Fin 1024) : ((cfg0.win 9).blk t).view.emb (ix2 r q) = (ix2 (grow t r) q : S32768x1024.Idx) := by
  obtain ⟨e0, e1⟩ := idx9 t
  refine funext fun a => Fin.ext ?_
  match a with
  | ⟨0, _⟩ => show win0_9.index t (0 : Fin 2) * 256 + 1 * r.val = t.val * 256 + r.val; omega
  | ⟨1, _⟩ => show win0_9.index t (1 : Fin 2) * 1024 + 1 * q.val = q.val; omega

theorem flushed9_eq (c : Dev nD) (hm : Real' m c) (t : Fin cfg0.N) :
    (dats m 0 c).flushed 9 t = ((cfg0.win 9).blk t).view.read (Elt Ideal) (res m c) := by
  rw [flushed9]
  refine funext fun (j : S256x1024.Idx) => ?_
  obtain ⟨r, q, rfl⟩ : ∃ (a : Fin 256) (b : Fin 1024), j = ix2 a b := ⟨j 0, j 1, eq_ix2 j⟩
  show out0_9 (iblk m c 0 t) (iblk m c 1 t) (iblk m c 2 t) (iblk m c 3 t) (iblk m c 4 t) (iblk m c 5 t) (iblk m c 6 t) (iblk m c 7 t) (iblk m c 8 t) (ix2 r q) = res m c (((cfg0.win 9).blk t).view.emb (ix2 r q))
  rw [emb9, out_apply]
  have hq : bq (iblk m c 2 t) r = fun l => m ((c : Thread nD τ).loc main_arg2) (ix2 (grow t r) l) := funext fun l => iblk2_apply m c t r l
  have hk : bm (iblk m c 5 t) = fun k l => m ((c : Thread nD τ).loc main_arg5) (ix3 (sq (grow t r)) k l) := funext fun k => funext fun l => iblk5_apply m c t r k l
  have hv : bm (iblk m c 6 t) = fun k l => m ((c : Thread nD τ).loc main_arg6) (ix3 (sq (grow t r)) k l) := funext fun k => funext fun l => iblk6_apply m c t r k l
  rw [hq, hk, hv]
  obtain ⟨h2, h5⟩ := hm
  choose y2 h2 using h2
  choose y5 h5 using h5
  simp only [att_eq (q := fun l => m ((c : Thread nD τ).loc main_arg2) (ix2 (grow t r) l)) (k := fun k l => m ((c : Thread nD τ).loc main_arg5) (ix3 (sq (grow t r)) k l))
    (v := fun k l => m ((c : Thread nD τ).loc main_arg6) (ix3 (sq (grow t r)) k l)) ⟨_, funext fun l => h2 _⟩ (fun k => ⟨_, funext fun l => h5 _⟩)]
  simp only [iblk0_apply, iblk1_apply, iblk3_apply, iblk4_apply, iblk7_apply, iblk8_apply]
  rfl

theorem covered9 (i : S32768x1024.Idx) : ∃ t : Fin cfg0.N, (cfg0.win 9).flush t = true ∧ i ∈ ((cfg0.win 9).blk t).view.set := by
  obtain ⟨r, q, rfl⟩ : ∃ (a : Fin 32768) (b : Fin 1024), i = ix2 a b := ⟨i 0, i 1, eq_ix2 i⟩
  have hN : cfg0.N = 128 := by decide
  refine ⟨⟨r.val / 256, by omega⟩, flush0_9 _, ?_⟩
  have h := ((cfg0.win 9).blk (⟨r.val / 256, by omega⟩ : Fin cfg0.N)).view.emb_mem_set (ix2 (⟨r.val % 256, by omega⟩ : Fin 256) q)
  rw [emb9] at h
  have e : grow (⟨r.val / 256, by omega⟩ : Fin cfg0.N) (⟨r.val % 256, by omega⟩ : Fin 256) = r := Fin.ext (Nat.div_add_mod' r.val 256)
  rwa [e] at h

/-- The kernel's run, its result named. -/
theorem run_kernel (hm : ∀ c, Real' m c) : θ_run (defs (F := Ideal)) (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((dats m 0 c).arrAt_eq_of_cover 9 (res m c) (fun t _ => flushed9_eq m c (hm c) t) covered9), (h c).2⟩) (run_blocks m ρ)

end Cert.Proof.Tail

end
-- ==== Proof.TailPre.lean ====
/-
  What the precondition says of an element: the absolute values of the queries and of the memory's keys are
  less than infinity, so each element is a real number.
-/
module

public import proofs.«01_k».proof.Defs
public import proofs.«01_k».proof.Proof.TailMath
public import Idealize.ShloMosaic.Lib.ReduceAll

@[expose] public section

set_option maxRecDepth 16384

noncomputable section

namespace Cert.Proof.Tail

open Idealize.ShloMosaic Idealize.ShloMosaic.TcCoe Idealize.SL.Sem

instance facts_finite : Cert.Pre_finite.Facts := ⟨by decide, by decide, by decide, by decide, by decide, by decide⟩

theorem inf_eq : Ideal.ofBits .f32 2139095040#32 = ⊤ := by simp [Ideal.ofBits, Ideal.ieee]

/-- A value whose absolute value is below infinity is real. -/
theorem real_of_abs {x : EReal} (h : max x (-x) < ⊤) : ∃ y : ℝ, x = y := by
  refine ⟨x.toReal, (EReal.coe_toReal (ne_of_lt (lt_of_le_of_lt (le_max_left _ _) h)) ?_).symm⟩
  rintro rfl
  simp at h

theorem lt_of_cmpf {x y : EReal} (h : FloatOps.cmpf (F := Ideal) (φ := .f32) .olt x y = 1#1) : x < y := by
  by_contra hn
  change Ideal.cmp .olt x y = 1#1 at h
  simp [Ideal.cmp, hn] at h

instance : Subsingleton Cert.Pre_finite.S_.Idx := ⟨fun a b => funext fun i => i.elim0⟩

/-- Reading the precondition at an element. -/
theorem finite_of (a0 a1 : FVec Ideal Cert.Pre_finite.S32768x1024 .f32) (a2 : FVec Ideal Cert.Pre_finite.S32768x256 .f32) (a3 : FVec Ideal Cert.Pre_finite.S32768x1280 .f32)
    (a4 : FVec Ideal Cert.Pre_finite.S32768x1024 .f32) (a5 a6 : FVec Ideal Cert.Pre_finite.S8x256x256 .bf16) (a7 : FVec Ideal Cert.Pre_finite.S2304x1024 .f32) (a8 : FVec Ideal Cert.Pre_finite.S1024 .f32)
    (h : ∀ j, Cert.Pre_finite.fn (F := Ideal) a0 a1 a2 a3 a4 a5 a6 a7 a8 j = 1#1) :
    (∀ i, ∃ y : ℝ, a2 i = y) ∧ (∀ i, ∃ y : ℝ, a5 i = y) := by
  have h0 := h (fun i => i.elim0)
  dsimp only [Cert.Pre_finite.fn] at h0
  obtain ⟨h1, h2⟩ := IntOp.andi_eq_one.1 h0
  refine ⟨fun i => real_of_abs ?_, fun i => real_of_abs ?_⟩
  · exact inf_eq ▸ lt_of_cmpf (Host.reduce_andi_all _ _ _ _ _ h1 i)
  · exact inf_eq ▸ lt_of_cmpf (Host.reduce_andi_all _ _ _ _ _ h2 i)

end Cert.Proof.Tail

end
-- ==== Proof.OddRef.lean ====
/-
  An odd layer's input projection as mathematics, and the reference's run: every row normalized by its root mean
  square and scaled, then its products with the weight's columns. Six results take runs of columns; the seventh
  repeats the rotary columns, follows them by their halves exchanged, by the sixteen time-step columns and by zeros.
-/
module

public import proofs.«01_k».proof.Proof.ProjValue
public import proofs.«01_k».proof.Proof.Gen.OddReferenceIdeal
public import proofs.«01_k».proof.Proof.Gen.OddReferenceIdeal.Run

@[expose] public section

set_option maxRecDepth 16384

noncomputable section

namespace Cert.Proof.Odd

open Idealize.ShloMosaic Idealize.ShloMosaic.TcCoe Idealize.SL.Sem Cert.Proof.Proj

/-- The sixty-four rotary columns. -/
def rope {α : Type} (f : Fin 4816 → α) (q : Fin 64) : α := f ⟨2192 + q.val, by omega⟩

/-- The rotary columns with their two halves exchanged. -/
def swap {α : Type} (f : Fin 4816 → α) (q : Fin 64) : α :=
  if h : q.val < 32 then rope f ⟨32 + q.val, by omega⟩ else rope f ⟨q.val - 32, by omega⟩

/-- The seventh result's columns, taken from all columns `f` and padded by `z`. -/
def misc {α : Type} (z : α) (f : Fin 4816 → α) (q : Fin 384) : α :=
  if h : q.val < 64 then rope f ⟨q.val, h⟩
  else if h : q.val - 64 < 64 then rope f ⟨q.val - 64, h⟩
  else if h : q.val - 64 - 64 < 64 then swap f ⟨q.val - 64 - 64, h⟩
  else if h : q.val - 64 - 64 - 64 < 64 then swap f ⟨q.val - 64 - 64 - 64, h⟩
  else if h : q.val - 64 - 64 - 64 - 64 < 16 then f ⟨1536 + (q.val - 64 - 64 - 64 - 64), by omega⟩
  else z

/-- A row's product with a column of the weight. -/
def S {n : ℕ} (x : (⟨2, ![n, 1024]⟩ : Shape).Idx → EReal) (w : Fin 1024 → EReal) (r : Fin n) (u : Fin 1024 → EReal) : EReal :=
  ∑ k : Fin 1024, nrm x w r k * u k

/-- A row's product with a column of the rearranged weight: the rearranged products. -/
theorem S_misc {n : ℕ} (x : (⟨2, ![n, 1024]⟩ : Shape).Idx → EReal) (w : Fin 1024 → EReal) (r : Fin n) (U : Fin 1024 → Fin 4816 → EReal) (q : Fin 384) :
    S x w r (fun k => misc 0 (U k) q) = misc 0 (fun c => S x w r (fun k => U k c)) q := by
  unfold misc swap
  split_ifs <;> first | rfl | simp [S]

/-- The result that takes the weight's columns from `off` on. -/
def G {n : ℕ} (off : ℕ) (h : off + n ≤ 4816) (x : (⟨2, ![32768, 1024]⟩ : Shape).Idx → EReal) (w : (⟨1, ![1024]⟩ : Shape).Idx → EReal)
    (W : (⟨2, ![1024, 4816]⟩ : Shape).Idx → EReal) : (⟨2, ![32768, n]⟩ : Shape).Idx → EReal := fun i =>
  S x (fun k => w (ix1 k)) (i 0) (fun k => W (ix2 k ⟨off + (i 1).val, lt_of_lt_of_le (Nat.add_lt_add_left (i 1).isLt off) h⟩))

/-- The seventh result. -/
def M (x : (⟨2, ![32768, 1024]⟩ : Shape).Idx → EReal) (w : (⟨1, ![1024]⟩ : Shape).Idx → EReal)
    (W : (⟨2, ![1024, 4816]⟩ : Shape).Idx → EReal) : (⟨2, ![32768, 384]⟩ : Shape).Idx → EReal := fun i =>
  misc 0 (fun c => S x (fun k => w (ix1 k)) (i 0) (fun k => W (ix2 k c))) (i 1)

open Cert.OddReferenceIdeal Cert.OddReferenceIdeal.Gen Cert.OddReferenceIdeal.Value

/-- All products. -/
def hY (a0 : FVec Ideal S32768x1024 .f32) (a1 : FVec Ideal S1024 .f32) (a2 : FVec Ideal S1024x4816 .f32) : FVec Ideal S32768x4816 .f32 :=
  Host.dotGeneral dot_S32768x1024_S1024x4816_S32768x4816_1_0_0_1_n_n none (mulf (mulf a0 (broadcastInDim S32768x1024 ![0, 1] bcast_S32768x1_S32768x1024_0_1 (Host.rsqrt (addf (Host.divf (broadcastInDim S32768x1 ![0] bcast_S32768_S32768x1_0 (Host.reduceAdd (mulf a0 a0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a1))) a2

/-- Their rotary columns, the halves exchanged. -/
def hSwap (y : FVec Ideal S32768x4816 .f32) : FVec Ideal S32768x64 .f32 :=
  concatenate S32768x64 1 [⟨S32768x32, extractStridedSlice S32768x32 ![0, 32] (extractStridedSlice S32768x64 ![0, 2192] y slices_S32768x4816_S32768x64_0_2192) slices_S32768x64_S32768x32_0_32⟩,
    ⟨S32768x32, extractStridedSlice S32768x32 ![0, 0] (extractStridedSlice S32768x64 ![0, 2192] y slices_S32768x4816_S32768x64_0_2192) slices_S32768x64_S32768x32_0_0⟩] concatenates_S32768x32_S32768x32_S32768x64_d1

/-- The seventh result, from all products. -/
def hMisc (y : FVec Ideal S32768x4816 .f32) (s : FVec Ideal S32768x64 .f32) : FVec Ideal S32768x384 .f32 :=
  concatenate S32768x384 1 [⟨S32768x64, extractStridedSlice S32768x64 ![0, 2192] y slices_S32768x4816_S32768x64_0_2192⟩,
    ⟨S32768x64, extractStridedSlice S32768x64 ![0, 2192] y slices_S32768x4816_S32768x64_0_2192⟩, ⟨S32768x64, s⟩, ⟨S32768x64, s⟩,
    ⟨S32768x16, extractStridedSlice S32768x16 ![0, 1536] y slices_S32768x4816_S32768x16_0_1536⟩,
    ⟨S32768x112, broadcastInDim S32768x112 ![] bcast_S_S32768x112 (constant S_ .f32 0x00000000#32)⟩] concatenates_S32768x64_S32768x64_S32768x64_S32768x64_S32768x16_S32768x112_S32768x384_d1

theorem res_eq (m : (ℓ : Loc nD τ sig) → Buf (Elt Ideal) ℓ) (c : Dev nD) :
    res_main_v25 m c = hMisc (hY (m ((c.tc : Thread nD τ).loc main_arg0)) (m ((c.tc : Thread nD τ).loc main_arg1)) (m ((c.tc : Thread nD τ).loc main_arg2)))
      (hSwap (hY (m ((c.tc : Thread nD τ).loc main_arg0)) (m ((c.tc : Thread nD τ).loc main_arg1)) (m ((c.tc : Thread nD τ).loc main_arg2)))) := by
  unfold res_main_v25 hMisc hSwap hY
  rfl

theorem hY_apply (a0 : FVec Ideal S32768x1024 .f32) (a1 : FVec Ideal S1024 .f32) (a2 : FVec Ideal S1024x4816 .f32) (r : Fin 32768) (q : Fin 4816) :
    hY a0 a1 a2 (ix2 r q) = S a0 (fun k => a1 (ix1 k)) r (fun k => a2 (ix2 k q)) := by
  unfold hY S nrm
  pointwise

theorem hSwap_apply (y : FVec Ideal S32768x4816 .f32) (r : Fin 32768) (q : Fin 64) : hSwap y (ix2 r q) = swap (fun c => y (ix2 r c)) q := by
  unfold hSwap swap rope
  pointwise
  try rfl

theorem hMisc_apply (y : FVec Ideal S32768x4816 .f32) (s : FVec Ideal S32768x64 .f32) (r : Fin 32768) (hs : ∀ q, s (ix2 r q) = swap (fun c => y (ix2 r c)) q) (q : Fin 384) :
    hMisc y s (ix2 r q) = misc 0 (fun c => y (ix2 r c)) q := by
  unfold hMisc misc rope
  pointwise
  simp only [hs]
  try rfl

/-- The reference's run, its seven results named. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = G (n := 1536) 0 (by decide) (m ((c.tc : Thread nD τ).loc main_arg0)) (m ((c.tc : Thread nD τ).loc main_arg1)) (m ((c.tc : Thread nD τ).loc main_arg2))
      ∧ r.2.mem ((c.tc : Thread nD τ).loc main_v16) = G (n := 384) 1552 (by decide) (m ((c.tc : Thread nD τ).loc main_arg0)) (m ((c.tc : Thread nD τ).loc main_arg1)) (m ((c.tc : Thread nD τ).loc main_arg2))
      ∧ r.2.mem ((c.tc : Thread nD τ).loc main_v17) = G (n := 256) 1936 (by decide) (m ((c.tc : Thread nD τ).loc main_arg0)) (m ((c.tc : Thread nD τ).loc main_arg1)) (m ((c.tc : Thread nD τ).loc main_arg2))
      ∧ r.2.mem ((c.tc : Thread nD τ).loc main_v19) = G (n := 256) 2256 (by decide) (m ((c.tc : Thread nD τ).loc main_arg0)) (m ((c.tc : Thread nD τ).loc main_arg1)) (m ((c.tc : Thread nD τ).loc main_arg2))
      ∧ r.2.mem ((c.tc : Thread nD τ).loc main_v26) = G (n := 1024) 2512 (by decide) (m ((c.tc : Thread nD τ).loc main_arg0)) (m ((c.tc : Thread nD τ).loc main_arg1)) (m ((c.tc : Thread nD τ).loc main_arg2))
      ∧ r.2.mem ((c.tc : Thread nD τ).loc main_v27) = G (n := 1280) 3536 (by decide) (m ((c.tc : Thread nD τ).loc main_arg0)) (m ((c.tc : Thread nD τ).loc main_arg1)) (m ((c.tc : Thread nD τ).loc main_arg2))
      ∧ r.2.mem ((c.tc : Thread nD τ).loc main_v25) = M (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5, h6, hr⟩ := h c
    refine ⟨h0.trans ?_, h1.trans ?_, h2.trans ?_, h3.trans ?_, h4.trans ?_, h5.trans ?_, (h6.trans (res_eq m c)).trans ?_, hr⟩
    on_goal 7 =>
      funext j
      idx_vars j
      rw [hMisc_apply _ _ _ (hSwap_apply _ _)]
      simp only [hY_apply]
      rfl
    all_goals
      funext j
      idx_vars j
      unfold G S nrm
      pointwise
      try rfl
      try (refine Finset.sum_congr rfl fun k _ => congrArg₂ (· * ·) rfl (congrArg _ (congrArg _ (Fin.ext ?_))); simp only []; omega)) (Value.run (F := Ideal) m ρ)

end Cert.Proof.Odd

end
-- ==== Proof.OddValue.lean ====
/-
  An odd layer's input projection in the kernel: the weight's columns are rearranged before the launch so that each
  result takes one run of them, and a block of 256 rows of the input gives that block of every result.
-/
module

public import proofs.«01_k».proof.Proof.OddRef
public import proofs.«01_k».proof.Proof.Gen.OddKernelIdeal.Value

@[expose] public section

set_option maxRecDepth 16384

noncomputable section

namespace Cert.Proof.Odd

open Idealize.ShloMosaic Idealize.ShloMosaic.TcCoe Idealize.SL.Sem Cert.Proof.Proj
open Cert.OddKernelIdeal Cert.OddKernelIdeal.Gen Cert.OddKernelIdeal.Value

/-- The weight's rotary columns, their halves exchanged. -/
def wSwap (W : FVec Ideal S1024x4816 .f32) : FVec Ideal S1024x64 .f32 :=
  concatenate S1024x64 1 [⟨S1024x32, extractStridedSlice S1024x32 ![0, 32] (extractStridedSlice S1024x64 ![0, 2192] W slices_S1024x4816_S1024x64_0_2192) slices_S1024x64_S1024x32_0_32⟩,
    ⟨S1024x32, extractStridedSlice S1024x32 ![0, 0] (extractStridedSlice S1024x64 ![0, 2192] W slices_S1024x4816_S1024x64_0_2192) slices_S1024x64_S1024x32_0_0⟩] concatenates_S1024x32_S1024x32_S1024x64_d1

/-- The columns the seventh result takes. -/
def wMisc (W : FVec Ideal S1024x4816 .f32) (s : FVec Ideal S1024x64 .f32) : FVec Ideal S1024x384 .f32 :=
  concatenate S1024x384 1 [⟨S1024x64, extractStridedSlice S1024x64 ![0, 2192] W slices_S1024x4816_S1024x64_0_2192⟩,
    ⟨S1024x64, extractStridedSlice S1024x64 ![0, 2192] W slices_S1024x4816_S1024x64_0_2192⟩, ⟨S1024x64, s⟩, ⟨S1024x64, s⟩,
    ⟨S1024x16, extractStridedSlice S1024x16 ![0, 1536] W slices_S1024x4816_S1024x16_0_1536⟩,
    ⟨S1024x112, broadcastInDim S1024x112 ![] bcast_S_S1024x112 (constant S_ .f32 0x00000000#32)⟩] concatenates_S1024x64_S1024x64_S1024x64_S1024x64_S1024x16_S1024x112_S1024x384_d1

/-- The rearranged weight. -/
def wAll (W : FVec Ideal S1024x4816 .f32) (u : FVec Ideal S1024x384 .f32) : FVec Ideal S1024x5120 .f32 :=
  concatenate S1024x5120 1 [⟨S1024x1536, extractStridedSlice S1024x1536 ![0, 0] W slices_S1024x4816_S1024x1536_0_0⟩,
    ⟨S1024x384, extractStridedSlice S1024x384 ![0, 1552] W slices_S1024x4816_S1024x384_0_1552⟩,
    ⟨S1024x256, extractStridedSlice S1024x256 ![0, 1936] W slices_S1024x4816_S1024x256_0_1936⟩,
    ⟨S1024x256, extractStridedSlice S1024x256 ![0, 2256] W slices_S1024x4816_S1024x256_0_2256⟩,
    ⟨S1024x2304, extractStridedSlice S1024x2304 ![0, 2512] W slices_S1024x4816_S1024x2304_0_2512⟩,
    ⟨S1024x384, u⟩] concatenates_S1024x1536_S1024x384_S1024x256_S1024x256_S1024x2304_S1024x384_S1024x5120_d1

theorem wSwap_apply (W : FVec Ideal S1024x4816 .f32) (k : Fin 1024) (q : Fin 64) : wSwap W (ix2 k q) = swap (fun c => W (ix2 k c)) q := by
  unfold wSwap swap rope
  pointwise
  try rfl

theorem wMisc_apply (W : FVec Ideal S1024x4816 .f32) (s : FVec Ideal S1024x64 .f32) (k : Fin 1024) (hs : ∀ q, s (ix2 k q) = swap (fun c => W (ix2 k c)) q) (q : Fin 384) :
    wMisc W s (ix2 k q) = misc 0 (fun c => W (ix2 k c)) q := by
  unfold wMisc misc rope
  pointwise
  simp only [hs]
  try rfl

/-- A column of the rearranged weight, by the part it lies in. -/
theorem wAll_apply (W : FVec Ideal S1024x4816 .f32) (u : FVec Ideal S1024x384 .f32) (k : Fin 1024) (q : Fin 5120) :
    wAll W u (ix2 k q) = if h : q.val < 1536 then W (ix2 k ⟨0 + q.val, by omega⟩)
      else if h : q.val - 1536 < 384 then W (ix2 k ⟨1552 + (q.val - 1536), by omega⟩)
      else if h : q.val - 1536 - 384 < 256 then W (ix2 k ⟨1936 + (q.val - 1536 - 384), by omega⟩)
      else if h : q.val - 1536 - 384 - 256 < 256 then W (ix2 k ⟨2256 + (q.val - 1536 - 384 - 256), by omega⟩)
      else if h : q.val - 1536 - 384 - 256 - 256 < 2304 then W (ix2 k ⟨2512 + (q.val - 1536 - 384 - 256 - 256), by omega⟩)
      else u (ix2 k ⟨q.val - 1536 - 384 - 256 - 256 - 2304, by omega⟩) := by
  unfold wAll
  pointwise
  try rfl
  try simp only [Nat.zero_add]

/-- The three kinds of column the results take: from a run of the weight's, or the seventh result's. -/
theorem wAll_off (W : FVec Ideal S1024x4816 .f32) (u : FVec Ideal S1024x384 .f32) (k : Fin 1024) (p off a n : ℕ) (hp : p < n)
    (h : (a = off ∧ off = 0 ∧ n = 1536) ∨ (a = 1536 ∧ off = 1552 ∧ n = 384) ∨ (a = 1920 ∧ off = 1936 ∧ n = 256) ∨ (a = 2176 ∧ off = 2256 ∧ n = 256)
      ∨ (a = 2432 ∧ off = 2512 ∧ n = 1024) ∨ (a = 3456 ∧ off = 3536 ∧ n = 1280)) :
    wAll W u (ix2 k ⟨a + p, by omega⟩) = W (ix2 k ⟨off + p, by omega⟩) := by
  rw [wAll_apply]
  simp only []
  split_ifs <;> first | omega | exact congrArg _ (congrArg (ix2 k) (Fin.ext (by (try simp only []); omega)))

theorem wAll_misc (W : FVec Ideal S1024x4816 .f32) (u : FVec Ideal S1024x384 .f32) (k : Fin 1024) (q : Fin 384) :
    wAll W u (ix2 k ⟨4736 + q.val, by omega⟩) = u (ix2 k q) := by
  rw [wAll_apply]
  simp only []
  split_ifs <;> first | omega | exact congrArg _ (congrArg (ix2 k) (Fin.ext (by (try simp only []); omega)))

/-- What the body leaves in a result's block, at a row and a column: the row's product with the column `a` further on. -/
abbrev out (a : ℕ) {n : ℕ} (h : a + n ≤ 5120) (x0 : Vec Ideal S256x1024 .f32) (x1 : Vec Ideal S1x1024 .f32) (x2 : Vec Ideal S1024x5120 .bf16) (r : Fin 256) (q : Fin n) : EReal :=
  S x0 (fun k => x1 (ix2 0 k)) r (fun k => x2 (ix2 k ⟨a + q.val, lt_of_lt_of_le (Nat.add_lt_add_left q.isLt a) h⟩))

theorem out3_apply (x0 : Vec Ideal S256x1024 .f32) (x1 : Vec Ideal S1x1024 .f32) (x2 : Vec Ideal S1024x5120 .bf16) (r : Fin 256) (q : Fin 1536) :
    out0_3 x0 x1 x2 (ix2 r q) = out 0 (by decide) x0 x1 x2 r q := by
  unfold out0_3 out S nrm
  rw [View.canon_unit_zero hz]
  pointwise [k0_pay5, k0_pay4]
  try rfl

theorem out4_apply (x0 : Vec Ideal S256x1024 .f32) (x1 : Vec Ideal S1x1024 .f32) (x2 : Vec Ideal S1024x5120 .bf16) (r : Fin 256) (q : Fin 384) :
    out0_4 x0 x1 x2 (ix2 r q) = out 1536 (by decide) x0 x1 x2 r q := by
  unfold out0_4 out S nrm
  rw [View.canon_unit_zero hz]
  pointwise [k0_pay6, k0_pay4]
  try rfl

theorem out5_apply (x0 : Vec Ideal S256x1024 .f32) (x1 : Vec Ideal S1x1024 .f32) (x2 : Vec Ideal S1024x5120 .bf16) (r : Fin 256) (q : Fin 256) :
    out0_5 x0 x1 x2 (ix2 r q) = out 1920 (by decide) x0 x1 x2 r q := by
  unfold out0_5 out S nrm
  rw [View.canon_unit_zero hz]
  pointwise [k0_pay7, k0_pay4]
  try rfl

theorem out6_apply (x0 : Vec Ideal S256x1024 .f32) (x1 : Vec Ideal S1x1024 .f32) (x2 : Vec Ideal S1024x5120 .bf16) (r : Fin 256) (q : Fin 256) :
    out0_6 x0 x1 x2 (ix2 r q) = out 2176 (by decide) x0 x1 x2 r q := by
  unfold out0_6 out S nrm
  rw [View.canon_unit_zero hz]
  pointwise [k0_pay8, k0_pay4]
  try rfl

theorem out7_apply (x0 : Vec Ideal S256x1024 .f32) (x1 : Vec Ideal S1x1024 .f32) (x2 : Vec Ideal S1024x5120 .bf16) (r : Fin 256) (q : Fin 1024) :
    out0_7 x0 x1 x2 (ix2 r q) = out 2432 (by decide) x0 x1 x2 r q := by
  unfold out0_7 out S nrm
  rw [View.canon_unit_zero hz]
  pointwise [k0_pay1, k0_pay9, k0_pay4]
  try rfl

theorem out8_apply (x0 : Vec Ideal S256x1024 .f32) (x1 : Vec Ideal S1x1024 .f32) (x2 : Vec Ideal S1024x5120 .bf16) (r : Fin 256) (q : Fin 1280) :
    out0_8 x0 x1 x2 (ix2 r q) = out 3456 (by decide) x0 x1 x2 r q := by
  unfold out0_8 out S nrm
  rw [View.canon_unit_zero hz]
  pointwise [k0_pay2, k0_pay9, k0_pay4]
  try rfl

theorem out9_apply (x0 : Vec Ideal S256x1024 .f32) (x1 : Vec Ideal S1x1024 .f32) (x2 : Vec Ideal S1024x5120 .bf16) (r : Fin 256) (q : Fin 384) :
    out0_9 x0 x1 x2 (ix2 r q) = out 4736 (by decide) x0 x1 x2 r q := by
  unfold out0_9 out S nrm
  rw [View.canon_unit_zero hz]
  pointwise [k0_pay3, k0_pay9, k0_pay4]
  try rfl

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

theorem idx6 : ∀ t : Fin cfg0.N, win0_6.index t (0 : Fin 2) = t.val ∧ win0_6.index t (1 : Fin 2) = 0 :=
  (by decide +kernel : ∀ t : Fin grid0.N, _)

theorem idx7 : ∀ t : Fin cfg0.N, win0_7.index t (0 : Fin 2) = t.val ∧ win0_7.index t (1 : Fin 2) = 0 :=
  (by decide +kernel : ∀ t : Fin grid0.N, _)

theorem idx8 : ∀ t : Fin cfg0.N, win0_8.index t (0 : Fin 2) = t.val ∧ win0_8.index t (1 : Fin 2) = 0 :=
  (by decide +kernel : ∀ t : Fin grid0.N, _)

theorem idx9 : ∀ t : Fin cfg0.N, win0_9.index t (0 : Fin 2) = t.val ∧ win0_9.index t (1 : Fin 2) = 0 :=
  (by decide +kernel : ∀ t : Fin grid0.N, _)

/-- Row `r` of the block at point `t`, among all rows. -/
def grow (t : Fin cfg0.N) (r : Fin 256) : Fin 32768 := ⟨t.val * 256 + r.val, by
  have h := t.isLt
  have : cfg0.N = 128 := by decide
  omega⟩

/-- The input's block at point `t`. -/
theorem iblk0_apply (c : Dev nD) (t : Fin cfg0.N) (r : Fin 256) (k : Fin 1024) :
    iblk m c 0 t (ix2 r k) = m ((c : Thread nD τ).loc main_arg0) (ix2 (grow t r) k) := by
  show V m c main_arg0 (((cfg0.win 0).blk t).view.emb (ix2 r k)) = _
  rw [V_main_arg0]
  obtain ⟨e0, e1⟩ := idx0 t
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 1024 + 1 * k.val = k.val; omega

/-- The scale's block, at every point. -/
theorem iblk1_apply (c : Dev nD) (t : Fin cfg0.N) (k : Fin 1024) :
    iblk m c 1 t (ix2 0 k) = m ((c : Thread nD τ).loc main_arg1) (ix1 k) := by
  show V m c main_v14 (((cfg0.win 1).blk t).view.emb (ix2 0 k)) = _
  have e : (((cfg0.win 1).blk t).view.emb (ix2 (0 : Fin 1) k)) = (ix2 (0 : Fin 1) k : S1x1024.Idx) := by
    obtain ⟨e0, e1⟩ := idx1 t
    refine funext fun a => Fin.ext ?_
    match a with
    | ⟨0, _⟩ => show win0_1.index t (0 : Fin 2) * 1 + 1 * 0 = 0; omega
    | ⟨1, _⟩ => show win0_1.index t (1 : Fin 2) * 1024 + 1 * k.val = k.val; omega
  rw [e]
  have hV : (V m c main_v14 : S1x1024.Idx → EReal) = shapeCast S1x1024 (m ((c : Thread nD τ).loc main_arg1) : Vec Ideal S1024 .f32) shapeCasts_S1024_S1x1024 := by
    unfold V; after_results; rfl
  rw [hV]
  pointwise

/-- The weight's block, at every point: the rearranged weight. -/
theorem iblk2_apply (c : Dev nD) (t : Fin cfg0.N) (k : Fin 1024) (q : Fin 5120) :
    iblk m c 2 t (ix2 k q) = wAll (m ((c : Thread nD τ).loc main_arg2)) (wMisc (m ((c : Thread nD τ).loc main_arg2)) (wSwap (m ((c : Thread nD τ).loc main_arg2)))) (ix2 k q) := by
  show V m c main_v13 (((cfg0.win 2).blk t).view.emb (ix2 k q)) = _
  have e : (((cfg0.win 2).blk t).view.emb (ix2 k q)) = (ix2 k q : S1024x5120.Idx) := by
    obtain ⟨e0, e1⟩ := idx2 t
    refine funext fun a => Fin.ext ?_
    match a with
    | ⟨0, _⟩ => show win0_2.index t (0 : Fin 2) * 1024 + 1 * k.val = k.val; omega
    | ⟨1, _⟩ => show win0_2.index t (1 : Fin 2) * 5120 + 1 * q.val = q.val; omega
  rw [e]
  have hV : (V m c main_v13 : S1024x5120.Idx → EReal) = truncf (F := Ideal) .bf16 (wAll (m ((c : Thread nD τ).loc main_arg2)) (wMisc (m ((c : Thread nD τ).loc main_arg2)) (wSwap (m ((c : Thread nD τ).loc main_arg2))))) bitsLt_bf16_f32 := by
    unfold V wAll wMisc wSwap
    after_results <;> (try dsimp only [Matrix.cons_val]) <;> (try after_results) <;> rfl
  rw [hV]
  pointwise

/-- A row's product in a block is that row's product in the whole. -/
theorem S_block (c : Dev nD) (t : Fin cfg0.N) (r : Fin 256) (u : Fin 1024 → EReal) :
    S (n := 256) (iblk m c 0 t) (fun k => iblk m c 1 t (ix2 0 k)) r u
      = S (n := 32768) (m ((c : Thread nD τ).loc main_arg0)) (fun k => m ((c : Thread nD τ).loc main_arg1) (ix1 k)) (grow t r) u := by
  unfold S nrm
  simp only [iblk0_apply, iblk1_apply]

/-- What a point leaves of a result that takes a run of the weight's columns. -/
theorem run_block (c : Dev nD) (t : Fin cfg0.N) (r : Fin 256) {n : ℕ} (a off : ℕ) (ha : a + n ≤ 5120) (ho : off + n ≤ 4816) (q : Fin n)
    (h : (a = off ∧ off = 0 ∧ n = 1536) ∨ (a = 1536 ∧ off = 1552 ∧ n = 384) ∨ (a = 1920 ∧ off = 1936 ∧ n = 256) ∨ (a = 2176 ∧ off = 2256 ∧ n = 256)
      ∨ (a = 2432 ∧ off = 2512 ∧ n = 1024) ∨ (a = 3456 ∧ off = 3536 ∧ n = 1280)) :
    out a ha (iblk m c 0 t) (iblk m c 1 t) (iblk m c 2 t) r q
      = G off ho (m ((c : Thread nD τ).loc main_arg0)) (m ((c : Thread nD τ).loc main_arg1)) (m ((c : Thread nD τ).loc main_arg2)) (ix2 (grow t r) q) := by
  unfold out
  rw [S_block]
  refine congrArg (S _ _ _) (funext fun k => ?_)
  rw [iblk2_apply, wAll_off _ _ k q.val off a n q.isLt h]
  rfl

/-- What a point leaves of the seventh result. -/
theorem misc_block (c : Dev nD) (t : Fin cfg0.N) (r : Fin 256) (q : Fin 384) :
    out 4736 (n := 384) (by decide) (iblk m c 0 t) (iblk m c 1 t) (iblk m c 2 t) r q
      = M (m ((c : Thread nD τ).loc main_arg0)) (m ((c : Thread nD τ).loc main_arg1)) (m ((c : Thread nD τ).loc main_arg2)) (ix2 (grow t r) q) := by
  unfold out
  rw [S_block]
  refine Eq.trans (congrArg (S _ _ _) (funext fun k => ?_)) (S_misc _ _ _ (fun k c' => m ((c : Thread nD τ).loc main_arg2) (ix2 k c')) q)
  rw [iblk2_apply, wAll_misc, wMisc_apply _ _ k (wSwap_apply _ k)]

/-- Blocks of 256 rows at 128 points reach every row. -/
theorem rows_cover {n : ℕ} (e : Fin cfg0.N → (⟨2, ![256, n]⟩ : Shape).Idx → (⟨2, ![32768, n]⟩ : Shape).Idx) (P : Fin cfg0.N → (⟨2, ![32768, n]⟩ : Shape).Idx → Prop)
    (he : ∀ t (r : Fin 256) (q : Fin n), e t (ix2 r q) = ix2 (grow t r) q) (hP : ∀ t j, P t (e t j)) (i : (⟨2, ![32768, n]⟩ : Shape).Idx) : ∃ t, P t i := by
  obtain ⟨r, q, rfl⟩ : ∃ (a : Fin 32768) (b : Fin n), i = ix2 a b := ⟨i 0, i 1, eq_ix2 i⟩
  have hN : cfg0.N = 128 := by decide
  refine ⟨⟨r.val / 256, by omega⟩, ?_⟩
  have h := hP (⟨r.val / 256, by omega⟩ : Fin cfg0.N) (ix2 (⟨r.val % 256, by omega⟩ : Fin 256) q)
  rw [he] at h
  have e' : grow (⟨r.val / 256, by omega⟩ : Fin cfg0.N) (⟨r.val % 256, by omega⟩ : Fin 256) = r := Fin.ext (Nat.div_add_mod' r.val 256)
  rwa [e'] at h

/-- An index is the place a block's row and column take among all, once its coordinates are. -/
theorem place {n : ℕ} (t : Fin cfg0.N) (r : Fin 256) (q : Fin n) (i : (⟨2, ![32768, n]⟩ : Shape).Idx) (h0 : (i 0).val = t.val * 256 + r.val) (h1 : (i 1).val = q.val) :
    i = ix2 (grow t r) q := by
  refine funext fun a => Fin.ext ?_
  match a with
  | ⟨0, _⟩ => exact h0
  | ⟨1, _⟩ => exact h1

/-- Result 0. -/
abbrev res3 (c : Dev nD) : Vec Ideal S32768x1536 .f32 :=
  G (n := 1536) 0 (by decide) (m ((c : Thread nD τ).loc main_arg0)) (m ((c : Thread nD τ).loc main_arg1)) (m ((c : Thread nD τ).loc main_arg2))

theorem emb3 (t : Fin cfg0.N) (r : Fin 256) (q : Fin 1536) : ((cfg0.win 3).blk t).view.emb (ix2 r q) = (ix2 (grow t r) q : S32768x1536.Idx) :=
  place t r q _
    (by show win0_3.index t (0 : Fin 2) * 256 + 1 * r.val = t.val * 256 + r.val; have := (idx3 t).1; omega)
    (by show win0_3.index t (1 : Fin 2) * 1536 + 1 * q.val = q.val; have := (idx3 t).2; omega)

theorem final3 (c : Dev nD) : (dats m 0 c).arrAt 3 cfg0.N = res3 m c :=
  (dats m 0 c).arrAt_eq_of_cover 3 (res3 m c)
    (fun t _ => by
      rw [flushed3]
      refine funext fun (j : S256x1536.Idx) => ?_
      obtain ⟨r, q, rfl⟩ : ∃ (a : Fin 256) (b : Fin 1536), j = ix2 a b := ⟨j 0, j 1, eq_ix2 j⟩
      exact (out3_apply _ _ _ r q).trans ((run_block m c t r 0 0 (by decide) (by decide) q (by omega)).trans (congrArg (res3 m c) (emb3 t r q).symm)))
    (rows_cover (fun t => ((cfg0.win 3).blk t).view.emb) (fun t i => (cfg0.win 3).flush t = true ∧ i ∈ ((cfg0.win 3).blk t).view.set) emb3
      (fun t j => ⟨flush0_3 t, ((cfg0.win 3).blk t).view.emb_mem_set j⟩))

/-- Result 1. -/
abbrev res4 (c : Dev nD) : Vec Ideal S32768x384 .f32 :=
  G (n := 384) 1552 (by decide) (m ((c : Thread nD τ).loc main_arg0)) (m ((c : Thread nD τ).loc main_arg1)) (m ((c : Thread nD τ).loc main_arg2))

theorem emb4 (t : Fin cfg0.N) (r : Fin 256) (q : Fin 384) : ((cfg0.win 4).blk t).view.emb (ix2 r q) = (ix2 (grow t r) q : S32768x384.Idx) :=
  place t r q _
    (by show win0_4.index t (0 : Fin 2) * 256 + 1 * r.val = t.val * 256 + r.val; have := (idx4 t).1; omega)
    (by show win0_4.index t (1 : Fin 2) * 384 + 1 * q.val = q.val; have := (idx4 t).2; omega)

theorem final4 (c : Dev nD) : (dats m 0 c).arrAt 4 cfg0.N = res4 m c :=
  (dats m 0 c).arrAt_eq_of_cover 4 (res4 m c)
    (fun t _ => by
      rw [flushed4]
      refine funext fun (j : S256x384.Idx) => ?_
      obtain ⟨r, q, rfl⟩ : ∃ (a : Fin 256) (b : Fin 384), j = ix2 a b := ⟨j 0, j 1, eq_ix2 j⟩
      exact (out4_apply _ _ _ r q).trans ((run_block m c t r 1536 1552 (by decide) (by decide) q (by omega)).trans (congrArg (res4 m c) (emb4 t r q).symm)))
    (rows_cover (fun t => ((cfg0.win 4).blk t).view.emb) (fun t i => (cfg0.win 4).flush t = true ∧ i ∈ ((cfg0.win 4).blk t).view.set) emb4
      (fun t j => ⟨flush0_4 t, ((cfg0.win 4).blk t).view.emb_mem_set j⟩))

/-- Result 2. -/
abbrev res5 (c : Dev nD) : Vec Ideal S32768x256 .f32 :=
  G (n := 256) 1936 (by decide) (m ((c : Thread nD τ).loc main_arg0)) (m ((c : Thread nD τ).loc main_arg1)) (m ((c : Thread nD τ).loc main_arg2))

theorem emb5 (t : Fin cfg0.N) (r : Fin 256) (q : Fin 256) : ((cfg0.win 5).blk t).view.emb (ix2 r q) = (ix2 (grow t r) q : S32768x256.Idx) :=
  place t r q _
    (by show win0_5.index t (0 : Fin 2) * 256 + 1 * r.val = t.val * 256 + r.val; have := (idx5 t).1; omega)
    (by show win0_5.index t (1 : Fin 2) * 256 + 1 * q.val = q.val; have := (idx5 t).2; omega)

theorem final5 (c : Dev nD) : (dats m 0 c).arrAt 5 cfg0.N = res5 m c :=
  (dats m 0 c).arrAt_eq_of_cover 5 (res5 m c)
    (fun t _ => by
      rw [flushed5]
      refine funext fun (j : S256x256.Idx) => ?_
      obtain ⟨r, q, rfl⟩ : ∃ (a : Fin 256) (b : Fin 256), j = ix2 a b := ⟨j 0, j 1, eq_ix2 j⟩
      exact (out5_apply _ _ _ r q).trans ((run_block m c t r 1920 1936 (by decide) (by decide) q (by omega)).trans (congrArg (res5 m c) (emb5 t r q).symm)))
    (rows_cover (fun t => ((cfg0.win 5).blk t).view.emb) (fun t i => (cfg0.win 5).flush t = true ∧ i ∈ ((cfg0.win 5).blk t).view.set) emb5
      (fun t j => ⟨flush0_5 t, ((cfg0.win 5).blk t).view.emb_mem_set j⟩))

/-- Result 3. -/
abbrev res6 (c : Dev nD) : Vec Ideal S32768x256 .f32 :=
  G (n := 256) 2256 (by decide) (m ((c : Thread nD τ).loc main_arg0)) (m ((c : Thread nD τ).loc main_arg1)) (m ((c : Thread nD τ).loc main_arg2))

theorem emb6 (t : Fin cfg0.N) (r : Fin 256) (q : Fin 256) : ((cfg0.win 6).blk t).view.emb (ix2 r q) = (ix2 (grow t r) q : S32768x256.Idx) :=
  place t r q _
    (by show win0_6.index t (0 : Fin 2) * 256 + 1 * r.val = t.val * 256 + r.val; have := (idx6 t).1; omega)
    (by show win0_6.index t (1 : Fin 2) * 256 + 1 * q.val = q.val; have := (idx6 t).2; omega)

theorem final6 (c : Dev nD) : (dats m 0 c).arrAt 6 cfg0.N = res6 m c :=
  (dats m 0 c).arrAt_eq_of_cover 6 (res6 m c)
    (fun t _ => by
      rw [flushed6]
      refine funext fun (j : S256x256.Idx) => ?_
      obtain ⟨r, q, rfl⟩ : ∃ (a : Fin 256) (b : Fin 256), j = ix2 a b := ⟨j 0, j 1, eq_ix2 j⟩
      exact (out6_apply _ _ _ r q).trans ((run_block m c t r 2176 2256 (by decide) (by decide) q (by omega)).trans (congrArg (res6 m c) (emb6 t r q).symm)))
    (rows_cover (fun t => ((cfg0.win 6).blk t).view.emb) (fun t i => (cfg0.win 6).flush t = true ∧ i ∈ ((cfg0.win 6).blk t).view.set) emb6
      (fun t j => ⟨flush0_6 t, ((cfg0.win 6).blk t).view.emb_mem_set j⟩))

/-- Result 4. -/
abbrev res7 (c : Dev nD) : Vec Ideal S32768x1024 .f32 :=
  G (n := 1024) 2512 (by decide) (m ((c : Thread nD τ).loc main_arg0)) (m ((c : Thread nD τ).loc main_arg1)) (m ((c : Thread nD τ).loc main_arg2))

theorem emb7 (t : Fin cfg0.N) (r : Fin 256) (q : Fin 1024) : ((cfg0.win 7).blk t).view.emb (ix2 r q) = (ix2 (grow t r) q : S32768x1024.Idx) :=
  place t r q _
    (by show win0_7.index t (0 : Fin 2) * 256 + 1 * r.val = t.val * 256 + r.val; have := (idx7 t).1; omega)
    (by show win0_7.index t (1 : Fin 2) * 1024 + 1 * q.val = q.val; have := (idx7 t).2; omega)

theorem final7 (c : Dev nD) : (dats m 0 c).arrAt 7 cfg0.N = res7 m c :=
  (dats m 0 c).arrAt_eq_of_cover 7 (res7 m c)
    (fun t _ => by
      rw [flushed7]
      refine funext fun (j : S256x1024.Idx) => ?_
      obtain ⟨r, q, rfl⟩ : ∃ (a : Fin 256) (b : Fin 1024), j = ix2 a b := ⟨j 0, j 1, eq_ix2 j⟩
      exact (out7_apply _ _ _ r q).trans ((run_block m c t r 2432 2512 (by decide) (by decide) q (by omega)).trans (congrArg (res7 m c) (emb7 t r q).symm)))
    (rows_cover (fun t => ((cfg0.win 7).blk t).view.emb) (fun t i => (cfg0.win 7).flush t = true ∧ i ∈ ((cfg0.win 7).blk t).view.set) emb7
      (fun t j => ⟨flush0_7 t, ((cfg0.win 7).blk t).view.emb_mem_set j⟩))

/-- Result 5. -/
abbrev res8 (c : Dev nD) : Vec Ideal S32768x1280 .f32 :=
  G (n := 1280) 3536 (by decide) (m ((c : Thread nD τ).loc main_arg0)) (m ((c : Thread nD τ).loc main_arg1)) (m ((c : Thread nD τ).loc main_arg2))

theorem emb8 (t : Fin cfg0.N) (r : Fin 256) (q : Fin 1280) : ((cfg0.win 8).blk t).view.emb (ix2 r q) = (ix2 (grow t r) q : S32768x1280.Idx) :=
  place t r q _
    (by show win0_8.index t (0 : Fin 2) * 256 + 1 * r.val = t.val * 256 + r.val; have := (idx8 t).1; omega)
    (by show win0_8.index t (1 : Fin 2) * 1280 + 1 * q.val = q.val; have := (idx8 t).2; omega)

theorem final8 (c : Dev nD) : (dats m 0 c).arrAt 8 cfg0.N = res8 m c :=
  (dats m 0 c).arrAt_eq_of_cover 8 (res8 m c)
    (fun t _ => by
      rw [flushed8]
      refine funext fun (j : S256x1280.Idx) => ?_
      obtain ⟨r, q, rfl⟩ : ∃ (a : Fin 256) (b : Fin 1280), j = ix2 a b := ⟨j 0, j 1, eq_ix2 j⟩
      exact (out8_apply _ _ _ r q).trans ((run_block m c t r 3456 3536 (by decide) (by decide) q (by omega)).trans (congrArg (res8 m c) (emb8 t r q).symm)))
    (rows_cover (fun t => ((cfg0.win 8).blk t).view.emb) (fun t i => (cfg0.win 8).flush t = true ∧ i ∈ ((cfg0.win 8).blk t).view.set) emb8
      (fun t j => ⟨flush0_8 t, ((cfg0.win 8).blk t).view.emb_mem_set j⟩))

/-- Result 6. -/
abbrev res9 (c : Dev nD) : Vec Ideal S32768x384 .f32 :=
  M (m ((c : Thread nD τ).loc main_arg0)) (m ((c : Thread nD τ).loc main_arg1)) (m ((c : Thread nD τ).loc main_arg2))

theorem emb9 (t : Fin cfg0.N) (r : Fin 256) (q : Fin 384) : ((cfg0.win 9).blk t).view.emb (ix2 r q) = (ix2 (grow t r) q : S32768x384.Idx) :=
  place t r q _
    (by show win0_9.index t (0 : Fin 2) * 256 + 1 * r.val = t.val * 256 + r.val; have := (idx9 t).1; omega)
    (by show win0_9.index t (1 : Fin 2) * 384 + 1 * q.val = q.val; have := (idx9 t).2; omega)

theorem final9 (c : Dev nD) : (dats m 0 c).arrAt 9 cfg0.N = res9 m c :=
  (dats m 0 c).arrAt_eq_of_cover 9 (res9 m c)
    (fun t _ => by
      rw [flushed9]
      refine funext fun (j : S256x384.Idx) => ?_
      obtain ⟨r, q, rfl⟩ : ∃ (a : Fin 256) (b : Fin 384), j = ix2 a b := ⟨j 0, j 1, eq_ix2 j⟩
      exact (out9_apply _ _ _ r q).trans ((misc_block m c t r q).trans (congrArg (res9 m c) (emb9 t r q).symm)))
    (rows_cover (fun t => ((cfg0.win 9).blk t).view.emb) (fun t i => (cfg0.win 9).flush t = true ∧ i ∈ ((cfg0.win 9).blk t).view.set) emb9
      (fun t j => ⟨flush0_9 t, ((cfg0.win 9).blk t).view.emb_mem_set j⟩))

/-- The kernel's run, its seven results named. -/
theorem run_kernel : θ_run (defs (F := Ideal)) (onTc (τ := τ) (main (F := Ideal))) ⟨m, fun _ => 0, ρ⟩ fun r => ∀ c : Dev nD,
      r.2.mem ((c : Thread nD τ).loc main_v15_0) = res3 m c
      ∧ r.2.mem ((c : Thread nD τ).loc main_v15_1) = res4 m c
      ∧ r.2.mem ((c : Thread nD τ).loc main_v15_2) = res5 m c
      ∧ r.2.mem ((c : Thread nD τ).loc main_v15_3) = res6 m c
      ∧ r.2.mem ((c : Thread nD τ).loc main_v15_4) = res7 m c
      ∧ r.2.mem ((c : Thread nD τ).loc main_v15_5) = res8 m c
      ∧ r.2.mem ((c : Thread nD τ).loc main_v15_6) = res9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    obtain ⟨h0, h1, h2, h3, h4, h5, h6, hr⟩ := h c
    exact ⟨h0.trans (final3 m c), h1.trans (final4 m c), h2.trans (final5 m c), h3.trans (final6 m c), h4.trans (final7 m c), h5.trans (final8 m c), h6.trans (final9 m c), hr⟩) (run_blocks m ρ)

end Cert.Proof.Odd

end
-- ==== Proof.FirstRef.lean ====
/-
  The first odd layer's tail: the last layer's without the final norm. The reference's run, read with the last tail's parts.
-/
module

public import proofs.«01_k».proof.Proof.TailRef
public import proofs.«01_k».proof.Proof.Gen.FirstReferenceIdeal
public import proofs.«01_k».proof.Proof.Gen.FirstReferenceIdeal.Run

@[expose] public section

set_option maxRecDepth 16384

noncomputable section

namespace Cert.Proof.First

open Idealize.ShloMosaic Idealize.ShloMosaic.TcCoe Idealize.SL.Sem Cert.Proof.Tail

/-- The tail at a row and a column, from the whole arrays. -/
def X (a0 a1 : (⟨2, ![32768, 1024]⟩ : Shape).Idx → EReal) (a2 : (⟨2, ![32768, 256]⟩ : Shape).Idx → EReal) (a3 : (⟨2, ![32768, 1280]⟩ : Shape).Idx → EReal)
    (a4 : (⟨2, ![32768, 1024]⟩ : Shape).Idx → EReal) (a5 a6 : (⟨3, ![8, 256, 256]⟩ : Shape).Idx → EReal) (a7 : (⟨2, ![2304, 1024]⟩ : Shape).Idx → EReal) :
    (⟨2, ![32768, 1024]⟩ : Shape).Idx → EReal := fun i =>
  mixed (rAtt (fun l => a2 (ix2 (i 0) l)) (fun m l => a5 (ix3 ⟨(i 0).val / 4096, Nat.div_lt_of_lt_mul (i 0).isLt⟩ m l)) (fun m l => a6 (ix3 ⟨(i 0).val / 4096, Nat.div_lt_of_lt_mul (i 0).isLt⟩ m l)))
    (fun k => a0 (ix2 (i 0) k)) (fun k => a1 (ix2 (i 0) k)) (fun k => a3 (ix2 (i 0) k)) (fun k => a4 (ix2 (i 0) k)) (fun k j => a7 (ix2 k j)) (i 1)

open Cert.FirstReferenceIdeal Cert.FirstReferenceIdeal.Gen Cert.FirstReferenceIdeal.Value

theorem res_eq (m : (ℓ : Loc nD τ sig) → Buf (Elt Ideal) ℓ) (c : Dev nD) :
    res_main_v30 m c = hX (m ((c.tc : Thread nD τ).loc main_arg4)) (hCat (m ((c.tc : Thread nD τ).loc main_arg0)) (hGd (m ((c.tc : Thread nD τ).loc main_arg1)) (m ((c.tc : Thread nD τ).loc main_arg3)))
      (hGm (hMo (m ((c.tc : Thread nD τ).loc main_arg6)) (hPr (hPe (hSc (m ((c.tc : Thread nD τ).loc main_arg2)) (m ((c.tc : Thread nD τ).loc main_arg5))) (hMx (hSc (m ((c.tc : Thread nD τ).loc main_arg2)) (m ((c.tc : Thread nD τ).loc main_arg5))))))) (m ((c.tc : Thread nD τ).loc main_arg3)))) (m ((c.tc : Thread nD τ).loc main_arg7)) := by
  unfold res_main_v30 hX hCat hGd hGm hMo hPr hPe hMx hSc
  rfl

/-- The reference's run. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30) = X (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1.trans (res_eq m c)).trans (funext fun i => by
    obtain ⟨r, q, rfl⟩ : ∃ (a : Fin 32768) (b : Fin 1024), i = ix2 a b := ⟨i 0, i 1, eq_ix2 i⟩
    exact hX_mixed _ _ _ _ _ _ _ _ r q), (h c).2⟩) (Value.run (F := Ideal) m ρ)

end Cert.Proof.First

end
-- ==== Proof.EvenRef.lean ====
/-
  An even layer's tail as mathematics, and the reference's run: the recurrence's output with its skip, through the
  smooth rectifier and a gate read off its own product with a weight; the mixer's output and the memory attention beside it; all
  gated by the third input's logistic, multiplied by the output weight and added to the residual stream.
-/
module

public import proofs.«01_k».proof.Proof.TailRef
public import proofs.«01_k».proof.Proof.Gen.EvenReferenceIdeal
public import proofs.«01_k».proof.Proof.Gen.EvenReferenceIdeal.Run

@[expose] public section

set_option maxRecDepth 16384

noncomputable section

namespace Cert.Proof.Even

open Idealize.ShloMosaic Idealize.ShloMosaic.TcCoe Idealize.SL.Sem Cert.Proof.Tail

/-- The smooth rectifier, by its hyperbolic tangent form. -/
def gel (x : EReal) : EReal :=
  x * (Ideal.ofBits .f32 1056964608#32 * (1 + Ideal.tanh (Ideal.ofBits .f32 1061962282#32 * (x + Ideal.ofBits .f32 1027024659#32 * (x * x * x)))))

/-- The recurrence's row with its skip, rectified. -/
def act (ys u d : Fin 1024 → EReal) (k : Fin 1024) : EReal := gel (ys k + d k * u k)

/-- A row gated by its own product with a weight. -/
def gated (y : Fin 1024 → EReal) (W : Fin 1024 → Fin 1024 → EReal) (b : Fin 1024 → EReal) (k : Fin 1024) : EReal :=
  y k * Ideal.div 1 (1 + Ideal.exp (-(∑ i : Fin 1024, y i * W i k + b k)))

/-- The residual stream plus the product of the three gated parts of a row with the weight, at column `j`. -/
def mix (a b : Fin 1024 → EReal) (att : Fin 256 → EReal) (z : Fin 2304 → EReal) (h : Fin 1024 → EReal) (W : Fin 2304 → Fin 1024 → EReal) (j : Fin 1024) : EReal :=
  h j + (∑ k : Fin 1024, a k * sil (z ⟨k.val, by omega⟩) * W ⟨k.val, by omega⟩ j + ∑ k : Fin 1024, b k * sil (z ⟨1024 + k.val, by omega⟩) * W ⟨1024 + k.val, by omega⟩ j
    + ∑ l : Fin 256, att l * sil (z ⟨2048 + l.val, by omega⟩) * W ⟨2048 + l.val, by omega⟩ j)

/-- The tail at a row and a column, from the whole arrays. -/
def E (a0 a1 a2 : (⟨2, ![32768, 1024]⟩ : Shape).Idx → EReal) (a3 : (⟨2, ![32768, 256]⟩ : Shape).Idx → EReal) (a4 : (⟨2, ![32768, 2304]⟩ : Shape).Idx → EReal)
    (a5 : (⟨2, ![32768, 1024]⟩ : Shape).Idx → EReal) (a6 a7 : (⟨3, ![8, 256, 256]⟩ : Shape).Idx → EReal) (a8 : (⟨1, ![1024]⟩ : Shape).Idx → EReal)
    (a9 : (⟨2, ![1024, 1024]⟩ : Shape).Idx → EReal) (a10 : (⟨1, ![1024]⟩ : Shape).Idx → EReal) (a11 : (⟨2, ![2304, 1024]⟩ : Shape).Idx → EReal) :
    (⟨2, ![32768, 1024]⟩ : Shape).Idx → EReal := fun i =>
  mix (fun k => a0 (ix2 (i 0) k)) (gated (act (fun k => a1 (ix2 (i 0) k)) (fun k => a2 (ix2 (i 0) k)) (fun k => a8 (ix1 k))) (fun k l => a9 (ix2 k l)) (fun k => a10 (ix1 k)))
    (rAtt (fun l => a3 (ix2 (i 0) l)) (fun m l => a6 (ix3 ⟨(i 0).val / 4096, Nat.div_lt_of_lt_mul (i 0).isLt⟩ m l)) (fun m l => a7 (ix3 ⟨(i 0).val / 4096, Nat.div_lt_of_lt_mul (i 0).isLt⟩ m l)))
    (fun k => a4 (ix2 (i 0) k)) (fun k => a5 (ix2 (i 0) k)) (fun k j => a11 (ix2 k j)) (i 1)

open Cert.EvenReferenceIdeal Cert.EvenReferenceIdeal.Gen Cert.EvenReferenceIdeal.Value

/-- The recurrence's output with its skip. -/
def eX (a1 a2 : FVec Ideal S32768x1024 .f32) (a8 : FVec Ideal S1024 .f32) : FVec Ideal S32768x1024 .f32 :=
  addf a1 (mulf (broadcastInDim S32768x1024 ![0, 1] bcast_S1x1024_S32768x1024_0_1 (broadcastInDim S1x1024 ![1] bcast_S1024_S1x1024_1 a8)) a2)

/-- Rectified. -/
def eY (x : FVec Ideal S32768x1024 .f32) : FVec Ideal S32768x1024 .f32 :=
  mulf x (mulf (broadcastInDim S32768x1024 ![] bcast_S_S32768x1024 (constant S_ .f32 0x3F000000#32)) (addf (broadcastInDim S32768x1024 ![] bcast_S_S32768x1024 (constant S_ .f32 0x3F800000#32)) (Host.tanh (mulf (broadcastInDim S32768x1024 ![] bcast_S_S32768x1024 (constant S_ .f32 0x3F4C422A#32)) (addf x (mulf (broadcastInDim S32768x1024 ![] bcast_S_S32768x1024 (constant S_ .f32 0x3D372713#32)) (mulf (mulf x x) x)))))))

/-- Gated. -/
def eG (y : FVec Ideal S32768x1024 .f32) (a9 : FVec Ideal S1024x1024 .f32) (a10 : FVec Ideal S1024 .f32) : FVec Ideal S32768x1024 .f32 :=
  mulf y (Host.divf (broadcastInDim S32768x1024 ![] bcast_S_S32768x1024 (constant S_ .f32 0x3F800000#32)) (addf (broadcastInDim S32768x1024 ![] bcast_S_S32768x1024 (constant S_ .f32 0x3F800000#32)) (Host.exp (Host.negf (addf (Host.dotGeneral dot_S32768x1024_S1024x1024_S32768x1024_1_0_0_1_n_n none y a9) (broadcastInDim S32768x1024 ![0, 1] bcast_S1x1024_S32768x1024_0_1 (broadcastInDim S1x1024 ![1] bcast_S1024_S1x1024_1 a10)))))))

/-- The three parts side by side, gated, their product with the weight, and the residual stream. -/
def eOut (cat a4 : FVec Ideal S32768x2304 .f32) (a5 : FVec Ideal S32768x1024 .f32) (a11 : FVec Ideal S2304x1024 .f32) : FVec Ideal S32768x1024 .f32 :=
  addf a5 (Host.dotGeneral dot_S32768x2304_S2304x1024_S32768x1024_1_0_0_1_n_n none (mulf cat (mulf a4 (Host.divf (broadcastInDim S32768x2304 ![] bcast_S_S32768x2304 (constant S_ .f32 0x3F800000#32)) (addf (broadcastInDim S32768x2304 ![] bcast_S_S32768x2304 (constant S_ .f32 0x3F800000#32)) (Host.exp (Host.negf a4)))))) a11)

theorem res_eq (m : (ℓ : Loc nD τ sig) → Buf (Elt Ideal) ℓ) (c : Dev nD) :
    res_main_v54 m c = eOut (hCat (m ((c.tc : Thread nD τ).loc main_arg0)) (eG (eY (eX (m ((c.tc : Thread nD τ).loc main_arg1)) (m ((c.tc : Thread nD τ).loc main_arg2)) (m ((c.tc : Thread nD τ).loc main_arg8)))) (m ((c.tc : Thread nD τ).loc main_arg9)) (m ((c.tc : Thread nD τ).loc main_arg10)))
      (hMo (m ((c.tc : Thread nD τ).loc main_arg7)) (hPr (hPe (hSc (m ((c.tc : Thread nD τ).loc main_arg3)) (m ((c.tc : Thread nD τ).loc main_arg6))) (hMx (hSc (m ((c.tc : Thread nD τ).loc main_arg3)) (m ((c.tc : Thread nD τ).loc main_arg6))))))))
      (m ((c.tc : Thread nD τ).loc main_arg4)) (m ((c.tc : Thread nD τ).loc main_arg5)) (m ((c.tc : Thread nD τ).loc main_arg11)) := by
  unfold res_main_v54 eOut hCat eG eY eX hMo hPr hPe hMx hSc
  rfl

theorem eX_apply (a1 a2 : FVec Ideal S32768x1024 .f32) (a8 : FVec Ideal S1024 .f32) (r : Fin 32768) (k : Fin 1024) :
    eX a1 a2 a8 (ix2 r k) = a1 (ix2 r k) + a8 (ix1 k) * a2 (ix2 r k) := by
  unfold eX
  pointwise

theorem eY_apply (x : FVec Ideal S32768x1024 .f32) (r : Fin 32768) (k : Fin 1024) : eY x (ix2 r k) = gel (x (ix2 r k)) := by
  unfold eY gel
  pointwise
  try rfl

theorem eG_apply (y : FVec Ideal S32768x1024 .f32) (a9 : FVec Ideal S1024x1024 .f32) (a10 : FVec Ideal S1024 .f32) (r : Fin 32768) (k : Fin 1024) :
    eG y a9 a10 (ix2 r k) = gated (fun k => y (ix2 r k)) (fun k l => a9 (ix2 k l)) (fun k => a10 (ix1 k)) k := by
  unfold eG gated
  pointwise
  try rfl

theorem eOut_apply (cat a4 : FVec Ideal S32768x2304 .f32) (a5 : FVec Ideal S32768x1024 .f32) (a11 : FVec Ideal S2304x1024 .f32) (r : Fin 32768) (j : Fin 1024) :
    eOut cat a4 a5 a11 (ix2 r j) = a5 (ix2 r j) + ∑ k : Fin 2304, cat (ix2 r k) * sil (a4 (ix2 r k)) * a11 (ix2 k j) := by
  unfold eOut sil
  pointwise
  try rfl

/-- The reference's result. -/
theorem res_E (m : (ℓ : Loc nD τ sig) → Buf (Elt Ideal) ℓ) (c : Dev nD) :
    res_main_v54 m c = E (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  rw [res_eq]
  funext i
  obtain ⟨r, q, rfl⟩ : ∃ (a : Fin 32768) (b : Fin 1024), i = ix2 a b := ⟨i 0, i 1, eq_ix2 i⟩
  rw [eOut_apply, sum_parts]
  unfold E mix
  have er : (⟨r.val / 4096 * 4096 + r.val % 4096, by omega⟩ : Fin 32768) = r := Fin.ext (Nat.div_add_mod' r.val 4096)
  refine congrArg₂ (· + ·) rfl (congrArg₂ (· + ·) (congrArg₂ (· + ·) ?_ ?_) ?_)
  · refine Finset.sum_congr rfl fun k _ => ?_
    rw [hCat_apply, dif_pos k.isLt]
    rfl
  · refine Finset.sum_congr rfl fun k _ => ?_
    rw [hCat_apply, dif_neg (by simp), dif_pos (by simp), eG_apply]
    simp only [Nat.add_sub_cancel_left, eY_apply, eX_apply]
    rfl
  · refine Finset.sum_congr rfl fun l _ => ?_
    rw [hCat_apply, dif_neg (by simp only []; omega), dif_neg (by simp only []; omega)]
    rw [show (⟨2048 + l.val - 1024 - 1024, by omega⟩ : Fin 256) = l from Fin.ext (by simp only []; omega), hMo_apply]
    refine congrArg₂ (· * ·) (congrArg₂ (· * ·) ?_ rfl) rfl
    unfold rAtt
    refine Finset.sum_congr rfl fun m _ => ?_
    rw [hPr_apply]
    simp only [hPe_apply, hSc_apply, er]
    rfl

/-- The reference's run. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54) = E (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans (res_E m c), (h c).2⟩) (Value.run (F := Ideal) m ρ)

end Cert.Proof.Even

end
-- ==== Proof.EvenBody.lean ====
/-
  What the even tail's body leaves in its block, at a row and a column: the two gated parts, and the memory attention
  picked out head by head by masks on the lane's number, as in the last layer's tail.
-/
module

public import proofs.«01_k».proof.Proof.EvenRef
public import proofs.«01_k».proof.Proof.Gen.EvenKernelIdeal.Value

@[expose] public section

set_option maxRecDepth 16384

noncomputable section

namespace Cert.Proof.Even

open Idealize.ShloMosaic Idealize.ShloMosaic.TcCoe Idealize.SL.Sem Cert.Proof.Tail
open Cert.EvenKernelIdeal Cert.EvenKernelIdeal.Gen

/-- A mask of the lanes of head `h`. -/
def Head (M : IVec S1x256 1) (h : ℕ) : Prop := ∀ l : Fin 256, M (ix2 0 l) = if l.val / 64 = h then 1#1 else 0#1

theorem head0 : Head k0_pay9 0 := fun l => by
  pointwise [k0_pay9]
  revert l; decide +kernel
theorem head1 : Head k0_pay10 1 := fun l => by
  pointwise [k0_pay10]
  revert l; decide +kernel
theorem head2 : Head (k0_pay11 (iota .tc S1x256 32 [1] iota_S1x256_d1_w32)) 2 := fun l => by
  pointwise [k0_pay11]
  revert l; decide +kernel
theorem head3 : Head (k0_pay12 (iota .tc S1x256 32 [1] iota_S1x256_d1_w32)) 3 := fun l => by
  pointwise [k0_pay12]
  revert l; decide +kernel

/-- A choice by a head's mask. -/
theorem sel_head {M : IVec S1x256 1} {h : ℕ} (hM : Head M h) (l : Fin 256) (a b : EReal) :
    Scalar.select (M (ix2 0 l)) a b = if l.val / 64 = h then a else b := by
  rw [hM l]
  split <;> rfl

/-- One head's exponentials. -/
theorem exps {K Q : FVec Ideal S256x256 .bf16} {M : IVec S1x256 1} {h : ℕ} (hM : Head M h) (q : Fin 256 → EReal) (k : Fin 256 → Fin 256 → EReal) (r : Fin 256)
    (hQ : ∀ l, Q (ix2 r l) = q l * eighth) (hK : ∀ m l, K (ix2 m l) = k m l) (m : Fin 256) :
    k0_pay14 K Q M (ix2 r m) = smx (kSc q k h) m := by
  have e : k0_pay14 K Q M (ix2 r m) = smx (fun m => ∑ l : Fin 256, Scalar.select (M (ix2 0 l)) (Q (ix2 r l) * K (ix2 m l)) 0) m := by
    unfold smx
    pointwise [k0_pay14]
    try rfl
  rw [e]
  refine congrArg (fun s => smx s m) (funext fun m => ?_)
  unfold kSc
  exact Finset.sum_congr rfl fun l _ => by rw [sel_head hM, hQ, hK]

/-- One head's part of the attention. -/
theorem part {V : FVec Ideal S256x256 .bf16} {P : FVec Ideal S256x256 .f32} {M : IVec S1x256 1} {h : ℕ} (hM : Head M h) (q : Fin 256 → EReal) (k v : Fin 256 → Fin 256 → EReal) (r : Fin 256)
    (hP : ∀ m, P (ix2 r m) = smx (kSc q k h) m) (hV : ∀ m l, V (ix2 m l) = v m l) (l : Fin 256) :
    k0_pay20 V M P (ix2 r l) = kAtt q k v h l := by
  have e : k0_pay20 V M P (ix2 r l) = (∑ m : Fin 256, Scalar.select (M (ix2 0 l)) (P (ix2 r m) * V (ix2 m l)) 0) * Ideal.div 1 (∑ m : Fin 256, P (ix2 r m)) := by
    pointwise [k0_pay20]
    try rfl
  rw [e]
  unfold kAtt
  simp only [sel_head hM, hP, hV]

/-- The rectifier with its half multiplied first. -/
theorem gel_half (x : EReal) :
    Ideal.ofBits .f32 1056964608#32 * x * (1 + Ideal.tanh (Ideal.ofBits .f32 1061962282#32 * (x + Ideal.ofBits .f32 1027024659#32 * (x * x * x)))) = gel x := by
  unfold gel
  rw [mul_comm (Ideal.ofBits .f32 1056964608#32) x, mul_assoc]

/-- The mixer's part, gated. -/
theorem pa_apply (z : Vec Ideal S256x2304 .f32) (a : Vec Ideal S256x1024 .f32) (r : Fin 256) (k : Fin 1024) :
    k0_pay2 z a (ix2 r k) = a (ix2 r k) * sil (z (ix2 r ⟨k.val, by omega⟩)) := by
  unfold sil
  rw [← zero_sub]
  pointwise [k0_pay2]
  try rfl

/-- The recurrence's part, rectified. -/
theorem py_apply (ys u : Vec Ideal S256x1024 .f32) (d : Vec Ideal S1x1024 .f32) (r : Fin 256) (k : Fin 1024) :
    k0_pay3 ys d u (ix2 r k) = act (fun k => ys (ix2 r k)) (fun k => u (ix2 r k)) (fun k => d (ix2 0 k)) k := by
  unfold act
  rw [← gel_half]
  pointwise [k0_pay3]
  try rfl

/-- Its product with the gate's weight. -/
theorem pw_apply (ys u : Vec Ideal S256x1024 .f32) (d : Vec Ideal S1x1024 .f32) (W : Vec Ideal S1024x1024 .bf16) (r : Fin 256) (k : Fin 1024) :
    k0_pay4 ys d u W (ix2 r k) = ∑ i : Fin 1024, act (fun k => ys (ix2 r k)) (fun k => u (ix2 r k)) (fun k => d (ix2 0 k)) i * W (ix2 i k) := by
  have e : ∀ Y : FVec Ideal S256x1024 .f32, (matmul dot_S256x1024_S1024x1024_S256x1024_1_0_0_1_n_n none (truncf .bf16 Y bitsLt_bf16_f32 : FVec Ideal S256x1024 .bf16) (shapeCast S1024x1024 W shapeCasts_S1024x1024_S1024x1024 : FVec Ideal S1024x1024 .bf16) (constant S256x1024 .f32 0x00000000#32) : FVec Ideal S256x1024 .f32) (ix2 r k)
      = ∑ i : Fin 1024, Y (ix2 r i) * W (ix2 i k) := fun Y => by
    pointwise
    try rfl
  refine (e (k0_pay3 ys d u)).trans ?_
  simp only [py_apply]

/-- The recurrence's part, gated twice. -/
theorem pb_apply (z : Vec Ideal S256x2304 .f32) (Y P : FVec Ideal S256x1024 .f32) (b : Vec Ideal S1x1024 .f32) (r : Fin 256) (k : Fin 1024) :
    k0_pay5 z Y P b (ix2 r k) = Y (ix2 r k) * Ideal.div 1 (1 + Ideal.exp (-(P (ix2 r k) + b (ix2 0 k)))) * sil (z (ix2 r ⟨1024 + k.val, by omega⟩)) := by
  unfold sil
  simp only [← zero_sub]
  pointwise [k0_pay5]
  try rfl

/-- The last head's scores, exponentials and their sum's inverse. -/
theorem last {K Q : FVec Ideal S256x256 .bf16} (q : Fin 256 → EReal) (k : Fin 256 → Fin 256 → EReal) (r : Fin 256)
    (hQ : ∀ l, Q (ix2 r l) = q l * eighth) (hK : ∀ m l, K (ix2 m l) = k m l) (m : Fin 256) :
    k0_pay18 (k0_pay13 K (iota .tc S1x256 32 [1] iota_S1x256_d1_w32) Q) (k0_pay17 K (iota .tc S1x256 32 [1] iota_S1x256_d1_w32) Q) (ix2 r m) = smx (kSc q k 3) m :=
  exps head3 q k r hQ hK m

theorem inv_apply (s : FVec Ideal S256x256 .f32) (t : FVec Ideal S256 .f32) (r : Fin 256) :
    k0_pay19 s t (ix2 r 0) = Ideal.div 1 (∑ m : Fin 256, k0_pay18 s t (ix2 r m)) := by
  have e : ∀ P : FVec Ideal S256x256 .f32, divf (broadcast S256x1 (Scalar.ofBits (F := Ideal) .f32 0x3F800000#32)) (shapeCast S256x1 (multiReduction .add [1] S256 P 0x00000000#32 reduces_S256x256_S256 (.inl rfl) rfl) shapeCasts_S256_S256x1) (ix2 r 0)
      = Ideal.div 1 (∑ m : Fin 256, P (ix2 r m)) := fun P => by
    pointwise
    try rfl
  exact e (k0_pay18 s t)

theorem hz : (![0, 0] : Fin 2 → Nat) = fun _ => 0 := funext fun a => by fin_cases a <;> rfl

/-- The body's last step from its parts: the four heads added, gated, and the three products. -/
theorem join (z : Vec Ideal S256x2304 .f32) (A B : FVec Ideal S256x1024 .bf16) (V : FVec Ideal S256x256 .bf16) (M : IVec S1x256 1) (hM : Head M 3) (I : FVec Ideal S256x1 .f32)
    (P0 P1 P2 : FVec Ideal S256x256 .f32) (X : FVec Ideal S256x256 .bf16) (W0 W1 : Vec Ideal S1024x1024 .bf16) (W2 : Vec Ideal S256x1024 .bf16) (h : Vec Ideal S256x1024 .f32) (r : Fin 256) (j : Fin 1024) :
    k0_pay1 z A B V M I P0 P1 P2 X (Scalar.ofBits .bf16 0x0000#16) W0 W1 W2 h (ix2 r j)
      = h (ix2 r j) + (∑ k : Fin 1024, A (ix2 r k) * W0 (ix2 k j) + ∑ k : Fin 1024, B (ix2 r k) * W1 (ix2 k j)
        + ∑ l : Fin 256, (P0 (ix2 r l) + P1 (ix2 r l) + P2 (ix2 r l) + (∑ m : Fin 256, if l.val / 64 = 3 then X (ix2 r m) * V (ix2 m l) else 0) * I (ix2 r 0))
          * sil (z (ix2 r ⟨2048 + l.val, by omega⟩)) * W2 (ix2 l j)) := by
  simp only [← sel_head hM]
  unfold sil
  simp only [← zero_sub]
  pointwise [k0_pay1]
  try rfl

variable (x0 x1 x2 : Vec Ideal S256x1024 .f32) (x3 : Vec Ideal S256x256 .f32) (x4 : Vec Ideal S256x2304 .f32) (x5 : Vec Ideal S256x1024 .f32)
  (x6 x7 : Vec Ideal S1x256x256 .bf16) (x8 : Vec Ideal S8x1024 .f32) (x9 : Vec Ideal S1024x1024 .bf16) (x10 : Vec Ideal S2304x1024 .bf16) (x11 : Vec Ideal S1x1024 .f32)

theorem pk_apply (m l : Fin 256) : k0_pay25 x0 x1 x2 x3 x4 x5 x6 x7 x8 x9 x10 x11 (ix2 m l) = x6 (ix3 0 m l) := by
  unfold k0_pay25
  pointwise [k0_pay6]

theorem pv_apply (m l : Fin 256) : k0_pay26 x0 x1 x2 x3 x4 x5 x6 x7 x8 x9 x10 x11 (ix2 m l) = x7 (ix3 0 m l) := by
  unfold k0_pay26
  pointwise [k0_pay7]

theorem pq_apply (r l : Fin 256) : k0_pay27 x0 x1 x2 x3 x4 x5 x6 x7 x8 x9 x10 x11 (ix2 r l) = x3 (ix2 r l) * eighth := by
  unfold k0_pay27 eighth
  pointwise [k0_pay8]

/-- A row's queries. -/
abbrev bq (r : Fin 256) : Fin 256 → EReal := fun l => x3 (ix2 r l)
/-- The block's keys or values. -/
abbrev bm (x : Vec Ideal S1x256x256 .bf16) : Fin 256 → Fin 256 → EReal := fun m l => x (ix3 0 m l)

/-- What the body leaves in its block, at a row and a column. -/
theorem out_apply (r : Fin 256) (j : Fin 1024) :
    out0_12 x0 x1 x2 x3 x4 x5 x6 x7 x8 x9 x10 x11 (ix2 r j) = mix (fun k => x0 (ix2 r k))
      (gated (act (fun k => x1 (ix2 r k)) (fun k => x2 (ix2 r k)) (fun k => x8 (ix2 0 k))) (fun k l => x9 (ix2 k l)) (fun k => x8 (ix2 1 k)))
      (fun l => kAtt (bq x3 r) (bm x6) (bm x7) 0 l + kAtt (bq x3 r) (bm x6) (bm x7) 1 l + kAtt (bq x3 r) (bm x6) (bm x7) 2 l + kAtt (bq x3 r) (bm x6) (bm x7) 3 l)
      (fun k => x4 (ix2 r k)) (fun k => x5 (ix2 r k)) (fun k j => x10 (ix2 k j)) j := by
  have hQ := pq_apply x0 x1 x2 x3 x4 x5 x6 x7 x8 x9 x10 x11 r
  have hK := pk_apply x0 x1 x2 x3 x4 x5 x6 x7 x8 x9 x10 x11
  have hV := pv_apply x0 x1 x2 x3 x4 x5 x6 x7 x8 x9 x10 x11
  have h0 : ∀ l, _ = kAtt (bq x3 r) (bm x6) (bm x7) 0 l := part head0 (bq x3 r) (bm x6) (bm x7) r (exps head0 _ _ r hQ hK) hV
  have h1 : ∀ l, _ = kAtt (bq x3 r) (bm x6) (bm x7) 1 l := part head1 (bq x3 r) (bm x6) (bm x7) r (exps head1 _ _ r hQ hK) hV
  have h2 : ∀ l, _ = kAtt (bq x3 r) (bm x6) (bm x7) 2 l := part head2 (bq x3 r) (bm x6) (bm x7) r (exps head2 _ _ r hQ hK) hV
  have h3 := last (bq x3 r) (bm x6) r hQ hK
  unfold out0_12
  rw [View.canon_unit_zero hz]
  refine (join _ _ _ _ _ head3 _ _ _ _ _ _ _ _ _ r j).trans ?_
  have l0 : View.ld x0 r0_1 = x0 := View.ld_unit_zero (S := S256x1024) hz _ x0
  have l1 : View.ld x1 r0_1 = x1 := View.ld_unit_zero (S := S256x1024) hz _ x1
  have l2 : View.ld x2 r0_1 = x2 := View.ld_unit_zero (S := S256x1024) hz _ x2
  have l4 : View.ld x4 r0_0 = x4 := View.ld_unit_zero (S := S256x2304) hz _ x4
  have l5 : View.ld x5 r0_1 = x5 := View.ld_unit_zero (S := S256x1024) hz _ x5
  have l9 : View.ld x9 r0_3 = x9 := View.ld_unit_zero (S := S1024x1024) hz _ x9
  rw [l0, l1, l2, l4, l5, l9]
  unfold mix
  refine congrArg₂ (· + ·) rfl (congrArg₂ (· + ·) (congrArg₂ (· + ·) ?_ ?_) ?_)
  · refine Finset.sum_congr rfl fun k _ => ?_
    rw [pa_apply]
    refine congrArg₂ (· * ·) rfl ?_
    pointwise
  · refine Finset.sum_congr rfl fun k _ => ?_
    rw [pb_apply, py_apply, pw_apply]
    have e2 : ∀ k : Fin 1024, View.ld x8 r0_2 (ix2 0 k) = x8 (ix2 0 k) := fun k => by pointwise
    have e4 : ∀ k : Fin 1024, View.ld x8 r0_4 (ix2 0 k) = x8 (ix2 1 k) := fun k => by pointwise
    simp only [e2, e4]
    refine congrArg₂ (· * ·) rfl ?_
    pointwise
  · refine Finset.sum_congr rfl fun l _ => ?_
    refine congrArg₂ (· * ·) (congrArg₂ (· * ·) ?_ rfl) (by pointwise)
    refine congrArg₂ (· + ·) (congrArg₂ (· + ·) (congrArg₂ (· + ·) (h0 l) (h1 l)) (h2 l)) ?_
    unfold kAtt
    refine congrArg₂ (· * ·) (Finset.sum_congr rfl fun m _ => ?_) ((inv_apply _ _ r).trans ?_)
    · refine if_congr Iff.rfl (congrArg₂ (· * ·) (h3 m) (hV m l)) rfl
    · exact congrArg (Ideal.div 1) (Finset.sum_congr rfl fun m _ => h3 m)

end Cert.Proof.Even

end
-- ==== Proof.EvenValue.lean ====
/-
  The even tail's values. Point `t` of the grid works on rows 256·t … 256·t+255 and on the memory of their sequence, t/16; a
  row of the result reads one row of each input only, so a block of rows gives that block of the result.
-/
module

public import proofs.«01_k».proof.Proof.EvenBody
public import proofs.«01_k».proof.Proof.TailValue

@[expose] public section

set_option maxRecDepth 16384

noncomputable section

namespace Cert.Proof.Even

open Idealize.ShloMosaic Idealize.ShloMosaic.TcCoe Idealize.SL.Sem
open Cert.Proof.Tail (rAtt att_eq Reals)
open Cert.EvenKernelIdeal Cert.EvenKernelIdeal.Gen Cert.EvenKernelIdeal.Value

variable (m : (ℓ : Loc nD τ sig) → Buf (Elt Ideal) ℓ) (ρ : Dev nD → PrngReg)

/-- Row `r` of the block at point `t`, among all rows. -/
def grow (t : Fin cfg0.N) (r : Fin 256) : Fin 32768 := ⟨t.val * 256 + r.val, by
  have h := t.isLt
  have : cfg0.N = 128 := by decide
  omega⟩

/-- The sequence a row belongs to. -/
abbrev sq (r : Fin 32768) : Fin 8 := ⟨r.val / 4096, by omega⟩

/-- A place named by its two coordinates. -/
theorem at2 {a b : ℕ} (e : (⟨2, ![a, b]⟩ : Shape).Idx) (r : Fin a) (k : Fin b) (h0 : (e 0).val = r.val) (h1 : (e 1).val = k.val) : e = ix2 r k :=
  funext fun x => match x with
    | ⟨0, _⟩ => Fin.ext h0
    | ⟨1, _⟩ => Fin.ext h1

/-- A place named by its three coordinates. -/
theorem at3 {a b d : ℕ} (e : (⟨3, ![a, b, d]⟩ : Shape).Idx) (s : Fin a) (r : Fin b) (k : Fin d) (h0 : (e 0).val = s.val) (h1 : (e 1).val = r.val) (h2 : (e 2).val = k.val) : e = ix3 s r k :=
  funext fun x => match x with
    | ⟨0, _⟩ => Fin.ext h0
    | ⟨1, _⟩ => Fin.ext h1
    | ⟨2, _⟩ => Fin.ext h2

/-- A block of 256 rows at the point's number. -/
theorem row_at {i j n : ℕ} (t : Fin cfg0.N) (r : Fin 256) (k : Fin n) (h : i = t.val ∧ j = 0) :
    i * 256 + 1 * r.val = (grow t r).val ∧ j * n + 1 * k.val = k.val := by
  obtain ⟨rfl, rfl⟩ := h
  exact ⟨by simp [grow], by simp⟩

/-- One sequence's memory at the point's number over sixteen. -/
theorem mem_at {i j l : ℕ} (t : Fin cfg0.N) (r k d : Fin 256) (h : i = t.val / 16 ∧ j = 0 ∧ l = 0) :
    i * 1 + 1 * 0 = (sq (grow t r)).val ∧ j * 256 + 1 * k.val = k.val ∧ l * 256 + 1 * d.val = d.val := by
  obtain ⟨rfl, rfl, rfl⟩ := h
  refine ⟨?_, by simp, by simp⟩
  simp only [grow]
  omega

/-- The whole array as its only block. -/
theorem all_at {i j a b : ℕ} (r : Fin a) (k : Fin b) (h : i = 0 ∧ j = 0) : i * a + 1 * r.val = r.val ∧ j * b + 1 * k.val = k.val := by
  obtain ⟨rfl, rfl⟩ := h
  simp

theorem emb0 (t : Fin cfg0.N) (r : Fin 256) (k : Fin 1024) : ((cfg0.win 0).blk t).view.emb (ix2 r k) = (ix2 (grow t r) k : S32768x1024.Idx) :=
  have h := row_at t r k ((by decide +kernel : ∀ t : Fin grid0.N, win0_0.index t (0 : Fin 2) = t.val ∧ win0_0.index t (1 : Fin 2) = 0) t)
  at2 _ _ _ h.1 h.2
theorem emb1 (t : Fin cfg0.N) (r : Fin 256) (k : Fin 1024) : ((cfg0.win 1).blk t).view.emb (ix2 r k) = (ix2 (grow t r) k : S32768x1024.Idx) :=
  have h := row_at t r k ((by decide +kernel : ∀ t : Fin grid0.N, win0_1.index t (0 : Fin 2) = t.val ∧ win0_1.index t (1 : Fin 2) = 0) t)
  at2 _ _ _ h.1 h.2
theorem emb2 (t : Fin cfg0.N) (r : Fin 256) (k : Fin 1024) : ((cfg0.win 2).blk t).view.emb (ix2 r k) = (ix2 (grow t r) k : S32768x1024.Idx) :=
  have h := row_at t r k ((by decide +kernel : ∀ t : Fin grid0.N, win0_2.index t (0 : Fin 2) = t.val ∧ win0_2.index t (1 : Fin 2) = 0) t)
  at2 _ _ _ h.1 h.2
theorem emb3 (t : Fin cfg0.N) (r : Fin 256) (k : Fin 256) : ((cfg0.win 3).blk t).view.emb (ix2 r k) = (ix2 (grow t r) k : S32768x256.Idx) :=
  have h := row_at t r k ((by decide +kernel : ∀ t : Fin grid0.N, win0_3.index t (0 : Fin 2) = t.val ∧ win0_3.index t (1 : Fin 2) = 0) t)
  at2 _ _ _ h.1 h.2
theorem emb4 (t : Fin cfg0.N) (r : Fin 256) (k : Fin 2304) : ((cfg0.win 4).blk t).view.emb (ix2 r k) = (ix2 (grow t r) k : S32768x2304.Idx) :=
  have h := row_at t r k ((by decide +kernel : ∀ t : Fin grid0.N, win0_4.index t (0 : Fin 2) = t.val ∧ win0_4.index t (1 : Fin 2) = 0) t)
  at2 _ _ _ h.1 h.2
theorem emb5 (t : Fin cfg0.N) (r : Fin 256) (k : Fin 1024) : ((cfg0.win 5).blk t).view.emb (ix2 r k) = (ix2 (grow t r) k : S32768x1024.Idx) :=
  have h := row_at t r k ((by decide +kernel : ∀ t : Fin grid0.N, win0_5.index t (0 : Fin 2) = t.val ∧ win0_5.index t (1 : Fin 2) = 0) t)
  at2 _ _ _ h.1 h.2
theorem emb12 (t : Fin cfg0.N) (r : Fin 256) (k : Fin 1024) : ((cfg0.win 12).blk t).view.emb (ix2 r k) = (ix2 (grow t r) k : S32768x1024.Idx) :=
  have h := row_at t r k ((by decide +kernel : ∀ t : Fin grid0.N, win0_12.index t (0 : Fin 2) = t.val ∧ win0_12.index t (1 : Fin 2) = 0) t)
  at2 _ _ _ h.1 h.2
theorem emb6 (t : Fin cfg0.N) (r k l : Fin 256) : ((cfg0.win 6).blk t).view.emb (ix3 0 k l) = (ix3 (sq (grow t r)) k l : S8x256x256.Idx) :=
  have h := mem_at t r k l ((by decide +kernel : ∀ t : Fin grid0.N, win0_6.index t (0 : Fin 3) = t.val / 16 ∧ win0_6.index t (1 : Fin 3) = 0 ∧ win0_6.index t (2 : Fin 3) = 0) t)
  at3 _ _ _ _ h.1 h.2.1 h.2.2
theorem emb7 (t : Fin cfg0.N) (r k l : Fin 256) : ((cfg0.win 7).blk t).view.emb (ix3 0 k l) = (ix3 (sq (grow t r)) k l : S8x256x256.Idx) :=
  have h := mem_at t r k l ((by decide +kernel : ∀ t : Fin grid0.N, win0_7.index t (0 : Fin 3) = t.val / 16 ∧ win0_7.index t (1 : Fin 3) = 0 ∧ win0_7.index t (2 : Fin 3) = 0) t)
  at3 _ _ _ _ h.1 h.2.1 h.2.2
theorem emb8 (t : Fin cfg0.N) (r : Fin 8) (k : Fin 1024) : ((cfg0.win 8).blk t).view.emb (ix2 r k) = (ix2 r k : S8x1024.Idx) :=
  have h := all_at r k ((by decide +kernel : ∀ t : Fin grid0.N, win0_8.index t (0 : Fin 2) = 0 ∧ win0_8.index t (1 : Fin 2) = 0) t)
  at2 _ _ _ h.1 h.2
theorem emb9 (t : Fin cfg0.N) (r : Fin 1024) (k : Fin 1024) : ((cfg0.win 9).blk t).view.emb (ix2 r k) = (ix2 r k : S1024x1024.Idx) :=
  have h := all_at r k ((by decide +kernel : ∀ t : Fin grid0.N, win0_9.index t (0 : Fin 2) = 0 ∧ win0_9.index t (1 : Fin 2) = 0) t)
  at2 _ _ _ h.1 h.2
theorem emb10 (t : Fin cfg0.N) (r : Fin 2304) (k : Fin 1024) : ((cfg0.win 10).blk t).view.emb (ix2 r k) = (ix2 r k : S2304x1024.Idx) :=
  have h := all_at r k ((by decide +kernel : ∀ t : Fin grid0.N, win0_10.index t (0 : Fin 2) = 0 ∧ win0_10.index t (1 : Fin 2) = 0) t)
  at2 _ _ _ h.1 h.2

theorem iblk0_apply (c : Dev nD) (t : Fin cfg0.N) (r : Fin 256) (k : Fin 1024) : iblk m c 0 t (ix2 r k) = m ((c : Thread nD τ).loc main_arg0) (ix2 (grow t r) k) :=
  (congrFun (V_main_arg0 m c) _).trans (congrArg _ (emb0 t r k))
theorem iblk1_apply (c : Dev nD) (t : Fin cfg0.N) (r : Fin 256) (k : Fin 1024) : iblk m c 1 t (ix2 r k) = m ((c : Thread nD τ).loc main_arg1) (ix2 (grow t r) k) :=
  (congrFun (V_main_arg1 m c) _).trans (congrArg _ (emb1 t r k))
theorem iblk2_apply (c : Dev nD) (t : Fin cfg0.N) (r : Fin 256) (k : Fin 1024) : iblk m c 2 t (ix2 r k) = m ((c : Thread nD τ).loc main_arg2) (ix2 (grow t r) k) :=
  (congrFun (V_main_arg2 m c) _).trans (congrArg _ (emb2 t r k))
theorem iblk3_apply (c : Dev nD) (t : Fin cfg0.N) (r : Fin 256) (k : Fin 256) : iblk m c 3 t (ix2 r k) = m ((c : Thread nD τ).loc main_arg3) (ix2 (grow t r) k) :=
  (congrFun (V_main_arg3 m c) _).trans (congrArg _ (emb3 t r k))
theorem iblk4_apply (c : Dev nD) (t : Fin cfg0.N) (r : Fin 256) (k : Fin 2304) : iblk m c 4 t (ix2 r k) = m ((c : Thread nD τ).loc main_arg4) (ix2 (grow t r) k) :=
  (congrFun (V_main_arg4 m c) _).trans (congrArg _ (emb4 t r k))
theorem iblk5_apply (c : Dev nD) (t : Fin cfg0.N) (r : Fin 256) (k : Fin 1024) : iblk m c 5 t (ix2 r k) = m ((c : Thread nD τ).loc main_arg5) (ix2 (grow t r) k) :=
  (congrFun (V_main_arg5 m c) _).trans (congrArg _ (emb5 t r k))
theorem iblk6_apply (c : Dev nD) (t : Fin cfg0.N) (r k l : Fin 256) : iblk m c 6 t (ix3 0 k l) = m ((c : Thread nD τ).loc main_arg6) (ix3 (sq (grow t r)) k l) :=
  (congrFun (V_main_arg6 m c) _).trans (congrArg _ (emb6 t r k l))
theorem iblk7_apply (c : Dev nD) (t : Fin cfg0.N) (r k l : Fin 256) : iblk m c 7 t (ix3 0 k l) = m ((c : Thread nD τ).loc main_arg7) (ix3 (sq (grow t r)) k l) :=
  (congrFun (V_main_arg7 m c) _).trans (congrArg _ (emb7 t r k l))

/-- The two vectors and the zero rows under them. -/
def vec (d b : FVec Ideal S1024 .f32) : FVec Ideal S8x1024 .f32 :=
  concatenate S8x1024 0 [⟨S1x1024, shapeCast S1x1024 d shapeCasts_S1024_S1x1024⟩, ⟨S1x1024, shapeCast S1x1024 b shapeCasts_S1024_S1x1024⟩, ⟨S6x1024, broadcastInDim S6x1024 ![] bcast_S_S6x1024 (constant (F := Ideal) S_ .f32 0x00000000#32)⟩] concatenates_S1x1024_S1x1024_S6x1024_S8x1024_d0

theorem vec_zero (d b : FVec Ideal S1024 .f32) (k : Fin 1024) : vec d b (ix2 0 k) = d (ix1 k) := by
  unfold vec
  pointwise
  try rfl

theorem vec_one (d b : FVec Ideal S1024 .f32) (k : Fin 1024) : vec d b (ix2 1 k) = b (ix1 k) := by
  unfold vec
  pointwise
  try rfl

/-- The vectors' block, at every point. -/
theorem iblk8_eq (c : Dev nD) (t : Fin cfg0.N) (r : Fin 8) (k : Fin 1024) :
    iblk m c 8 t (ix2 r k) = vec (m ((c : Thread nD τ).loc main_arg8)) (m ((c : Thread nD τ).loc main_arg10)) (ix2 r k) := by
  show V m c main_v3 (((cfg0.win 8).blk t).view.emb (ix2 r k)) = _
  rw [emb8]
  have hV : (V m c main_v3 : S8x1024.Idx → EReal) = vec (m ((c : Thread nD τ).loc main_arg8)) (m ((c : Thread nD τ).loc main_arg10)) := by
    unfold V vec
    after_results <;> (try dsimp only [Matrix.cons_val]) <;> (try after_results) <;> rfl
  rw [hV]

/-- The gate's weight's block, at every point. -/
theorem iblk9_apply (c : Dev nD) (t : Fin cfg0.N) (k j : Fin 1024) : iblk m c 9 t (ix2 k j) = m ((c : Thread nD τ).loc main_arg9) (ix2 k j) := by
  show V m c main_v4 (((cfg0.win 9).blk t).view.emb (ix2 k j)) = _
  rw [emb9]
  have hV : (V m c main_v4 : S1024x1024.Idx → EReal) = truncf (F := Ideal) .bf16 (m ((c : Thread nD τ).loc main_arg9) : Vec Ideal S1024x1024 .f32) bitsLt_bf16_f32 := by
    unfold V; after_results
  rw [hV]
  pointwise

/-- The output weight's block, at every point. -/
theorem iblk10_apply (c : Dev nD) (t : Fin cfg0.N) (k : Fin 2304) (j : Fin 1024) : iblk m c 10 t (ix2 k j) = m ((c : Thread nD τ).loc main_arg11) (ix2 k j) := by
  show V m c main_v5 (((cfg0.win 10).blk t).view.emb (ix2 k j)) = _
  rw [emb10]
  have hV : (V m c main_v5 : S2304x1024.Idx → EReal) = truncf (F := Ideal) .bf16 (m ((c : Thread nD τ).loc main_arg11) : Vec Ideal S2304x1024 .f32) bitsLt_bf16_f32 := by
    unfold V; after_results
  rw [hV]
  pointwise

/-- The queries and the memory's keys are real numbers. -/
def Real' (c : Dev nD) : Prop :=
  Reals (s := S32768x256) (m ((c : Thread nD τ).loc main_arg3)) ∧ Reals (s := S8x256x256) (m ((c : Thread nD τ).loc main_arg6))

/-- The result. -/
abbrev res (c : Dev nD) : Vec Ideal S32768x1024 .f32 :=
  E (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

theorem flushed_eq (c : Dev nD) (hm : Real' m c) (t : Fin cfg0.N) :
    (dats m 0 c).flushed 12 t = ((cfg0.win 12).blk t).view.read (Elt Ideal) (res m c) := by
  rw [flushed12]
  refine funext fun (j : S256x1024.Idx) => ?_
  obtain ⟨r, q, rfl⟩ : ∃ (a : Fin 256) (b : Fin 1024), j = ix2 a b := ⟨j 0, j 1, eq_ix2 j⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r q) = res m c (((cfg0.win 12).blk t).view.emb (ix2 r q))
  rw [emb12, out_apply]
  have hq : bq (iblk m c 3 t) r = fun l => m ((c : Thread nD τ).loc main_arg3) (ix2 (grow t r) l) := funext fun l => iblk3_apply m c t r l
  have hk : bm (iblk m c 6 t) = fun k l => m ((c : Thread nD τ).loc main_arg6) (ix3 (sq (grow t r)) k l) := funext fun k => funext fun l => iblk6_apply m c t r k l
  have hv : bm (iblk m c 7 t) = fun k l => m ((c : Thread nD τ).loc main_arg7) (ix3 (sq (grow t r)) k l) := funext fun k => funext fun l => iblk7_apply m c t r k l
  rw [hq, hk, hv]
  obtain ⟨h3, h6⟩ := hm
  choose y3 h3 using h3
  choose y6 h6 using h6
  simp only [att_eq (q := fun l => m ((c : Thread nD τ).loc main_arg3) (ix2 (grow t r) l)) (k := fun k l => m ((c : Thread nD τ).loc main_arg6) (ix3 (sq (grow t r)) k l))
    (v := fun k l => m ((c : Thread nD τ).loc main_arg7) (ix3 (sq (grow t r)) k l)) ⟨_, funext fun l => h3 _⟩ (fun k => ⟨_, funext fun l => h6 _⟩)]
  simp only [iblk0_apply, iblk1_apply, iblk2_apply, iblk4_apply, iblk5_apply, iblk8_eq, vec_zero, vec_one, iblk9_apply, iblk10_apply]
  rfl

theorem covered (i : S32768x1024.Idx) : ∃ t : Fin cfg0.N, (cfg0.win 12).flush t = true ∧ i ∈ ((cfg0.win 12).blk t).view.set := by
  obtain ⟨r, q, rfl⟩ : ∃ (a : Fin 32768) (b : Fin 1024), i = ix2 a b := ⟨i 0, i 1, eq_ix2 i⟩
  have hN : cfg0.N = 128 := by decide
  refine ⟨⟨r.val / 256, by omega⟩, flush0_12 _, ?_⟩
  have h := ((cfg0.win 12).blk (⟨r.val / 256, by omega⟩ : Fin cfg0.N)).view.emb_mem_set (ix2 (⟨r.val % 256, by omega⟩ : Fin 256) q)
  rw [emb12] at h
  have e : grow (⟨r.val / 256, by omega⟩ : Fin cfg0.N) (⟨r.val % 256, by omega⟩ : Fin 256) = r := Fin.ext (Nat.div_add_mod' r.val 256)
  rwa [e] at h

/-- The kernel's run, its result named. -/
theorem run_kernel (hm : ∀ c, Real' m c) : θ_run (defs (F := Ideal)) (onTc (τ := τ) (main (F := Ideal))) ⟨m, fun _ => 0, ρ⟩ fun r => ∀ c : Dev nD,
      r.2.mem ((c : Thread nD τ).loc main_v7) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans ((dats m 0 c).arrAt_eq_of_cover 12 (res m c) (fun t _ => flushed_eq m c (hm c) t) covered), (h c).2⟩) (run_blocks m ρ)

end Cert.Proof.Even

end
-- ==== Proof.FirstValue.lean ====
/-
  The first odd layer's tail: its body computes what the last layer's tail's body hands its norm, block by block.
-/
module

public import proofs.«01_k».proof.Proof.FirstRef
public import proofs.«01_k».proof.Proof.EvenValue
public import proofs.«01_k».proof.Proof.Gen.FirstKernelIdeal.Value

@[expose] public section

set_option maxRecDepth 16384

noncomputable section

namespace Cert.Proof.First

open Idealize.ShloMosaic Idealize.ShloMosaic.TcCoe Idealize.SL.Sem
open Cert.Proof.Tail (mixed norm sil kAtt rAtt att_eq Reals bq bm hz p26_apply p27_apply p35_apply p36_apply p37_apply p38_apply p39_apply p40_apply)
open Cert.Proof.Even (at2 at3 all_at)
open Cert.FirstKernelIdeal Cert.FirstKernelIdeal.Gen Cert.FirstKernelIdeal.Value

section body

variable (x0 x1 : Vec Ideal S256x1024 .f32) (x2 : Vec Ideal S256x256 .f32) (x3 : Vec Ideal S256x1280 .f32) (x4 : Vec Ideal S256x1024 .f32)
  (x5 x6 : Vec Ideal S1x256x256 .bf16) (x7 : Vec Ideal S2304x1024 .bf16) (x8 : Vec Ideal S1x1024 .f32)

/-- The body's block, by the last tail's parts. -/
theorem out_eq : out0_9 x0 x1 x2 x3 x4 x5 x6 x7 x8 = View.canon [⟨r0_1, Cert.TailKernelIdeal.Gen.k0_pay22 (View.ld x3 r0_0) (Cert.TailKernelIdeal.Gen.k0_pay26 x0 x1 x2 x3 x4 x5 x6 x7 x8) (Cert.TailKernelIdeal.Gen.k0_pay27 x0 x1 x2 x3 x4 x5 x6 x7 x8) (Cert.TailKernelIdeal.Gen.k0_pay35 x0 x1 x2 x3 x4 x5 x6 x7 x8) (Cert.TailKernelIdeal.Gen.k0_pay36 x0 x1 x2 x3 x4 x5 x6 x7 x8) (Cert.TailKernelIdeal.Gen.k0_pay37 x0 x1 x2 x3 x4 x5 x6 x7 x8) (Cert.TailKernelIdeal.Gen.k0_pay38 x0 x1 x2 x3 x4 x5 x6 x7 x8) (Cert.TailKernelIdeal.Gen.k0_pay39 x0 x1 x2 x3 x4 x5 x6 x7 x8) (Cert.TailKernelIdeal.Gen.k0_pay40 x0 x1 x2 x3 x4 x5 x6 x7 x8)
    (View.ld x7 r0_4) (View.ld x7 r0_5) (View.ld x7 r0_6) (View.ld x4 r0_1)⟩] := rfl

/-- What the body leaves in its block, at a row and a column. -/
theorem out_apply (r : Fin 256) (j : Fin 1024) :
    out0_9 x0 x1 x2 x3 x4 x5 x6 x7 x8 (ix2 r j) = mixed (fun l => kAtt (bq x2 r) (bm x5) (bm x6) 0 l + kAtt (bq x2 r) (bm x5) (bm x6) 1 l + kAtt (bq x2 r) (bm x5) (bm x6) 2 l + kAtt (bq x2 r) (bm x5) (bm x6) 3 l)
      (fun k => x0 (ix2 r k)) (fun k => x1 (ix2 r k)) (fun k => x3 (ix2 r k)) (fun k => x4 (ix2 r k)) (fun k j => x7 (ix2 k j)) j := by
  have h26 := p26_apply x0 x1 x2 x3 x4 x5 x6 x7 x8 r
  have h27 := p27_apply x0 x1 x2 x3 x4 x5 x6 x7 x8 r
  have h35 := p35_apply x0 x1 x2 x3 x4 x5 x6 x7 x8 r
  have h36 := p36_apply x0 x1 x2 x3 x4 x5 x6 x7 x8 r
  have h37 := p37_apply x0 x1 x2 x3 x4 x5 x6 x7 x8 r
  have h38 := p38_apply x0 x1 x2 x3 x4 x5 x6 x7 x8 r
  have h39 := p39_apply x0 x1 x2 x3 x4 x5 x6 x7 x8 r
  have h40 := p40_apply x0 x1 x2 x3 x4 x5 x6 x7 x8
  rw [out_eq, View.canon_unit_zero hz]
  generalize Cert.TailKernelIdeal.Gen.k0_pay26 x0 x1 x2 x3 x4 x5 x6 x7 x8 = p26 at *
  generalize Cert.TailKernelIdeal.Gen.k0_pay27 x0 x1 x2 x3 x4 x5 x6 x7 x8 = p27 at *
  generalize Cert.TailKernelIdeal.Gen.k0_pay35 x0 x1 x2 x3 x4 x5 x6 x7 x8 = p35 at *
  generalize Cert.TailKernelIdeal.Gen.k0_pay36 x0 x1 x2 x3 x4 x5 x6 x7 x8 = p36 at *
  generalize Cert.TailKernelIdeal.Gen.k0_pay37 x0 x1 x2 x3 x4 x5 x6 x7 x8 = p37 at *
  generalize Cert.TailKernelIdeal.Gen.k0_pay38 x0 x1 x2 x3 x4 x5 x6 x7 x8 = p38 at *
  generalize Cert.TailKernelIdeal.Gen.k0_pay39 x0 x1 x2 x3 x4 x5 x6 x7 x8 = p39 at *
  generalize Cert.TailKernelIdeal.Gen.k0_pay40 x0 x1 x2 x3 x4 x5 x6 x7 x8 = p40 at *
  have e : Cert.TailKernelIdeal.Gen.k0_pay22 (View.ld x3 r0_0) p26 p27 p35 p36 p37 p38 p39 p40 (View.ld x7 r0_4) (View.ld x7 r0_5) (View.ld x7 r0_6) (View.ld x4 r0_1) (ix2 r j)
      = x4 (ix2 r j) + (∑ k : Fin 1024, p26 (ix2 r k) * x7 (ix2 ⟨k.val, by omega⟩ j) + ∑ k : Fin 1024, p27 (ix2 r k) * x7 (ix2 ⟨1024 + k.val, by omega⟩ j)
        + ∑ l : Fin 256, (p36 (ix2 r l) + p37 (ix2 r l) + p38 (ix2 r l) + (∑ m : Fin 256, p39 (ix2 r m) * p40 (ix2 m l)) * p35 (ix2 r 0)) * sil (x3 (ix2 r ⟨1024 + l.val, by omega⟩)) * x7 (ix2 ⟨2048 + l.val, by omega⟩ j)) := by
    unfold sil
    simp only [← zero_sub]
    pointwise [Cert.TailKernelIdeal.Gen.k0_pay22]
    try rfl
  rw [e]
  unfold mixed
  simp only [h26, h27, h35, h36, h37, h38, h39, h40]
  unfold kAtt
  simp only [mul_ite, mul_zero]

end body

variable (m : (ℓ : Loc nD τ sig) → Buf (Elt Ideal) ℓ) (ρ : Dev nD → PrngReg)

/-- Row `r` of the block at point `t`, among all rows. -/
def grow (t : Fin cfg0.N) (r : Fin 256) : Fin 32768 := ⟨t.val * 256 + r.val, by
  have h := t.isLt
  have : cfg0.N = 128 := by decide
  omega⟩

/-- The sequence a row belongs to. -/
abbrev sq (r : Fin 32768) : Fin 8 := ⟨r.val / 4096, by omega⟩

/-- A block of 256 rows at the point's number. -/
theorem row_at {i j n : ℕ} (t : Fin cfg0.N) (r : Fin 256) (k : Fin n) (h : i = t.val ∧ j = 0) :
    i * 256 + 1 * r.val = (grow t r).val ∧ j * n + 1 * k.val = k.val := by
  obtain ⟨rfl, rfl⟩ := h
  exact ⟨by simp [grow], by simp⟩

/-- One sequence's memory at the point's number over sixteen. -/
theorem mem_at {i j l : ℕ} (t : Fin cfg0.N) (r k d : Fin 256) (h : i = t.val / 16 ∧ j = 0 ∧ l = 0) :
    i * 1 + 1 * 0 = (sq (grow t r)).val ∧ j * 256 + 1 * k.val = k.val ∧ l * 256 + 1 * d.val = d.val := by
  obtain ⟨rfl, rfl, rfl⟩ := h
  refine ⟨?_, by simp, by simp⟩
  simp only [grow]
  omega

theorem emb0 (t : Fin cfg0.N) (r : Fin 256) (k : Fin 1024) : ((cfg0.win 0).blk t).view.emb (ix2 r k) = (ix2 (grow t r) k : S32768x1024.Idx) :=
  have h := row_at t r k ((by decide +kernel : ∀ t : Fin grid0.N, win0_0.index t (0 : Fin 2) = t.val ∧ win0_0.index t (1 : Fin 2) = 0) t)
  at2 _ _ _ h.1 h.2
theorem emb1 (t : Fin cfg0.N) (r : Fin 256) (k : Fin 1024) : ((cfg0.win 1).blk t).view.emb (ix2 r k) = (ix2 (grow t r) k : S32768x1024.Idx) :=
  have h := row_at t r k ((by decide +kernel : ∀ t : Fin grid0.N, win0_1.index t (0 : Fin 2) = t.val ∧ win0_1.index t (1 : Fin 2) = 0) t)
  at2 _ _ _ h.1 h.2
theorem emb2 (t : Fin cfg0.N) (r : Fin 256) (k : Fin 256) : ((cfg0.win 2).blk t).view.emb (ix2 r k) = (ix2 (grow t r) k : S32768x256.Idx) :=
  have h := row_at t r k ((by decide +kernel : ∀ t : Fin grid0.N, win0_2.index t (0 : Fin 2) = t.val ∧ win0_2.index t (1 : Fin 2) = 0) t)
  at2 _ _ _ h.1 h.2
theorem emb3 (t : Fin cfg0.N) (r : Fin 256) (k : Fin 1280) : ((cfg0.win 3).blk t).view.emb (ix2 r k) = (ix2 (grow t r) k : S32768x1280.Idx) :=
  have h := row_at t r k ((by decide +kernel : ∀ t : Fin grid0.N, win0_3.index t (0 : Fin 2) = t.val ∧ win0_3.index t (1 : Fin 2) = 0) t)
  at2 _ _ _ h.1 h.2
theorem emb4 (t : Fin cfg0.N) (r : Fin 256) (k : Fin 1024) : ((cfg0.win 4).blk t).view.emb (ix2 r k) = (ix2 (grow t r) k : S32768x1024.Idx) :=
  have h := row_at t r k ((by decide +kernel : ∀ t : Fin grid0.N, win0_4.index t (0 : Fin 2) = t.val ∧ win0_4.index t (1 : Fin 2) = 0) t)
  at2 _ _ _ h.1 h.2
theorem emb9 (t : Fin cfg0.N) (r : Fin 256) (k : Fin 1024) : ((cfg0.win 9).blk t).view.emb (ix2 r k) = (ix2 (grow t r) k : S32768x1024.Idx) :=
  have h := row_at t r k ((by decide +kernel : ∀ t : Fin grid0.N, win0_9.index t (0 : Fin 2) = t.val ∧ win0_9.index t (1 : Fin 2) = 0) t)
  at2 _ _ _ h.1 h.2
theorem emb5 (t : Fin cfg0.N) (r k l : Fin 256) : ((cfg0.win 5).blk t).view.emb (ix3 0 k l) = (ix3 (sq (grow t r)) k l : S8x256x256.Idx) :=
  have h := mem_at t r k l ((by decide +kernel : ∀ t : Fin grid0.N, win0_5.index t (0 : Fin 3) = t.val / 16 ∧ win0_5.index t (1 : Fin 3) = 0 ∧ win0_5.index t (2 : Fin 3) = 0) t)
  at3 _ _ _ _ h.1 h.2.1 h.2.2
theorem emb6 (t : Fin cfg0.N) (r k l : Fin 256) : ((cfg0.win 6).blk t).view.emb (ix3 0 k l) = (ix3 (sq (grow t r)) k l : S8x256x256.Idx) :=
  have h := mem_at t r k l ((by decide +kernel : ∀ t : Fin grid0.N, win0_6.index t (0 : Fin 3) = t.val / 16 ∧ win0_6.index t (1 : Fin 3) = 0 ∧ win0_6.index t (2 : Fin 3) = 0) t)
  at3 _ _ _ _ h.1 h.2.1 h.2.2
theorem emb7 (t : Fin cfg0.N) (r : Fin 2304) (k : Fin 1024) : ((cfg0.win 7).blk t).view.emb (ix2 r k) = (ix2 r k : S2304x1024.Idx) :=
  have h := all_at r k ((by decide +kernel : ∀ t : Fin grid0.N, win0_7.index t (0 : Fin 2) = 0 ∧ win0_7.index t (1 : Fin 2) = 0) t)
  at2 _ _ _ h.1 h.2

theorem iblk0_apply (c : Dev nD) (t : Fin cfg0.N) (r : Fin 256) (k : Fin 1024) : iblk m c 0 t (ix2 r k) = m ((c : Thread nD τ).loc main_arg0) (ix2 (grow t r) k) :=
  (congrFun (V_main_arg0 m c) _).trans (congrArg _ (emb0 t r k))
theorem iblk1_apply (c : Dev nD) (t : Fin cfg0.N) (r : Fin 256) (k : Fin 1024) : iblk m c 1 t (ix2 r k) = m ((c : Thread nD τ).loc main_arg1) (ix2 (grow t r) k) :=
  (congrFun (V_main_arg1 m c) _).trans (congrArg _ (emb1 t r k))
theorem iblk2_apply (c : Dev nD) (t : Fin cfg0.N) (r : Fin 256) (k : Fin 256) : iblk m c 2 t (ix2 r k) = m ((c : Thread nD τ).loc main_arg2) (ix2 (grow t r) k) :=
  (congrFun (V_main_arg2 m c) _).trans (congrArg _ (emb2 t r k))
theorem iblk3_apply (c : Dev nD) (t : Fin cfg0.N) (r : Fin 256) (k : Fin 1280) : iblk m c 3 t (ix2 r k) = m ((c : Thread nD τ).loc main_arg3) (ix2 (grow t r) k) :=
  (congrFun (V_main_arg3 m c) _).trans (congrArg _ (emb3 t r k))
theorem iblk4_apply (c : Dev nD) (t : Fin cfg0.N) (r : Fin 256) (k : Fin 1024) : iblk m c 4 t (ix2 r k) = m ((c : Thread nD τ).loc main_arg4) (ix2 (grow t r) k) :=
  (congrFun (V_main_arg4 m c) _).trans (congrArg _ (emb4 t r k))
theorem iblk5_apply (c : Dev nD) (t : Fin cfg0.N) (r k l : Fin 256) : iblk m c 5 t (ix3 0 k l) = m ((c : Thread nD τ).loc main_arg5) (ix3 (sq (grow t r)) k l) :=
  (congrFun (V_main_arg5 m c) _).trans (congrArg _ (emb5 t r k l))
theorem iblk6_apply (c : Dev nD) (t : Fin cfg0.N) (r k l : Fin 256) : iblk m c 6 t (ix3 0 k l) = m ((c : Thread nD τ).loc main_arg6) (ix3 (sq (grow t r)) k l) :=
  (congrFun (V_main_arg6 m c) _).trans (congrArg _ (emb6 t r k l))

/-- The output weight's block, at every point. -/
theorem iblk7_apply (c : Dev nD) (t : Fin cfg0.N) (k : Fin 2304) (j : Fin 1024) : iblk m c 7 t (ix2 k j) = m ((c : Thread nD τ).loc main_arg7) (ix2 k j) := by
  show V m c main_v0 (((cfg0.win 7).blk t).view.emb (ix2 k j)) = _
  rw [emb7]
  have hV : (V m c main_v0 : S2304x1024.Idx → EReal) = truncf (F := Ideal) .bf16 (m ((c : Thread nD τ).loc main_arg7) : Vec Ideal S2304x1024 .f32) bitsLt_bf16_f32 := by
    unfold V; after_results
  rw [hV]
  pointwise

/-- The queries and the memory's keys are real numbers. -/
def Real' (c : Dev nD) : Prop :=
  Reals (s := S32768x256) (m ((c : Thread nD τ).loc main_arg2)) ∧ Reals (s := S8x256x256) (m ((c : Thread nD τ).loc main_arg5))

/-- The result. -/
abbrev res (c : Dev nD) : Vec Ideal S32768x1024 .f32 :=
  X (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem flushed_eq (c : Dev nD) (hm : Real' m c) (t : Fin cfg0.N) :
    (dats m 0 c).flushed 9 t = ((cfg0.win 9).blk t).view.read (Elt Ideal) (res m c) := by
  rw [flushed9]
  refine funext fun (j : S256x1024.Idx) => ?_
  obtain ⟨r, q, rfl⟩ : ∃ (a : Fin 256) (b : Fin 1024), j = ix2 a b := ⟨j 0, j 1, eq_ix2 j⟩
  show out0_9 (iblk m c 0 t) (iblk m c 1 t) (iblk m c 2 t) (iblk m c 3 t) (iblk m c 4 t) (iblk m c 5 t) (iblk m c 6 t) (iblk m c 7 t) (iblk m c 8 t) (ix2 r q) = res m c (((cfg0.win 9).blk t).view.emb (ix2 r q))
  rw [emb9, out_apply]
  have hq : bq (iblk m c 2 t) r = fun l => m ((c : Thread nD τ).loc main_arg2) (ix2 (grow t r) l) := funext fun l => iblk2_apply m c t r l
  have hk : bm (iblk m c 5 t) = fun k l => m ((c : Thread nD τ).loc main_arg5) (ix3 (sq (grow t r)) k l) := funext fun k => funext fun l => iblk5_apply m c t r k l
  have hv : bm (iblk m c 6 t) = fun k l => m ((c : Thread nD τ).loc main_arg6) (ix3 (sq (grow t r)) k l) := funext fun k => funext fun l => iblk6_apply m c t r k l
  rw [hq, hk, hv]
  obtain ⟨h2, h5⟩ := hm
  choose y2 h2 using h2
  choose y5 h5 using h5
  simp only [att_eq (q := fun l => m ((c : Thread nD τ).loc main_arg2) (ix2 (grow t r) l)) (k := fun k l => m ((c : Thread nD τ).loc main_arg5) (ix3 (sq (grow t r)) k l))
    (v := fun k l => m ((c : Thread nD τ).loc main_arg6) (ix3 (sq (grow t r)) k l)) ⟨_, funext fun l => h2 _⟩ (fun k => ⟨_, funext fun l => h5 _⟩)]
  simp only [iblk0_apply, iblk1_apply, iblk3_apply, iblk4_apply, iblk7_apply]
  rfl

theorem covered (i : S32768x1024.Idx) : ∃ t : Fin cfg0.N, (cfg0.win 9).flush t = true ∧ i ∈ ((cfg0.win 9).blk t).view.set := by
  obtain ⟨r, q, rfl⟩ : ∃ (a : Fin 32768) (b : Fin 1024), i = ix2 a b := ⟨i 0, i 1, eq_ix2 i⟩
  have hN : cfg0.N = 128 := by decide
  refine ⟨⟨r.val / 256, by omega⟩, flush0_9 _, ?_⟩
  have h := ((cfg0.win 9).blk (⟨r.val / 256, by omega⟩ : Fin cfg0.N)).view.emb_mem_set (ix2 (⟨r.val % 256, by omega⟩ : Fin 256) q)
  rw [emb9] at h
  have e : grow (⟨r.val / 256, by omega⟩ : Fin cfg0.N) (⟨r.val % 256, by omega⟩ : Fin 256) = r := Fin.ext (Nat.div_add_mod' r.val 256)
  rwa [e] at h

/-- The kernel's run, its result named. -/
theorem run_kernel (hm : ∀ c, Real' m c) : θ_run (defs (F := Ideal)) (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((dats m 0 c).arrAt_eq_of_cover 9 (res m c) (fun t _ => flushed_eq m c (hm c) t) covered), (h c).2⟩) (run_blocks m ρ)

end Cert.Proof.First

end
-- ==== Proof.MemValue.lean ====
/-
  The memory's keys and values: each row of the memory normalized by its root mean square and scaled, times the layer's
  weight, whose first 256 columns give the keys and whose last 256 give the values. The kernel takes one layer and one
  sequence at a time; the reference makes each layer's product over all sequences and stacks them.
-/
module

public import proofs.«01_k».proof.Proof.EvenValue
public import proofs.«01_k».proof.Proof.Gen.MemKernelIdeal.Value
public import proofs.«01_k».proof.Proof.Gen.MemReferenceIdeal
public import proofs.«01_k».proof.Proof.Gen.MemReferenceIdeal.Run

@[expose] public section

set_option maxRecDepth 16384

noncomputable section

namespace Cert.Proof.Mem

open Idealize.ShloMosaic Idealize.ShloMosaic.TcCoe Idealize.SL.Sem
open Cert.Proof.Even (at2 at3 all_at)

/-- A row normalized by its root mean square and scaled by `w`, at place `k`. -/
def nrm (x w : Fin 1024 → EReal) (k : Fin 1024) : EReal :=
  x k * Ideal.rsqrt (Ideal.div (∑ j : Fin 1024, x j * x j) (Ideal.ofBits .f32 1149239296#32) + Ideal.ofBits .f32 897988541#32) * w k

/-- The 256 columns from `off` on of every layer's product, for every sequence. -/
def G (off : ℕ) (h : off + 256 ≤ 512) (x : (⟨3, ![8, 256, 1024]⟩ : Shape).Idx → EReal) (w : (⟨1, ![1024]⟩ : Shape).Idx → EReal)
    (W : (⟨3, ![4, 1024, 512]⟩ : Shape).Idx → EReal) : (⟨4, ![4, 8, 256, 256]⟩ : Shape).Idx → EReal := fun i =>
  ∑ k : Fin 1024, nrm (fun k => x (ix3 (i 1) (i 2) k)) (fun k => w (ix1 k)) k * W (ix3 (i 0) k ⟨off + (i 3).val, lt_of_lt_of_le (Nat.add_lt_add_left (i 3).isLt off) h⟩)

section reference

open Cert.MemReferenceIdeal Cert.MemReferenceIdeal.Gen Cert.MemReferenceIdeal.Value

/-- The memory, normalized. -/
def hN (a0 : FVec Ideal S8x256x1024 .f32) (a1 : FVec Ideal S1024 .f32) : FVec Ideal S8x256x1024 .f32 :=
  mulf (mulf a0 (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf a0 a0) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 a1))

/-- One layer's product. -/
def hL (n : FVec Ideal S8x256x1024 .f32) (w : FVec Ideal S1x1024x512 .f32) : FVec Ideal S1x8x256x512 .f32 :=
  broadcastInDim S1x8x256x512 ![1, 2, 3] bcast_S8x256x512_S1x8x256x512_1_2_3 (Host.dotGeneral dot_S8x256x1024_S1024x512_S8x256x512_2_0_01_1_n_n none n (shapeCast _ w shapeCasts_S1x1024x512_S1024x512))

/-- The four layers' products, stacked. -/
def hS (n : FVec Ideal S8x256x1024 .f32) (a2 : FVec Ideal S4x1024x512 .f32) : FVec Ideal S4x8x256x512 .f32 :=
  concatenate S4x8x256x512 0 [⟨S1x8x256x512, hL n (extractStridedSlice S1x1024x512 ![0, 0, 0] a2 slices_S4x1024x512_S1x1024x512_0_0_0)⟩, ⟨S1x8x256x512, hL n (extractStridedSlice S1x1024x512 ![1, 0, 0] a2 slices_S4x1024x512_S1x1024x512_1_0_0)⟩,
    ⟨S1x8x256x512, hL n (extractStridedSlice S1x1024x512 ![2, 0, 0] a2 slices_S4x1024x512_S1x1024x512_2_0_0)⟩, ⟨S1x8x256x512, hL n (extractStridedSlice S1x1024x512 ![3, 0, 0] a2 slices_S4x1024x512_S1x1024x512_3_0_0)⟩] concatenates_S1x8x256x512_S1x8x256x512_S1x8x256x512_S1x8x256x512_S4x8x256x512_d0

theorem keys_eq (m : (ℓ : Loc nD τ sig) → Buf (Elt Ideal) ℓ) (c : Dev nD) :
    res_main_v31 m c = truncf .bf16 (extractStridedSlice S4x8x256x256 ![0, 0, 0, 0] (hS (hN (m ((c.tc : Thread nD τ).loc main_arg0)) (m ((c.tc : Thread nD τ).loc main_arg1))) (m ((c.tc : Thread nD τ).loc main_arg2))) slices_S4x8x256x512_S4x8x256x256_0_0_0_0) bitsLt_bf16_f32 := by
  unfold res_main_v31 hS hL hN
  rfl

theorem values_eq (m : (ℓ : Loc nD τ sig) → Buf (Elt Ideal) ℓ) (c : Dev nD) :
    res_main_v33 m c = truncf .bf16 (extractStridedSlice S4x8x256x256 ![0, 0, 0, 256] (hS (hN (m ((c.tc : Thread nD τ).loc main_arg0)) (m ((c.tc : Thread nD τ).loc main_arg1))) (m ((c.tc : Thread nD τ).loc main_arg2))) slices_S4x8x256x512_S4x8x256x256_0_0_0_256) bitsLt_bf16_f32 := by
  unfold res_main_v33 hS hL hN
  rfl

theorem hN_apply (a0 : FVec Ideal S8x256x1024 .f32) (a1 : FVec Ideal S1024 .f32) (b : Fin 8) (r : Fin 256) (k : Fin 1024) :
    hN a0 a1 (ix3 b r k) = nrm (fun k => a0 (ix3 b r k)) (fun k => a1 (ix1 k)) k := by
  unfold hN nrm
  pointwise
  try rfl

theorem hL_apply (n : FVec Ideal S8x256x1024 .f32) (w : FVec Ideal S1x1024x512 .f32) (b : Fin 8) (r : Fin 256) (q : Fin 512) :
    hL n w (ix4 0 b r q) = ∑ k : Fin 1024, n (ix3 b r k) * w (ix3 0 k q) := by
  unfold hL
  pointwise
  try rfl

theorem hS_apply (n : FVec Ideal S8x256x1024 .f32) (a2 : FVec Ideal S4x1024x512 .f32) (l : Fin 4) (b : Fin 8) (r : Fin 256) (q : Fin 512) :
    hS n a2 (ix4 l b r q) = ∑ k : Fin 1024, n (ix3 b r k) * a2 (ix3 l k q) := by
  unfold hS
  fin_cases l <;>
  · pointwise [hL]
    try rfl

theorem keys_G (m : (ℓ : Loc nD τ sig) → Buf (Elt Ideal) ℓ) (c : Dev nD) : res_main_v31 m c = G 0 (by decide) (m ((c.tc : Thread nD τ).loc main_arg0)) (m ((c.tc : Thread nD τ).loc main_arg1)) (m ((c.tc : Thread nD τ).loc main_arg2)) := by
  rw [keys_eq]
  funext i
  obtain ⟨l, b, r, q, rfl⟩ : ∃ (l : Fin 4) (b : Fin 8) (r q : Fin 256), i = ix4 l b r q := ⟨i 0, i 1, i 2, i 3, eq_ix4 i⟩
  have e : ∀ S : FVec Ideal S4x8x256x512 .f32, (truncf .bf16 (extractStridedSlice S4x8x256x256 ![0, 0, 0, 0] S slices_S4x8x256x512_S4x8x256x256_0_0_0_0) bitsLt_bf16_f32 : FVec Ideal S4x8x256x256 .bf16) (ix4 l b r q) = S (ix4 l b r ⟨0 + q.val, by omega⟩) := fun S => by pointwise
  rw [e, hS_apply]
  simp only [hN_apply]
  rfl

theorem values_G (m : (ℓ : Loc nD τ sig) → Buf (Elt Ideal) ℓ) (c : Dev nD) : res_main_v33 m c = G 256 (by decide) (m ((c.tc : Thread nD τ).loc main_arg0)) (m ((c.tc : Thread nD τ).loc main_arg1)) (m ((c.tc : Thread nD τ).loc main_arg2)) := by
  rw [values_eq]
  funext i
  obtain ⟨l, b, r, q, rfl⟩ : ∃ (l : Fin 4) (b : Fin 8) (r q : Fin 256), i = ix4 l b r q := ⟨i 0, i 1, i 2, i 3, eq_ix4 i⟩
  have e : ∀ S : FVec Ideal S4x8x256x512 .f32, (truncf .bf16 (extractStridedSlice S4x8x256x256 ![0, 0, 0, 256] S slices_S4x8x256x512_S4x8x256x256_0_0_0_256) bitsLt_bf16_f32 : FVec Ideal S4x8x256x256 .bf16) (ix4 l b r q) = S (ix4 l b r ⟨256 + q.val, by omega⟩) := fun S => by pointwise
  rw [e, hS_apply]
  simp only [hN_apply]
  rfl

/-- The reference's run. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = G 0 (by decide) (m ((c.tc : Thread nD τ).loc main_arg0)) (m ((c.tc : Thread nD τ).loc main_arg1)) (m ((c.tc : Thread nD τ).loc main_arg2))
      ∧ r.2.mem ((c.tc : Thread nD τ).loc main_v33) = G 256 (by decide) (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2)) :=
  (θ_run defs _ _).mono (fun r h c => ⟨(h c).1.trans (keys_G m c), (h c).2.1.trans (values_G m c), (h c).2.2⟩) (Value.run (F := Ideal) m ρ)

end reference

open Cert.MemKernelIdeal Cert.MemKernelIdeal.Gen Cert.MemKernelIdeal.Value

theorem hz : (![0, 0, 0, 0] : Fin 4 → Nat) = fun _ => 0 := funext fun a => by fin_cases a <;> rfl

/-- The body's product. -/
theorem p1_apply (x0 : Vec Ideal S1x256x1024 .f32) (x1 : Vec Ideal S1x1024 .f32) (x2 : Vec Ideal S1x1024x512 .bf16) (r : Fin 256) (q : Fin 512) :
    k0_pay1 (View.ld x0 r0_0) (View.ld x1 r0_1) (View.ld x2 r0_2) (ix2 r q) = ∑ k : Fin 1024, nrm (fun k => x0 (ix3 0 r k)) (fun k => x1 (ix2 0 k)) k * x2 (ix3 0 k q) := by
  unfold nrm
  pointwise [k0_pay1]
  try rfl

/-- What the body leaves in the keys' block. -/
theorem out3_apply (x0 : Vec Ideal S1x256x1024 .f32) (x1 : Vec Ideal S1x1024 .f32) (x2 : Vec Ideal S1x1024x512 .bf16) (r q : Fin 256) :
    out0_3 x0 x1 x2 (ix4 0 0 r q) = ∑ k : Fin 1024, nrm (fun k => x0 (ix3 0 r k)) (fun k => x1 (ix2 0 k)) k * x2 (ix3 0 k ⟨0 + q.val, by omega⟩) := by
  unfold out0_3
  rw [View.canon_unit_zero hz, ← p1_apply]
  unfold k0_pay2
  generalize k0_pay1 (View.ld x0 r0_0) (View.ld x1 r0_1) (View.ld x2 r0_2) = P
  pointwise

/-- What the body leaves in the values' block. -/
theorem out4_apply (x0 : Vec Ideal S1x256x1024 .f32) (x1 : Vec Ideal S1x1024 .f32) (x2 : Vec Ideal S1x1024x512 .bf16) (r q : Fin 256) :
    out0_4 x0 x1 x2 (ix4 0 0 r q) = ∑ k : Fin 1024, nrm (fun k => x0 (ix3 0 r k)) (fun k => x1 (ix2 0 k)) k * x2 (ix3 0 k ⟨256 + q.val, by omega⟩) := by
  unfold out0_4
  rw [View.canon_unit_zero hz, ← p1_apply]
  unfold k0_pay3
  generalize k0_pay1 (View.ld x0 r0_0) (View.ld x1 r0_1) (View.ld x2 r0_2) = P
  pointwise

variable (m : (ℓ : Loc nD τ sig) → Buf (Elt Ideal) ℓ) (ρ : Dev nD → PrngReg)

theorem points : cfg0.N = 32 := by decide

/-- The layer of point `t`. -/
def lay (t : Fin cfg0.N) : Fin 4 := ⟨t.val / 8, by have h := t.isLt; have := points; omega⟩
/-- The sequence of point `t`. -/
def seq (t : Fin cfg0.N) : Fin 8 := ⟨t.val % 8, by omega⟩

theorem emb0 (t : Fin cfg0.N) (r : Fin 256) (k : Fin 1024) : ((cfg0.win 0).blk t).view.emb (ix3 0 r k) = (ix3 (seq t) r k : S8x256x1024.Idx) := by
  obtain ⟨e0, e1, e2⟩ := (by decide +kernel : ∀ t : Fin grid0.N, win0_0.index t (0 : Fin 3) = t.val % 8 ∧ win0_0.index t (1 : Fin 3) = 0 ∧ win0_0.index t (2 : Fin 3) = 0) t
  refine at3 _ _ _ _ ?_ ?_ ?_
  · show win0_0.index t (0 : Fin 3) * 1 + 1 * 0 = t.val % 8; omega
  · show win0_0.index t (1 : Fin 3) * 256 + 1 * r.val = r.val; omega
  · show win0_0.index t (2 : Fin 3) * 1024 + 1 * k.val = k.val; omega

theorem emb1 (t : Fin cfg0.N) (k : Fin 1024) : ((cfg0.win 1).blk t).view.emb (ix2 (0 : Fin 1) k) = (ix2 (0 : Fin 1) k : S1x1024.Idx) :=
  have h := all_at (0 : Fin 1) k ((by decide +kernel : ∀ t : Fin grid0.N, win0_1.index t (0 : Fin 2) = 0 ∧ win0_1.index t (1 : Fin 2) = 0) t)
  at2 _ _ _ h.1 h.2

theorem emb2 (t : Fin cfg0.N) (k : Fin 1024) (q : Fin 512) : ((cfg0.win 2).blk t).view.emb (ix3 0 k q) = (ix3 (lay t) k q : S4x1024x512.Idx) := by
  obtain ⟨e0, e1, e2⟩ := (by decide +kernel : ∀ t : Fin grid0.N, win0_2.index t (0 : Fin 3) = t.val / 8 ∧ win0_2.index t (1 : Fin 3) = 0 ∧ win0_2.index t (2 : Fin 3) = 0) t
  refine at3 _ _ _ _ ?_ ?_ ?_
  · show win0_2.index t (0 : Fin 3) * 1 + 1 * 0 = t.val / 8; omega
  · show win0_2.index t (1 : Fin 3) * 1024 + 1 * k.val = k.val; omega
  · show win0_2.index t (2 : Fin 3) * 512 + 1 * q.val = q.val; omega

/-- The place of a block of a result: its layer and its sequence. -/
theorem at4 {i j k l : ℕ} (t : Fin cfg0.N) (r q : Fin 256) (e : S4x8x256x256.Idx) (h : i = t.val / 8 ∧ j = t.val % 8 ∧ k = 0 ∧ l = 0)
    (e0 : (e 0).val = i * 1 + 1 * 0) (e1 : (e 1).val = j * 1 + 1 * 0) (e2 : (e 2).val = k * 256 + 1 * r.val) (e3 : (e 3).val = l * 256 + 1 * q.val) :
    e = ix4 (lay t) (seq t) r q := by
  obtain ⟨rfl, rfl, rfl, rfl⟩ := h
  refine funext fun a => Fin.ext ?_
  match a with
  | ⟨0, _⟩ => exact e0.trans (by simp [lay])
  | ⟨1, _⟩ => exact e1.trans (by simp [seq])
  | ⟨2, _⟩ => exact e2.trans (by simp)
  | ⟨3, _⟩ => exact e3.trans (by simp)

theorem emb3 (t : Fin cfg0.N) (r q : Fin 256) : ((cfg0.win 3).blk t).view.emb (ix4 0 0 r q) = (ix4 (lay t) (seq t) r q : S4x8x256x256.Idx) :=
  at4 t r q _ ((by decide +kernel : ∀ t : Fin grid0.N, win0_3.index t (0 : Fin 4) = t.val / 8 ∧ win0_3.index t (1 : Fin 4) = t.val % 8 ∧ win0_3.index t (2 : Fin 4) = 0 ∧ win0_3.index t (3 : Fin 4) = 0) t) rfl rfl rfl rfl

theorem emb4 (t : Fin cfg0.N) (r q : Fin 256) : ((cfg0.win 4).blk t).view.emb (ix4 0 0 r q) = (ix4 (lay t) (seq t) r q : S4x8x256x256.Idx) :=
  at4 t r q _ ((by decide +kernel : ∀ t : Fin grid0.N, win0_4.index t (0 : Fin 4) = t.val / 8 ∧ win0_4.index t (1 : Fin 4) = t.val % 8 ∧ win0_4.index t (2 : Fin 4) = 0 ∧ win0_4.index t (3 : Fin 4) = 0) t) rfl rfl rfl rfl

theorem iblk0_apply (c : Dev nD) (t : Fin cfg0.N) (r : Fin 256) (k : Fin 1024) : iblk m c 0 t (ix3 0 r k) = m ((c : Thread nD τ).loc main_arg0) (ix3 (seq t) r k) :=
  (congrFun (V_main_arg0 m c) _).trans (congrArg _ (emb0 t r k))

theorem iblk1_apply (c : Dev nD) (t : Fin cfg0.N) (k : Fin 1024) : iblk m c 1 t (ix2 0 k) = m ((c : Thread nD τ).loc main_arg1) (ix1 k) := by
  show V m c main_v1 (((cfg0.win 1).blk t).view.emb (ix2 (0 : Fin 1) k)) = _
  rw [emb1]
  have hV : (V m c main_v1 : S1x1024.Idx → EReal) = shapeCast S1x1024 (m ((c : Thread nD τ).loc main_arg1) : Vec Ideal S1024 .f32) shapeCasts_S1024_S1x1024 := by
    unfold V; after_results; rfl
  rw [hV]
  pointwise

theorem iblk2_apply (c : Dev nD) (t : Fin cfg0.N) (k : Fin 1024) (q : Fin 512) : iblk m c 2 t (ix3 0 k q) = m ((c : Thread nD τ).loc main_arg2) (ix3 (lay t) k q) := by
  show V m c main_v0 (((cfg0.win 2).blk t).view.emb (ix3 0 k q)) = _
  rw [emb2]
  have hV : (V m c main_v0 : S4x1024x512.Idx → EReal) = truncf (F := Ideal) .bf16 (m ((c : Thread nD τ).loc main_arg2) : Vec Ideal S4x1024x512 .f32) bitsLt_bf16_f32 := by
    unfold V; after_results
  rw [hV]
  pointwise

/-- The keys. -/
abbrev keys (c : Dev nD) : Vec Ideal S4x8x256x256 .bf16 := G 0 (by decide) (m ((c : Thread nD τ).loc main_arg0)) (m ((c : Thread nD τ).loc main_arg1)) (m ((c : Thread nD τ).loc main_arg2))
/-- The values. -/
abbrev values (c : Dev nD) : Vec Ideal S4x8x256x256 .bf16 := G 256 (by decide) (m ((c : Thread nD τ).loc main_arg0)) (m ((c : Thread nD τ).loc main_arg1)) (m ((c : Thread nD τ).loc main_arg2))

/-- A block's index. -/
theorem block_ix (j : S1x1x256x256.Idx) : ∃ r q : Fin 256, j = ix4 0 0 r q :=
  ⟨j 2, j 3, (eq_ix4 j).trans (by rw [show j 0 = (0 : Fin 1) from Subsingleton.elim (α := Fin 1) _ _, show j 1 = (0 : Fin 1) from Subsingleton.elim (α := Fin 1) _ _])⟩

theorem flushed3_eq (c : Dev nD) (t : Fin cfg0.N) : (dats m 0 c).flushed 3 t = ((cfg0.win 3).blk t).view.read (Elt Ideal) (keys m c) := by
  rw [flushed3]
  refine funext fun (j : S1x1x256x256.Idx) => ?_
  obtain ⟨r, q, rfl⟩ := block_ix j
  show out0_3 (iblk m c 0 t) (iblk m c 1 t) (iblk m c 2 t) (ix4 0 0 r q) = keys m c (((cfg0.win 3).blk t).view.emb (ix4 0 0 r q))
  rw [emb3, out3_apply]
  simp only [iblk0_apply, iblk1_apply, iblk2_apply]
  rfl

theorem flushed4_eq (c : Dev nD) (t : Fin cfg0.N) : (dats m 0 c).flushed 4 t = ((cfg0.win 4).blk t).view.read (Elt Ideal) (values m c) := by
  rw [flushed4]
  refine funext fun (j : S1x1x256x256.Idx) => ?_
  obtain ⟨r, q, rfl⟩ := block_ix j
  show out0_4 (iblk m c 0 t) (iblk m c 1 t) (iblk m c 2 t) (ix4 0 0 r q) = values m c (((cfg0.win 4).blk t).view.emb (ix4 0 0 r q))
  rw [emb4, out4_apply]
  simp only [iblk0_apply, iblk1_apply, iblk2_apply]
  rfl

/-- The point of a layer and a sequence. -/
theorem point_of (l : Fin 4) (b : Fin 8) : ∃ t : Fin cfg0.N, lay t = l ∧ seq t = b :=
  ⟨⟨l.val * 8 + b.val, by have := points; omega⟩, Fin.ext (by simp only [lay]; omega), Fin.ext (by simp only [seq]; omega)⟩

theorem covered3 (i : S4x8x256x256.Idx) : ∃ t : Fin cfg0.N, (cfg0.win 3).flush t = true ∧ i ∈ ((cfg0.win 3).blk t).view.set := by
  obtain ⟨l, b, r, q, rfl⟩ : ∃ (l : Fin 4) (b : Fin 8) (r q : Fin 256), i = ix4 l b r q := ⟨i 0, i 1, i 2, i 3, eq_ix4 i⟩
  obtain ⟨t, rfl, rfl⟩ := point_of l b
  exact ⟨t, flush0_3 _, emb3 t r q ▸ ((cfg0.win 3).blk t).view.emb_mem_set (ix4 0 0 r q)⟩

theorem covered4 (i : S4x8x256x256.Idx) : ∃ t : Fin cfg0.N, (cfg0.win 4).flush t = true ∧ i ∈ ((cfg0.win 4).blk t).view.set := by
  obtain ⟨l, b, r, q, rfl⟩ : ∃ (l : Fin 4) (b : Fin 8) (r q : Fin 256), i = ix4 l b r q := ⟨i 0, i 1, i 2, i 3, eq_ix4 i⟩
  obtain ⟨t, rfl, rfl⟩ := point_of l b
  exact ⟨t, flush0_4 _, emb4 t r q ▸ ((cfg0.win 4).blk t).view.emb_mem_set (ix4 0 0 r q)⟩

/-- The kernel's run, its two results named. -/
theorem run_kernel : θ_run (defs (F := Ideal)) (onTc (τ := τ) (main (F := Ideal))) ⟨m, fun _ => 0, ρ⟩ fun r => ∀ c : Dev nD,
      r.2.mem ((c : Thread nD τ).loc main_v2_0) = keys m c
      ∧ r.2.mem ((c : Thread nD τ).loc main_v2_1) = values m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 (keys m c) (fun t _ => flushed3_eq m c t) covered3),
    (h c).2.1.trans ((dats m 0 c).arrAt_eq_of_cover 4 (values m c) (fun t _ => flushed4_eq m c t) covered4), (h c).2.2⟩) (run_blocks m ρ)

end Cert.Proof.Mem

end
-- ==== Proof.FlashBody.lean ====
/-
  The flash kernel's body, head by head. Its four heads are treated alike: a carried triple (greatest score so far, sum of
  weights, weighed values) meets one block of keys after another, the last under the causal mask; the result is the weighed
  values divided by the sum. Here the body's operations are gathered into that one step, and the loop into its iteration.
-/
module

public import proofs.«01_k».proof.Proof.Gen.FlashKernelIdeal.Value
public import Idealize.ShloMosaic.Lib.Pointwise
public import Idealize.ShloMosaic.Lib.Claim
public import Idealize.ShloMosaic.Lib.WholeRead

@[expose] public section

set_option maxRecDepth 16384

noncomputable section

namespace Cert.Proof.Flash

open Idealize.ShloMosaic Idealize.ShloMosaic.TcCoe Idealize.SL.Sem
open Cert.FlashKernelIdeal Cert.FlashKernelIdeal.Gen Cert.FlashKernelIdeal.Value

/-- One head's carried triple. -/
abbrev St := FVec Ideal S1x512 .f32 × FVec Ideal S1x512 .f32 × FVec Ideal S128x512 .f32
/-- What the loop carries: the four heads' triples in a row. -/
abbrev St4 := FVec Ideal S1x512 .f32 × FVec Ideal S1x512 .f32 × FVec Ideal S128x512 .f32 × FVec Ideal S1x512 .f32 × FVec Ideal S1x512 .f32 × FVec Ideal S128x512 .f32 × FVec Ideal S1x512 .f32 × FVec Ideal S1x512 .f32 × FVec Ideal S128x512 .f32 × FVec Ideal S1x512 .f32 × FVec Ideal S1x512 .f32 × FVec Ideal S128x512 .f32
def pack (a b c d : St) : St4 := (a.1, a.2.1, a.2.2, b.1, b.2.1, b.2.2, c.1, c.2.1, c.2.2, d.1, d.2.1, d.2.2)

/-- Scores of a block of keys against the queries. -/
def kSc (q k : Vec Ideal S512x256 .bf16) : FVec Ideal S512x512 .f32 :=
  matmul (φ₁ := .bf16) (φ₂ := .bf16) dot_S512x256_S512x256_S512x512_1_1_0_0_n_n none k q (constant S512x512 .f32 0x00000000#32)
/-- Scores with the keys after the query masked. -/
def kMk (s : FVec Ideal S512x512 .f32) : FVec Ideal S512x512 .f32 :=
  select k0_pay65 s (broadcast S512x512 (Scalar.ofBits (F := Ideal) .f32 0xFF800000#32))
/-- The greatest score so far. -/
def kMax (s : FVec Ideal S512x512 .f32) (m : FVec Ideal S1x512 .f32) : FVec Ideal S1x512 .f32 :=
  maximumf m (shapeCast S1x512 (multiReduction .maximumf [0] S512 s 0xFF800000#32 reduces_S512x512_S512 (.inl rfl) rfl) shapeCasts_S512_S1x512)
/-- What the sums so far are scaled by. -/
def kAl (s : FVec Ideal S512x512 .f32) (m : FVec Ideal S1x512 .f32) : FVec Ideal S1x512 .f32 :=
  exp2 (subf m (kMax s m))
/-- The block's weights. -/
def kP (s : FVec Ideal S512x512 .f32) (m : FVec Ideal S1x512 .f32) : FVec Ideal S512x512 .f32 :=
  exp2 (subf s (broadcastTo S512x512 (kMax s m) broadcasts_S1x512_S512x512))
def kL (l a : FVec Ideal S1x512 .f32) (p : FVec Ideal S512x512 .f32) : FVec Ideal S1x512 .f32 :=
  addf (mulf a l) (shapeCast S1x512 (multiReduction .add [0] S512 p 0x00000000#32 reduces_S512x512_S512 (.inl rfl) rfl) shapeCasts_S512_S1x512)
def kA (x : FVec Ideal S128x512 .f32) (a : FVec Ideal S1x512 .f32) (p : FVec Ideal S512x512 .f32) (v : Vec Ideal S128x512 .bf16) : FVec Ideal S128x512 .f32 :=
  addf (mulf (broadcastTo S128x512 a broadcasts_S1x512_S128x512) x) (matmul (φ₁ := .bf16) (φ₂ := .bf16) dot_S128x512_S512x512_S128x512_1_0_0_1_n_n none v (truncf .bf16 p bitsLt_bf16_f32) (constant S128x512 .f32 0x00000000#32))
/-- One block of keys. -/
def kStep (s : FVec Ideal S512x512 .f32) (v : Vec Ideal S128x512 .bf16) (x : St) : St :=
  (kMax s x.1, kL x.2.1 (kAl s x.1) (kP s x.1), kA x.2.2 (kAl s x.1) (kP s x.1) v)
/-- The head's result. -/
def kOut (x : St) : FVec Ideal S512x128 .f32 := k0_pay1 x.2.1 x.2.2

theorem lt_a (S : Shape) (y : S.Idx) (a : Fin S.rank) (n : ℕ) (h : S.size a = n) : (y a).val < n := h ▸ (y a).isLt

/-- Head `h`'s queries in a block. -/
def kq (x : Vec Ideal S512x1024 .bf16) (h : Fin 4) : Vec Ideal S512x256 .bf16 :=
  fun y => x (ix2 ⟨(y 0).val, lt_a S512x256 y 0 512 rfl⟩ ⟨h.val * 256 + (y 1).val, by have := lt_a S512x256 y 1 256 rfl; omega⟩)
/-- Head `h`'s keys in block `n` of the sequence. -/
def kk (x : Vec Ideal S4096x1024 .bf16) (h : Fin 4) (n : ℕ) : Vec Ideal S512x256 .bf16 :=
  fun y => x (ix2 ⟨(n * 512 + (y 0).val) % 4096, Nat.mod_lt _ (by omega)⟩ ⟨h.val * 256 + (y 1).val, by have := lt_a S512x256 y 1 256 rfl; omega⟩)
/-- Head `h`'s values in block `n` of the sequence. -/
def kv (x : Vec Ideal S512x4096 .bf16) (h : Fin 4) (n : ℕ) : Vec Ideal S128x512 .bf16 :=
  fun y => x (ix2 ⟨h.val * 128 + (y 0).val, by have := lt_a S128x512 y 0 128 rfl; omega⟩ ⟨(n * 512 + (y 1).val) % 4096, Nat.mod_lt _ (by omega)⟩)

theorem ld_q (arg3 : Memref sig .tc .vmem S512x1024 .bf16) (harg3 : arg3.IsWhole) (x : Vec Ideal S512x1024 .bf16) (h : Fin 4) (off : Fin 2 → ℕ) (inb) (e : off = ![0, h.val * 256]) :
    View.readAt (Elt Ideal) arg3.view (Rect.unit (s := S512x1024) off ![512, 256] inb).toLoadRect (harg3.unread x) = kq x h := by
  subst e
  funext y
  refine (harg3.readAt_unread x _ y).trans (congrArg x (funext fun a => Fin.ext ?_))
  match a with
  | ⟨0, _⟩ => show 0 + 1 * (y 0).val = (y 0).val; omega
  | ⟨1, _⟩ => show h.val * 256 + 1 * (y 1).val = h.val * 256 + (y 1).val; omega
theorem ld_k (arg4 : Memref sig .tc .vmem S4096x1024 .bf16) (harg4 : arg4.IsWhole) (x : Vec Ideal S4096x1024 .bf16) (h : Fin 4) (n : ℕ) (hn : n < 8) (off : Fin 2 → ℕ) (inb) (e : off = ![n * 512, h.val * 256]) :
    View.readAt (Elt Ideal) arg4.view (Rect.unit (s := S4096x1024) off ![512, 256] inb).toLoadRect (harg4.unread x) = kk x h n := by
  subst e
  funext y
  refine (harg4.readAt_unread x _ y).trans (congrArg x (funext fun a => Fin.ext ?_))
  have h0 : (y 0).val < 512 := (y 0).isLt
  match a with
  | ⟨0, _⟩ => show n * 512 + 1 * (y 0).val = (n * 512 + (y 0).val) % 4096; omega
  | ⟨1, _⟩ => show h.val * 256 + 1 * (y 1).val = h.val * 256 + (y 1).val; omega
theorem ld_v (arg5 : Memref sig .tc .vmem S512x4096 .bf16) (harg5 : arg5.IsWhole) (x : Vec Ideal S512x4096 .bf16) (h : Fin 4) (n : ℕ) (hn : n < 8) (off : Fin 2 → ℕ) (inb) (e : off = ![h.val * 128, n * 512]) :
    View.readAt (Elt Ideal) arg5.view (Rect.unit (s := S512x4096) off ![128, 512] inb).toLoadRect (harg5.unread x) = kv x h n := by
  subst e
  funext y
  refine (harg5.readAt_unread x _ y).trans (congrArg x (funext fun a => Fin.ext ?_))
  have h0 : (y 1).val < 512 := (y 1).isLt
  match a with
  | ⟨0, _⟩ => show h.val * 128 + 1 * (y 0).val = h.val * 128 + (y 0).val; omega
  | ⟨1, _⟩ => show n * 512 + 1 * (y 1).val = (n * 512 + (y 1).val) % 4096; omega

/-- A block's number as the words of the loop count it. -/
theorem word1 (n : ℕ) (hn : n < 8) : (Scalar.indexCast (Scalar.muli (Scf.iv (0#32 : BitVec 32) (1#32) n) (512#32))).toNat = n * 512 :=
  (by decide +kernel : ∀ n : Fin 8, (Scalar.indexCast (Scalar.muli (Scf.iv (0#32 : BitVec 32) (1#32) n.val) (512#32))).toNat = n.val * 512) ⟨n, hn⟩
theorem word2 (n : ℕ) (hn : n < 8) : (Scalar.indexCast (Scalar.muli (BitVec.ofNat 32 n) (512#32))).toNat = n * 512 :=
  (by decide +kernel : ∀ n : Fin 8, (Scalar.indexCast (Scalar.muli (BitVec.ofNat 32 n.val) (512#32))).toNat = n.val * 512) ⟨n, hn⟩

/-- The loop makes one trip per block before the query's own; the second loop makes none. -/
theorem trips1 (i : grid0.Coords) : (k0_t1_loop i).trips = (i 2).val :=
  (by decide +kernel : ∀ n : Fin 8, (⟨0#32, Scalar.addi (0#32) (Scalar.muli (Scalar.divsi (Scalar.subi (BitVec.ofNat 32 n.val) (0#32)) (1#32)) (1#32)), 1#32⟩ : Scf.Loop 32).trips = n.val) (i 2)
theorem trips2 (i : grid0.Coords) : (k0_t2_loop i).trips = 0 := Nat.le_zero.1 (k0_t2_abs i).2.1

theorem trip_raw (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S512x512 .f32) (harg6 : arg6.IsWhole)
    (v0 v1 v2 v3 : Vec Ideal S512x256 .bf16) (X4 : BufTy.Contents (Elt Ideal) arg4.view.ty) (X5 : BufTy.Contents (Elt Ideal) arg5.view.ty) (k : Fin (k0_t1_loop i).trips) (a b d e : St) :
    tripR_k0_t1 (F := Ideal) Variants.none c none i arg3 harg3 arg4 harg4 arg5 harg5 arg6 harg6 v0 v1 v2 v3 X4 X5 k (pack a b d e) = pack
      (kStep (kSc v0 (View.readAt (Elt Ideal) arg4.view (Rect.unit (s := S4096x1024) (k0_off1 i k) ![512, 256] (k0_off1_inb i k)).toLoadRect X4)) (View.readAt (Elt Ideal) arg5.view (Rect.unit (s := S512x4096) (k0_off5 i k) ![128, 512] (k0_off5_inb i k)).toLoadRect X5) a)
      (kStep (kSc v1 (View.readAt (Elt Ideal) arg4.view (Rect.unit (s := S4096x1024) (k0_off2 i k) ![512, 256] (k0_off2_inb i k)).toLoadRect X4)) (View.readAt (Elt Ideal) arg5.view (Rect.unit (s := S512x4096) (k0_off6 i k) ![128, 512] (k0_off6_inb i k)).toLoadRect X5) b)
      (kStep (kSc v2 (View.readAt (Elt Ideal) arg4.view (Rect.unit (s := S4096x1024) (k0_off3 i k) ![512, 256] (k0_off3_inb i k)).toLoadRect X4)) (View.readAt (Elt Ideal) arg5.view (Rect.unit (s := S512x4096) (k0_off7 i k) ![128, 512] (k0_off7_inb i k)).toLoadRect X5) d)
      (kStep (kSc v3 (View.readAt (Elt Ideal) arg4.view (Rect.unit (s := S4096x1024) (k0_off4 i k) ![512, 256] (k0_off4_inb i k)).toLoadRect X4)) (View.readAt (Elt Ideal) arg5.view (Rect.unit (s := S512x4096) (k0_off8 i k) ![128, 512] (k0_off8_inb i k)).toLoadRect X5) e) := by
  unfold tripR_k0_t1 trip_k0_t1
  rfl

/-- Head `h`'s triple before block `n`. -/
def kState (q : Vec Ideal S512x1024 .bf16) (k : Vec Ideal S4096x1024 .bf16) (v : Vec Ideal S512x4096 .bf16) (h : Fin 4) : ℕ → St
  | 0 => (k0_pay37, k0_pay41, k0_pay45)
  | n + 1 => kStep (kSc (kq q h) (kk k h n)) (kv v h n) (kState q k v h n)
/-- Head `h`'s triple after its last block, `n`. -/
def kFin (q : Vec Ideal S512x1024 .bf16) (k : Vec Ideal S4096x1024 .bf16) (v : Vec Ideal S512x4096 .bf16) (h : Fin 4) (n : ℕ) : St :=
  kStep (kMk (kSc (kq q h) (kk k h n))) (kv v h n) (kState q k v h n)

theorem st_eq (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S512x512 .f32) (harg6 : arg6.IsWhole)
    (x0 : Vec Ideal S512x1024 .bf16) (x1 : Vec Ideal S4096x1024 .bf16) (x2 : Vec Ideal S512x4096 .bf16) (n : ℕ) (hn : n ≤ (k0_t1_loop i).trips) :
    st_k0_t1 (F := Ideal) Variants.none c none i arg3 harg3 arg4 harg4 arg5 harg5 arg6 harg6 (kq x0 0) (kq x0 1) (kq x0 2) (kq x0 3) (harg4.unread x1) (harg5.unread x2) (pack (kState x0 x1 x2 0 0) (kState x0 x1 x2 1 0) (kState x0 x1 x2 2 0) (kState x0 x1 x2 3 0)) n
      = pack (kState x0 x1 x2 0 n) (kState x0 x1 x2 1 n) (kState x0 x1 x2 2 n) (kState x0 x1 x2 3 n) := by
  induction n with
  | zero => rfl
  | succ n ih =>
    have h8 : n < 8 := by have := trips1 i; have := (i 2).isLt; have : (i 2).val < 8 := this; omega
    rw [st_k0_t1_succ Variants.none c none i arg3 harg3 arg4 harg4 arg5 harg5 arg6 harg6 _ _ _ _ _ _ _ ⟨n, hn⟩, ih (by omega), trip_raw]
    rw [ld_k arg4 harg4 x1 0 n h8 _ _ (by show ![_, _] = _; rw [word1 n h8]; rfl), ld_k arg4 harg4 x1 1 n h8 _ _ (by show ![_, _] = _; rw [word1 n h8]; rfl),
      ld_k arg4 harg4 x1 2 n h8 _ _ (by show ![_, _] = _; rw [word1 n h8]; rfl), ld_k arg4 harg4 x1 3 n h8 _ _ (by show ![_, _] = _; rw [word1 n h8]; rfl),
      ld_v arg5 harg5 x2 0 n h8 _ _ (by show ![_, _] = _; rw [word1 n h8]; rfl), ld_v arg5 harg5 x2 1 n h8 _ _ (by show ![_, _] = _; rw [word1 n h8]; rfl),
      ld_v arg5 harg5 x2 2 n h8 _ _ (by show ![_, _] = _; rw [word1 n h8]; rfl), ld_v arg5 harg5 x2 3 n h8 _ _ (by show ![_, _] = _; rw [word1 n h8]; rfl)]
    rfl

/-- The second loop leaves what it was given. -/
theorem two (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S512x512 .f32) (harg6 : arg6.IsWhole)
    (v0 v1 v2 v3 : Vec Ideal S512x256 .bf16) (w : BitVec 32) (X4 : BufTy.Contents (Elt Ideal) arg4.view.ty) (X5 : BufTy.Contents (Elt Ideal) arg5.view.ty) (s : St4) :
    st_k0_t2 (F := Ideal) Variants.none c none i arg3 harg3 arg4 harg4 arg5 harg5 arg6 harg6 v0 v1 v2 v3 w X4 X5 s (Scf.trips (k0_t2_loop i).lb (k0_t2_loop i).ub (k0_t2_loop i).st) = s := by
  rw [show Scf.trips (k0_t2_loop i).lb (k0_t2_loop i).ub (k0_t2_loop i).st = 0 from trips2 i]
  rfl

/-- The first loop, on the reads of the body. -/
theorem one (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S512x512 .f32) (harg6 : arg6.IsWhole) (x0 : Vec Ideal S512x1024 .bf16) (x1 : Vec Ideal S4096x1024 .bf16) (x2 : Vec Ideal S512x4096 .bf16) :
    st_k0_t1 (F := Ideal) Variants.none c none i arg3 harg3 arg4 harg4 arg5 harg5 arg6 harg6 (View.readAt (Elt Ideal) arg3.view (Rect.unit (s := S512x1024) ![0, 0] ![512, 256] inb_S512x1024_S512x256_0_0).toLoadRect (harg3.unread x0)) (View.readAt (Elt Ideal) arg3.view (Rect.unit (s := S512x1024) ![0, 256] ![512, 256] inb_S512x1024_S512x256_0_256).toLoadRect (harg3.unread x0)) (View.readAt (Elt Ideal) arg3.view (Rect.unit (s := S512x1024) ![0, 512] ![512, 256] inb_S512x1024_S512x256_0_512).toLoadRect (harg3.unread x0)) (View.readAt (Elt Ideal) arg3.view (Rect.unit (s := S512x1024) ![0, 768] ![512, 256] inb_S512x1024_S512x256_0_768).toLoadRect (harg3.unread x0)) (harg4.unread x1) (harg5.unread x2)
        (k0_pay37, k0_pay38, k0_pay39, k0_pay40, k0_pay41, k0_pay42, k0_pay43, k0_pay44, k0_pay45, k0_pay46, k0_pay47, k0_pay48) (Scf.trips (k0_t1_loop i).lb (k0_t1_loop i).ub (k0_t1_loop i).st)
      = pack (kState x0 x1 x2 0 (i 2).val) (kState x0 x1 x2 1 (i 2).val) (kState x0 x1 x2 2 (i 2).val) (kState x0 x1 x2 3 (i 2).val) := by
  rw [ld_q arg3 harg3 x0 0 ![0, 0] _ (by rfl), ld_q arg3 harg3 x0 1 ![0, 256] _ (by rfl), ld_q arg3 harg3 x0 2 ![0, 512] _ (by rfl), ld_q arg3 harg3 x0 3 ![0, 768] _ (by rfl)]
  exact (st_eq c i arg3 harg3 arg4 harg4 arg5 harg5 arg6 harg6 x0 x1 x2 _ le_rfl).trans (by rw [trips1])

/-- What the loops leave. -/
theorem carried (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S512x512 .f32) (harg6 : arg6.IsWhole) (x0 : Vec Ideal S512x1024 .bf16) (x1 : Vec Ideal S4096x1024 .bf16) (x2 : Vec Ideal S512x4096 .bf16) :
    ((kernelRun0_A.sl.r_4 c i arg3 harg3 arg4 harg4 arg5 harg5 arg6 harg6 x0 x1 x2, kernelRun0_A.sl.r_5 c i arg3 harg3 arg4 harg4 arg5 harg5 arg6 harg6 x0 x1 x2, kernelRun0_A.sl.r_6 c i arg3 harg3 arg4 harg4 arg5 harg5 arg6 harg6 x0 x1 x2, kernelRun0_A.sl.r_7 c i arg3 harg3 arg4 harg4 arg5 harg5 arg6 harg6 x0 x1 x2, kernelRun0_A.sl.r_8 c i arg3 harg3 arg4 harg4 arg5 harg5 arg6 harg6 x0 x1 x2, kernelRun0_A.sl.r_9 c i arg3 harg3 arg4 harg4 arg5 harg5 arg6 harg6 x0 x1 x2, kernelRun0_A.sl.r_10 c i arg3 harg3 arg4 harg4 arg5 harg5 arg6 harg6 x0 x1 x2, kernelRun0_A.sl.r_11 c i arg3 harg3 arg4 harg4 arg5 harg5 arg6 harg6 x0 x1 x2, kernelRun0_A.sl.r_12 c i arg3 harg3 arg4 harg4 arg5 harg5 arg6 harg6 x0 x1 x2, kernelRun0_A.sl.r_13 c i arg3 harg3 arg4 harg4 arg5 harg5 arg6 harg6 x0 x1 x2, kernelRun0_A.sl.r_14 c i arg3 harg3 arg4 harg4 arg5 harg5 arg6 harg6 x0 x1 x2, kernelRun0_A.sl.r_15 c i arg3 harg3 arg4 harg4 arg5 harg5 arg6 harg6 x0 x1 x2) : St4)
      = pack (kState x0 x1 x2 0 (i 2).val) (kState x0 x1 x2 1 (i 2).val) (kState x0 x1 x2 2 (i 2).val) (kState x0 x1 x2 3 (i 2).val) := by
  rw [← one c i arg3 harg3 arg4 harg4 arg5 harg5 arg6 harg6 x0 x1 x2]
  unfold kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15
  rw [two]

/-- The four stores of the body. -/
theorem run_eq (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S512x512 .f32) (harg6 : arg6.IsWhole) (x0 : Vec Ideal S512x1024 .bf16) (x1 : Vec Ideal S4096x1024 .bf16) (x2 : Vec Ideal S512x4096 .bf16) :
    (kernelRun0_A (F := Ideal) c i arg3 harg3 arg4 harg4 arg5 harg5 arg6 harg6 x0 x1 x2).1 =
      [⟨Rect.unit ![0, 384] ![512, 128] inb_S512x512_S512x128_0_384, kOut (kFin x0 x1 x2 3 (i 2).val)⟩,
      ⟨Rect.unit ![0, 256] ![512, 128] inb_S512x512_S512x128_0_256, kOut (kFin x0 x1 x2 2 (i 2).val)⟩,
      ⟨Rect.unit ![0, 128] ![512, 128] inb_S512x512_S512x128_0_128, kOut (kFin x0 x1 x2 1 (i 2).val)⟩,
      ⟨Rect.unit ![0, 0] ![512, 128] inb_S512x512_S512x128_0_0, kOut (kFin x0 x1 x2 0 (i 2).val)⟩] := by
  have h8 : (i 2).val < 8 := (i 2).isLt
  have E := carried c i arg3 harg3 arg4 harg4 arg5 harg5 arg6 harg6 x0 x1 x2
  unfold pack at E
  simp only [Prod.mk.injEq] at E
  obtain ⟨e4, e5, e6, e7, e8, e9, e10, e11, e12, e13, e14, e15⟩ := E
  unfold kernelRun0_A
  dsimp only
  unfold kernelRun0_A.sl.r_33 kernelRun0_A.sl.r_32 kernelRun0_A.sl.r_31 kernelRun0_A.sl.r_30 kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16
  rw [e4, e5, e6, e7, e8, e9, e10, e11, e12, e13, e14, e15]
  unfold kernelRun0_A.sl.r_1 kernelRun0_A.sl.r_2 kernelRun0_A.sl.r_3 kernelRun0_A.sl.r
  rw [ld_q arg3 harg3 x0 0 ![0, 0] _ (by rfl), ld_q arg3 harg3 x0 1 ![0, 256] _ (by rfl), ld_q arg3 harg3 x0 2 ![0, 512] _ (by rfl), ld_q arg3 harg3 x0 3 ![0, 768] _ (by rfl),
    ld_k arg4 harg4 x1 0 (i 2).val h8 (k0_off17 i) _ (by show ![_, _] = _; rw [word2 _ h8]; rfl), ld_k arg4 harg4 x1 1 (i 2).val h8 (k0_off18 i) _ (by show ![_, _] = _; rw [word2 _ h8]; rfl), ld_k arg4 harg4 x1 2 (i 2).val h8 (k0_off19 i) _ (by show ![_, _] = _; rw [word2 _ h8]; rfl), ld_k arg4 harg4 x1 3 (i 2).val h8 (k0_off20 i) _ (by show ![_, _] = _; rw [word2 _ h8]; rfl),
    ld_v arg5 harg5 x2 0 (i 2).val h8 (k0_off21 i) _ (by show ![_, _] = _; rw [word2 _ h8]; rfl), ld_v arg5 harg5 x2 1 (i 2).val h8 (k0_off22 i) _ (by show ![_, _] = _; rw [word2 _ h8]; rfl), ld_v arg5 harg5 x2 2 (i 2).val h8 (k0_off23 i) _ (by show ![_, _] = _; rw [word2 _ h8]; rfl), ld_v arg5 harg5 x2 3 (i 2).val h8 (k0_off24 i) _ (by show ![_, _] = _; rw [word2 _ h8]; rfl)]
  rfl

/-- What the body leaves, at a row and a head's lane. -/
theorem out_apply (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S512x4096 .bf16) (harg5 : arg5.IsWhole) (arg6 : Memref sig .tc .vmem S512x512 .f32) (harg6 : arg6.IsWhole) (x0 : Vec Ideal S512x1024 .bf16) (x1 : Vec Ideal S4096x1024 .bf16) (x2 : Vec Ideal S512x4096 .bf16) (y : S512x512.Idx) :
    out0_A_3 (F := Ideal) c i arg3 harg3 arg4 harg4 arg5 harg5 arg6 harg6 x0 x1 x2 y
      = kOut (kFin x0 x1 x2 ⟨(y 1).val / 128, by have := lt_a S512x512 y 1 512 rfl; omega⟩ (i 2).val) (ix2 ⟨(y 0).val, lt_a S512x512 y 0 512 rfl⟩ ⟨(y 1).val % 128, Nat.mod_lt _ (by omega)⟩) := by
  unfold out0_A_3
  rw [View.read_writes_eq_canon VO0_3 _ _ (cover0_A_3 c i arg3 harg3 arg4 harg4 arg5 harg5 arg6 harg6 x0 x1 x2)]
  refine View.canon_apply_of_pieces (fun y : S512x512.Idx => kOut (kFin x0 x1 x2 ⟨(y 1).val / 128, by have := lt_a S512x512 y 1 512 rfl; omega⟩ (i 2).val) (ix2 ⟨(y 0).val, lt_a S512x512 y 0 512 rfl⟩ ⟨(y 1).val % 128, Nat.mod_lt _ (by omega)⟩)) _ ?_ y (cover0_A_3 c i arg3 harg3 arg4 harg4 arg5 harg5 arg6 harg6 x0 x1 x2 y)
  rw [run_eq]
  have key : ∀ (h : Fin 4) (o : ℕ) (inb) (e : o = h.val * 128) (x : (Rect.unit (s := S512x512) ![0, o] ![512, 128] inb).shape.Idx),
      kOut (kFin x0 x1 x2 h (i 2).val) x = (fun y : S512x512.Idx => kOut (kFin x0 x1 x2 ⟨(y 1).val / 128, by have := lt_a S512x512 y 1 512 rfl; omega⟩ (i 2).val) (ix2 ⟨(y 0).val, lt_a S512x512 y 0 512 rfl⟩ ⟨(y 1).val % 128, Nat.mod_lt _ (by omega)⟩)) ((Rect.unit (s := S512x512) ![0, o] ![512, 128] inb).emb x) := by
    intro h o inb e x
    subst e
    have h0 : (x 0).val < 512 := (x 0).isLt
    have h1 : (x 1).val < 128 := (x 1).isLt
    have e1 : (h.val * 128 + 1 * (x 1).val) / 128 = h.val := by omega
    have e2 : (h.val * 128 + 1 * (x 1).val) % 128 = (x 1).val := by omega
    have E : ∀ (h' : Fin 4) (x' : S512x128.Idx), h' = h → x' = x → kOut (kFin x0 x1 x2 h (i 2).val) x = kOut (kFin x0 x1 x2 h' (i 2).val) x' := by
      rintro _ _ rfl rfl; rfl
    refine E _ _ (Fin.ext e1) (funext fun a => Fin.ext ?_)
    match a with
    | ⟨0, _⟩ => show 0 + 1 * (x 0).val = (x 0).val; omega
    | ⟨1, _⟩ => exact e2
  intro p hp
  simp only [List.mem_cons, List.not_mem_nil, or_false] at hp
  rcases hp with rfl | rfl | rfl | rfl
  · exact key 3 384 inb_S512x512_S512x128_0_384 rfl
  · exact key 2 256 inb_S512x512_S512x128_0_256 rfl
  · exact key 1 128 inb_S512x512_S512x128_0_128 rfl
  · exact key 0 0 inb_S512x512_S512x128_0_0 rfl

/-! The step at a query, its column. -/

theorem kMax_apply (s : FVec Ideal S512x512 .f32) (m : FVec Ideal S1x512 .f32) (c : Fin 512) :
    kMax s m (ix2 0 c) = max (m (ix2 0 c)) (Finset.fold max (Ideal.ofBits .f32 4286578688#32) (fun k : Fin 512 => s (ix2 k c)) Finset.univ) := by
  unfold kMax
  pointwise
theorem kAl_apply (s : FVec Ideal S512x512 .f32) (m : FVec Ideal S1x512 .f32) (c : Fin 512) :
    kAl s m (ix2 0 c) = Ideal.exp2 (m (ix2 0 c) - kMax s m (ix2 0 c)) := by
  unfold kAl
  pointwise
  rfl
theorem kP_apply (s : FVec Ideal S512x512 .f32) (m : FVec Ideal S1x512 .f32) (k c : Fin 512) :
    kP s m (ix2 k c) = Ideal.exp2 (s (ix2 k c) - kMax s m (ix2 0 c)) := by
  unfold kP
  pointwise
  rfl
theorem kL_apply (l a : FVec Ideal S1x512 .f32) (p : FVec Ideal S512x512 .f32) (c : Fin 512) :
    kL l a p (ix2 0 c) = a (ix2 0 c) * l (ix2 0 c) + ∑ k : Fin 512, p (ix2 k c) := by
  unfold kL
  pointwise
theorem kA_apply (x : FVec Ideal S128x512 .f32) (a : FVec Ideal S1x512 .f32) (p : FVec Ideal S512x512 .f32) (v : Vec Ideal S128x512 .bf16) (d : Fin 128) (c : Fin 512) :
    kA x a p v (ix2 d c) = a (ix2 0 c) * x (ix2 d c) + ∑ k : Fin 512, (v (ix2 d k) : EReal) * p (ix2 k c) := by
  unfold kA
  pointwise
theorem kSc_apply (q k : Vec Ideal S512x256 .bf16) (j c : Fin 512) :
    kSc q k (ix2 j c) = ∑ l : Fin 256, (k (ix2 j l) : EReal) * (q (ix2 c l) : EReal) := by
  unfold kSc
  pointwise
theorem kOut_apply (x : St) (r : Fin 512) (d : Fin 128) :
    kOut x (ix2 r d) = Ideal.div (x.2.2 (ix2 d r)) (x.2.1 (ix2 0 r)) := by
  unfold kOut
  pointwise [k0_pay1]
/-- A selection by a truth value. -/
theorem sel_if (p : Prop) [Decidable p] (x y : EReal) : Scalar.select (BitVec.ofBool (decide p)) x y = if p then x else y := by
  unfold Scalar.select
  by_cases h : p <;> simp [h]
theorem kMk_apply (s : FVec Ideal S512x512 .f32) (j c : Fin 512) :
    kMk s (ix2 j c) = if j.val ≤ c.val then s (ix2 j c) else Ideal.ofBits .f32 4286578688#32 := by
  unfold kMk
  pointwise [k0_pay65]
  rw [WordCmp.cmpi_sle_ofNat (by omega) (by omega)]
  exact sel_if _ _ _

end Cert.Proof.Flash

end
-- ==== Proof.FlashMath.lean ====
/-
  Softmax over the keys seen so far, to base 2. The kernel carries a number no less than every score it has met, the sum of the
  weights over it and the weighed values; a new block lowers both sums by one factor and adds its own. The number itself
  cancels in the end, so a row's result is the sum of its values, each by its share of the weights 2^score. A masked score
  weighs nothing; a row's first key is never masked.
-/
module

public import proofs.«01_k».proof.Proof.TailMath

@[expose] public section

set_option maxRecDepth 16384

noncomputable section

namespace Cert.Proof.Flash

open Idealize.ShloMosaic Cert.Proof.Tail

/-- The factor that lowers weights by `r`. -/
abbrev low (r : ℝ) : EReal := ((Real.rpow 2 (-r) : ℝ) : EReal)

theorem low_pos (r : ℝ) : 0 < Real.rpow 2 (-r) := Real.rpow_pos_of_pos (by norm_num) _

theorem exp2_sub {x : EReal} (hx : x ≠ ⊤) (r : ℝ) : Ideal.exp2 (x - (r : EReal)) = Ideal.exp2 x * low r := by
  induction x using EReal.rec with
  | bot => rw [EReal.bot_sub, Ideal.exp2_bot, zero_mul]
  | top => exact absurd rfl hx
  | coe x =>
    rw [← EReal.coe_sub, Ideal.exp2_coe, Ideal.exp2_coe, ← EReal.coe_mul, sub_eq_add_neg]
    exact congrArg _ (Real.rpow_add (by norm_num) _ _)

/-- A weight is a real number, positive unless its key is masked. -/
theorem exp2_real {x : EReal} (hx : x ≠ ⊤) : ∃ y : ℝ, 0 ≤ y ∧ Ideal.exp2 x = y ∧ (x ≠ ⊥ → 0 < y) := by
  induction x using EReal.rec with
  | bot => exact ⟨0, le_rfl, by rw [Ideal.exp2_bot]; rfl, fun h => absurd rfl h⟩
  | top => exact absurd rfl hx
  | coe x => exact ⟨Real.rpow 2 x, (Real.rpow_pos_of_pos (by norm_num) _).le, Ideal.exp2_coe x, fun _ => Real.rpow_pos_of_pos (by norm_num) _⟩

/-- Sum of the weights of the first `n` keys. -/
def W (z : ℕ → EReal) (n : ℕ) : EReal := ∑ j ∈ Finset.range n, Ideal.exp2 (z j)
/-- Sum of their values, weighed. -/
def T (z v : ℕ → EReal) (n : ℕ) : EReal := ∑ j ∈ Finset.range n, v j * Ideal.exp2 (z j)
/-- The result of a row. -/
def soft (z v : ℕ → EReal) (n : ℕ) : EReal := ∑ j ∈ Finset.range n, v j * Ideal.div (Ideal.exp2 (z j)) (W z n)

/-- What the triple is after the first `n` keys. -/
def Inv (z v : ℕ → EReal) (n : ℕ) (M L A : EReal) : Prop :=
  (n = 0 ∧ M = ⊥ ∧ L = 0 ∧ A = 0) ∨ ∃ r : ℝ, M = r ∧ L = W z n * low r ∧ A = T z v n * low r

theorem mul_low {ι : Type} (s : Finset ι) (f : ι → EReal) (r : ℝ) : ∑ i ∈ s, f i * low r = (∑ i ∈ s, f i) * low r :=
  (sum_mul_real s f (low_pos r).le).symm

theorem add_low (x y : EReal) (r : ℝ) : x * low r + y * low r = (x + y) * low r :=
  (EReal.right_distrib_of_nonneg_of_ne_top (EReal.coe_nonneg.2 (low_pos r).le) (EReal.coe_ne_top _) x y).symm

theorem low_low (r r' : ℝ) (x : EReal) : Ideal.exp2 ((r : EReal) - (r' : EReal)) * (x * low r) = x * low r' := by
  rw [exp2_sub (EReal.coe_ne_top r), mul_left_comm, mul_comm (Ideal.exp2 _) (low r'), mul_assoc, Ideal.exp2_coe, ← EReal.coe_mul,
    ← EReal.coe_mul]
  refine congrArg (x * ·) (congrArg _ ?_)
  have h : Real.rpow 2 r * Real.rpow 2 (-r) = 1 := by
    refine (Real.rpow_add (by norm_num : (0 : ℝ) < 2) r (-r)).symm.trans ?_
    rw [add_neg_cancel, Real.rpow_zero]
  rw [h, mul_one]

/-- The greatest of what is carried and a block is real when the block's first score is and no score is infinite above. -/
theorem max_real {M : EReal} (hM : M ≠ ⊤) (s : Fin 512 → EReal) (hs : ∀ k, s k ≠ ⊤) (h0 : s 0 ≠ ⊥) :
    ∃ r : ℝ, max M (Finset.fold max least s Finset.univ) = r := by
  refine ⟨_, (EReal.coe_toReal (ne_of_lt ?_) (ne_of_gt ?_)).symm⟩
  · rw [max_lt_iff, Finset.fold_max_lt, least_eq]
    exact ⟨lt_top_iff_ne_top.2 hM, bot_lt_top, fun i _ => lt_top_iff_ne_top.2 (hs i)⟩
  · rw [lt_max_iff, Finset.lt_fold_max]
    exact Or.inr (Or.inr ⟨0, Finset.mem_univ _, bot_lt_iff_ne_bot.2 h0⟩)

/-- One block of keys. -/
theorem step {z v : ℕ → EReal} {n : ℕ} {M L A : EReal} (h : Inv z v n M L A) (hz : ∀ j, z j ≠ ⊤) (h0 : z n ≠ ⊥)
    {s u : Fin 512 → EReal} (es : ∀ k : Fin 512, s k = z (n + k.val)) (eu : ∀ k : Fin 512, u k = v (n + k.val))
    {M' : EReal} (eM : M' = max M (Finset.fold max least s Finset.univ)) :
    Inv z v (n + 512) M' (Ideal.exp2 (M - M') * L + ∑ k : Fin 512, Ideal.exp2 (s k - M'))
      (Ideal.exp2 (M - M') * A + ∑ k : Fin 512, u k * Ideal.exp2 (s k - M')) := by
  have hM : M ≠ ⊤ := by
    rcases h with ⟨-, rfl, -⟩ | ⟨r, rfl, -⟩
    · exact bot_ne_top
    · exact EReal.coe_ne_top r
  obtain ⟨r', hr⟩ := max_real hM s (fun k => es k ▸ hz _) (by rw [es 0]; exact h0)
  rw [← eM] at hr
  subst hr
  have e1 : ∑ k : Fin 512, Ideal.exp2 (s k - (r' : EReal)) = (∑ k : Fin 512, Ideal.exp2 (z (n + k.val))) * low r' := by
    rw [← mul_low]
    exact Finset.sum_congr rfl fun k _ => by rw [es k, exp2_sub (hz _)]
  have e2 : ∑ k : Fin 512, u k * Ideal.exp2 (s k - (r' : EReal)) = (∑ k : Fin 512, v (n + k.val) * Ideal.exp2 (z (n + k.val))) * low r' := by
    rw [← mul_low]
    exact Finset.sum_congr rfl fun k _ => by rw [es k, eu k, exp2_sub (hz _), mul_assoc]
  have w1 : W z (n + 512) = W z n + ∑ k : Fin 512, Ideal.exp2 (z (n + k.val)) := by
    unfold W
    rw [Finset.sum_range_add, Finset.sum_range (fun x => Ideal.exp2 (z (n + x)))]
  have w2 : T z v (n + 512) = T z v n + ∑ k : Fin 512, v (n + k.val) * Ideal.exp2 (z (n + k.val)) := by
    unfold T
    rw [Finset.sum_range_add, Finset.sum_range (fun x => v (n + x) * Ideal.exp2 (z (n + x)))]
  refine Or.inr ⟨r', rfl, ?_, ?_⟩
  · rw [e1, w1, ← add_low]
    refine congrArg (· + _) ?_
    rcases h with ⟨rfl, rfl, rfl, -⟩ | ⟨r, rfl, rfl, -⟩
    · rw [mul_zero]; unfold W; simp
    · exact low_low r r' _
  · rw [e2, w2, ← add_low]
    refine congrArg (· + _) ?_
    rcases h with ⟨rfl, rfl, -, rfl⟩ | ⟨r, rfl, -, rfl⟩
    · rw [mul_zero]; unfold T; simp
    · exact low_low r r' _

theorem W_real {z : ℕ → EReal} {n : ℕ} (hz : ∀ j, z j ≠ ⊤) (h0 : z 0 ≠ ⊥) (hn : 0 < n) : ∃ y : ℝ, 0 < y ∧ W z n = y := by
  choose y hy e hp using fun j => exp2_real (hz j)
  refine ⟨∑ j ∈ Finset.range n, y j, Finset.sum_pos' (fun j _ => hy j) ⟨0, Finset.mem_range.2 hn, hp 0 h0⟩, ?_⟩
  unfold W
  rw [coe_sum]
  exact Finset.sum_congr rfl fun j _ => e j

/-- A quotient of two lowered sums. -/
theorem div_low (x : EReal) {y : ℝ} (hy : 0 < y) (r : ℝ) : Ideal.div (x * low r) ((y : EReal) * low r) = Ideal.div x y := by
  have hl := low_pos r
  rw [← EReal.coe_mul, Ideal.div_coe (mul_pos hy hl).ne', Ideal.div_coe hy.ne', mul_assoc, ← EReal.coe_mul]
  refine congrArg (x * ·) (congrArg _ ?_)
  field_simp

/-- The end of the kernel's row. -/
theorem finish {z v : ℕ → EReal} {n : ℕ} {M L A : EReal} (h : Inv z v n M L A) (hz : ∀ j, z j ≠ ⊤) (h0 : z 0 ≠ ⊥) (hn : 0 < n) :
    Ideal.div A L = soft z v n := by
  obtain ⟨y, hy, e⟩ := W_real hz h0 hn
  rcases h with ⟨rfl, -⟩ | ⟨r, -, rfl, rfl⟩
  · exact absurd hn (lt_irrefl 0)
  · unfold soft
    rw [e, div_low _ hy, Ideal.div_coe hy.ne']
    unfold T
    rw [sum_mul_real _ _ (one_div_pos.2 hy).le]
    exact Finset.sum_congr rfl fun j _ => by rw [Ideal.div_coe hy.ne', mul_assoc]

/-- Masked keys add nothing. -/
theorem soft_extend (z v : ℕ → EReal) {n N : ℕ} (hn : n ≤ N) (hm : ∀ j, n ≤ j → z j = ⊥) (hz : ∀ j, z j ≠ ⊤) (h0 : z 0 ≠ ⊥) (h : 0 < n) :
    soft z v N = soft z v n := by
  have hsub : Finset.range n ⊆ Finset.range N := Finset.range_subset_range.2 hn
  have hout : ∀ j ∈ Finset.range N, j ∉ Finset.range n → z j = ⊥ := fun j _ hj => hm j (not_lt.1 fun h => hj (Finset.mem_range.2 h))
  have eW : W z N = W z n := by
    unfold W
    exact (Finset.sum_subset hsub fun j h1 h2 => by rw [hout j h1 h2, Ideal.exp2_bot]).symm
  obtain ⟨y, hy, e⟩ := W_real hz h0 h
  unfold soft
  rw [eW]
  exact (Finset.sum_subset hsub fun j h1 h2 => by rw [hout j h1 h2, Ideal.exp2_bot, e, Ideal.div_coe hy.ne', zero_mul, mul_zero]).symm

theorem pow_two {x : EReal} (hx : x ≠ ⊤) : Ideal.pow ((2 : ℝ) : EReal) x = Ideal.exp2 x := by
  induction x using EReal.rec with
  | bot =>
    rw [Ideal.exp2_bot]
    show (if (2 : ℝ) < 0 then (⊥ : EReal) else if 1 < (2 : ℝ) then 0 else if (2 : ℝ) = 1 then 1 else ⊤) = 0
    rw [if_neg (by norm_num), if_pos (by norm_num)]
  | top => exact absurd rfl hx
  | coe x => exact (Ideal.exp2_coe x).symm

/-- The plain softmax of a row of `N` scores. -/
def plain {N : ℕ} (s u : Fin N → EReal) : EReal :=
  ∑ j : Fin N, u j * Ideal.div (Ideal.pow ((2 : ℝ) : EReal) (s j - Finset.fold max least s Finset.univ))
    (∑ j : Fin N, Ideal.pow ((2 : ℝ) : EReal) (s j - Finset.fold max least s Finset.univ))

theorem plain_eq {N : ℕ} (hN : 0 < N) (z v : ℕ → EReal) (hz : ∀ j, z j ≠ ⊤) (h0 : z 0 ≠ ⊥) :
    plain (fun j : Fin N => z j.val) (fun j : Fin N => v j.val) = soft z v N := by
  have hm : ∃ r : ℝ, Finset.fold max least (fun j : Fin N => z j.val) Finset.univ = r := by
    refine ⟨_, (EReal.coe_toReal (ne_of_lt ?_) (ne_of_gt ?_)).symm⟩
    · rw [Finset.fold_max_lt, least_eq]
      exact ⟨bot_lt_top, fun i _ => lt_top_iff_ne_top.2 (hz i)⟩
    · rw [Finset.lt_fold_max]
      exact Or.inr ⟨⟨0, hN⟩, Finset.mem_univ _, bot_lt_iff_ne_bot.2 h0⟩
  obtain ⟨r, hr⟩ := hm
  obtain ⟨y, hy, e⟩ := W_real hz h0 hN
  have ep : ∀ j : ℕ, Ideal.pow ((2 : ℝ) : EReal) (z j - (r : EReal)) = Ideal.exp2 (z j) * low r := fun j => by
    have ht : z j - (r : EReal) ≠ ⊤ := by
      have := hz j
      induction hx : z j using EReal.rec with
      | bot => rw [EReal.bot_sub]; exact bot_ne_top
      | top => exact absurd hx this
      | coe x => rw [← EReal.coe_sub]; exact EReal.coe_ne_top _
    rw [pow_two ht, exp2_sub (hz j)]
  unfold plain
  rw [hr]
  simp only [ep]
  rw [mul_low, ← Finset.sum_range (fun j => Ideal.exp2 (z j)), show ∑ j ∈ Finset.range N, Ideal.exp2 (z j) = y from e]
  unfold soft
  rw [e, Finset.sum_range]
  exact Finset.sum_congr rfl fun j _ => by rw [div_low _ hy]

end Cert.Proof.Flash

end
-- ==== Proof.FlashRef.lean ====
/-
  The flash's reference at an index: masked scores, their row's greatest, the powers of two, each over its row's sum, and
  the weighed values.
-/
module

public import proofs.«01_k».proof.Proof.FlashMath
public import proofs.«01_k».proof.Proof.TailRef
public import Idealize.ShloMosaic.Lib.WordCmp
public import proofs.«01_k».proof.Proof.Gen.FlashReferenceIdeal
public import proofs.«01_k».proof.Proof.Gen.FlashReferenceIdeal.Run

@[expose] public section

set_option maxRecDepth 16384

noncomputable section

namespace Cert.Proof.Flash

open Idealize.ShloMosaic Idealize.ShloMosaic.TcCoe Idealize.SL.Sem

/-- Score of query `s` with key `k`, sequence `b`, head `h`; a later key is masked. -/
def score (a0 a1 : (⟨2, ![32768, 2048]⟩ : Shape).Idx → EReal) (b h : Fin 8) (s k : Fin 4096) : EReal :=
  if k.val ≤ s.val then ∑ l : Fin 256, a0 (ix2 ⟨b.val * 4096 + s.val, by omega⟩ ⟨h.val * 256 + l.val, by omega⟩) * a1 (ix2 ⟨b.val * 4096 + k.val, by omega⟩ ⟨h.val * 256 + l.val, by omega⟩)
  else Cert.Proof.Tail.least

/-- Value of key `k`. -/
def val (a2 : (⟨2, ![1024, 32768]⟩ : Shape).Idx → EReal) (b : Fin 8) (j : Fin 1024) (k : Fin 4096) : EReal :=
  a2 (ix2 j ⟨b.val * 4096 + k.val, by omega⟩)

/-- The result at a row and a column. -/
def F (a0 a1 : (⟨2, ![32768, 2048]⟩ : Shape).Idx → EReal) (a2 : (⟨2, ![1024, 32768]⟩ : Shape).Idx → EReal) (r : Fin 32768) (j : Fin 1024) : EReal :=
  plain (score a0 a1 ⟨r.val / 4096, by omega⟩ ⟨j.val / 128, by omega⟩ ⟨r.val % 4096, by omega⟩) (val a2 ⟨r.val / 4096, by omega⟩ j)

open Cert.FlashReferenceIdeal Cert.FlashReferenceIdeal.Gen Cert.FlashReferenceIdeal.Value

/-- Scores of every query with every key. -/
def hDot (a0 a1 : FVec Ideal S32768x2048 .bf16) : FVec Ideal S8x8x4096x4096 .f32 :=
  Host.dotGeneral dot_S8x4096x8x256_S8x4096x8x256_S8x8x4096x4096_3_3_1_1_02_02 none (shapeCast _ (extf .f32 a0 bitsLt_bf16_f32) shapeCasts_S32768x2048_S8x4096x8x256) (shapeCast _ (extf .f32 a1 bitsLt_bf16_f32) shapeCasts_S32768x2048_S8x4096x8x256)

/-- Later keys masked. -/
def hMask (s : FVec Ideal S8x8x4096x4096 .f32) : FVec Ideal S8x8x4096x4096 .f32 :=
  select (broadcastInDim S8x8x4096x4096 ![2, 3] bcast_S4096x4096_S8x8x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) s (broadcastInDim S8x8x4096x4096 ![] bcast_S_S8x8x4096x4096 (id (constant S_ .f32 0xFF800000#32)))

/-- Each row's greatest. -/
def hMax (s : FVec Ideal S8x8x4096x4096 .f32) : FVec Ideal S8x8x4096 .f32 :=
  Host.reduce FloatOps.maximumf s (constant S_ .f32 0xFF800000#32) reducesTo_S8x8x4096x4096_S8x8x4096_d3 h_S_

/-- Powers of two. -/
def hPow (s : FVec Ideal S8x8x4096x4096 .f32) (mx : FVec Ideal S8x8x4096 .f32) : FVec Ideal S8x8x4096x4096 .f32 :=
  Host.powf (broadcastInDim S8x8x4096x4096 ![] bcast_S_S8x8x4096x4096 (constant S_ .f32 0x40000000#32)) (subf s (broadcastInDim S8x8x4096x4096 ![0, 1, 2, 3] bcast_S8x8x4096x1_S8x8x4096x4096_0_1_2_3 (broadcastInDim S8x8x4096x1 ![0, 1, 2] bcast_S8x8x4096_S8x8x4096x1_0_1_2 mx)))

/-- Each over its row's sum. -/
def hDiv (p : FVec Ideal S8x8x4096x4096 .f32) : FVec Ideal S8x8x4096x4096 .f32 :=
  Host.divf p (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd p (constant S_ .f32 0x00000000#32) reducesTo_S8x8x4096x4096_S8x8x4096_d3 h_S_)))

/-- The values, weighed. -/
def hVal (a2 : FVec Ideal S1024x32768 .bf16) (p : FVec Ideal S8x8x4096x4096 .f32) : FVec Ideal S32768x1024 .f32 :=
  shapeCast _ (transpose S8x4096x8x128 [0, 3, 1, 2] (Host.dotGeneral dot_S8x128x8x4096_S8x8x4096x4096_S8x8x128x4096_3_3_1_2_20_01 none (shapeCast _ (extf .f32 a2 bitsLt_bf16_f32) shapeCasts_S1024x32768_S8x128x8x4096) p) transposes_S8x8x128x4096_S8x4096x8x128_0_3_1_2) shapeCasts_S8x4096x8x128_S32768x1024

theorem res_eq (m : (ℓ : Loc nD τ sig) → Buf (Elt Ideal) ℓ) (c : Dev nD) :
    res_main_v27 m c = hVal (m ((c.tc : Thread nD τ).loc main_arg2)) (hDiv (hPow (hMask (hDot (m ((c.tc : Thread nD τ).loc main_arg0)) (m ((c.tc : Thread nD τ).loc main_arg1))))
      (hMax (hMask (hDot (m ((c.tc : Thread nD τ).loc main_arg0)) (m ((c.tc : Thread nD τ).loc main_arg1))))))) := by
  unfold res_main_v27 hVal hDiv hPow hMax hMask hDot
  rfl

theorem hDot_apply (a0 a1 : FVec Ideal S32768x2048 .bf16) (b h : Fin 8) (s k : Fin 4096) :
    hDot a0 a1 (ix4 b h s k) = ∑ l : Fin 256, a0 (ix2 ⟨b.val * 4096 + s.val, by omega⟩ ⟨h.val * 256 + l.val, by omega⟩) * a1 (ix2 ⟨b.val * 4096 + k.val, by omega⟩ ⟨h.val * 256 + l.val, by omega⟩) := by
  unfold hDot
  pointwise

theorem hMask_apply (x : FVec Ideal S8x8x4096x4096 .f32) (b h : Fin 8) (s k : Fin 4096) :
    hMask x (ix4 b h s k) = if k.val ≤ s.val then x (ix4 b h s k) else Cert.Proof.Tail.least := by
  unfold hMask
  pointwise
  rw [WordCmp.cmpi_sge_ofNat (by omega) (by omega)]
  unfold Scalar.select
  by_cases e : k.val ≤ s.val
  · simp [e]
  · simp only [e, decide_false, if_false]; rfl

theorem red3 : S8x8x4096x4096.Reduces [3] S8x8x4096 := by decide

theorem hMax_apply (a : FVec Ideal S8x8x4096x4096 .f32) (b h : Fin 8) (s : Fin 4096) :
    hMax a (ix3 b h s) = Finset.fold max Cert.Proof.Tail.least (fun k : Fin 4096 => a (ix4 b h s k)) Finset.univ := by
  unfold hMax
  rw [Host.reduce_eq_fold_single FloatOps.maximumf a _ reducesTo_S8x8x4096x4096_S8x8x4096_d3 red3 h_S_ (ix3 b h s)]
  have e : a ∘ red3.lift (ix3 b h s) = fun k : Fin 4096 => a (ix4 b h s k) := by
    funext k
    refine congrArg a (funext fun c => Fin.ext ?_)
    match c with
    | ⟨0, _⟩ => rfl
    | ⟨1, _⟩ => rfl
    | ⟨2, _⟩ => rfl
    | ⟨3, _⟩ => rfl
  rw [e]
  rfl

theorem hPow_apply (x : FVec Ideal S8x8x4096x4096 .f32) (mx : FVec Ideal S8x8x4096 .f32) (b h : Fin 8) (s k : Fin 4096) :
    hPow x mx (ix4 b h s k) = Ideal.pow (Ideal.ofBits .f32 1073741824#32) (x (ix4 b h s k) - mx (ix3 b h s)) := by
  unfold hPow
  pointwise

theorem hDiv_apply (a : FVec Ideal S8x8x4096x4096 .f32) (b h : Fin 8) (s k : Fin 4096) :
    hDiv a (ix4 b h s k) = Ideal.div (a (ix4 b h s k)) (∑ m : Fin 4096, a (ix4 b h s m)) := by
  unfold hDiv
  pointwise

theorem hVal_apply (a2 : FVec Ideal S1024x32768 .bf16) (p : FVec Ideal S8x8x4096x4096 .f32) (r : Fin 32768) (j : Fin 1024) :
    hVal a2 p (ix2 r j) = ∑ k : Fin 4096, a2 (ix2 j ⟨r.val / 4096 * 4096 + k.val, by omega⟩) * p (ix4 ⟨r.val / 4096, by omega⟩ ⟨j.val / 128, by omega⟩ ⟨r.val % 4096, by omega⟩ k) := by
  unfold hVal
  pointwise

theorem two_eq : Ideal.ofBits .f32 1073741824#32 = ((2 : ℝ) : EReal) := by
  simp [Ideal.ofBits, Ideal.ieee]
  rw [← EReal.coe_mul]; exact congrArg _ (by norm_num)

theorem res_F (m : (ℓ : Loc nD τ sig) → Buf (Elt Ideal) ℓ) (c : Dev nD) (r : Fin 32768) (j : Fin 1024) :
    res_main_v27 m c (ix2 r j) = F (m ((c.tc : Thread nD τ).loc main_arg0)) (m ((c.tc : Thread nD τ).loc main_arg1)) (m ((c.tc : Thread nD τ).loc main_arg2)) r j := by
  have e : ∀ (a0 a1 : FVec Ideal S32768x2048 .bf16) (b h : Fin 8) (s k : Fin 4096), hMask (hDot a0 a1) (ix4 b h s k) = score a0 a1 b h s k := fun a0 a1 b h s k => by
    rw [hMask_apply, hDot_apply]; rfl
  rw [res_eq, hVal_apply]
  simp only [hDiv_apply, hPow_apply, hMax_apply, e, two_eq]
  rfl

/-- The reference's run, its result named. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = (fun i : S32768x1024.Idx => F (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => (congrArg (res_main_v27 m c) (eq_ix2 i)).trans (res_F m c (i 0) (i 1))), (h c).2⟩) (Value.run (F := Ideal) m ρ)

end Cert.Proof.Flash

end
-- ==== Proof.FlashValue.lean ====
/-
  The flash's values. Point `t` of the grid is a sequence, half of the heads and a block of 512 queries: sequence t/16, heads
  4·(t/8 mod 2) …, queries 512·(t mod 8) …. For one query, head and lane, what the loop carries is the running softmax of the
  keys met; the last block holds the query itself, and masks the keys after it.
-/
module

public import proofs.«01_k».proof.Proof.FlashBody
public import proofs.«01_k».proof.Proof.FlashRef
public import proofs.«01_k».proof.Proof.EvenValue

@[expose] public section

set_option maxRecDepth 16384

noncomputable section

namespace Cert.Proof.Flash

open Idealize.ShloMosaic Idealize.ShloMosaic.TcCoe Idealize.SL.Sem
open Cert.Proof.Tail (least least_eq coe_sum Reals)
open Cert.Proof.Even (at2)
open Cert.FlashKernelIdeal Cert.FlashKernelIdeal.Gen Cert.FlashKernelIdeal.Value

/-- A query's scores by key number, `least` past the sequence. -/
def zs (a0 a1 : (⟨2, ![32768, 2048]⟩ : Shape).Idx → EReal) (b h : Fin 8) (s : Fin 4096) (j : ℕ) : EReal :=
  if e : j < 4096 then score a0 a1 b h s ⟨j, e⟩ else least
/-- A row of values by key number. -/
def vs (a2 : (⟨2, ![1024, 32768]⟩ : Shape).Idx → EReal) (b : Fin 8) (l : Fin 1024) (j : ℕ) : EReal :=
  if e : j < 4096 then val a2 b l ⟨j, e⟩ else 0

section
variable (a0 a1 : (⟨2, ![32768, 2048]⟩ : Shape).Idx → EReal) (a2 : (⟨2, ![1024, 32768]⟩ : Shape).Idx → EReal)
  (h0 : Reals (s := ⟨2, ![32768, 2048]⟩) a0) (h1 : Reals (s := ⟨2, ![32768, 2048]⟩) a1)

include h0 h1 in
theorem zs_real (b h : Fin 8) (s : Fin 4096) (j : ℕ) (hj : j ≤ s.val) : ∃ y : ℝ, zs a0 a1 b h s j = y := by
  choose y0 e0 using h0
  choose y1 e1 using h1
  unfold zs score
  rw [dif_pos (show j < 4096 by omega), if_pos hj]
  simp only [e0, e1, ← EReal.coe_mul, ← coe_sum]
  exact ⟨_, rfl⟩

theorem zs_masked (b h : Fin 8) (s : Fin 4096) (j : ℕ) (hj : s.val < j) : zs a0 a1 b h s j = ⊥ := by
  unfold zs score
  split
  · rw [if_neg (show ¬ j ≤ s.val by omega), least_eq]
  · exact least_eq

include h0 h1 in
theorem zs_ne_top (b h : Fin 8) (s : Fin 4096) (j : ℕ) : zs a0 a1 b h s j ≠ ⊤ := by
  by_cases hj : j ≤ s.val
  · obtain ⟨y, e⟩ := zs_real a0 a1 h0 h1 b h s j hj
    rw [e]; exact EReal.coe_ne_top y
  · rw [zs_masked a0 a1 b h s j (by omega)]; exact bot_ne_top

include h0 h1 in
theorem zs_ne_bot (b h : Fin 8) (s : Fin 4096) (j : ℕ) (hj : j ≤ s.val) : zs a0 a1 b h s j ≠ ⊥ := by
  obtain ⟨y, e⟩ := zs_real a0 a1 h0 h1 b h s j hj
  rw [e]; exact EReal.coe_ne_bot y

include h0 h1 in
/-- The reference's row is the softmax of the keys up to any block's end past the query. -/
theorem plain_zs (b h : Fin 8) (l : Fin 1024) (s : Fin 4096) (n : ℕ) (hs : s.val < n) (hn : n ≤ 4096) :
    plain (score a0 a1 b h s) (val a2 b l) = soft (zs a0 a1 b h s) (vs a2 b l) n := by
  have ez : score a0 a1 b h s = fun j : Fin 4096 => zs a0 a1 b h s j.val := funext fun j => by unfold zs; rw [dif_pos j.isLt]
  have ev : val a2 b l = fun j : Fin 4096 => vs a2 b l j.val := funext fun j => by unfold vs; rw [dif_pos j.isLt]
  rw [ez, ev, plain_eq (by omega) _ _ (zs_ne_top a0 a1 h0 h1 b h s) (zs_ne_bot a0 a1 h0 h1 b h s 0 (by omega)),
    soft_extend _ _ hn (fun j hj => zs_masked a0 a1 b h s j (by omega)) (zs_ne_top a0 a1 h0 h1 b h s) (zs_ne_bot a0 a1 h0 h1 b h s 0 (by omega)) (by omega)]

end

/-- One block of keys, at a query and a lane. -/
theorem kStep_inv {z v : ℕ → EReal} {n : ℕ} (S : FVec Ideal S512x512 .f32) (V : Vec Ideal S128x512 .bf16) (x : St) (c : Fin 512) (d : Fin 128)
    (hx : Inv z v n (x.1 (ix2 0 c)) (x.2.1 (ix2 0 c)) (x.2.2 (ix2 d c))) (hz : ∀ j, z j ≠ ⊤) (hn : z n ≠ ⊥)
    (es : ∀ k : Fin 512, S (ix2 k c) = z (n + k.val)) (ev : ∀ k : Fin 512, (V (ix2 d k) : EReal) = v (n + k.val)) :
    Inv z v (n + 512) ((kStep S V x).1 (ix2 0 c)) ((kStep S V x).2.1 (ix2 0 c)) ((kStep S V x).2.2 (ix2 d c)) := by
  have h := step hx hz hn es ev (kMax_apply S x.1 c)
  have e1 : (kStep S V x).2.1 (ix2 0 c) = Ideal.exp2 (x.1 (ix2 0 c) - kMax S x.1 (ix2 0 c)) * x.2.1 (ix2 0 c) + ∑ k : Fin 512, Ideal.exp2 (S (ix2 k c) - kMax S x.1 (ix2 0 c)) := by
    refine (kL_apply x.2.1 (kAl S x.1) (kP S x.1) c).trans ?_
    simp only [kAl_apply, kP_apply]
  have e2 : (kStep S V x).2.2 (ix2 d c) = Ideal.exp2 (x.1 (ix2 0 c) - kMax S x.1 (ix2 0 c)) * x.2.2 (ix2 d c) + ∑ k : Fin 512, (V (ix2 d k) : EReal) * Ideal.exp2 (S (ix2 k c) - kMax S x.1 (ix2 0 c)) := by
    refine (kA_apply x.2.2 (kAl S x.1) (kP S x.1) V d c).trans ?_
    simp only [kAl_apply, kP_apply]
  rw [e1, e2]
  exact h

theorem start (z v : ℕ → EReal) (c : Fin 512) (d : Fin 128) :
    Inv z v 0 ((k0_pay37 : FVec Ideal S1x512 .f32) (ix2 0 c)) ((k0_pay41 : FVec Ideal S1x512 .f32) (ix2 0 c)) ((k0_pay45 : FVec Ideal S128x512 .f32) (ix2 d c)) := by
  refine Or.inl ⟨rfl, ?_, ?_, ?_⟩
  · pointwise [k0_pay37]
    exact least_eq
  · pointwise [k0_pay41]
  · pointwise [k0_pay45]

section
variable (a0 a1 : (⟨2, ![32768, 2048]⟩ : Shape).Idx → EReal) (a2 : (⟨2, ![1024, 32768]⟩ : Shape).Idx → EReal)
  (h0 : Reals (s := ⟨2, ![32768, 2048]⟩) a0) (h1 : Reals (s := ⟨2, ![32768, 2048]⟩) a1)
  (b : Fin 8) (g : Fin 2) (n : Fin 8)
  (q : Vec Ideal S512x1024 .bf16) (k : Vec Ideal S4096x1024 .bf16) (v : Vec Ideal S512x4096 .bf16)
  (eq : ∀ (r : Fin 512) (l : Fin 1024), (q (ix2 r l) : EReal) = a0 (ix2 ⟨(b.val * 8 + n.val) * 512 + r.val, by omega⟩ ⟨g.val * 1024 + l.val, by omega⟩))
  (ek : ∀ (r : Fin 4096) (l : Fin 1024), (k (ix2 r l) : EReal) = a1 (ix2 ⟨b.val * 4096 + r.val, by omega⟩ ⟨g.val * 1024 + l.val, by omega⟩))
  (ev : ∀ (l : Fin 512) (r : Fin 4096), (v (ix2 l r) : EReal) = a2 (ix2 ⟨g.val * 512 + l.val, by omega⟩ ⟨b.val * 4096 + r.val, by omega⟩))

/-- A head among all heads, a query in its sequence, a lane among all columns. -/
abbrev hd (g : Fin 2) (h : Fin 4) : Fin 8 := ⟨g.val * 4 + h.val, by omega⟩
abbrev qy (n : Fin 8) (c : Fin 512) : Fin 4096 := ⟨n.val * 512 + c.val, by omega⟩
abbrev ln (g : Fin 2) (h : Fin 4) (d : Fin 128) : Fin 1024 := ⟨g.val * 512 + h.val * 128 + d.val, by omega⟩

include eq ek in
theorem kSc_eq (h : Fin 4) (p : ℕ) (hp : p < 8) (j c : Fin 512) (hj : p * 512 + j.val ≤ n.val * 512 + c.val) :
    kSc (kq q h) (kk k h p) (ix2 j c) = zs a0 a1 b (hd g h) (qy n c) (p * 512 + j.val) := by
  rw [kSc_apply]
  unfold zs score
  rw [dif_pos (show p * 512 + j.val < 4096 by omega), if_pos hj]
  refine Finset.sum_congr rfl fun l _ => ?_
  rw [mul_comm]
  refine congrArg₂ (· * ·) ((eq c ⟨h.val * 256 + l.val, by omega⟩).trans (congrArg a0 (at2 _ _ _ ?_ ?_))) ((ek ⟨(p * 512 + j.val) % 4096, Nat.mod_lt _ (by omega)⟩ ⟨h.val * 256 + l.val, by omega⟩).trans (congrArg a1 (at2 _ _ _ ?_ ?_)))
  · show (b.val * 8 + n.val) * 512 + c.val = b.val * 4096 + (n.val * 512 + c.val); omega
  · show g.val * 1024 + (h.val * 256 + l.val) = (g.val * 4 + h.val) * 256 + l.val; omega
  · show b.val * 4096 + (p * 512 + j.val) % 4096 = b.val * 4096 + (p * 512 + j.val); omega
  · show g.val * 1024 + (h.val * 256 + l.val) = (g.val * 4 + h.val) * 256 + l.val; omega

include ev in
theorem kv_eq (h : Fin 4) (p : ℕ) (hp : p < 8) (d : Fin 128) (j : Fin 512) :
    (kv v h p (ix2 d j) : EReal) = vs a2 b (ln g h d) (p * 512 + j.val) := by
  unfold vs val
  rw [dif_pos (show p * 512 + j.val < 4096 by omega)]
  refine (ev ⟨h.val * 128 + d.val, by omega⟩ ⟨(p * 512 + j.val) % 4096, Nat.mod_lt _ (by omega)⟩).trans (congrArg a2 (at2 _ _ _ ?_ ?_))
  · show g.val * 512 + (h.val * 128 + d.val) = g.val * 512 + h.val * 128 + d.val; omega
  · show b.val * 4096 + (p * 512 + j.val) % 4096 = b.val * 4096 + (p * 512 + j.val); omega

include h0 h1 eq ek ev in
theorem state_inv (h : Fin 4) (c : Fin 512) (d : Fin 128) : ∀ p : ℕ, p ≤ n.val →
    Inv (zs a0 a1 b (hd g h) (qy n c)) (vs a2 b (ln g h d)) (p * 512) ((kState q k v h p).1 (ix2 0 c)) ((kState q k v h p).2.1 (ix2 0 c)) ((kState q k v h p).2.2 (ix2 d c))
  | 0, _ => by
    rw [Nat.zero_mul]
    exact start _ _ c d
  | p + 1, hp => by
    have hs : p * 512 ≤ (qy n c).val := by show p * 512 ≤ n.val * 512 + c.val; omega
    rw [Nat.succ_mul]
    exact kStep_inv _ _ _ c d (state_inv h c d p (by omega)) (zs_ne_top a0 a1 h0 h1 b (hd g h) (qy n c)) (zs_ne_bot a0 a1 h0 h1 b (hd g h) (qy n c) _ hs)
      (fun j => kSc_eq a0 a1 b g n q k eq ek h p (by omega) j c (by omega)) (fun j => kv_eq a2 b g v ev h p (by omega) d j)

include h0 h1 eq ek ev in
/-- The kernel's result at a query, head and lane. -/
theorem kOut_eq (h : Fin 4) (c : Fin 512) (d : Fin 128) :
    kOut (kFin q k v h n.val) (ix2 c d) = plain (score a0 a1 b (hd g h) (qy n c)) (val a2 b (ln g h d)) := by
  have hs : n.val * 512 ≤ (qy n c).val := Nat.le_add_right _ _
  have hi := kStep_inv (kMk (kSc (kq q h) (kk k h n.val))) (kv v h n.val) _ c d (state_inv a0 a1 a2 h0 h1 b g n q k v eq ek ev h c d n.val le_rfl)
    (zs_ne_top a0 a1 h0 h1 b (hd g h) (qy n c)) (zs_ne_bot a0 a1 h0 h1 b (hd g h) (qy n c) _ hs) (fun j => by
      rw [kMk_apply]
      split
      · rename_i hj
        exact kSc_eq a0 a1 b g n q k eq ek h n.val n.isLt j c (by omega)
      · rename_i hj
        exact least_eq.trans (zs_masked a0 a1 b (hd g h) (qy n c) _ (by show n.val * 512 + c.val < n.val * 512 + j.val; omega)).symm)
    (fun j => kv_eq a2 b g v ev h n.val n.isLt d j)
  rw [kOut_apply, plain_zs a0 a1 a2 h0 h1 b (hd g h) (ln g h d) (qy n c) (n.val * 512 + 512) (by show n.val * 512 + c.val < _; omega) (by omega)]
  exact finish hi (zs_ne_top a0 a1 h0 h1 b (hd g h) (qy n c)) (zs_ne_bot a0 a1 h0 h1 b (hd g h) (qy n c) 0 (by omega)) (by omega)

end

variable (m : (ℓ : Loc nD τ sig) → Buf (Elt Ideal) ℓ) (ρ : Dev nD → PrngReg)

theorem idx0 : ∀ t : Fin cfg0.N, win0_0.index t (0 : Fin 2) = t.val / 16 * 8 + t.val % 8 ∧ win0_0.index t (1 : Fin 2) = t.val / 8 % 2 :=
  (by decide +kernel : ∀ t : Fin grid0.N, _)
theorem idx1 : ∀ t : Fin cfg0.N, win0_1.index t (0 : Fin 2) = t.val / 16 ∧ win0_1.index t (1 : Fin 2) = t.val / 8 % 2 :=
  (by decide +kernel : ∀ t : Fin grid0.N, _)
theorem idx2 : ∀ t : Fin cfg0.N, win0_2.index t (0 : Fin 2) = t.val / 8 % 2 ∧ win0_2.index t (1 : Fin 2) = t.val / 16 :=
  (by decide +kernel : ∀ t : Fin grid0.N, _)
theorem idx3 : ∀ t : Fin cfg0.N, win0_3.index t (0 : Fin 2) = t.val / 16 * 8 + t.val % 8 ∧ win0_3.index t (1 : Fin 2) = t.val / 8 % 2 :=
  (by decide +kernel : ∀ t : Fin grid0.N, _)
theorem coord2 : ∀ t : Fin cfg0.N, (grid0.coords t 2).val = t.val % 8 :=
  (by decide +kernel : ∀ t : Fin grid0.N, _)
theorem lt_N (t : Fin cfg0.N) : t.val < 128 := t.isLt.trans_eq (by decide)

/-- The point's sequence, its half of the heads, its block of queries. -/
abbrev tb (t : Fin cfg0.N) : Fin 8 := ⟨t.val / 16, by have := lt_N t; omega⟩
abbrev tg (t : Fin cfg0.N) : Fin 2 := ⟨t.val / 8 % 2, Nat.mod_lt _ (by omega)⟩
abbrev tn (t : Fin cfg0.N) : Fin 8 := ⟨t.val % 8, Nat.mod_lt _ (by omega)⟩

theorem emb0 (t : Fin cfg0.N) (r : Fin 512) (l : Fin 1024) :
    ((cfg0.win 0).blk t).view.emb (ix2 r l) = (ix2 ⟨((tb t).val * 8 + (tn t).val) * 512 + r.val, by omega⟩ ⟨(tg t).val * 1024 + l.val, by omega⟩ : S32768x2048.Idx) := by
  obtain ⟨e0, e1⟩ := idx0 t
  refine at2 _ _ _ ?_ ?_
  · show win0_0.index t (0 : Fin 2) * 512 + 1 * r.val = (t.val / 16 * 8 + t.val % 8) * 512 + r.val; omega
  · show win0_0.index t (1 : Fin 2) * 1024 + 1 * l.val = t.val / 8 % 2 * 1024 + l.val; omega
theorem emb1 (t : Fin cfg0.N) (r : Fin 4096) (l : Fin 1024) :
    ((cfg0.win 1).blk t).view.emb (ix2 r l) = (ix2 ⟨(tb t).val * 4096 + r.val, by omega⟩ ⟨(tg t).val * 1024 + l.val, by omega⟩ : S32768x2048.Idx) := by
  obtain ⟨e0, e1⟩ := idx1 t
  refine at2 _ _ _ ?_ ?_
  · show win0_1.index t (0 : Fin 2) * 4096 + 1 * r.val = t.val / 16 * 4096 + r.val; omega
  · show win0_1.index t (1 : Fin 2) * 1024 + 1 * l.val = t.val / 8 % 2 * 1024 + l.val; omega
theorem emb2 (t : Fin cfg0.N) (l : Fin 512) (r : Fin 4096) :
    ((cfg0.win 2).blk t).view.emb (ix2 l r) = (ix2 ⟨(tg t).val * 512 + l.val, by omega⟩ ⟨(tb t).val * 4096 + r.val, by omega⟩ : S1024x32768.Idx) := by
  obtain ⟨e0, e1⟩ := idx2 t
  refine at2 _ _ _ ?_ ?_
  · show win0_2.index t (0 : Fin 2) * 512 + 1 * l.val = t.val / 8 % 2 * 512 + l.val; omega
  · show win0_2.index t (1 : Fin 2) * 4096 + 1 * r.val = t.val / 16 * 4096 + r.val; omega
theorem emb3 (t : Fin cfg0.N) (r l : Fin 512) :
    ((cfg0.win 3).blk t).view.emb (ix2 r l) = (ix2 ⟨((tb t).val * 8 + (tn t).val) * 512 + r.val, by omega⟩ ⟨(tg t).val * 512 + l.val, by omega⟩ : S32768x1024.Idx) := by
  obtain ⟨e0, e1⟩ := idx3 t
  refine at2 _ _ _ ?_ ?_
  · show win0_3.index t (0 : Fin 2) * 512 + 1 * r.val = (t.val / 16 * 8 + t.val % 8) * 512 + r.val; omega
  · show win0_3.index t (1 : Fin 2) * 512 + 1 * l.val = t.val / 8 % 2 * 512 + l.val; omega

/-- Queries and keys are real numbers. -/
def Real' (c : Dev nD) : Prop :=
  Reals (s := S32768x2048) (m ((c : Thread nD τ).loc main_arg0)) ∧ Reals (s := S32768x2048) (m ((c : Thread nD τ).loc main_arg1))

/-- The result. -/
abbrev res (c : Dev nD) : Vec Ideal S32768x1024 .f32 := fun i =>
  F (m ((c : Thread nD τ).loc main_arg0)) (m ((c : Thread nD τ).loc main_arg1)) (m ((c : Thread nD τ).loc main_arg2)) (i 0) (i 1)

theorem flushed3_eq (c : Dev nD) (hm : Real' m c) (t : Fin cfg0.N) :
    (dats m 0 c).flushed 3 t = ((cfg0.win 3).blk t).view.read (Elt Ideal) (res m c) := by
  rw [flushed3_A]
  refine funext fun (j : S512x512.Idx) => ?_
  obtain ⟨r, l, rfl⟩ : ∃ (a : Fin 512) (b : Fin 512), j = ix2 a b := ⟨j 0, j 1, eq_ix2 j⟩
  show out0_A_3 c (grid0.coords t) (ms0_0 t) (hs0_0 t) (ms0_1 t) (hs0_1 t) (ms0_2 t) (hs0_2 t) (ms0_3 t) (hs0_3 t) (iblk m c 0 t) (iblk m c 1 t) (iblk m c 2 t) (ix2 r l) = res m c (((cfg0.win 3).blk t).view.emb (ix2 r l))
  rw [emb3, out_apply, coord2]
  refine (kOut_eq (m ((c : Thread nD τ).loc main_arg0)) (m ((c : Thread nD τ).loc main_arg1)) (m ((c : Thread nD τ).loc main_arg2)) hm.1 hm.2 (tb t) (tg t) (tn t)
    (iblk m c 0 t) (iblk m c 1 t) (iblk m c 2 t) (fun r l => (congrFun (V_main_arg0 m c) _).trans (congrArg _ (emb0 t r l)))
    (fun r l => (congrFun (V_main_arg1 m c) _).trans (congrArg _ (emb1 t r l))) (fun l r => (congrFun (V_main_arg2 m c) _).trans (congrArg _ (emb2 t l r)))
    ⟨l.val / 128, by omega⟩ r ⟨l.val % 128, by omega⟩).trans ?_
  have hN := lt_N t
  have E : ∀ (b b' h h' : Fin 8) (s s' : Fin 4096) (d d' : Fin 1024), b = b' → h = h' → s = s' → d = d' →
      plain (score (m ((c : Thread nD τ).loc main_arg0)) (m ((c : Thread nD τ).loc main_arg1)) b h s) (val (m ((c : Thread nD τ).loc main_arg2)) b d)
        = plain (score (m ((c : Thread nD τ).loc main_arg0)) (m ((c : Thread nD τ).loc main_arg1)) b' h' s') (val (m ((c : Thread nD τ).loc main_arg2)) b' d') := by
    rintro _ _ _ _ _ _ _ _ rfl rfl rfl rfl; rfl
  refine E _ _ _ _ _ _ _ _ (Fin.ext ?_) (Fin.ext ?_) (Fin.ext ?_) (Fin.ext ?_)
  · show t.val / 16 = ((t.val / 16 * 8 + t.val % 8) * 512 + r.val) / 4096; omega
  · show t.val / 8 % 2 * 4 + l.val / 128 = (t.val / 8 % 2 * 512 + l.val) / 128; omega
  · show t.val % 8 * 512 + r.val = ((t.val / 16 * 8 + t.val % 8) * 512 + r.val) % 4096; omega
  · show t.val / 8 % 2 * 512 + l.val / 128 * 128 + l.val % 128 = t.val / 8 % 2 * 512 + l.val; omega

theorem covered3 (i : S32768x1024.Idx) : ∃ t : Fin cfg0.N, (cfg0.win 3).flush t = true ∧ i ∈ ((cfg0.win 3).blk t).view.set := by
  obtain ⟨r, l, rfl⟩ : ∃ (a : Fin 32768) (b : Fin 1024), i = ix2 a b := ⟨i 0, i 1, eq_ix2 i⟩
  have hN : cfg0.N = 128 := by decide
  obtain ⟨t, ht⟩ : ∃ t : Fin cfg0.N, t.val = r.val / 4096 * 16 + l.val / 512 * 8 + r.val % 4096 / 512 := ⟨⟨_, by omega⟩, rfl⟩
  refine ⟨t, flush0_3 _, ?_⟩
  have h := ((cfg0.win 3).blk t).view.emb_mem_set (ix2 (⟨r.val % 512, by omega⟩ : Fin 512) (⟨l.val % 512, by omega⟩ : Fin 512))
  rw [emb3] at h
  have e : (ix2 (⟨((tb t).val * 8 + (tn t).val) * 512 + r.val % 512, by omega⟩ : Fin 32768) (⟨(tg t).val * 512 + l.val % 512, by omega⟩ : Fin 1024) : S32768x1024.Idx) = ix2 r l := by
    refine at2 _ _ _ ?_ ?_
    · show (t.val / 16 * 8 + t.val % 8) * 512 + r.val % 512 = r.val; omega
    · show t.val / 8 % 2 * 512 + l.val % 512 = l.val; omega
  exact e ▸ h

/-- The kernel's run, its result named. -/
theorem run_kernel (hm : ∀ c, Real' m c) : θ_run (defs (F := Ideal)) (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 (res m c) (fun t _ => flushed3_eq m c (hm c) t) covered3), (h c).2⟩) (run_blocks m ρ)

end Cert.Proof.Flash

end
-- ==== Proof.FlashPre.lean ====
/-
  What the flash's precondition says of an element: the absolute values of queries and keys are less than infinity, so each
  element is a real number.
-/
module

public import proofs.«01_k».proof.Proof.TailPre
public import proofs.«01_k».proof.Pre_flash_finite

@[expose] public section

set_option maxRecDepth 16384

noncomputable section

namespace Cert.Proof.Flash

open Idealize.ShloMosaic Idealize.ShloMosaic.TcCoe Idealize.SL.Sem Cert.Proof.Tail Cert.Pre_flash_finite

instance facts_flash_finite : Cert.Pre_flash_finite.Facts := ⟨by decide, by decide, by decide, by decide⟩

instance : Subsingleton Cert.Pre_flash_finite.S_.Idx := ⟨fun a b => funext fun i => i.elim0⟩

/-- Reading the precondition at an element. -/
theorem finite_of (a0 a1 : FVec Ideal S32768x2048 .bf16) (a2 : FVec Ideal S1024x32768 .bf16)
    (h : ∀ j, Cert.Pre_flash_finite.fn (F := Ideal) a0 a1 a2 j = 1#1) :
    (∀ i, ∃ y : ℝ, a0 i = y) ∧ (∀ i, ∃ y : ℝ, a1 i = y) := by
  obtain ⟨h1, h2⟩ := IntOp.andi_eq_one.1 (h fun i => i.elim0)
  exact ⟨fun i => real_of_abs (inf_eq ▸ lt_of_cmpf (Host.reduce_andi_all _ _ _ _ _ h1 i)), fun i => real_of_abs (inf_eq ▸ lt_of_cmpf (Host.reduce_andi_all _ _ _ _ _ h2 i))⟩

end Cert.Proof.Flash

end
-- ==== Proof.EvenPre.lean ====
/-
  What the even tail's precondition says of an element: the absolute values of the queries and of the memory's keys
  are less than infinity, so each element is a real number.
-/
module

public import proofs.«01_k».proof.Proof.TailPre

@[expose] public section

set_option maxRecDepth 16384

noncomputable section

namespace Cert.Proof.Even

open Idealize.ShloMosaic Idealize.ShloMosaic.TcCoe Idealize.SL.Sem Cert.Proof.Tail Cert.Pre_even_finite

instance facts_even_finite : Cert.Pre_even_finite.Facts := ⟨by decide, by decide, by decide, by decide, by decide, by decide⟩

instance : Subsingleton Cert.Pre_even_finite.S_.Idx := ⟨fun a b => funext fun i => i.elim0⟩

/-- Reading the precondition at an element. -/
theorem finite_of (a0 a1 a2 : FVec Ideal S32768x1024 .f32) (a3 : FVec Ideal S32768x256 .f32) (a4 : FVec Ideal S32768x2304 .f32) (a5 : FVec Ideal S32768x1024 .f32)
    (a6 a7 : FVec Ideal S8x256x256 .bf16) (a8 : FVec Ideal S1024 .f32) (a9 : FVec Ideal S1024x1024 .f32) (a10 : FVec Ideal S1024 .f32) (a11 : FVec Ideal S2304x1024 .f32) (a12 : FVec Ideal S1024 .f32)
    (h : ∀ j, Cert.Pre_even_finite.fn (F := Ideal) a0 a1 a2 a3 a4 a5 a6 a7 a8 a9 a10 a11 a12 j = 1#1) :
    (∀ i, ∃ y : ℝ, a3 i = y) ∧ (∀ i, ∃ y : ℝ, a6 i = y) := by
  obtain ⟨h1, h2⟩ := IntOp.andi_eq_one.1 (h fun i => i.elim0)
  exact ⟨fun i => real_of_abs (inf_eq ▸ lt_of_cmpf (Host.reduce_andi_all _ _ _ _ _ h1 i)), fun i => real_of_abs (inf_eq ▸ lt_of_cmpf (Host.reduce_andi_all _ _ _ _ _ h2 i))⟩

end Cert.Proof.Even

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.S5Run
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Gen.TailKernel
public import proofs.«01_k».proof.Proof.Gen.TailKernel.Skeleton
public import proofs.«01_k».proof.Proof.Gen.TailKernel.Launch
public import proofs.«01_k».proof.Proof.Gen.TailKernel.Points
public import proofs.«01_k».proof.Proof.Gen.TailKernel.Frame
public import proofs.«01_k».proof.Proof.Gen.TailKernelIdeal
public import proofs.«01_k».proof.Proof.Gen.TailKernelIdeal.Skeleton
public import proofs.«01_k».proof.Proof.Gen.TailKernelIdeal.Launch
public import proofs.«01_k».proof.Proof.Gen.TailKernelIdeal.Points
public import proofs.«01_k».proof.Proof.Gen.TailKernelIdeal.Frame
public import proofs.«01_k».proof.Proof.Gen.TailKernelIdeal.Value
public import proofs.«01_k».proof.Proof.Gen.TailReferenceIdeal
public import proofs.«01_k».proof.Proof.Gen.TailReferenceIdeal.Run
public import proofs.«01_k».proof.Proof.Gen.OddKernel
public import proofs.«01_k».proof.Proof.Gen.OddKernel.Skeleton
public import proofs.«01_k».proof.Proof.Gen.OddKernel.Launch
public import proofs.«01_k».proof.Proof.Gen.OddKernel.Points
public import proofs.«01_k».proof.Proof.Gen.OddKernel.Frame
public import proofs.«01_k».proof.Proof.Gen.OddKernelIdeal
public import proofs.«01_k».proof.Proof.Gen.OddKernelIdeal.Skeleton
public import proofs.«01_k».proof.Proof.Gen.OddKernelIdeal.Launch
public import proofs.«01_k».proof.Proof.Gen.OddKernelIdeal.Points
public import proofs.«01_k».proof.Proof.Gen.OddKernelIdeal.Frame
public import proofs.«01_k».proof.Proof.Gen.OddKernelIdeal.Value
public import proofs.«01_k».proof.Proof.Gen.OddReferenceIdeal
public import proofs.«01_k».proof.Proof.Gen.OddReferenceIdeal.Run
public import proofs.«01_k».proof.Proof.Gen.EvenKernel
public import proofs.«01_k».proof.Proof.Gen.EvenKernel.Skeleton
public import proofs.«01_k».proof.Proof.Gen.EvenKernel.Launch
public import proofs.«01_k».proof.Proof.Gen.EvenKernel.Points
public import proofs.«01_k».proof.Proof.Gen.EvenKernel.Frame
public import proofs.«01_k».proof.Proof.Gen.EvenKernelIdeal
public import proofs.«01_k».proof.Proof.Gen.EvenKernelIdeal.Skeleton
public import proofs.«01_k».proof.Proof.Gen.EvenKernelIdeal.Launch
public import proofs.«01_k».proof.Proof.Gen.EvenKernelIdeal.Points
public import proofs.«01_k».proof.Proof.Gen.EvenKernelIdeal.Frame
public import proofs.«01_k».proof.Proof.Gen.EvenKernelIdeal.Value
public import proofs.«01_k».proof.Proof.Gen.EvenReferenceIdeal
public import proofs.«01_k».proof.Proof.Gen.EvenReferenceIdeal.Run
public import proofs.«01_k».proof.Proof.Gen.FirstKernel
public import proofs.«01_k».proof.Proof.Gen.FirstKernel.Skeleton
public import proofs.«01_k».proof.Proof.Gen.FirstKernel.Launch
public import proofs.«01_k».proof.Proof.Gen.FirstKernel.Points
public import proofs.«01_k».proof.Proof.Gen.FirstKernel.Frame
public import proofs.«01_k».proof.Proof.Gen.FirstKernelIdeal
public import proofs.«01_k».proof.Proof.Gen.FirstKernelIdeal.Skeleton
public import proofs.«01_k».proof.Proof.Gen.FirstKernelIdeal.Launch
public import proofs.«01_k».proof.Proof.Gen.FirstKernelIdeal.Points
public import proofs.«01_k».proof.Proof.Gen.FirstKernelIdeal.Frame
public import proofs.«01_k».proof.Proof.Gen.FirstKernelIdeal.Value
public import proofs.«01_k».proof.Proof.Gen.FirstReferenceIdeal
public import proofs.«01_k».proof.Proof.Gen.FirstReferenceIdeal.Run
public import proofs.«01_k».proof.Proof.Gen.MemKernel
public import proofs.«01_k».proof.Proof.Gen.MemKernel.Skeleton
public import proofs.«01_k».proof.Proof.Gen.MemKernel.Launch
public import proofs.«01_k».proof.Proof.Gen.MemKernel.Points
public import proofs.«01_k».proof.Proof.Gen.MemKernel.Frame
public import proofs.«01_k».proof.Proof.Gen.MemKernelIdeal
public import proofs.«01_k».proof.Proof.Gen.MemKernelIdeal.Skeleton
public import proofs.«01_k».proof.Proof.Gen.MemKernelIdeal.Launch
public import proofs.«01_k».proof.Proof.Gen.MemKernelIdeal.Points
public import proofs.«01_k».proof.Proof.Gen.MemKernelIdeal.Frame
public import proofs.«01_k».proof.Proof.Gen.MemKernelIdeal.Value
public import proofs.«01_k».proof.Proof.Gen.MemReferenceIdeal
public import proofs.«01_k».proof.Proof.Gen.MemReferenceIdeal.Run
public import proofs.«01_k».proof.Proof.ProjValue
public import proofs.«01_k».proof.Proof.TailValue
public import proofs.«01_k».proof.Proof.TailPre
public import proofs.«01_k».proof.Proof.OddValue
public import proofs.«01_k».proof.Proof.Gen.FlashKernel
public import proofs.«01_k».proof.Proof.Gen.FlashKernel.Skeleton
public import proofs.«01_k».proof.Proof.Gen.FlashKernel.Launch
public import proofs.«01_k».proof.Proof.Gen.FlashKernel.Points
public import proofs.«01_k».proof.Proof.Gen.FlashKernel.Frame
public import proofs.«01_k».proof.Proof.Gen.FlashKernel.Loops
public import proofs.«01_k».proof.Proof.Gen.FlashKernelIdeal
public import proofs.«01_k».proof.Proof.Gen.FlashKernelIdeal.Skeleton
public import proofs.«01_k».proof.Proof.Gen.FlashKernelIdeal.Launch
public import proofs.«01_k».proof.Proof.Gen.FlashKernelIdeal.Points
public import proofs.«01_k».proof.Proof.Gen.FlashKernelIdeal.Frame
public import proofs.«01_k».proof.Proof.Gen.FlashKernelIdeal.Loops
public import proofs.«01_k».proof.Proof.Gen.FlashKernelIdeal.Value
public import proofs.«01_k».proof.Proof.Gen.FlashReferenceIdeal
public import proofs.«01_k».proof.Proof.Gen.FlashReferenceIdeal.Run
public import proofs.«01_k».proof.Proof.FirstValue
public import proofs.«01_k».proof.Proof.MemValue
public import proofs.«01_k».proof.Proof.FlashValue
public import proofs.«01_k».proof.Proof.FlashPre
public import proofs.«01_k».proof.Proof.EvenValue
public import proofs.«01_k».proof.Proof.EvenPre
public import Idealize.ShloMosaic.Adequacy
public import Idealize.ShloMosaic.Init

@[expose] public section

noncomputable section

namespace Cert.Proof

open Idealize.ShloMosaic Idealize.SL.Sem Cert.Kernel

section
set_option maxRecDepth 16384
set_option maxHeartbeats 400000

/-- The kernel is printed twice, for `Bits` and for `Ideal`; the two texts are the same. -/
theorem body_eq : Cert.Kernel.cc0_s5 (F := Bits) = Cert.KernelIdeal.cc0_s5 (F := Bits) := rfl
/-- The two printings’ body tables agree. -/
theorem bodies_eq : Cert.Kernel.defs₀ (F := Bits) = Cert.KernelIdeal.defs₀ (F := Bits) := by
  unfold Cert.Kernel.defs₀ Cert.KernelIdeal.defs₀
  refine congrArg _ (funext fun l => ?_)
  match l with
  | 0 =>
    exact funext fun x => congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _
theorem defs_eq : Cert.Kernel.defs (F := Bits) = Cert.KernelIdeal.defs (F := Bits) := by
  unfold Cert.Kernel.defs Cert.KernelIdeal.defs
  rw [bodies_eq]
  rfl

theorem main_eq : Cert.Kernel.main (F := Bits) = Cert.KernelIdeal.main (F := Bits) := by
  funext c
  refine (Cert.Kernel.Gen.main_chain c).trans (Eq.trans ?_ (Cert.KernelIdeal.Gen.main_chain c).symm)
  rfl

/-- A run of equal programs is a run. -/
theorem run_congr {nD τ} {sig : RefSig} {V Λ} {d d' : Defs nD τ sig V Λ} (hd : d = d') {p p' : Dev nD → Prog (TpuEff nD τ sig V Λ .tc) PUnit} (hp : p = p')
    {s Q} (h : θ_run d' (onTc (τ := τ) p') s Q) : θ_run d (onTc (τ := τ) p) s Q := by
  subst hd hp; exact h

/-- The kernel's frame: the one run, read at `Bits`. -/
theorem frame_kernel : Cert.quiescent_Kernel := fun m ρ _ =>
  run_congr defs_eq main_eq (Cert.Proof.S5.frame_run (F := Bits) m ρ)

end

/-- The idealized kernel's frame: the same run at `Ideal`. -/
theorem frame_ideal : Cert.quiescent_KernelIdeal := fun m ρ _ =>
  Cert.Proof.S5.frame_run (F := Ideal) m ρ

/-- The projection's reference, a straight line of host operations: its run at its arguments; it has no semaphore. -/
theorem frame_proj_reference : Cert.quiescent_ProjReferenceIdeal (hProjReferenceIdeal := Cert.ProjReferenceIdeal.Gen.facts) := fun m ρ _ =>
  (θ_run _ _ _).mono (fun r h => ⟨fun c => (h c).2.2.2.2, sem_eq_zero_of_no_sems (by decide) r.2⟩) (Cert.ProjReferenceIdeal.Value.run (F := Ideal) m ρ)

/-- The projection: kernel and reference end with the same four results. -/
theorem algebraic_proj : Cert.algebraic_ProjKernelIdeal_ProjReferenceIdeal (hProjKernelIdeal := Cert.ProjKernelIdeal.Gen.facts)
    (hProjReferenceIdeal := Cert.ProjReferenceIdeal.Gen.facts) := fun m ρ m' ρ' _ hargs =>
  ⟨Cert.Proof.Proj.res3 m, Cert.Proof.Proj.res4 m, Cert.Proof.Proj.res5 m, Cert.Proof.Proj.res6 m, Cert.Proof.Proj.run_kernel m ρ,
    (θ_run _ _ _).mono (fun r h c => by
      have := h c
      rw [(hargs c).1, (hargs c).2.1, (hargs c).2.2] at this ⊢
      exact this) (Cert.Proof.Proj.run_ref m' ρ')⟩

/-- The tail's reference: its run at its arguments; it has no semaphore. -/
theorem frame_tail_reference : Cert.quiescent_TailReferenceIdeal (hTailReferenceIdeal := Cert.TailReferenceIdeal.Gen.facts) := fun m ρ _ =>
  (θ_run _ _ _).mono (fun r h => ⟨fun c => (h c).2, sem_eq_zero_of_no_sems (by decide) r.2⟩) (Cert.TailReferenceIdeal.Value.run (F := Ideal) m ρ)

/-- The tail: for real queries and memory, kernel and reference end with the same result. -/
theorem algebraic_tail : Cert.algebraic_TailKernelIdeal_TailReferenceIdeal_pre_finite (hTailKernelIdeal := Cert.TailKernelIdeal.Gen.facts)
    (hTailReferenceIdeal := Cert.TailReferenceIdeal.Gen.facts) (hPre_finite := Cert.Proof.Tail.facts_finite) := fun m ρ m' ρ' hpre hargs =>
  ⟨Cert.Proof.Tail.res m, Cert.Proof.Tail.run_kernel m ρ (fun c => Cert.Proof.Tail.finite_of _ _ _ _ _ _ _ _ _ fun j => congrFun (hpre c) j),
    (θ_run _ _ _).mono (fun r h c => by
      have := h c
      rw [(hargs c).1, (hargs c).2.1, (hargs c).2.2.1, (hargs c).2.2.2.1, (hargs c).2.2.2.2.1, (hargs c).2.2.2.2.2.1, (hargs c).2.2.2.2.2.2.1,
        (hargs c).2.2.2.2.2.2.2.1, (hargs c).2.2.2.2.2.2.2.2] at this ⊢
      exact this) (Cert.Proof.Tail.run_ref m' ρ')⟩

/-- The odd projection's reference: its run at its arguments; it has no semaphore. -/
theorem frame_odd_reference : Cert.quiescent_OddReferenceIdeal (hOddReferenceIdeal := Cert.OddReferenceIdeal.Gen.facts) := fun m ρ _ =>
  (θ_run _ _ _).mono (fun r h => ⟨fun c => (h c).2.2.2.2.2.2.2, sem_eq_zero_of_no_sems (by decide) r.2⟩) (Cert.OddReferenceIdeal.Value.run (F := Ideal) m ρ)

/-- The odd projection: kernel and reference end with the same seven results. -/
theorem algebraic_odd : Cert.algebraic_OddKernelIdeal_OddReferenceIdeal (hOddKernelIdeal := Cert.OddKernelIdeal.Gen.facts)
    (hOddReferenceIdeal := Cert.OddReferenceIdeal.Gen.facts) := fun m ρ m' ρ' _ hargs =>
  ⟨Cert.Proof.Odd.res3 m, Cert.Proof.Odd.res4 m, Cert.Proof.Odd.res5 m, Cert.Proof.Odd.res6 m, Cert.Proof.Odd.res7 m, Cert.Proof.Odd.res8 m, Cert.Proof.Odd.res9 m, Cert.Proof.Odd.run_kernel m ρ,
    (θ_run _ _ _).mono (fun r h c => by
      have := h c
      rw [(hargs c).1, (hargs c).2.1, (hargs c).2.2] at this ⊢
      exact this) (Cert.Proof.Odd.run_ref m' ρ')⟩

/-- The even tail's reference: its run at its arguments; it has no semaphore. -/
theorem frame_even_reference : Cert.quiescent_EvenReferenceIdeal (hEvenReferenceIdeal := Cert.EvenReferenceIdeal.Gen.facts) := fun m ρ _ =>
  (θ_run _ _ _).mono (fun r h => ⟨fun c => (h c).2, sem_eq_zero_of_no_sems (by decide) r.2⟩) (Cert.EvenReferenceIdeal.Value.run (F := Ideal) m ρ)

/-- The even tail: for real queries and memory, kernel and reference end with the same result. -/
theorem algebraic_even : Cert.algebraic_EvenKernelIdeal_EvenReferenceIdeal_pre_even_finite (hEvenKernelIdeal := Cert.EvenKernelIdeal.Gen.facts)
    (hEvenReferenceIdeal := Cert.EvenReferenceIdeal.Gen.facts) (hPre_even_finite := Cert.Proof.Even.facts_even_finite) := fun m ρ m' ρ' hpre hargs =>
  ⟨Cert.Proof.Even.res m, Cert.Proof.Even.run_kernel m ρ (fun c => Cert.Proof.Even.finite_of _ _ _ _ _ _ _ _ _ _ _ _ _ fun j => congrFun (hpre c) j),
    (θ_run _ _ _).mono (fun r h c => by
      have := h c
      rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2.1, (hargs c).2.2.2.2.2.2.2.2.2.2.2.1, (hargs c).2.2.2.2.2.2.2.2.2.2.2.2] at this ⊢
      exact this) (Cert.Proof.Even.run_ref m' ρ')⟩

/-- The first odd layer's tail's reference: its run at its arguments; it has no semaphore. -/
theorem frame_first_reference : Cert.quiescent_FirstReferenceIdeal (hFirstReferenceIdeal := Cert.FirstReferenceIdeal.Gen.facts) := fun m ρ _ =>
  (θ_run _ _ _).mono (fun r h => ⟨fun c => (h c).2, sem_eq_zero_of_no_sems (by decide) r.2⟩) (Cert.FirstReferenceIdeal.Value.run (F := Ideal) m ρ)

/-- The first odd layer's tail: for real queries and memory, kernel and reference end with the same result. -/
theorem algebraic_first : Cert.algebraic_FirstKernelIdeal_FirstReferenceIdeal_pre_finite (hFirstKernelIdeal := Cert.FirstKernelIdeal.Gen.facts)
    (hFirstReferenceIdeal := Cert.FirstReferenceIdeal.Gen.facts) (hPre_finite := Cert.Proof.Tail.facts_finite) := fun m ρ m' ρ' hpre hargs =>
  ⟨Cert.Proof.First.res m, Cert.Proof.First.run_kernel m ρ (fun c => Cert.Proof.Tail.finite_of _ _ _ _ _ _ _ _ _ fun j => congrFun (hpre c) j),
    (θ_run _ _ _).mono (fun r h c => by
      have := h c
      rw [(hargs c).1, (hargs c).2.1, (hargs c).2.2.1, (hargs c).2.2.2.1, (hargs c).2.2.2.2.1, (hargs c).2.2.2.2.2.1, (hargs c).2.2.2.2.2.2.1,
        (hargs c).2.2.2.2.2.2.2.1, (hargs c).2.2.2.2.2.2.2.2] at this ⊢
      exact this) (Cert.Proof.First.run_ref m' ρ')⟩

/-- The memory's keys' and values' reference: its run at its arguments; it has no semaphore. -/
theorem frame_mem_reference : Cert.quiescent_MemReferenceIdeal (hMemReferenceIdeal := Cert.MemReferenceIdeal.Gen.facts) := fun m ρ _ =>
  (θ_run _ _ _).mono (fun r h => ⟨fun c => (h c).2.2, sem_eq_zero_of_no_sems (by decide) r.2⟩) (Cert.MemReferenceIdeal.Value.run (F := Ideal) m ρ)

/-- The memory: kernel and reference end with the same keys and the same values. -/
theorem algebraic_mem : Cert.algebraic_MemKernelIdeal_MemReferenceIdeal (hMemKernelIdeal := Cert.MemKernelIdeal.Gen.facts)
    (hMemReferenceIdeal := Cert.MemReferenceIdeal.Gen.facts) := fun m ρ m' ρ' _ hargs =>
  ⟨Cert.Proof.Mem.keys m, Cert.Proof.Mem.values m, Cert.Proof.Mem.run_kernel m ρ,
    (θ_run _ _ _).mono (fun r h c => by
      have := h c
      rw [(hargs c).1, (hargs c).2.1, (hargs c).2.2] at this ⊢
      exact this) (Cert.Proof.Mem.run_ref m' ρ')⟩

/-- The latent attention's flash's reference: its run at its arguments; it has no semaphore. -/
theorem frame_flash_reference : Cert.quiescent_FlashReferenceIdeal (hFlashReferenceIdeal := Cert.FlashReferenceIdeal.Gen.facts) := fun m ρ _ =>
  (θ_run _ _ _).mono (fun r h => ⟨fun c => (h c).2, sem_eq_zero_of_no_sems (by decide) r.2⟩) (Cert.FlashReferenceIdeal.Value.run (F := Ideal) m ρ)

/-- The latent attention's flash: for real queries and keys, kernel and reference end with the same result. -/
theorem algebraic_flash : Cert.algebraic_FlashKernelIdeal_FlashReferenceIdeal_pre_flash_finite (hFlashKernelIdeal := Cert.FlashKernelIdeal.Gen.facts)
    (hFlashReferenceIdeal := Cert.FlashReferenceIdeal.Gen.facts) (hPre_flash_finite := Cert.Proof.Flash.facts_flash_finite) := fun m ρ m' ρ' hpre hargs =>
  ⟨Cert.Proof.Flash.res m, Cert.Proof.Flash.run_kernel m ρ (fun c => Cert.Proof.Flash.finite_of _ _ _ fun j => congrFun (hpre c) j),
    (θ_run _ _ _).mono (fun r h c => by
      have := h c
      rw [(hargs c).1, (hargs c).2.1, (hargs c).2.2] at this ⊢
      exact this) (Cert.Proof.Flash.run_ref m' ρ')⟩

theorem claim : Cert.Claim :=
  ⟨Cert.Kernel.Gen.facts, Cert.KernelIdeal.Gen.facts, Cert.ProjKernel.Gen.facts, Cert.ProjKernelIdeal.Gen.facts, Cert.ProjReferenceIdeal.Gen.facts,
    Cert.TailKernel.Gen.facts, Cert.TailKernelIdeal.Gen.facts, Cert.TailReferenceIdeal.Gen.facts, Cert.OddKernel.Gen.facts, Cert.OddKernelIdeal.Gen.facts, Cert.OddReferenceIdeal.Gen.facts,
    Cert.EvenKernel.Gen.facts, Cert.EvenKernelIdeal.Gen.facts, Cert.EvenReferenceIdeal.Gen.facts,
    Cert.FirstKernel.Gen.facts, Cert.FirstKernelIdeal.Gen.facts, Cert.FirstReferenceIdeal.Gen.facts, Cert.MemKernel.Gen.facts, Cert.MemKernelIdeal.Gen.facts, Cert.MemReferenceIdeal.Gen.facts,
    Cert.FlashKernel.Gen.facts, Cert.FlashKernelIdeal.Gen.facts, Cert.FlashReferenceIdeal.Gen.facts,
    Cert.Proof.Tail.facts_finite, Cert.Proof.Even.facts_even_finite, Cert.Proof.Flash.facts_flash_finite,
    frame_kernel, frame_ideal, fun m ρ _ => Cert.ProjKernel.Gen.frame m ρ, fun m ρ _ => Cert.ProjKernelIdeal.Gen.frame m ρ, frame_proj_reference,
    fun m ρ _ => Cert.TailKernel.Gen.frame m ρ, fun m ρ _ => Cert.TailKernelIdeal.Gen.frame m ρ, fun m ρ _ => Cert.TailKernelIdeal.Gen.frame m ρ,
    frame_tail_reference, fun m ρ _ => frame_tail_reference m ρ trivial,
    fun m ρ _ => Cert.OddKernel.Gen.frame m ρ, fun m ρ _ => Cert.OddKernelIdeal.Gen.frame m ρ, frame_odd_reference,
    fun m ρ _ => Cert.EvenKernel.Gen.frame m ρ, fun m ρ _ => Cert.EvenKernelIdeal.Gen.frame m ρ, fun m ρ _ => Cert.EvenKernelIdeal.Gen.frame m ρ,
    frame_even_reference, fun m ρ _ => frame_even_reference m ρ trivial,
    fun m ρ _ => Cert.FirstKernel.Gen.frame m ρ, fun m ρ _ => Cert.FirstKernelIdeal.Gen.frame m ρ, fun m ρ _ => Cert.FirstKernelIdeal.Gen.frame m ρ,
    frame_first_reference, fun m ρ _ => frame_first_reference m ρ trivial,
    fun m ρ _ => Cert.MemKernel.Gen.frame m ρ, fun m ρ _ => Cert.MemKernelIdeal.Gen.frame m ρ, frame_mem_reference,
    fun m ρ _ => Cert.FlashKernel.Gen.frame m ρ, fun m ρ _ => Cert.FlashKernelIdeal.Gen.frame m ρ, fun m ρ _ => Cert.FlashKernelIdeal.Gen.frame m ρ,
    frame_flash_reference, fun m ρ _ => frame_flash_reference m ρ trivial,
    trivial, trivial, algebraic_proj, trivial, algebraic_tail, trivial, algebraic_odd, trivial, algebraic_even,
    trivial, algebraic_first, trivial, algebraic_mem, trivial, algebraic_flash⟩

end Cert.Proof

end
